-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_seventeen_smallest_increase [hPre_seventeen_smallest_increase : Cert.Pre_seventeen_smallest_increase.Facts] (m : (ℓ : Loc Cert.KernelIdeal.nD Cert.KernelIdeal.τ Cert.KernelIdeal.sig) → Buf (Elt Ideal) ℓ) : Prop :=
  ∀ c : Dev Cert.KernelIdeal.nD,
    (Cert.Pre_seventeen_smallest_increase.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_seventeen_smallest_increase [hPre_seventeen_smallest_increase : Cert.Pre_seventeen_smallest_increase.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_seventeen_smallest_increase.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Distances (m : (ℓ : Loc Cert.Distances.nD Cert.Distances.τ Cert.Distances.sig) → Buf (Elt Bits) ℓ) : Prop :=
  True

def Pre_DistancesIdeal (m : (ℓ : Loc Cert.DistancesIdeal.nD Cert.DistancesIdeal.τ Cert.DistancesIdeal.sig) → Buf (Elt Ideal) ℓ) : Prop :=
  True

def Pre_DistancesReferenceIdeal (m : (ℓ : Loc Cert.DistancesReferenceIdeal.nD Cert.DistancesReferenceIdeal.τ Cert.DistancesReferenceIdeal.sig) → Buf (Elt Ideal) ℓ) : Prop :=
  True

def Pre_Moments (m : (ℓ : Loc Cert.Moments.nD Cert.Moments.τ Cert.Moments.sig) → Buf (Elt Bits) ℓ) : Prop :=
  True

def Pre_MomentsIdeal (m : (ℓ : Loc Cert.MomentsIdeal.nD Cert.MomentsIdeal.τ Cert.MomentsIdeal.sig) → Buf (Elt Ideal) ℓ) : Prop :=
  True

def Pre_MomentsReferenceIdeal (m : (ℓ : Loc Cert.MomentsReferenceIdeal.nD Cert.MomentsReferenceIdeal.τ Cert.MomentsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_seventeen_smallest_increase [hKernelIdeal : Cert.KernelIdeal.Facts] [hPre_seventeen_smallest_increase : Cert.Pre_seventeen_smallest_increase.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_seventeen_smallest_increase m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_seventeen_smallest_increase [hReferenceIdeal : Cert.ReferenceIdeal.Facts] [hPre_seventeen_smallest_increase : Cert.Pre_seventeen_smallest_increase.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_seventeen_smallest_increase m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8)
      ∧ r.2.mem ((c.tc : Thread Cert.Combine.nD Cert.Combine.τ).loc Cert.Combine.main_arg9) = m ((c.tc : Thread Cert.Combine.nD Cert.Combine.τ).loc Cert.Combine.main_arg9)
      ∧ r.2.mem ((c.tc : Thread Cert.Combine.nD Cert.Combine.τ).loc Cert.Combine.main_arg10) = m ((c.tc : Thread Cert.Combine.nD Cert.Combine.τ).loc Cert.Combine.main_arg10))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
      ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6)
      ∧ r.2.mem ((c.tc : Thread Cert.CombineReferenceIdeal.nD Cert.CombineReferenceIdeal.τ).loc Cert.CombineReferenceIdeal.main_arg7) = m ((c.tc : Thread Cert.CombineReferenceIdeal.nD Cert.CombineReferenceIdeal.τ).loc Cert.CombineReferenceIdeal.main_arg7)
      ∧ r.2.mem ((c.tc : Thread Cert.CombineReferenceIdeal.nD Cert.CombineReferenceIdeal.τ).loc Cert.CombineReferenceIdeal.main_arg8) = m ((c.tc : Thread Cert.CombineReferenceIdeal.nD Cert.CombineReferenceIdeal.τ).loc Cert.CombineReferenceIdeal.main_arg8)
      ∧ r.2.mem ((c.tc : Thread Cert.CombineReferenceIdeal.nD Cert.CombineReferenceIdeal.τ).loc Cert.CombineReferenceIdeal.main_arg9) = m ((c.tc : Thread Cert.CombineReferenceIdeal.nD Cert.CombineReferenceIdeal.τ).loc Cert.CombineReferenceIdeal.main_arg9)
      ∧ r.2.mem ((c.tc : Thread Cert.CombineReferenceIdeal.nD Cert.CombineReferenceIdeal.τ).loc Cert.CombineReferenceIdeal.main_arg10) = m ((c.tc : Thread Cert.CombineReferenceIdeal.nD Cert.CombineReferenceIdeal.τ).loc Cert.CombineReferenceIdeal.main_arg10))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6))
      ∧ r.2.sem = fun _ => 0)

def quiescent_Distances [hDistances : Cert.Distances.Facts] : Prop :=
  ∀ (m : (ℓ : Loc Cert.Distances.nD Cert.Distances.τ Cert.Distances.sig) → Buf (Elt Bits) ℓ) (g : Dev Cert.Distances.nD → PrngReg), Pre_Distances m →
    θ_run (Cert.Distances.defs (F := Bits)) (onTc (τ := Cert.Distances.τ) (Cert.Distances.main (F := Bits))) ⟨m, fun _ => 0, g⟩ (fun r => (∀ c : Dev Cert.Distances.nD,
      r.2.mem ((c.tc : Thread Cert.Distances.nD Cert.Distances.τ).loc Cert.Distances.main_arg0) = m ((c.tc : Thread Cert.Distances.nD Cert.Distances.τ).loc Cert.Distances.main_arg0))
      ∧ r.2.sem = fun _ => 0)

def quiescent_DistancesIdeal [hDistancesIdeal : Cert.DistancesIdeal.Facts] : Prop :=
  ∀ (m : (ℓ : Loc Cert.DistancesIdeal.nD Cert.DistancesIdeal.τ Cert.DistancesIdeal.sig) → Buf (Elt Ideal) ℓ) (g : Dev Cert.DistancesIdeal.nD → PrngReg), Pre_DistancesIdeal m →
    θ_run (Cert.DistancesIdeal.defs (F := Ideal)) (onTc (τ := Cert.DistancesIdeal.τ) (Cert.DistancesIdeal.main (F := Ideal))) ⟨m, fun _ => 0, g⟩ (fun r => (∀ c : Dev Cert.DistancesIdeal.nD,
      r.2.mem ((c.tc : Thread Cert.DistancesIdeal.nD Cert.DistancesIdeal.τ).loc Cert.DistancesIdeal.main_arg0) = m ((c.tc : Thread Cert.DistancesIdeal.nD Cert.DistancesIdeal.τ).loc Cert.DistancesIdeal.main_arg0))
      ∧ r.2.sem = fun _ => 0)

def quiescent_DistancesReferenceIdeal [hDistancesReferenceIdeal : Cert.DistancesReferenceIdeal.Facts] : Prop :=
  ∀ (m : (ℓ : Loc Cert.DistancesReferenceIdeal.nD Cert.DistancesReferenceIdeal.τ Cert.DistancesReferenceIdeal.sig) → Buf (Elt Ideal) ℓ) (g : Dev Cert.DistancesReferenceIdeal.nD → PrngReg), Pre_DistancesReferenceIdeal m →
    θ_run (Cert.DistancesReferenceIdeal.defs (F := Ideal)) (onTc (τ := Cert.DistancesReferenceIdeal.τ) (Cert.DistancesReferenceIdeal.main (F := Ideal))) ⟨m, fun _ => 0, g⟩ (fun r => (∀ c : Dev Cert.DistancesReferenceIdeal.nD,
      r.2.mem ((c.tc : Thread Cert.DistancesReferenceIdeal.nD Cert.DistancesReferenceIdeal.τ).loc Cert.DistancesReferenceIdeal.main_arg0) = m ((c.tc : Thread Cert.DistancesReferenceIdeal.nD Cert.DistancesReferenceIdeal.τ).loc Cert.DistancesReferenceIdeal.main_arg0))
      ∧ r.2.sem = fun _ => 0)

def quiescent_Moments [hMoments : Cert.Moments.Facts] : Prop :=
  ∀ (m : (ℓ : Loc Cert.Moments.nD Cert.Moments.τ Cert.Moments.sig) → Buf (Elt Bits) ℓ) (g : Dev Cert.Moments.nD → PrngReg), Pre_Moments m →
    θ_run (Cert.Moments.defs (F := Bits)) (onTc (τ := Cert.Moments.τ) (Cert.Moments.main (F := Bits))) ⟨m, fun _ => 0, g⟩ (fun r => (∀ c : Dev Cert.Moments.nD,
      r.2.mem ((c.tc : Thread Cert.Moments.nD Cert.Moments.τ).loc Cert.Moments.main_arg0) = m ((c.tc : Thread Cert.Moments.nD Cert.Moments.τ).loc Cert.Moments.main_arg0)
      ∧ r.2.mem ((c.tc : Thread Cert.Moments.nD Cert.Moments.τ).loc Cert.Moments.main_arg1) = m ((c.tc : Thread Cert.Moments.nD Cert.Moments.τ).loc Cert.Moments.main_arg1)
      ∧ r.2.mem ((c.tc : Thread Cert.Moments.nD Cert.Moments.τ).loc Cert.Moments.main_arg2) = m ((c.tc : Thread Cert.Moments.nD Cert.Moments.τ).loc Cert.Moments.main_arg2)
      ∧ r.2.mem ((c.tc : Thread Cert.Moments.nD Cert.Moments.τ).loc Cert.Moments.main_arg3) = m ((c.tc : Thread Cert.Moments.nD Cert.Moments.τ).loc Cert.Moments.main_arg3)
      ∧ r.2.mem ((c.tc : Thread Cert.Moments.nD Cert.Moments.τ).loc Cert.Moments.main_arg4) = m ((c.tc : Thread Cert.Moments.nD Cert.Moments.τ).loc Cert.Moments.main_arg4)
      ∧ r.2.mem ((c.tc : Thread Cert.Moments.nD Cert.Moments.τ).loc Cert.Moments.main_arg5) = m ((c.tc : Thread Cert.Moments.nD Cert.Moments.τ).loc Cert.Moments.main_arg5)
      ∧ r.2.mem ((c.tc : Thread Cert.Moments.nD Cert.Moments.τ).loc Cert.Moments.main_arg6) = m ((c.tc : Thread Cert.Moments.nD Cert.Moments.τ).loc Cert.Moments.main_arg6)
      ∧ r.2.mem ((c.tc : Thread Cert.Moments.nD Cert.Moments.τ).loc Cert.Moments.main_arg7) = m ((c.tc : Thread Cert.Moments.nD Cert.Moments.τ).loc Cert.Moments.main_arg7))
      ∧ r.2.sem = fun _ => 0)

def quiescent_MomentsIdeal [hMomentsIdeal : Cert.MomentsIdeal.Facts] : Prop :=
  ∀ (m : (ℓ : Loc Cert.MomentsIdeal.nD Cert.MomentsIdeal.τ Cert.MomentsIdeal.sig) → Buf (Elt Ideal) ℓ) (g : Dev Cert.MomentsIdeal.nD → PrngReg), Pre_MomentsIdeal m →
    θ_run (Cert.MomentsIdeal.defs (F := Ideal)) (onTc (τ := Cert.MomentsIdeal.τ) (Cert.MomentsIdeal.main (F := Ideal))) ⟨m, fun _ => 0, g⟩ (fun r => (∀ c : Dev Cert.MomentsIdeal.nD,
      r.2.mem ((c.tc : Thread Cert.MomentsIdeal.nD Cert.MomentsIdeal.τ).loc Cert.MomentsIdeal.main_arg0) = m ((c.tc : Thread Cert.MomentsIdeal.nD Cert.MomentsIdeal.τ).loc Cert.MomentsIdeal.main_arg0)
      ∧ r.2.mem ((c.tc : Thread Cert.MomentsIdeal.nD Cert.MomentsIdeal.τ).loc Cert.MomentsIdeal.main_arg1) = m ((c.tc : Thread Cert.MomentsIdeal.nD Cert.MomentsIdeal.τ).loc Cert.MomentsIdeal.main_arg1)
      ∧ r.2.mem ((c.tc : Thread Cert.MomentsIdeal.nD Cert.MomentsIdeal.τ).loc Cert.MomentsIdeal.main_arg2) = m ((c.tc : Thread Cert.MomentsIdeal.nD Cert.MomentsIdeal.τ).loc Cert.MomentsIdeal.main_arg2)
      ∧ r.2.mem ((c.tc : Thread Cert.MomentsIdeal.nD Cert.MomentsIdeal.τ).loc Cert.MomentsIdeal.main_arg3) = m ((c.tc : Thread Cert.MomentsIdeal.nD Cert.MomentsIdeal.τ).loc Cert.MomentsIdeal.main_arg3)
      ∧ r.2.mem ((c.tc : Thread Cert.MomentsIdeal.nD Cert.MomentsIdeal.τ).loc Cert.MomentsIdeal.main_arg4) = m ((c.tc : Thread Cert.MomentsIdeal.nD Cert.MomentsIdeal.τ).loc Cert.MomentsIdeal.main_arg4)
      ∧ r.2.mem ((c.tc : Thread Cert.MomentsIdeal.nD Cert.MomentsIdeal.τ).loc Cert.MomentsIdeal.main_arg5) = m ((c.tc : Thread Cert.MomentsIdeal.nD Cert.MomentsIdeal.τ).loc Cert.MomentsIdeal.main_arg5)
      ∧ r.2.mem ((c.tc : Thread Cert.MomentsIdeal.nD Cert.MomentsIdeal.τ).loc Cert.MomentsIdeal.main_arg6) = m ((c.tc : Thread Cert.MomentsIdeal.nD Cert.MomentsIdeal.τ).loc Cert.MomentsIdeal.main_arg6)
      ∧ r.2.mem ((c.tc : Thread Cert.MomentsIdeal.nD Cert.MomentsIdeal.τ).loc Cert.MomentsIdeal.main_arg7) = m ((c.tc : Thread Cert.MomentsIdeal.nD Cert.MomentsIdeal.τ).loc Cert.MomentsIdeal.main_arg7))
      ∧ r.2.sem = fun _ => 0)

def quiescent_MomentsReferenceIdeal [hMomentsReferenceIdeal : Cert.MomentsReferenceIdeal.Facts] : Prop :=
  ∀ (m : (ℓ : Loc Cert.MomentsReferenceIdeal.nD Cert.MomentsReferenceIdeal.τ Cert.MomentsReferenceIdeal.sig) → Buf (Elt Ideal) ℓ) (g : Dev Cert.MomentsReferenceIdeal.nD → PrngReg), Pre_MomentsReferenceIdeal m →
    θ_run (Cert.MomentsReferenceIdeal.defs (F := Ideal)) (onTc (τ := Cert.MomentsReferenceIdeal.τ) (Cert.MomentsReferenceIdeal.main (F := Ideal))) ⟨m, fun _ => 0, g⟩ (fun r => (∀ c : Dev Cert.MomentsReferenceIdeal.nD,
      r.2.mem ((c.tc : Thread Cert.MomentsReferenceIdeal.nD Cert.MomentsReferenceIdeal.τ).loc Cert.MomentsReferenceIdeal.main_arg0) = m ((c.tc : Thread Cert.MomentsReferenceIdeal.nD Cert.MomentsReferenceIdeal.τ).loc Cert.MomentsReferenceIdeal.main_arg0)
      ∧ r.2.mem ((c.tc : Thread Cert.MomentsReferenceIdeal.nD Cert.MomentsReferenceIdeal.τ).loc Cert.MomentsReferenceIdeal.main_arg1) = m ((c.tc : Thread Cert.MomentsReferenceIdeal.nD Cert.MomentsReferenceIdeal.τ).loc Cert.MomentsReferenceIdeal.main_arg1)
      ∧ r.2.mem ((c.tc : Thread Cert.MomentsReferenceIdeal.nD Cert.MomentsReferenceIdeal.τ).loc Cert.MomentsReferenceIdeal.main_arg2) = m ((c.tc : Thread Cert.MomentsReferenceIdeal.nD Cert.MomentsReferenceIdeal.τ).loc Cert.MomentsReferenceIdeal.main_arg2)
      ∧ r.2.mem ((c.tc : Thread Cert.MomentsReferenceIdeal.nD Cert.MomentsReferenceIdeal.τ).loc Cert.MomentsReferenceIdeal.main_arg3) = m ((c.tc : Thread Cert.MomentsReferenceIdeal.nD Cert.MomentsReferenceIdeal.τ).loc Cert.MomentsReferenceIdeal.main_arg3)
      ∧ r.2.mem ((c.tc : Thread Cert.MomentsReferenceIdeal.nD Cert.MomentsReferenceIdeal.τ).loc Cert.MomentsReferenceIdeal.main_arg4) = m ((c.tc : Thread Cert.MomentsReferenceIdeal.nD Cert.MomentsReferenceIdeal.τ).loc Cert.MomentsReferenceIdeal.main_arg4)
      ∧ r.2.mem ((c.tc : Thread Cert.MomentsReferenceIdeal.nD Cert.MomentsReferenceIdeal.τ).loc Cert.MomentsReferenceIdeal.main_arg5) = m ((c.tc : Thread Cert.MomentsReferenceIdeal.nD Cert.MomentsReferenceIdeal.τ).loc Cert.MomentsReferenceIdeal.main_arg5)
      ∧ r.2.mem ((c.tc : Thread Cert.MomentsReferenceIdeal.nD Cert.MomentsReferenceIdeal.τ).loc Cert.MomentsReferenceIdeal.main_arg6) = m ((c.tc : Thread Cert.MomentsReferenceIdeal.nD Cert.MomentsReferenceIdeal.τ).loc Cert.MomentsReferenceIdeal.main_arg6)
      ∧ r.2.mem ((c.tc : Thread Cert.MomentsReferenceIdeal.nD Cert.MomentsReferenceIdeal.τ).loc Cert.MomentsReferenceIdeal.main_arg7) = m ((c.tc : Thread Cert.MomentsReferenceIdeal.nD Cert.MomentsReferenceIdeal.τ).loc Cert.MomentsReferenceIdeal.main_arg7))
      ∧ r.2.sem = fun _ => 0)

def preserves_Kernel_KernelIdeal : Prop :=
  True

def algebraic_KernelIdeal_ReferenceIdeal_pre_seventeen_smallest_increase [hKernelIdeal : Cert.KernelIdeal.Facts] [hReferenceIdeal : Cert.ReferenceIdeal.Facts] [hPre_seventeen_smallest_increase : Cert.Pre_seventeen_smallest_increase.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_seventeen_smallest_increase m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)
      ∧ m' ((c.tc : Thread Cert.CombineReferenceIdeal.nD Cert.CombineReferenceIdeal.τ).loc Cert.CombineReferenceIdeal.main_arg7) = m ((c.tc : Thread Cert.CombineIdeal.nD Cert.CombineIdeal.τ).loc Cert.CombineIdeal.main_arg7)
      ∧ m' ((c.tc : Thread Cert.CombineReferenceIdeal.nD Cert.CombineReferenceIdeal.τ).loc Cert.CombineReferenceIdeal.main_arg8) = m ((c.tc : Thread Cert.CombineIdeal.nD Cert.CombineIdeal.τ).loc Cert.CombineIdeal.main_arg8)
      ∧ m' ((c.tc : Thread Cert.CombineReferenceIdeal.nD Cert.CombineReferenceIdeal.τ).loc Cert.CombineReferenceIdeal.main_arg9) = m ((c.tc : Thread Cert.CombineIdeal.nD Cert.CombineIdeal.τ).loc Cert.CombineIdeal.main_arg9)
      ∧ m' ((c.tc : Thread Cert.CombineReferenceIdeal.nD Cert.CombineReferenceIdeal.τ).loc Cert.CombineReferenceIdeal.main_arg10) = m ((c.tc : Thread Cert.CombineIdeal.nD Cert.CombineIdeal.τ).loc Cert.CombineIdeal.main_arg10)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
          ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
          ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v52) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6)
          ∧ r.2.mem ((c.tc : Thread Cert.CombineReferenceIdeal.nD Cert.CombineReferenceIdeal.τ).loc Cert.CombineReferenceIdeal.main_arg7) = m' ((c.tc : Thread Cert.CombineReferenceIdeal.nD Cert.CombineReferenceIdeal.τ).loc Cert.CombineReferenceIdeal.main_arg7)
          ∧ r.2.mem ((c.tc : Thread Cert.CombineReferenceIdeal.nD Cert.CombineReferenceIdeal.τ).loc Cert.CombineReferenceIdeal.main_arg8) = m' ((c.tc : Thread Cert.CombineReferenceIdeal.nD Cert.CombineReferenceIdeal.τ).loc Cert.CombineReferenceIdeal.main_arg8)
          ∧ r.2.mem ((c.tc : Thread Cert.CombineReferenceIdeal.nD Cert.CombineReferenceIdeal.τ).loc Cert.CombineReferenceIdeal.main_arg9) = m' ((c.tc : Thread Cert.CombineReferenceIdeal.nD Cert.CombineReferenceIdeal.τ).loc Cert.CombineReferenceIdeal.main_arg9)
          ∧ r.2.mem ((c.tc : Thread Cert.CombineReferenceIdeal.nD Cert.CombineReferenceIdeal.τ).loc Cert.CombineReferenceIdeal.main_arg10) = m' ((c.tc : Thread Cert.CombineReferenceIdeal.nD Cert.CombineReferenceIdeal.τ).loc Cert.CombineReferenceIdeal.main_arg10))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v4) = v0 c
          ∧ r.2.mem ((c.tc : Thread Cert.ProjectReferenceIdeal.nD Cert.ProjectReferenceIdeal.τ).loc Cert.ProjectReferenceIdeal.main_v9) = v1 c
          ∧ r.2.mem ((c.tc : Thread Cert.ProjectReferenceIdeal.nD Cert.ProjectReferenceIdeal.τ).loc Cert.ProjectReferenceIdeal.main_v14) = v2 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6))

def preserves_Distances_DistancesIdeal : Prop :=
  True

def algebraic_DistancesIdeal_DistancesReferenceIdeal [hDistancesIdeal : Cert.DistancesIdeal.Facts] [hDistancesReferenceIdeal : Cert.DistancesReferenceIdeal.Facts] : Prop :=
  ∀ (m : (ℓ : Loc Cert.DistancesIdeal.nD Cert.DistancesIdeal.τ Cert.DistancesIdeal.sig) → Buf (Elt Ideal) ℓ) (g : Dev Cert.DistancesIdeal.nD → PrngReg)
    (m' : (ℓ : Loc Cert.DistancesReferenceIdeal.nD Cert.DistancesReferenceIdeal.τ Cert.DistancesReferenceIdeal.sig) → Buf (Elt Ideal) ℓ) (g' : Dev Cert.DistancesReferenceIdeal.nD → PrngReg), Pre_DistancesIdeal m →
    (∀ c : Dev Cert.DistancesIdeal.nD,
      m' ((c.tc : Thread Cert.DistancesReferenceIdeal.nD Cert.DistancesReferenceIdeal.τ).loc Cert.DistancesReferenceIdeal.main_arg0) = m ((c.tc : Thread Cert.DistancesIdeal.nD Cert.DistancesIdeal.τ).loc Cert.DistancesIdeal.main_arg0)) →
    ∃ (v0 : (c : Dev Cert.DistancesIdeal.nD) → Buf (Elt Ideal) ((c.tc : Thread Cert.DistancesIdeal.nD Cert.DistancesIdeal.τ).loc Cert.DistancesIdeal.main_v5_0)) (v1 : (c : Dev Cert.DistancesIdeal.nD) → Buf (Elt Ideal) ((c.tc : Thread Cert.DistancesIdeal.nD Cert.DistancesIdeal.τ).loc Cert.DistancesIdeal.main_v5_1)),
      θ_run (Cert.DistancesIdeal.defs (F := Ideal)) (onTc (τ := Cert.DistancesIdeal.τ) (Cert.DistancesIdeal.main (F := Ideal))) ⟨m, fun _ => 0, g⟩ (fun r => ∀ c : Dev Cert.DistancesIdeal.nD,
          r.2.mem ((c.tc : Thread Cert.DistancesIdeal.nD Cert.DistancesIdeal.τ).loc Cert.DistancesIdeal.main_v5_0) = v0 c
          ∧ r.2.mem ((c.tc : Thread Cert.DistancesIdeal.nD Cert.DistancesIdeal.τ).loc Cert.DistancesIdeal.main_v5_1) = v1 c
          ∧ r.2.mem ((c.tc : Thread Cert.DistancesIdeal.nD Cert.DistancesIdeal.τ).loc Cert.DistancesIdeal.main_arg0) = m ((c.tc : Thread Cert.DistancesIdeal.nD Cert.DistancesIdeal.τ).loc Cert.DistancesIdeal.main_arg0))
      ∧ θ_run (Cert.DistancesReferenceIdeal.defs (F := Ideal)) (onTc (τ := Cert.DistancesReferenceIdeal.τ) (Cert.DistancesReferenceIdeal.main (F := Ideal))) ⟨m', fun _ => 0, g'⟩ (fun r => ∀ c : Dev Cert.DistancesReferenceIdeal.nD,
          r.2.mem ((c.tc : Thread Cert.DistancesReferenceIdeal.nD Cert.DistancesReferenceIdeal.τ).loc Cert.DistancesReferenceIdeal.main_v11) = v0 c
          ∧ r.2.mem ((c.tc : Thread Cert.DistancesReferenceIdeal.nD Cert.DistancesReferenceIdeal.τ).loc Cert.DistancesReferenceIdeal.main_v13) = v1 c
          ∧ r.2.mem ((c.tc : Thread Cert.DistancesReferenceIdeal.nD Cert.DistancesReferenceIdeal.τ).loc Cert.DistancesReferenceIdeal.main_arg0) = m' ((c.tc : Thread Cert.DistancesReferenceIdeal.nD Cert.DistancesReferenceIdeal.τ).loc Cert.DistancesReferenceIdeal.main_arg0))

def preserves_Moments_MomentsIdeal : Prop :=
  True

def algebraic_MomentsIdeal_MomentsReferenceIdeal [hMomentsIdeal : Cert.MomentsIdeal.Facts] [hMomentsReferenceIdeal : Cert.MomentsReferenceIdeal.Facts] : Prop :=
  ∀ (m : (ℓ : Loc Cert.MomentsIdeal.nD Cert.MomentsIdeal.τ Cert.MomentsIdeal.sig) → Buf (Elt Ideal) ℓ) (g : Dev Cert.MomentsIdeal.nD → PrngReg)
    (m' : (ℓ : Loc Cert.MomentsReferenceIdeal.nD Cert.MomentsReferenceIdeal.τ Cert.MomentsReferenceIdeal.sig) → Buf (Elt Ideal) ℓ) (g' : Dev Cert.MomentsReferenceIdeal.nD → PrngReg), Pre_MomentsIdeal m →
    (∀ c : Dev Cert.MomentsIdeal.nD,
      m' ((c.tc : Thread Cert.MomentsReferenceIdeal.nD Cert.MomentsReferenceIdeal.τ).loc Cert.MomentsReferenceIdeal.main_arg0) = m ((c.tc : Thread Cert.MomentsIdeal.nD Cert.MomentsIdeal.τ).loc Cert.MomentsIdeal.main_arg0)
      ∧ m' ((c.tc : Thread Cert.MomentsReferenceIdeal.nD Cert.MomentsReferenceIdeal.τ).loc Cert.MomentsReferenceIdeal.main_arg1) = m ((c.tc : Thread Cert.MomentsIdeal.nD Cert.MomentsIdeal.τ).loc Cert.MomentsIdeal.main_arg1)
      ∧ m' ((c.tc : Thread Cert.MomentsReferenceIdeal.nD Cert.MomentsReferenceIdeal.τ).loc Cert.MomentsReferenceIdeal.main_arg2) = m ((c.tc : Thread Cert.MomentsIdeal.nD Cert.MomentsIdeal.τ).loc Cert.MomentsIdeal.main_arg2)
      ∧ m' ((c.tc : Thread Cert.MomentsReferenceIdeal.nD Cert.MomentsReferenceIdeal.τ).loc Cert.MomentsReferenceIdeal.main_arg3) = m ((c.tc : Thread Cert.MomentsIdeal.nD Cert.MomentsIdeal.τ).loc Cert.MomentsIdeal.main_arg3)
      ∧ m' ((c.tc : Thread Cert.MomentsReferenceIdeal.nD Cert.MomentsReferenceIdeal.τ).loc Cert.MomentsReferenceIdeal.main_arg4) = m ((c.tc : Thread Cert.MomentsIdeal.nD Cert.MomentsIdeal.τ).loc Cert.MomentsIdeal.main_arg4)
      ∧ m' ((c.tc : Thread Cert.MomentsReferenceIdeal.nD Cert.MomentsReferenceIdeal.τ).loc Cert.MomentsReferenceIdeal.main_arg5) = m ((c.tc : Thread Cert.MomentsIdeal.nD Cert.MomentsIdeal.τ).loc Cert.MomentsIdeal.main_arg5)
      ∧ m' ((c.tc : Thread Cert.MomentsReferenceIdeal.nD Cert.MomentsReferenceIdeal.τ).loc Cert.MomentsReferenceIdeal.main_arg6) = m ((c.tc : Thread Cert.MomentsIdeal.nD Cert.MomentsIdeal.τ).loc Cert.MomentsIdeal.main_arg6)
      ∧ m' ((c.tc : Thread Cert.MomentsReferenceIdeal.nD Cert.MomentsReferenceIdeal.τ).loc Cert.MomentsReferenceIdeal.main_arg7) = m ((c.tc : Thread Cert.MomentsIdeal.nD Cert.MomentsIdeal.τ).loc Cert.MomentsIdeal.main_arg7)) →
    ∃ (v0 : (c : Dev Cert.MomentsIdeal.nD) → Buf (Elt Ideal) ((c.tc : Thread Cert.MomentsIdeal.nD Cert.MomentsIdeal.τ).loc Cert.MomentsIdeal.main_v0)),
      θ_run (Cert.MomentsIdeal.defs (F := Ideal)) (onTc (τ := Cert.MomentsIdeal.τ) (Cert.MomentsIdeal.main (F := Ideal))) ⟨m, fun _ => 0, g⟩ (fun r => ∀ c : Dev Cert.MomentsIdeal.nD,
          r.2.mem ((c.tc : Thread Cert.MomentsIdeal.nD Cert.MomentsIdeal.τ).loc Cert.MomentsIdeal.main_v0) = v0 c
          ∧ r.2.mem ((c.tc : Thread Cert.MomentsIdeal.nD Cert.MomentsIdeal.τ).loc Cert.MomentsIdeal.main_arg0) = m ((c.tc : Thread Cert.MomentsIdeal.nD Cert.MomentsIdeal.τ).loc Cert.MomentsIdeal.main_arg0)
          ∧ r.2.mem ((c.tc : Thread Cert.MomentsIdeal.nD Cert.MomentsIdeal.τ).loc Cert.MomentsIdeal.main_arg1) = m ((c.tc : Thread Cert.MomentsIdeal.nD Cert.MomentsIdeal.τ).loc Cert.MomentsIdeal.main_arg1)
          ∧ r.2.mem ((c.tc : Thread Cert.MomentsIdeal.nD Cert.MomentsIdeal.τ).loc Cert.MomentsIdeal.main_arg2) = m ((c.tc : Thread Cert.MomentsIdeal.nD Cert.MomentsIdeal.τ).loc Cert.MomentsIdeal.main_arg2)
          ∧ r.2.mem ((c.tc : Thread Cert.MomentsIdeal.nD Cert.MomentsIdeal.τ).loc Cert.MomentsIdeal.main_arg3) = m ((c.tc : Thread Cert.MomentsIdeal.nD Cert.MomentsIdeal.τ).loc Cert.MomentsIdeal.main_arg3)
          ∧ r.2.mem ((c.tc : Thread Cert.MomentsIdeal.nD Cert.MomentsIdeal.τ).loc Cert.MomentsIdeal.main_arg4) = m ((c.tc : Thread Cert.MomentsIdeal.nD Cert.MomentsIdeal.τ).loc Cert.MomentsIdeal.main_arg4)
          ∧ r.2.mem ((c.tc : Thread Cert.MomentsIdeal.nD Cert.MomentsIdeal.τ).loc Cert.MomentsIdeal.main_arg5) = m ((c.tc : Thread Cert.MomentsIdeal.nD Cert.MomentsIdeal.τ).loc Cert.MomentsIdeal.main_arg5)
          ∧ r.2.mem ((c.tc : Thread Cert.MomentsIdeal.nD Cert.MomentsIdeal.τ).loc Cert.MomentsIdeal.main_arg6) = m ((c.tc : Thread Cert.MomentsIdeal.nD Cert.MomentsIdeal.τ).loc Cert.MomentsIdeal.main_arg6)
          ∧ r.2.mem ((c.tc : Thread Cert.MomentsIdeal.nD Cert.MomentsIdeal.τ).loc Cert.MomentsIdeal.main_arg7) = m ((c.tc : Thread Cert.MomentsIdeal.nD Cert.MomentsIdeal.τ).loc Cert.MomentsIdeal.main_arg7))
      ∧ θ_run (Cert.MomentsReferenceIdeal.defs (F := Ideal)) (onTc (τ := Cert.MomentsReferenceIdeal.τ) (Cert.MomentsReferenceIdeal.main (F := Ideal))) ⟨m', fun _ => 0, g'⟩ (fun r => ∀ c : Dev Cert.MomentsReferenceIdeal.nD,
          r.2.mem ((c.tc : Thread Cert.MomentsReferenceIdeal.nD Cert.MomentsReferenceIdeal.τ).loc Cert.MomentsReferenceIdeal.main_v30) = v0 c
          ∧ r.2.mem ((c.tc : Thread Cert.MomentsReferenceIdeal.nD Cert.MomentsReferenceIdeal.τ).loc Cert.MomentsReferenceIdeal.main_arg0) = m' ((c.tc : Thread Cert.MomentsReferenceIdeal.nD Cert.MomentsReferenceIdeal.τ).loc Cert.MomentsReferenceIdeal.main_arg0)
          ∧ r.2.mem ((c.tc : Thread Cert.MomentsReferenceIdeal.nD Cert.MomentsReferenceIdeal.τ).loc Cert.MomentsReferenceIdeal.main_arg1) = m' ((c.tc : Thread Cert.MomentsReferenceIdeal.nD Cert.MomentsReferenceIdeal.τ).loc Cert.MomentsReferenceIdeal.main_arg1)
          ∧ r.2.mem ((c.tc : Thread Cert.MomentsReferenceIdeal.nD Cert.MomentsReferenceIdeal.τ).loc Cert.MomentsReferenceIdeal.main_arg2) = m' ((c.tc : Thread Cert.MomentsReferenceIdeal.nD Cert.MomentsReferenceIdeal.τ).loc Cert.MomentsReferenceIdeal.main_arg2)
          ∧ r.2.mem ((c.tc : Thread Cert.MomentsReferenceIdeal.nD Cert.MomentsReferenceIdeal.τ).loc Cert.MomentsReferenceIdeal.main_arg3) = m' ((c.tc : Thread Cert.MomentsReferenceIdeal.nD Cert.MomentsReferenceIdeal.τ).loc Cert.MomentsReferenceIdeal.main_arg3)
          ∧ r.2.mem ((c.tc : Thread Cert.MomentsReferenceIdeal.nD Cert.MomentsReferenceIdeal.τ).loc Cert.MomentsReferenceIdeal.main_arg4) = m' ((c.tc : Thread Cert.MomentsReferenceIdeal.nD Cert.MomentsReferenceIdeal.τ).loc Cert.MomentsReferenceIdeal.main_arg4)
          ∧ r.2.mem ((c.tc : Thread Cert.MomentsReferenceIdeal.nD Cert.MomentsReferenceIdeal.τ).loc Cert.MomentsReferenceIdeal.main_arg5) = m' ((c.tc : Thread Cert.MomentsReferenceIdeal.nD Cert.MomentsReferenceIdeal.τ).loc Cert.MomentsReferenceIdeal.main_arg5)
          ∧ r.2.mem ((c.tc : Thread Cert.MomentsReferenceIdeal.nD Cert.MomentsReferenceIdeal.τ).loc Cert.MomentsReferenceIdeal.main_arg6) = m' ((c.tc : Thread Cert.MomentsReferenceIdeal.nD Cert.MomentsReferenceIdeal.τ).loc Cert.MomentsReferenceIdeal.main_arg6)
          ∧ r.2.mem ((c.tc : Thread Cert.MomentsReferenceIdeal.nD Cert.MomentsReferenceIdeal.τ).loc Cert.MomentsReferenceIdeal.main_arg7) = m' ((c.tc : Thread Cert.MomentsReferenceIdeal.nD Cert.MomentsReferenceIdeal.τ).loc Cert.MomentsReferenceIdeal.main_arg7))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts) (hProject : Cert.Project.Facts) (hProjectIdeal : Cert.ProjectIdeal.Facts) (hProjectReferenceIdeal : Cert.ProjectReferenceIdeal.Facts) (hDistances : Cert.Distances.Facts) (hDistancesIdeal : Cert.DistancesIdeal.Facts) (hDistancesReferenceIdeal : Cert.DistancesReferenceIdeal.Facts) (hMoments : Cert.Moments.Facts) (hMomentsIdeal : Cert.MomentsIdeal.Facts) (hMomentsReferenceIdeal : Cert.MomentsReferenceIdeal.Facts) (hPre_seventeen_smallest_increase : Cert.Pre_seventeen_smallest_increase.Facts),
    quiescent_Kernel (hKernel := hKernel)
    ∧ quiescent_KernelIdeal (hKernelIdeal := hKernelIdeal)
    ∧ quiescent_KernelIdeal_pre_seventeen_smallest_increase (hKernelIdeal := hKernelIdeal) (hPre_seventeen_smallest_increase := hPre_seventeen_smallest_increase)
    ∧ quiescent_ReferenceIdeal (hReferenceIdeal := hReferenceIdeal)
    ∧ quiescent_ReferenceIdeal_pre_seventeen_smallest_increase (hReferenceIdeal := hReferenceIdeal) (hPre_seventeen_smallest_increase := hPre_seventeen_smallest_increase)
    ∧ quiescent_Combine (hCombine := hCombine)
    ∧ quiescent_CombineIdeal (hCombineIdeal := hCombineIdeal)
    ∧ quiescent_CombineReferenceIdeal (hCombineReferenceIdeal := hCombineReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Distances (hDistances := hDistances)
    ∧ quiescent_DistancesIdeal (hDistancesIdeal := hDistancesIdeal)
    ∧ quiescent_DistancesReferenceIdeal (hDistancesReferenceIdeal := hDistancesReferenceIdeal)
    ∧ quiescent_Moments (hMoments := hMoments)
    ∧ quiescent_MomentsIdeal (hMomentsIdeal := hMomentsIdeal)
    ∧ quiescent_MomentsReferenceIdeal (hMomentsReferenceIdeal := hMomentsReferenceIdeal)
    ∧ preserves_Kernel_KernelIdeal
    ∧ algebraic_KernelIdeal_ReferenceIdeal_pre_seventeen_smallest_increase (hKernelIdeal := hKernelIdeal) (hReferenceIdeal := hReferenceIdeal) (hPre_seventeen_smallest_increase := hPre_seventeen_smallest_increase)
    ∧ preserves_Combine_CombineIdeal
    ∧ algebraic_CombineIdeal_CombineReferenceIdeal (hCombineIdeal := hCombineIdeal) (hCombineReferenceIdeal := hCombineReferenceIdeal)
    ∧ preserves_Project_ProjectIdeal
    ∧ algebraic_ProjectIdeal_ProjectReferenceIdeal (hProjectIdeal := hProjectIdeal) (hProjectReferenceIdeal := hProjectReferenceIdeal)
    ∧ preserves_Distances_DistancesIdeal
    ∧ algebraic_DistancesIdeal_DistancesReferenceIdeal (hDistancesIdeal := hDistancesIdeal) (hDistancesReferenceIdeal := hDistancesReferenceIdeal)
    ∧ preserves_Moments_MomentsIdeal
    ∧ algebraic_MomentsIdeal_MomentsReferenceIdeal (hMomentsIdeal := hMomentsIdeal) (hMomentsReferenceIdeal := hMomentsReferenceIdeal)
-- ==== Pre_seventeen_smallest_increase.lean ====
abbrev S8192x8192 : Shape := ⟨2, ![8192, 8192]⟩
abbrev S8192x256 : Shape := ⟨2, ![8192, 256]⟩
abbrev S8192x3 : Shape := ⟨2, ![8192, 3]⟩
abbrev S8192x16 : Shape := ⟨2, ![8192, 16]⟩
abbrev S_ : Shape := ⟨0, ![]⟩

class Facts : Prop where
  slices_S8192x8192_S8192x16_0_0 : S8192x8192.Slices ![0, 0] S8192x16
  slices_S8192x8192_S8192x16_0_1 : S8192x8192.Slices ![0, 1] S8192x16
  reducesTo_S8192x16_S_d0_1 : S8192x16.ReducesTo [0, 1] S_
  h_S_ : 0 < S_.numel

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S8192x8192 .f32) : FVec F S8192x8192 .f32 :=
  let v0 : FVec F S8192x8192 .f32 := (fun x => Host.sort S8192x8192 1 comparator_f32_d1 x) arg0
  v0

def fn {F : FTy → Type} [FloatOps F] (main_arg0 : FVec F S8192x8192 .f32) (main_arg1 : FVec F S8192x256 .f32) (main_arg2 : FVec F S8192x256 .f32) (main_arg3 : FVec F S8192x3 .f32) : IVec S_ 1 :=
  let main_v0 : FVec F S8192x8192 .f32 := fn_sort (F := F) main_arg0
  let main_v1 : FVec F S8192x16 .f32 := (extractStridedSlice S8192x16 ![0, 0] · slices_S8192x8192_S8192x16_0_0) main_v0
  let main_v2 : FVec F S8192x16 .f32 := (extractStridedSlice S8192x16 ![0, 1] · slices_S8192x8192_S8192x16_0_1) main_v0
  let main_v3 : IVec S8192x16 1 := cmpf .olt main_v1 main_v2
  let main_c : IVec S_ 1 := constantI S_ 1 1#1
  let main_v4 : IVec S_ 1 := (fun x v => Host.reduce IntOp.andi x v reducesTo_S8192x16_S_d0_1 h_S_) main_v3 main_c
  main_v4
-- ==== Kernel.lean ====
abbrev S8192x8192 : Shape := ⟨2, ![8192, 8192]⟩
abbrev S8192x256 : Shape := ⟨2, ![8192, 256]⟩
abbrev S8192x3 : Shape := ⟨2, ![8192, 3]⟩
abbrev S8192x128x64 : Shape := ⟨3, ![8192, 128, 64]⟩
abbrev S_ : Shape := ⟨0, ![]⟩
abbrev S8192x128 : Shape := ⟨2, ![8192, 128]⟩
abbrev S1048576x64 : Shape := ⟨2, ![1048576, 64]⟩
abbrev S1048576x128 : Shape := ⟨2, ![1048576, 128]⟩
abbrev S1048576 : Shape := ⟨1, ![1048576]⟩
abbrev S8192x2x128 : Shape := ⟨3, ![8192, 2, 128]⟩
abbrev S131072 : Shape := ⟨1, ![131072]⟩
abbrev S131072x2x128 : Shape := ⟨3, ![131072, 2, 128]⟩
abbrev S131072x128 : Shape := ⟨2, ![131072, 128]⟩
abbrev S32768 : Shape := ⟨1, ![32768]⟩
abbrev S2x16x128 : Shape := ⟨3, ![2, 16, 128]⟩
abbrev S2x16 : Shape := ⟨2, ![2, 16]⟩
abbrev S4096 : Shape := ⟨1, ![4096]⟩
abbrev S2x16x2x128 : Shape := ⟨4, ![2, 16, 2, 128]⟩
abbrev S16 : Shape := ⟨1, ![16]⟩
abbrev S1x16 : Shape := ⟨2, ![1, 16]⟩
abbrev S1x16x128 : Shape := ⟨3, ![1, 16, 128]⟩
abbrev S16x128 : Shape := ⟨2, ![16, 128]⟩
abbrev S1 : Shape := ⟨1, ![1]⟩
abbrev S1x16x2x128 : Shape := ⟨4, ![1, 16, 2, 128]⟩
abbrev S16x2x128 : Shape := ⟨3, ![16, 2, 128]⟩

abbrev nBuf : Table → Nat
  | .hbm => 21
  | .local .scVector .vmem => 11
  | _ => 0

abbrev bufTy : (tb : Table) → Fin (nBuf tb) → BufTy
  | .hbm, ⟨0, _⟩ => ⟨S8192x8192, .f32⟩
  | .hbm, ⟨1, _⟩ => ⟨S8192x256, .f32⟩
  | .hbm, ⟨2, _⟩ => ⟨S8192x256, .f32⟩
  | .hbm, ⟨3, _⟩ => ⟨S8192x3, .f32⟩
  | .hbm, ⟨4, _⟩ => ⟨S8192x128x64, .f32⟩
  | .hbm, ⟨5, _⟩ => ⟨S_, .f32⟩
  | .hbm, ⟨6, _⟩ => ⟨S8192x128, .f32⟩
  | .hbm, ⟨7, _⟩ => ⟨S1048576x64, .f32⟩
  | .hbm, ⟨8, _⟩ => ⟨S_, .i32⟩
  | .hbm, ⟨9, _⟩ => ⟨S_, .f32⟩
  | .hbm, ⟨10, _⟩ => ⟨S1048576x128, .f32⟩
  | .hbm, ⟨11, _⟩ => ⟨S1048576, .f32⟩
  | .hbm, ⟨12, _⟩ => ⟨S8192x2x128, .f32⟩
  | .hbm, ⟨13, _⟩ => ⟨S8192x2x128, .f32⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S131072, .i32⟩
  | .hbm, ⟨18, _⟩ => ⟨S131072x2x128, .f32⟩
  | .hbm, ⟨19, _⟩ => ⟨S131072x2x128, .f32⟩
  | .hbm, ⟨20, _⟩ => ⟨S131072x128, .f32⟩
  | .local .scVector .vmem, ⟨0, _⟩ => ⟨S32768, .f32⟩
  | .local .scVector .vmem, ⟨1, _⟩ => ⟨S2x16x128, .f32⟩
  | .local .scVector .vmem, ⟨2, _⟩ => ⟨S2x16, .i32⟩
  | .local .scVector .vmem, ⟨3, _⟩ => ⟨S2x16, .i32⟩
  | .local .scVector .vmem, ⟨4, _⟩ => ⟨S4096, .i32⟩
  | .local .scVector .vmem, ⟨5, _⟩ => ⟨S2x16, .i32⟩
  | .local .scVector .vmem, ⟨6, _⟩ => ⟨S2x16x2x128, .f32⟩
  | .local .scVector .vmem, ⟨7, _⟩ => ⟨S2x16x2x128, .f32⟩
  | .local .scVector .vmem, ⟨8, _⟩ => ⟨S2x16x128, .f32⟩
  | .local .scVector .vmem, ⟨9, _⟩ => ⟨S16, .f32⟩
  | .local .scVector .vmem, ⟨10, _⟩ => ⟨S16, .i32⟩
  | _, _ => ⟨S8192x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v4_scv : Ref sig .scVector := ⟨.hbm, 11, rfl⟩
abbrev main_v3_scv : Ref sig .scVector := ⟨.hbm, 10, rfl⟩
abbrev main_v5_scv : Ref sig .scVector := ⟨.hbm, 12, rfl⟩
abbrev main_v6_scv : Ref sig .scVector := ⟨.hbm, 13, rfl⟩
abbrev main_v7_scv : Ref sig .scVector := ⟨.hbm, 16, rfl⟩
abbrev main_v8_0_scv : Ref sig .scVector := ⟨.hbm, 17, rfl⟩
abbrev main_v8_1_scv : Ref sig .scVector := ⟨.hbm, 18, rfl⟩
abbrev main_v8_2_scv : Ref sig .scVector := ⟨.hbm, 19, rfl⟩
abbrev main_v8_3_scv : Ref sig .scVector := ⟨.hbm, 20, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v4 : BitVec 32 := Scalar.muli v2 c128_i32
  ![v4.toNat]
@[reducible] def k0_t1_loop : Scf.Loop 32 :=
  let c0_i32_3 : BitVec 32 := 0#32
  let c15_i32 : BitVec 32 := 15#32
  let v12 : BitVec 32 := Scalar.addi c0_i32_3 c15_i32
  let c1_i32 : BitVec 32 := 1#32
  ⟨c0_i32_3, v12, c1_i32⟩

def k0_chk1 (v351 : IVec S16 32) : Prop :=
  (∀ a x, ((![v351] : Fin 1 → IVec S16 32) a x).toNat < S16.size a)
theorem k0_idx1_inb : ∀ (v351 : IVec S16 32) (k0_hw1 : k0_chk1 v351), ∀ a x, ((![v351] : Fin 1 → IVec S16 32) a x).toNat < S16.size a := fun v351 k0_hw1 => k0_hw1

def k0_chk2 (v13 : IVec S16 32) : Prop :=
  (∀ a x, ((![v13] : Fin 1 → IVec S16 32) a x).toNat < S16.size a) ∧
  (∀ a x, ((![v13] : Fin 1 → IVec S16 32) a x).toNat < S16.size a)
theorem k0_idx2_inb : ∀ (v13 : IVec S16 32) (k0_hw2 : k0_chk2 v13), ∀ a x, ((![v13] : Fin 1 → IVec S16 32) a x).toNat < S16.size a := fun v13 k0_hw2 => k0_hw2.1
theorem k0_idx3_inb : ∀ (v13 : IVec S16 32) (k0_hw2 : k0_chk2 v13), ∀ a x, ((![v13] : Fin 1 → IVec S16 32) a x).toNat < S16.size a := fun v13 k0_hw2 => k0_hw2.2
@[reducible] def k0_t2_loop : Scf.Loop 32 :=
  let c0_i32_10 : BitVec 32 := 0#32
  let c15_i32_11 : BitVec 32 := 15#32
  let v23 : BitVec 32 := Scalar.addi c0_i32_10 c15_i32_11
  let c1_i32_12 : BitVec 32 := 1#32
  ⟨c0_i32_10, v23, c1_i32_12⟩

def k0_chk3 (v351 : IVec S16 32) : Prop :=
  (∀ a x, ((![v351] : Fin 1 → IVec S16 32) a x).toNat < S16.size a)
theorem k0_idx4_inb : ∀ (v351 : IVec S16 32) (k0_hw3 : k0_chk3 v351), ∀ a x, ((![v351] : Fin 1 → IVec S16 32) a x).toNat < S16.size a := fun v351 k0_hw3 => k0_hw3

def k0_chk4 (v24 : IVec S16 32) : Prop :=
  (∀ a x, ((![v24] : Fin 1 → IVec S16 32) a x).toNat < S16.size a) ∧
  (∀ a x, ((![v24] : Fin 1 → IVec S16 32) a x).toNat < S16.size a)
theorem k0_idx5_inb : ∀ (v24 : IVec S16 32) (k0_hw4 : k0_chk4 v24), ∀ a x, ((![v24] : Fin 1 → IVec S16 32) a x).toNat < S16.size a := fun v24 k0_hw4 => k0_hw4.1
theorem k0_idx6_inb : ∀ (v24 : IVec S16 32) (k0_hw4 : k0_chk4 v24), ∀ a x, ((![v24] : Fin 1 → IVec S16 32) a x).toNat < S16.size a := fun v24 k0_hw4 => k0_hw4.2

def k0_chk5 (v31 : IVec S16 32) : Prop :=
  (∀ a x, ((![v31] : Fin 1 → IVec S16 32) a x).toNat < S16.size a)
theorem k0_idx7_inb : ∀ (v31 : IVec S16 32) (k0_hw5 : k0_chk5 v31), ∀ a x, ((![v31] : Fin 1 → IVec S16 32) a x).toNat < S16.size a := fun v31 k0_hw5 => k0_hw5

def k0_chk6 (v34 : IVec S16 32) : Prop :=
  (∀ a x, ((![v34] : Fin 1 → IVec S16 32) a x).toNat < S16.size a)
theorem k0_idx8_inb : ∀ (v34 : IVec S16 32) (k0_hw6 : k0_chk6 v34), ∀ a x, ((![v34] : Fin 1 → IVec S16 32) a x).toNat < S16.size a := fun v34 k0_hw6 => k0_hw6
@[reducible] def k0_t3_loop : Scf.Loop 32 :=
  let c0_i32_23 : BitVec 32 := 0#32
  let c15_i32_24 : BitVec 32 := 15#32
  let v47 : BitVec 32 := Scalar.addi c0_i32_23 c15_i32_24
  let c1_i32_25 : BitVec 32 := 1#32
  ⟨c0_i32_23, v47, c1_i32_25⟩

def k0_chk7 (v351 : IVec S16 32) : Prop :=
  (∀ a x, ((![v351] : Fin 1 → IVec S16 32) a x).toNat < S16.size a)
theorem k0_idx9_inb : ∀ (v351 : IVec S16 32) (k0_hw7 : k0_chk7 v351), ∀ a x, ((![v351] : Fin 1 → IVec S16 32) a x).toNat < S16.size a := fun v351 k0_hw7 => k0_hw7

def k0_chk8 (v48 : IVec S16 32) : Prop :=
  (∀ a x, ((![v48] : Fin 1 → IVec S16 32) a x).toNat < S16.size a) ∧
  (∀ a x, ((![v48] : Fin 1 → IVec S16 32) a x).toNat < S16.size a)
theorem k0_idx10_inb : ∀ (v48 : IVec S16 32) (k0_hw8 : k0_chk8 v48), ∀ a x, ((![v48] : Fin 1 → IVec S16 32) a x).toNat < S16.size a := fun v48 k0_hw8 => k0_hw8.1
theorem k0_idx11_inb : ∀ (v48 : IVec S16 32) (k0_hw8 : k0_chk8 v48), ∀ a x, ((![v48] : Fin 1 → IVec S16 32) a x).toNat < S16.size a := fun v48 k0_hw8 => k0_hw8.2
@[reducible] def k0_t4_loop : Scf.Loop 32 :=
  let c0_i32_32 : BitVec 32 := 0#32
  let c15_i32_33 : BitVec 32 := 15#32
  let v58 : BitVec 32 := Scalar.addi c0_i32_32 c15_i32_33
  let c1_i32_34 : BitVec 32 := 1#32
  ⟨c0_i32_32, v58, c1_i32_34⟩

def k0_chk9 (v351 : IVec S16 32) : Prop :=
  (∀ a x, ((![v351] : Fin 1 → IVec S16 32) a x).toNat < S16.size a)
theorem k0_idx12_inb : ∀ (v351 : IVec S16 32) (k0_hw9 : k0_chk9 v351), ∀ a x, ((![v351] : Fin 1 → IVec S16 32) a x).toNat < S16.size a := fun v351 k0_hw9 => k0_hw9

def k0_chk10 (v59 : IVec S16 32) : Prop :=
  (∀ a x, ((![v59] : Fin 1 → IVec S16 32) a x).toNat < S16.size a) ∧
  (∀ a x, ((![v59] : Fin 1 → IVec S16 32) a x).toNat < S16.size a)
theorem k0_idx13_inb : ∀ (v59 : IVec S16 32) (k0_hw10 : k0_chk10 v59), ∀ a x, ((![v59] : Fin 1 → IVec S16 32) a x).toNat < S16.size a := fun v59 k0_hw10 => k0_hw10.1
theorem k0_idx14_inb : ∀ (v59 : IVec S16 32) (k0_hw10 : k0_chk10 v59), ∀ a x, ((![v59] : Fin 1 → IVec S16 32) a x).toNat < S16.size a := fun v59 k0_hw10 => k0_hw10.2
@[reducible] def k0_t5_loop : Scf.Loop 32 :=
  let c0_i32_41 : BitVec 32 := 0#32
  let c15_i32_42 : BitVec 32 := 15#32
  let v69 : BitVec 32 := Scalar.addi c0_i32_41 c15_i32_42
  let c1_i32_43 : BitVec 32 := 1#32
  ⟨c0_i32_41, v69, c1_i32_43⟩

def k0_chk11 (v351 : IVec S16 32) : Prop :=
  (∀ a x, ((![v351] : Fin 1 → IVec S16 32) a x).toNat < S16.size a)
theorem k0_idx15_inb : ∀ (v351 : IVec S16 32) (k0_hw11 : k0_chk11 v351), ∀ a x, ((![v351] : Fin 1 → IVec S16 32) a x).toNat < S16.size a := fun v351 k0_hw11 => k0_hw11

def k0_chk12 (v70 : IVec S16 32) : Prop :=
  (∀ a x, ((![v70] : Fin 1 → IVec S16 32) a x).toNat < S16.size a) ∧
  (∀ a x, ((![v70] : Fin 1 → IVec S16 32) a x).toNat < S16.size a)
theorem k0_idx16_inb : ∀ (v70 : IVec S16 32) (k0_hw12 : k0_chk12 v70), ∀ a x, ((![v70] : Fin 1 → IVec S16 32) a x).toNat < S16.size a := fun v70 k0_hw12 => k0_hw12.1
theorem k0_idx17_inb : ∀ (v70 : IVec S16 32) (k0_hw12 : k0_chk12 v70), ∀ a x, ((![v70] : Fin 1 → IVec S16 32) a x).toNat < S16.size a := fun v70 k0_hw12 => k0_hw12.2

def k0_chk13 (v77 : IVec S16 32) : Prop :=
  (∀ a x, ((![v77] : Fin 1 → IVec S16 32) a x).toNat < S16.size a)
theorem k0_idx18_inb : ∀ (v77 : IVec S16 32) (k0_hw13 : k0_chk13 v77), ∀ a x, ((![v77] : Fin 1 → IVec S16 32) a x).toNat < S16.size a := fun v77 k0_hw13 => k0_hw13

def k0_chk14 (v80 : IVec S16 32) : Prop :=
  (∀ a x, ((![v80] : Fin 1 → IVec S16 32) a x).toNat < S16.size a)
theorem k0_idx19_inb : ∀ (v80 : IVec S16 32) (k0_hw14 : k0_chk14 v80), ∀ a x, ((![v80] : Fin 1 → IVec S16 32) a x).toNat < S16.size a := fun v80 k0_hw14 => k0_hw14
@[reducible] def k0_t6_loop : Scf.Loop 32 :=
  let c0_i32_54 : BitVec 32 := 0#32
  let c15_i32_55 : BitVec 32 := 15#32
  let v93 : BitVec 32 := Scalar.addi c0_i32_54 c15_i32_55
  let c1_i32_56 : BitVec 32 := 1#32
  ⟨c0_i32_54, v93, c1_i32_56⟩

def k0_chk15 (v351 : IVec S16 32) : Prop :=
  (∀ a x, ((![v351] : Fin 1 → IVec S16 32) a x).toNat < S16.size a)
theorem k0_idx20_inb : ∀ (v351 : IVec S16 32) (k0_hw15 : k0_chk15 v351), ∀ a x, ((![v351] : Fin 1 → IVec S16 32) a x).toNat < S16.size a := fun v351 k0_hw15 => k0_hw15

def k0_chk16 (v94 : IVec S16 32) : Prop :=
  (∀ a x, ((![v94] : Fin 1 → IVec S16 32) a x).toNat < S16.size a) ∧
  (∀ a x, ((![v94] : Fin 1 → IVec S16 32) a x).toNat < S16.size a)
theorem k0_idx21_inb : ∀ (v94 : IVec S16 32) (k0_hw16 : k0_chk16 v94), ∀ a x, ((![v94] : Fin 1 → IVec S16 32) a x).toNat < S16.size a := fun v94 k0_hw16 => k0_hw16.1
theorem k0_idx22_inb : ∀ (v94 : IVec S16 32) (k0_hw16 : k0_chk16 v94), ∀ a x, ((![v94] : Fin 1 → IVec S16 32) a x).toNat < S16.size a := fun v94 k0_hw16 => k0_hw16.2
@[reducible] def k0_t7_loop : Scf.Loop 32 :=
  let c0_i32_63 : BitVec 32 := 0#32
  let c15_i32_64 : BitVec 32 := 15#32
  let v104 : BitVec 32 := Scalar.addi c0_i32_63 c15_i32_64
  let c1_i32_65 : BitVec 32 := 1#32
  ⟨c0_i32_63, v104, c1_i32_65⟩

def k0_chk17 (v351 : IVec S16 32) : Prop :=
  (∀ a x, ((![v351] : Fin 1 → IVec S16 32) a x).toNat < S16.size a)
theorem k0_idx23_inb : ∀ (v351 : IVec S16 32) (k0_hw17 : k0_chk17 v351), ∀ a x, ((![v351] : Fin 1 → IVec S16 32) a x).toNat < S16.size a := fun v351 k0_hw17 => k0_hw17

def k0_chk18 (v105 : IVec S16 32) : Prop :=
  (∀ a x, ((![v105] : Fin 1 → IVec S16 32) a x).toNat < S16.size a) ∧
  (∀ a x, ((![v105] : Fin 1 → IVec S16 32) a x).toNat < S16.size a)
theorem k0_idx24_inb : ∀ (v105 : IVec S16 32) (k0_hw18 : k0_chk18 v105), ∀ a x, ((![v105] : Fin 1 → IVec S16 32) a x).toNat < S16.size a := fun v105 k0_hw18 => k0_hw18.1
theorem k0_idx25_inb : ∀ (v105 : IVec S16 32) (k0_hw18 : k0_chk18 v105), ∀ a x, ((![v105] : Fin 1 → IVec S16 32) a x).toNat < S16.size a := fun v105 k0_hw18 => k0_hw18.2
@[reducible] def k0_t8_loop : Scf.Loop 32 :=
  let c0_i32_72 : BitVec 32 := 0#32
  let c15_i32_73 : BitVec 32 := 15#32
  let v115 : BitVec 32 := Scalar.addi c0_i32_72 c15_i32_73
  let c1_i32_74 : BitVec 32 := 1#32
  ⟨c0_i32_72, v115, c1_i32_74⟩

def k0_chk19 (v351 : IVec S16 32) : Prop :=
  (∀ a x, ((![v351] : Fin 1 → IVec S16 32) a x).toNat < S16.size a)
theorem k0_idx26_inb : ∀ (v351 : IVec S16 32) (k0_hw19 : k0_chk19 v351), ∀ a x, ((![v351] : Fin 1 → IVec S16 32) a x).toNat < S16.size a := fun v351 k0_hw19 => k0_hw19

def k0_chk20 (v116 : IVec S16 32) : Prop :=
  (∀ a x, ((![v116] : Fin 1 → IVec S16 32) a x).toNat < S16.size a) ∧
  (∀ a x, ((![v116] : Fin 1 → IVec S16 32) a x).toNat < S16.size a)
theorem k0_idx27_inb : ∀ (v116 : IVec S16 32) (k0_hw20 : k0_chk20 v116), ∀ a x, ((![v116] : Fin 1 → IVec S16 32) a x).toNat < S16.size a := fun v116 k0_hw20 => k0_hw20.1
theorem k0_idx28_inb : ∀ (v116 : IVec S16 32) (k0_hw20 : k0_chk20 v116), ∀ a x, ((![v116] : Fin 1 → IVec S16 32) a x).toNat < S16.size a := fun v116 k0_hw20 => k0_hw20.2

def k0_chk21 (v123 : IVec S16 32) : Prop :=
  (∀ a x, ((![v123] : Fin 1 → IVec S16 32) a x).toNat < S16.size a)
theorem k0_idx29_inb : ∀ (v123 : IVec S16 32) (k0_hw21 : k0_chk21 v123), ∀ a x, ((![v123] : Fin 1 → IVec S16 32) a x).toNat < S16.size a := fun v123 k0_hw21 => k0_hw21

def k0_chk22 (v126 : IVec S16 32) : Prop :=
  (∀ a x, ((![v126] : Fin 1 → IVec S16 32) a x).toNat < S16.size a)
theorem k0_idx30_inb : ∀ (v126 : IVec S16 32) (k0_hw22 : k0_chk22 v126), ∀ a x, ((![v126] : Fin 1 → IVec S16 32) a x).toNat < S16.size a := fun v126 k0_hw22 => k0_hw22
@[reducible] def k0_t9_loop : Scf.Loop 32 :=
  let c0_i32_85 : BitVec 32 := 0#32
  let c15_i32_86 : BitVec 32 := 15#32
  let v139 : BitVec 32 := Scalar.addi c0_i32_85 c15_i32_86
  let c1_i32_87 : BitVec 32 := 1#32
  ⟨c0_i32_85, v139, c1_i32_87⟩

def k0_chk23 (v351 : IVec S16 32) : Prop :=
  (∀ a x, ((![v351] : Fin 1 → IVec S16 32) a x).toNat < S16.size a)
theorem k0_idx31_inb : ∀ (v351 : IVec S16 32) (k0_hw23 : k0_chk23 v351), ∀ a x, ((![v351] : Fin 1 → IVec S16 32) a x).toNat < S16.size a := fun v351 k0_hw23 => k0_hw23

def k0_chk24 (v140 : IVec S16 32) : Prop :=
  (∀ a x, ((![v140] : Fin 1 → IVec S16 32) a x).toNat < S16.size a) ∧
  (∀ a x, ((![v140] : Fin 1 → IVec S16 32) a x).toNat < S16.size a)
theorem k0_idx32_inb : ∀ (v140 : IVec S16 32) (k0_hw24 : k0_chk24 v140), ∀ a x, ((![v140] : Fin 1 → IVec S16 32) a x).toNat < S16.size a := fun v140 k0_hw24 => k0_hw24.1
theorem k0_idx33_inb : ∀ (v140 : IVec S16 32) (k0_hw24 : k0_chk24 v140), ∀ a x, ((![v140] : Fin 1 → IVec S16 32) a x).toNat < S16.size a := fun v140 k0_hw24 => k0_hw24.2
@[reducible] def k0_t10_loop : Scf.Loop 32 :=
  let c0_i32_94 : BitVec 32 := 0#32
  let c15_i32_95 : BitVec 32 := 15#32
  let v150 : BitVec 32 := Scalar.addi c0_i32_94 c15_i32_95
  let c1_i32_96 : BitVec 32 := 1#32
  ⟨c0_i32_94, v150, c1_i32_96⟩

def k0_chk25 (v351 : IVec S16 32) : Prop :=
  (∀ a x, ((![v351] : Fin 1 → IVec S16 32) a x).toNat < S16.size a)
theorem k0_idx34_inb : ∀ (v351 : IVec S16 32) (k0_hw25 : k0_chk25 v351), ∀ a x, ((![v351] : Fin 1 → IVec S16 32) a x).toNat < S16.size a := fun v351 k0_hw25 => k0_hw25

def k0_chk26 (v151 : IVec S16 32) : Prop :=
  (∀ a x, ((![v151] : Fin 1 → IVec S16 32) a x).toNat < S16.size a) ∧
  (∀ a x, ((![v151] : Fin 1 → IVec S16 32) a x).toNat < S16.size a)
theorem k0_idx35_inb : ∀ (v151 : IVec S16 32) (k0_hw26 : k0_chk26 v151), ∀ a x, ((![v151] : Fin 1 → IVec S16 32) a x).toNat < S16.size a := fun v151 k0_hw26 => k0_hw26.1
theorem k0_idx36_inb : ∀ (v151 : IVec S16 32) (k0_hw26 : k0_chk26 v151), ∀ a x, ((![v151] : Fin 1 → IVec S16 32) a x).toNat < S16.size a := fun v151 k0_hw26 => k0_hw26.2
@[reducible] def k0_t11_loop : Scf.Loop 32 :=
  let c0_i32_103 : BitVec 32 := 0#32
  let c15_i32_104 : BitVec 32 := 15#32
  let v161 : BitVec 32 := Scalar.addi c0_i32_103 c15_i32_104
  let c1_i32_105 : BitVec 32 := 1#32
  ⟨c0_i32_103, v161, c1_i32_105⟩

def k0_chk27 (v351 : IVec S16 32) : Prop :=
  (∀ a x, ((![v351] : Fin 1 → IVec S16 32) a x).toNat < S16.size a)
theorem k0_idx37_inb : ∀ (v351 : IVec S16 32) (k0_hw27 : k0_chk27 v351), ∀ a x, ((![v351] : Fin 1 → IVec S16 32) a x).toNat < S16.size a := fun v351 k0_hw27 => k0_hw27

def k0_chk28 (v162 : IVec S16 32) : Prop :=
  (∀ a x, ((![v162] : Fin 1 → IVec S16 32) a x).toNat < S16.size a) ∧
  (∀ a x, ((![v162] : Fin 1 → IVec S16 32) a x).toNat < S16.size a)
theorem k0_idx38_inb : ∀ (v162 : IVec S16 32) (k0_hw28 : k0_chk28 v162), ∀ a x, ((![v162] : Fin 1 → IVec S16 32) a x).toNat < S16.size a := fun v162 k0_hw28 => k0_hw28.1
theorem k0_idx39_inb : ∀ (v162 : IVec S16 32) (k0_hw28 : k0_chk28 v162), ∀ a x, ((![v162] : Fin 1 → IVec S16 32) a x).toNat < S16.size a := fun v162 k0_hw28 => k0_hw28.2

def k0_chk29 (v169 : IVec S16 32) : Prop :=
  (∀ a x, ((![v169] : Fin 1 → IVec S16 32) a x).toNat < S16.size a)
theorem k0_idx40_inb : ∀ (v169 : IVec S16 32) (k0_hw29 : k0_chk29 v169), ∀ a x, ((![v169] : Fin 1 → IVec S16 32) a x).toNat < S16.size a := fun v169 k0_hw29 => k0_hw29

def k0_chk30 (v172 : IVec S16 32) : Prop :=
  (∀ a x, ((![v172] : Fin 1 → IVec S16 32) a x).toNat < S16.size a)
theorem k0_idx41_inb : ∀ (v172 : IVec S16 32) (k0_hw30 : k0_chk30 v172), ∀ a x, ((![v172] : Fin 1 → IVec S16 32) a x).toNat < S16.size a := fun v172 k0_hw30 => k0_hw30
@[reducible] def k0_t12_loop : Scf.Loop 32 :=
  let c0_i32_116 : BitVec 32 := 0#32
  let c15_i32_117 : BitVec 32 := 15#32
  let v185 : BitVec 32 := Scalar.addi c0_i32_116 c15_i32_117
  let c1_i32_118 : BitVec 32 := 1#32
  ⟨c0_i32_116, v185, c1_i32_118⟩

def k0_chk31 (v351 : IVec S16 32) : Prop :=
  (∀ a x, ((![v351] : Fin 1 → IVec S16 32) a x).toNat < S16.size a)
theorem k0_idx42_inb : ∀ (v351 : IVec S16 32) (k0_hw31 : k0_chk31 v351), ∀ a x, ((![v351] : Fin 1 → IVec S16 32) a x).toNat < S16.size a := fun v351 k0_hw31 => k0_hw31

def k0_chk32 (v186 : IVec S16 32) : Prop :=
  (∀ a x, ((![v186] : Fin 1 → IVec S16 32) a x).toNat < S16.size a) ∧
  (∀ a x, ((![v186] : Fin 1 → IVec S16 32) a x).toNat < S16.size a)
theorem k0_idx43_inb : ∀ (v186 : IVec S16 32) (k0_hw32 : k0_chk32 v186), ∀ a x, ((![v186] : Fin 1 → IVec S16 32) a x).toNat < S16.size a := fun v186 k0_hw32 => k0_hw32.1
theorem k0_idx44_inb : ∀ (v186 : IVec S16 32) (k0_hw32 : k0_chk32 v186), ∀ a x, ((![v186] : Fin 1 → IVec S16 32) a x).toNat < S16.size a := fun v186 k0_hw32 => k0_hw32.2

def k0_chk33 (v193 : IVec S16 32) : Prop :=
  (∀ a x, ((![v193] : Fin 1 → IVec S16 32) a x).toNat < S16.size a)
theorem k0_idx45_inb : ∀ (v193 : IVec S16 32) (k0_hw33 : k0_chk33 v193), ∀ a x, ((![v193] : Fin 1 → IVec S16 32) a x).toNat < S16.size a := fun v193 k0_hw33 => k0_hw33

def k0_chk34 (v196 : IVec S16 32) : Prop :=
  (∀ a x, ((![v196] : Fin 1 → IVec S16 32) a x).toNat < S16.size a)
theorem k0_idx46_inb : ∀ (v196 : IVec S16 32) (k0_hw34 : k0_chk34 v196), ∀ a x, ((![v196] : Fin 1 → IVec S16 32) a x).toNat < S16.size a := fun v196 k0_hw34 => k0_hw34
@[reducible] def k0_t13_loop : Scf.Loop 32 :=
  let c0_i32_129 : BitVec 32 := 0#32
  let c15_i32_130 : BitVec 32 := 15#32
  let v209 : BitVec 32 := Scalar.addi c0_i32_129 c15_i32_130
  let c1_i32_131 : BitVec 32 := 1#32
  ⟨c0_i32_129, v209, c1_i32_131⟩

def k0_chk35 (v351 : IVec S16 32) : Prop :=
  (∀ a x, ((![v351] : Fin 1 → IVec S16 32) a x).toNat < S16.size a)
theorem k0_idx47_inb : ∀ (v351 : IVec S16 32) (k0_hw35 : k0_chk35 v351), ∀ a x, ((![v351] : Fin 1 → IVec S16 32) a x).toNat < S16.size a := fun v351 k0_hw35 => k0_hw35

def k0_chk36 (v210 : IVec S16 32) : Prop :=
  (∀ a x, ((![v210] : Fin 1 → IVec S16 32) a x).toNat < S16.size a) ∧
  (∀ a x, ((![v210] : Fin 1 → IVec S16 32) a x).toNat < S16.size a)
theorem k0_idx48_inb : ∀ (v210 : IVec S16 32) (k0_hw36 : k0_chk36 v210), ∀ a x, ((![v210] : Fin 1 → IVec S16 32) a x).toNat < S16.size a := fun v210 k0_hw36 => k0_hw36.1
theorem k0_idx49_inb : ∀ (v210 : IVec S16 32) (k0_hw36 : k0_chk36 v210), ∀ a x, ((![v210] : Fin 1 → IVec S16 32) a x).toNat < S16.size a := fun v210 k0_hw36 => k0_hw36.2

def k0_chk37 (v217 : IVec S16 32) : Prop :=
  (∀ a x, ((![v217] : Fin 1 → IVec S16 32) a x).toNat < S16.size a)
theorem k0_idx50_inb : ∀ (v217 : IVec S16 32) (k0_hw37 : k0_chk37 v217), ∀ a x, ((![v217] : Fin 1 → IVec S16 32) a x).toNat < S16.size a := fun v217 k0_hw37 => k0_hw37

def k0_chk38 (v220 : IVec S16 32) : Prop :=
  (∀ a x, ((![v220] : Fin 1 → IVec S16 32) a x).toNat < S16.size a)
theorem k0_idx51_inb : ∀ (v220 : IVec S16 32) (k0_hw38 : k0_chk38 v220), ∀ a x, ((![v220] : Fin 1 → IVec S16 32) a x).toNat < S16.size a := fun v220 k0_hw38 => k0_hw38
@[reducible] def k0_t14_loop : Scf.Loop 32 :=
  let c0_i32_142 : BitVec 32 := 0#32
  let c15_i32_143 : BitVec 32 := 15#32
  let v233 : BitVec 32 := Scalar.addi c0_i32_142 c15_i32_143
  let c1_i32_144 : BitVec 32 := 1#32
  ⟨c0_i32_142, v233, c1_i32_144⟩

def k0_chk39 (v351 : IVec S16 32) : Prop :=
  (∀ a x, ((![v351] : Fin 1 → IVec S16 32) a x).toNat < S16.size a)
theorem k0_idx52_inb : ∀ (v351 : IVec S16 32) (k0_hw39 : k0_chk39 v351), ∀ a x, ((![v351] : Fin 1 → IVec S16 32) a x).toNat < S16.size a := fun v351 k0_hw39 => k0_hw39

def k0_chk40 (v234 : IVec S16 32) : Prop :=
  (∀ a x, ((![v234] : Fin 1 → IVec S16 32) a x).toNat < S16.size a) ∧
  (∀ a x, ((![v234] : Fin 1 → IVec S16 32) a x).toNat < S16.size a)
theorem k0_idx53_inb : ∀ (v234 : IVec S16 32) (k0_hw40 : k0_chk40 v234), ∀ a x, ((![v234] : Fin 1 → IVec S16 32) a x).toNat < S16.size a := fun v234 k0_hw40 => k0_hw40.1
theorem k0_idx54_inb : ∀ (v234 : IVec S16 32) (k0_hw40 : k0_chk40 v234), ∀ a x, ((![v234] : Fin 1 → IVec S16 32) a x).toNat < S16.size a := fun v234 k0_hw40 => k0_hw40.2

def k0_chk41 (v241 : IVec S16 32) : Prop :=
  (∀ a x, ((![v241] : Fin 1 → IVec S16 32) a x).toNat < S16.size a)
theorem k0_idx55_inb : ∀ (v241 : IVec S16 32) (k0_hw41 : k0_chk41 v241), ∀ a x, ((![v241] : Fin 1 → IVec S16 32) a x).toNat < S16.size a := fun v241 k0_hw41 => k0_hw41

def k0_chk42 (v244 : IVec S16 32) : Prop :=
  (∀ a x, ((![v244] : Fin 1 → IVec S16 32) a x).toNat < S16.size a)
theorem k0_idx56_inb : ∀ (v244 : IVec S16 32) (k0_hw42 : k0_chk42 v244), ∀ a x, ((![v244] : Fin 1 → IVec S16 32) a x).toNat < S16.size a := fun v244 k0_hw42 => k0_hw42
@[reducible] def k0_t15_loop : Scf.Loop 32 :=
  let c0_i32_155 : BitVec 32 := 0#32
  let c15_i32_156 : BitVec 32 := 15#32
  let v257 : BitVec 32 := Scalar.addi c0_i32_155 c15_i32_156
  let c1_i32_157 : BitVec 32 := 1#32
  ⟨c0_i32_155, v257, c1_i32_157⟩

def k0_chk43 (v351 : IVec S16 32) : Prop :=
  (∀ a x, ((![v351] : Fin 1 → IVec S16 32) a x).toNat < S16.size a)
theorem k0_idx57_inb : ∀ (v351 : IVec S16 32) (k0_hw43 : k0_chk43 v351), ∀ a x, ((![v351] : Fin 1 → IVec S16 32) a x).toNat < S16.size a := fun v351 k0_hw43 => k0_hw43

def k0_chk44 (v258 : IVec S16 32) : Prop :=
  (∀ a x, ((![v258] : Fin 1 → IVec S16 32) a x).toNat < S16.size a) ∧
  (∀ a x, ((![v258] : Fin 1 → IVec S16 32) a x).toNat < S16.size a)
theorem k0_idx58_inb : ∀ (v258 : IVec S16 32) (k0_hw44 : k0_chk44 v258), ∀ a x, ((![v258] : Fin 1 → IVec S16 32) a x).toNat < S16.size a := fun v258 k0_hw44 => k0_hw44.1
theorem k0_idx59_inb : ∀ (v258 : IVec S16 32) (k0_hw44 : k0_chk44 v258), ∀ a x, ((![v258] : Fin 1 → IVec S16 32) a x).toNat < S16.size a := fun v258 k0_hw44 => k0_hw44.2
@[reducible] def k0_t16_loop : Scf.Loop 32 :=
  let c0_i32_174 : BitVec 32 := 0#32
  let c128_i32_175 : BitVec 32 := 128#32
  let v274 : BitVec 32 := Scalar.addi c0_i32_174 c128_i32_175
  let c1_i32_176 : BitVec 32 := 1#32
  ⟨c0_i32_174, v274, c1_i32_176⟩
def k0_cond1 (k0_t16 : Fin k0_t16_loop.trips) : BitVec 1 :=
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let c1_i32_305 : BitVec 32 := 1#32
  let v348 : BitVec 32 := Scalar.addi v347 c1_i32_305
  let c256_i32_306 : BitVec 32 := 256#32
  let v349 : BitVec 1 := Scalar.cmpi .slt v348 c256_i32_306
  let v350 : BitVec 32 := Scalar.extui v349
  let c0_i32_307 : BitVec 32 := 0#32
  let v351 : BitVec 1 := Scalar.cmpi .ne v350 c0_i32_307
  v351

def k0_off2 (k0_t16 : Fin k0_t16_loop.trips) : Fin 1 → Nat :=
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let c1_i32_437 : BitVec 32 := 1#32
  let v472 : BitVec 32 := Scalar.addi v347 c1_i32_437
  let c128_i32_438 : BitVec 32 := 128#32
  let v473 : BitVec 32 := Scalar.muli v472 c128_i32_438
  let c0_i32_439 : BitVec 32 := 0#32
  let v474 : BitVec 32 := Scalar.addi v473 c0_i32_439
  let v475 : Index := Scalar.indexCast v474
  ![v475.toNat]
@[reducible] def k0_t17_loop : Scf.Loop 32 :=
  let c0_i32_444 : BitVec 32 := 0#32
  let c15_i32_445 : BitVec 32 := 15#32
  let v483 : BitVec 32 := Scalar.addi c0_i32_444 c15_i32_445
  let c1_i32_446 : BitVec 32 := 1#32
  ⟨c0_i32_444, v483, c1_i32_446⟩

def k0_chk45 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx60_inb : ∀ (k0_t16 : Fin k0_t16_loop.trips) (v770 : IVec S16 32) (k0_hw45 : k0_chk45 k0_t16 v770), ∀ (k0_h1 : k0_cond1 k0_t16 = 1#1), ∀ a x, ((![v770] : Fin 1 → IVec S16 32) a x).toNat < S16.size a := fun k0_t16 v770 k0_hw45 k0_h1 => k0_hw45 k0_h1

def k0_chk46 (k0_t16 : Fin k0_t16_loop.trips) (v484 : IVec S16 32) : Prop :=
  (∀ (k0_h1 : k0_cond1 k0_t16 = 1#1), ∀ a x, ((![v484] : Fin 1 → IVec S16 32) a x).toNat < S16.size a) ∧
  (∀ (k0_h1 : k0_cond1 k0_t16 = 1#1), ∀ a x, ((![v484] : Fin 1 → IVec S16 32) a x).toNat < S16.size a)
theorem k0_idx61_inb : ∀ (k0_t16 : Fin k0_t16_loop.trips) (v484 : IVec S16 32) (k0_hw46 : k0_chk46 k0_t16 v484), ∀ (k0_h1 : k0_cond1 k0_t16 = 1#1), ∀ a x, ((![v484] : Fin 1 → IVec S16 32) a x).toNat < S16.size a := fun k0_t16 v484 k0_hw46 k0_h1 => k0_hw46.1 k0_h1
theorem k0_idx62_inb : ∀ (k0_t16 : Fin k0_t16_loop.trips) (v484 : IVec S16 32) (k0_hw46 : k0_chk46 k0_t16 v484), ∀ (k0_h1 : k0_cond1 k0_t16 = 1#1), ∀ a x, ((![v484] : Fin 1 → IVec S16 32) a x).toNat < S16.size a := fun k0_t16 v484 k0_hw46 k0_h1 => k0_hw46.2 k0_h1
def k0_off3 (k0_t16 : Fin k0_t16_loop.trips) : Fin 1 → Nat :=
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let c1_i32_437 : BitVec 32 := 1#32
  let v472 : BitVec 32 := Scalar.addi v347 c1_i32_437
  let c128_i32_450 : BitVec 32 := 128#32
  let v487 : BitVec 32 := Scalar.muli v472 c128_i32_450
  let c16_i32_451 : BitVec 32 := 16#32
  let v488 : BitVec 32 := Scalar.addi v487 c16_i32_451
  let v489 : Index := Scalar.indexCast v488
  ![v489.toNat]
@[reducible] def k0_t18_loop : Scf.Loop 32 :=
  let c0_i32_456 : BitVec 32 := 0#32
  let c15_i32_457 : BitVec 32 := 15#32
  let v497 : BitVec 32 := Scalar.addi c0_i32_456 c15_i32_457
  let c1_i32_458 : BitVec 32 := 1#32
  ⟨c0_i32_456, v497, c1_i32_458⟩

def k0_chk47 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx63_inb : ∀ (k0_t16 : Fin k0_t16_loop.trips) (v770 : IVec S16 32) (k0_hw47 : k0_chk47 k0_t16 v770), ∀ (k0_h1 : k0_cond1 k0_t16 = 1#1), ∀ a x, ((![v770] : Fin 1 → IVec S16 32) a x).toNat < S16.size a := fun k0_t16 v770 k0_hw47 k0_h1 => k0_hw47 k0_h1

def k0_chk48 (k0_t16 : Fin k0_t16_loop.trips) (v498 : IVec S16 32) : Prop :=
  (∀ (k0_h1 : k0_cond1 k0_t16 = 1#1), ∀ a x, ((![v498] : Fin 1 → IVec S16 32) a x).toNat < S16.size a) ∧
  (∀ (k0_h1 : k0_cond1 k0_t16 = 1#1), ∀ a x, ((![v498] : Fin 1 → IVec S16 32) a x).toNat < S16.size a)
theorem k0_idx64_inb : ∀ (k0_t16 : Fin k0_t16_loop.trips) (v498 : IVec S16 32) (k0_hw48 : k0_chk48 k0_t16 v498), ∀ (k0_h1 : k0_cond1 k0_t16 = 1#1), ∀ a x, ((![v498] : Fin 1 → IVec S16 32) a x).toNat < S16.size a := fun k0_t16 v498 k0_hw48 k0_h1 => k0_hw48.1 k0_h1
theorem k0_idx65_inb : ∀ (k0_t16 : Fin k0_t16_loop.trips) (v498 : IVec S16 32) (k0_hw48 : k0_chk48 k0_t16 v498), ∀ (k0_h1 : k0_cond1 k0_t16 = 1#1), ∀ a x, ((![v498] : Fin 1 → IVec S16 32) a x).toNat < S16.size a := fun k0_t16 v498 k0_hw48 k0_h1 => k0_hw48.2 k0_h1

def k0_chk49 (k0_t16 : Fin k0_t16_loop.trips) (v505 : IVec S16 32) : Prop :=
  (∀ (k0_h1 : k0_cond1 k0_t16 = 1#1), ∀ a x, ((![v505] : Fin 1 → IVec S16 32) a x).toNat < S16.size a)
theorem k0_idx66_inb : ∀ (k0_t16 : Fin k0_t16_loop.trips) (v505 : IVec S16 32) (k0_hw49 : k0_chk49 k0_t16 v505), ∀ (k0_h1 : k0_cond1 k0_t16 = 1#1), ∀ a x, ((![v505] : Fin 1 → IVec S16 32) a x).toNat < S16.size a := fun k0_t16 v505 k0_hw49 k0_h1 => k0_hw49 k0_h1

def k0_chk50 (k0_t16 : Fin k0_t16_loop.trips) (v508 : IVec S16 32) : Prop :=
  (∀ (k0_h1 : k0_cond1 k0_t16 = 1#1), ∀ a x, ((![v508] : Fin 1 → IVec S16 32) a x).toNat < S16.size a)
theorem k0_idx67_inb : ∀ (k0_t16 : Fin k0_t16_loop.trips) (v508 : IVec S16 32) (k0_hw50 : k0_chk50 k0_t16 v508), ∀ (k0_h1 : k0_cond1 k0_t16 = 1#1), ∀ a x, ((![v508] : Fin 1 → IVec S16 32) a x).toNat < S16.size a := fun k0_t16 v508 k0_hw50 k0_h1 => k0_hw50 k0_h1
@[reducible] def k0_t19_loop : Scf.Loop 32 :=
  let c0_i32_469 : BitVec 32 := 0#32
  let c15_i32_470 : BitVec 32 := 15#32
  let v521 : BitVec 32 := Scalar.addi c0_i32_469 c15_i32_470
  let c1_i32_471 : BitVec 32 := 1#32
  ⟨c0_i32_469, v521, c1_i32_471⟩

def k0_chk51 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx68_inb : ∀ (k0_t16 : Fin k0_t16_loop.trips) (v770 : IVec S16 32) (k0_hw51 : k0_chk51 k0_t16 v770), ∀ (k0_h1 : k0_cond1 k0_t16 = 1#1), ∀ a x, ((![v770] : Fin 1 → IVec S16 32) a x).toNat < S16.size a := fun k0_t16 v770 k0_hw51 k0_h1 => k0_hw51 k0_h1

def k0_chk52 (k0_t16 : Fin k0_t16_loop.trips) (v522 : IVec S16 32) : Prop :=
  (∀ (k0_h1 : k0_cond1 k0_t16 = 1#1), ∀ a x, ((![v522] : Fin 1 → IVec S16 32) a x).toNat < S16.size a) ∧
  (∀ (k0_h1 : k0_cond1 k0_t16 = 1#1), ∀ a x, ((![v522] : Fin 1 → IVec S16 32) a x).toNat < S16.size a)
theorem k0_idx69_inb : ∀ (k0_t16 : Fin k0_t16_loop.trips) (v522 : IVec S16 32) (k0_hw52 : k0_chk52 k0_t16 v522), ∀ (k0_h1 : k0_cond1 k0_t16 = 1#1), ∀ a x, ((![v522] : Fin 1 → IVec S16 32) a x).toNat < S16.size a := fun k0_t16 v522 k0_hw52 k0_h1 => k0_hw52.1 k0_h1
theorem k0_idx70_inb : ∀ (k0_t16 : Fin k0_t16_loop.trips) (v522 : IVec S16 32) (k0_hw52 : k0_chk52 k0_t16 v522), ∀ (k0_h1 : k0_cond1 k0_t16 = 1#1), ∀ a x, ((![v522] : Fin 1 → IVec S16 32) a x).toNat < S16.size a := fun k0_t16 v522 k0_hw52 k0_h1 => k0_hw52.2 k0_h1
def k0_off4 (k0_t16 : Fin k0_t16_loop.trips) : Fin 1 → Nat :=
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let c1_i32_437 : BitVec 32 := 1#32
  let v472 : BitVec 32 := Scalar.addi v347 c1_i32_437
  let c128_i32_475 : BitVec 32 := 128#32
  let v525 : BitVec 32 := Scalar.muli v472 c128_i32_475
  let c32_i32_476 : BitVec 32 := 32#32
  let v526 : BitVec 32 := Scalar.addi v525 c32_i32_476
  let v527 : Index := Scalar.indexCast v526
  ![v527.toNat]
@[reducible] def k0_t20_loop : Scf.Loop 32 :=
  let c0_i32_481 : BitVec 32 := 0#32
  let c15_i32_482 : BitVec 32 := 15#32
  let v535 : BitVec 32 := Scalar.addi c0_i32_481 c15_i32_482
  let c1_i32_483 : BitVec 32 := 1#32
  ⟨c0_i32_481, v535, c1_i32_483⟩

def k0_chk53 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx71_inb : ∀ (k0_t16 : Fin k0_t16_loop.trips) (v770 : IVec S16 32) (k0_hw53 : k0_chk53 k0_t16 v770), ∀ (k0_h1 : k0_cond1 k0_t16 = 1#1), ∀ a x, ((![v770] : Fin 1 → IVec S16 32) a x).toNat < S16.size a := fun k0_t16 v770 k0_hw53 k0_h1 => k0_hw53 k0_h1

def k0_chk54 (k0_t16 : Fin k0_t16_loop.trips) (v536 : IVec S16 32) : Prop :=
  (∀ (k0_h1 : k0_cond1 k0_t16 = 1#1), ∀ a x, ((![v536] : Fin 1 → IVec S16 32) a x).toNat < S16.size a) ∧
  (∀ (k0_h1 : k0_cond1 k0_t16 = 1#1), ∀ a x, ((![v536] : Fin 1 → IVec S16 32) a x).toNat < S16.size a)
theorem k0_idx72_inb : ∀ (k0_t16 : Fin k0_t16_loop.trips) (v536 : IVec S16 32) (k0_hw54 : k0_chk54 k0_t16 v536), ∀ (k0_h1 : k0_cond1 k0_t16 = 1#1), ∀ a x, ((![v536] : Fin 1 → IVec S16 32) a x).toNat < S16.size a := fun k0_t16 v536 k0_hw54 k0_h1 => k0_hw54.1 k0_h1
theorem k0_idx73_inb : ∀ (k0_t16 : Fin k0_t16_loop.trips) (v536 : IVec S16 32) (k0_hw54 : k0_chk54 k0_t16 v536), ∀ (k0_h1 : k0_cond1 k0_t16 = 1#1), ∀ a x, ((![v536] : Fin 1 → IVec S16 32) a x).toNat < S16.size a := fun k0_t16 v536 k0_hw54 k0_h1 => k0_hw54.2 k0_h1
def k0_off5 (k0_t16 : Fin k0_t16_loop.trips) : Fin 1 → Nat :=
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let c1_i32_437 : BitVec 32 := 1#32
  let v472 : BitVec 32 := Scalar.addi v347 c1_i32_437
  let c128_i32_487 : BitVec 32 := 128#32
  let v539 : BitVec 32 := Scalar.muli v472 c128_i32_487
  let c48_i32_488 : BitVec 32 := 48#32
  let v540 : BitVec 32 := Scalar.addi v539 c48_i32_488
  let v541 : Index := Scalar.indexCast v540
  ![v541.toNat]
@[reducible] def k0_t21_loop : Scf.Loop 32 :=
  let c0_i32_493 : BitVec 32 := 0#32
  let c15_i32_494 : BitVec 32 := 15#32
  let v549 : BitVec 32 := Scalar.addi c0_i32_493 c15_i32_494
  let c1_i32_495 : BitVec 32 := 1#32
  ⟨c0_i32_493, v549, c1_i32_495⟩

def k0_chk55 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx74_inb : ∀ (k0_t16 : Fin k0_t16_loop.trips) (v770 : IVec S16 32) (k0_hw55 : k0_chk55 k0_t16 v770), ∀ (k0_h1 : k0_cond1 k0_t16 = 1#1), ∀ a x, ((![v770] : Fin 1 → IVec S16 32) a x).toNat < S16.size a := fun k0_t16 v770 k0_hw55 k0_h1 => k0_hw55 k0_h1

def k0_chk56 (k0_t16 : Fin k0_t16_loop.trips) (v550 : IVec S16 32) : Prop :=
  (∀ (k0_h1 : k0_cond1 k0_t16 = 1#1), ∀ a x, ((![v550] : Fin 1 → IVec S16 32) a x).toNat < S16.size a) ∧
  (∀ (k0_h1 : k0_cond1 k0_t16 = 1#1), ∀ a x, ((![v550] : Fin 1 → IVec S16 32) a x).toNat < S16.size a)
theorem k0_idx75_inb : ∀ (k0_t16 : Fin k0_t16_loop.trips) (v550 : IVec S16 32) (k0_hw56 : k0_chk56 k0_t16 v550), ∀ (k0_h1 : k0_cond1 k0_t16 = 1#1), ∀ a x, ((![v550] : Fin 1 → IVec S16 32) a x).toNat < S16.size a := fun k0_t16 v550 k0_hw56 k0_h1 => k0_hw56.1 k0_h1
theorem k0_idx76_inb : ∀ (k0_t16 : Fin k0_t16_loop.trips) (v550 : IVec S16 32) (k0_hw56 : k0_chk56 k0_t16 v550), ∀ (k0_h1 : k0_cond1 k0_t16 = 1#1), ∀ a x, ((![v550] : Fin 1 → IVec S16 32) a x).toNat < S16.size a := fun k0_t16 v550 k0_hw56 k0_h1 => k0_hw56.2 k0_h1

def k0_chk57 (k0_t16 : Fin k0_t16_loop.trips) (v557 : IVec S16 32) : Prop :=
  (∀ (k0_h1 : k0_cond1 k0_t16 = 1#1), ∀ a x, ((![v557] : Fin 1 → IVec S16 32) a x).toNat < S16.size a)
theorem k0_idx77_inb : ∀ (k0_t16 : Fin k0_t16_loop.trips) (v557 : IVec S16 32) (k0_hw57 : k0_chk57 k0_t16 v557), ∀ (k0_h1 : k0_cond1 k0_t16 = 1#1), ∀ a x, ((![v557] : Fin 1 → IVec S16 32) a x).toNat < S16.size a := fun k0_t16 v557 k0_hw57 k0_h1 => k0_hw57 k0_h1

def k0_chk58 (k0_t16 : Fin k0_t16_loop.trips) (v560 : IVec S16 32) : Prop :=
  (∀ (k0_h1 : k0_cond1 k0_t16 = 1#1), ∀ a x, ((![v560] : Fin 1 → IVec S16 32) a x).toNat < S16.size a)
theorem k0_idx78_inb : ∀ (k0_t16 : Fin k0_t16_loop.trips) (v560 : IVec S16 32) (k0_hw58 : k0_chk58 k0_t16 v560), ∀ (k0_h1 : k0_cond1 k0_t16 = 1#1), ∀ a x, ((![v560] : Fin 1 → IVec S16 32) a x).toNat < S16.size a := fun k0_t16 v560 k0_hw58 k0_h1 => k0_hw58 k0_h1
@[reducible] def k0_t22_loop : Scf.Loop 32 :=
  let c0_i32_506 : BitVec 32 := 0#32
  let c15_i32_507 : BitVec 32 := 15#32
  let v573 : BitVec 32 := Scalar.addi c0_i32_506 c15_i32_507
  let c1_i32_508 : BitVec 32 := 1#32
  ⟨c0_i32_506, v573, c1_i32_508⟩

def k0_chk59 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx79_inb : ∀ (k0_t16 : Fin k0_t16_loop.trips) (v770 : IVec S16 32) (k0_hw59 : k0_chk59 k0_t16 v770), ∀ (k0_h1 : k0_cond1 k0_t16 = 1#1), ∀ a x, ((![v770] : Fin 1 → IVec S16 32) a x).toNat < S16.size a := fun k0_t16 v770 k0_hw59 k0_h1 => k0_hw59 k0_h1

def k0_chk60 (k0_t16 : Fin k0_t16_loop.trips) (v574 : IVec S16 32) : Prop :=
  (∀ (k0_h1 : k0_cond1 k0_t16 = 1#1), ∀ a x, ((![v574] : Fin 1 → IVec S16 32) a x).toNat < S16.size a) ∧
  (∀ (k0_h1 : k0_cond1 k0_t16 = 1#1), ∀ a x, ((![v574] : Fin 1 → IVec S16 32) a x).toNat < S16.size a)
theorem k0_idx80_inb : ∀ (k0_t16 : Fin k0_t16_loop.trips) (v574 : IVec S16 32) (k0_hw60 : k0_chk60 k0_t16 v574), ∀ (k0_h1 : k0_cond1 k0_t16 = 1#1), ∀ a x, ((![v574] : Fin 1 → IVec S16 32) a x).toNat < S16.size a := fun k0_t16 v574 k0_hw60 k0_h1 => k0_hw60.1 k0_h1
theorem k0_idx81_inb : ∀ (k0_t16 : Fin k0_t16_loop.trips) (v574 : IVec S16 32) (k0_hw60 : k0_chk60 k0_t16 v574), ∀ (k0_h1 : k0_cond1 k0_t16 = 1#1), ∀ a x, ((![v574] : Fin 1 → IVec S16 32) a x).toNat < S16.size a := fun k0_t16 v574 k0_hw60 k0_h1 => k0_hw60.2 k0_h1
def k0_off6 (k0_t16 : Fin k0_t16_loop.trips) : Fin 1 → Nat :=
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let c1_i32_437 : BitVec 32 := 1#32
  let v472 : BitVec 32 := Scalar.addi v347 c1_i32_437
  let c128_i32_512 : BitVec 32 := 128#32
  let v577 : BitVec 32 := Scalar.muli v472 c128_i32_512
  let c64_i32_513 : BitVec 32 := 64#32
  let v578 : BitVec 32 := Scalar.addi v577 c64_i32_513
  let v579 : Index := Scalar.indexCast v578
  ![v579.toNat]
@[reducible] def k0_t23_loop : Scf.Loop 32 :=
  let c0_i32_518 : BitVec 32 := 0#32
  let c15_i32_519 : BitVec 32 := 15#32
  let v587 : BitVec 32 := Scalar.addi c0_i32_518 c15_i32_519
  let c1_i32_520 : BitVec 32 := 1#32
  ⟨c0_i32_518, v587, c1_i32_520⟩

def k0_chk61 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx82_inb : ∀ (k0_t16 : Fin k0_t16_loop.trips) (v770 : IVec S16 32) (k0_hw61 : k0_chk61 k0_t16 v770), ∀ (k0_h1 : k0_cond1 k0_t16 = 1#1), ∀ a x, ((![v770] : Fin 1 → IVec S16 32) a x).toNat < S16.size a := fun k0_t16 v770 k0_hw61 k0_h1 => k0_hw61 k0_h1

def k0_chk62 (k0_t16 : Fin k0_t16_loop.trips) (v588 : IVec S16 32) : Prop :=
  (∀ (k0_h1 : k0_cond1 k0_t16 = 1#1), ∀ a x, ((![v588] : Fin 1 → IVec S16 32) a x).toNat < S16.size a) ∧
  (∀ (k0_h1 : k0_cond1 k0_t16 = 1#1), ∀ a x, ((![v588] : Fin 1 → IVec S16 32) a x).toNat < S16.size a)
theorem k0_idx83_inb : ∀ (k0_t16 : Fin k0_t16_loop.trips) (v588 : IVec S16 32) (k0_hw62 : k0_chk62 k0_t16 v588), ∀ (k0_h1 : k0_cond1 k0_t16 = 1#1), ∀ a x, ((![v588] : Fin 1 → IVec S16 32) a x).toNat < S16.size a := fun k0_t16 v588 k0_hw62 k0_h1 => k0_hw62.1 k0_h1
theorem k0_idx84_inb : ∀ (k0_t16 : Fin k0_t16_loop.trips) (v588 : IVec S16 32) (k0_hw62 : k0_chk62 k0_t16 v588), ∀ (k0_h1 : k0_cond1 k0_t16 = 1#1), ∀ a x, ((![v588] : Fin 1 → IVec S16 32) a x).toNat < S16.size a := fun k0_t16 v588 k0_hw62 k0_h1 => k0_hw62.2 k0_h1
def k0_off7 (k0_t16 : Fin k0_t16_loop.trips) : Fin 1 → Nat :=
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let c1_i32_437 : BitVec 32 := 1#32
  let v472 : BitVec 32 := Scalar.addi v347 c1_i32_437
  let c128_i32_524 : BitVec 32 := 128#32
  let v591 : BitVec 32 := Scalar.muli v472 c128_i32_524
  let c80_i32_525 : BitVec 32 := 80#32
  let v592 : BitVec 32 := Scalar.addi v591 c80_i32_525
  let v593 : Index := Scalar.indexCast v592
  ![v593.toNat]
@[reducible] def k0_t24_loop : Scf.Loop 32 :=
  let c0_i32_530 : BitVec 32 := 0#32
  let c15_i32_531 : BitVec 32 := 15#32
  let v601 : BitVec 32 := Scalar.addi c0_i32_530 c15_i32_531
  let c1_i32_532 : BitVec 32 := 1#32
  ⟨c0_i32_530, v601, c1_i32_532⟩

def k0_chk63 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx85_inb : ∀ (k0_t16 : Fin k0_t16_loop.trips) (v770 : IVec S16 32) (k0_hw63 : k0_chk63 k0_t16 v770), ∀ (k0_h1 : k0_cond1 k0_t16 = 1#1), ∀ a x, ((![v770] : Fin 1 → IVec S16 32) a x).toNat < S16.size a := fun k0_t16 v770 k0_hw63 k0_h1 => k0_hw63 k0_h1

def k0_chk64 (k0_t16 : Fin k0_t16_loop.trips) (v602 : IVec S16 32) : Prop :=
  (∀ (k0_h1 : k0_cond1 k0_t16 = 1#1), ∀ a x, ((![v602] : Fin 1 → IVec S16 32) a x).toNat < S16.size a) ∧
  (∀ (k0_h1 : k0_cond1 k0_t16 = 1#1), ∀ a x, ((![v602] : Fin 1 → IVec S16 32) a x).toNat < S16.size a)
theorem k0_idx86_inb : ∀ (k0_t16 : Fin k0_t16_loop.trips) (v602 : IVec S16 32) (k0_hw64 : k0_chk64 k0_t16 v602), ∀ (k0_h1 : k0_cond1 k0_t16 = 1#1), ∀ a x, ((![v602] : Fin 1 → IVec S16 32) a x).toNat < S16.size a := fun k0_t16 v602 k0_hw64 k0_h1 => k0_hw64.1 k0_h1
theorem k0_idx87_inb : ∀ (k0_t16 : Fin k0_t16_loop.trips) (v602 : IVec S16 32) (k0_hw64 : k0_chk64 k0_t16 v602), ∀ (k0_h1 : k0_cond1 k0_t16 = 1#1), ∀ a x, ((![v602] : Fin 1 → IVec S16 32) a x).toNat < S16.size a := fun k0_t16 v602 k0_hw64 k0_h1 => k0_hw64.2 k0_h1

def k0_chk65 (k0_t16 : Fin k0_t16_loop.trips) (v609 : IVec S16 32) : Prop :=
  (∀ (k0_h1 : k0_cond1 k0_t16 = 1#1), ∀ a x, ((![v609] : Fin 1 → IVec S16 32) a x).toNat < S16.size a)
theorem k0_idx88_inb : ∀ (k0_t16 : Fin k0_t16_loop.trips) (v609 : IVec S16 32) (k0_hw65 : k0_chk65 k0_t16 v609), ∀ (k0_h1 : k0_cond1 k0_t16 = 1#1), ∀ a x, ((![v609] : Fin 1 → IVec S16 32) a x).toNat < S16.size a := fun k0_t16 v609 k0_hw65 k0_h1 => k0_hw65 k0_h1

def k0_chk66 (k0_t16 : Fin k0_t16_loop.trips) (v612 : IVec S16 32) : Prop :=
  (∀ (k0_h1 : k0_cond1 k0_t16 = 1#1), ∀ a x, ((![v612] : Fin 1 → IVec S16 32) a x).toNat < S16.size a)
theorem k0_idx89_inb : ∀ (k0_t16 : Fin k0_t16_loop.trips) (v612 : IVec S16 32) (k0_hw66 : k0_chk66 k0_t16 v612), ∀ (k0_h1 : k0_cond1 k0_t16 = 1#1), ∀ a x, ((![v612] : Fin 1 → IVec S16 32) a x).toNat < S16.size a := fun k0_t16 v612 k0_hw66 k0_h1 => k0_hw66 k0_h1
@[reducible] def k0_t25_loop : Scf.Loop 32 :=
  let c0_i32_543 : BitVec 32 := 0#32
  let c15_i32_544 : BitVec 32 := 15#32
  let v625 : BitVec 32 := Scalar.addi c0_i32_543 c15_i32_544
  let c1_i32_545 : BitVec 32 := 1#32
  ⟨c0_i32_543, v625, c1_i32_545⟩

def k0_chk67 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx90_inb : ∀ (k0_t16 : Fin k0_t16_loop.trips) (v770 : IVec S16 32) (k0_hw67 : k0_chk67 k0_t16 v770), ∀ (k0_h1 : k0_cond1 k0_t16 = 1#1), ∀ a x, ((![v770] : Fin 1 → IVec S16 32) a x).toNat < S16.size a := fun k0_t16 v770 k0_hw67 k0_h1 => k0_hw67 k0_h1

def k0_chk68 (k0_t16 : Fin k0_t16_loop.trips) (v626 : IVec S16 32) : Prop :=
  (∀ (k0_h1 : k0_cond1 k0_t16 = 1#1), ∀ a x, ((![v626] : Fin 1 → IVec S16 32) a x).toNat < S16.size a) ∧
  (∀ (k0_h1 : k0_cond1 k0_t16 = 1#1), ∀ a x, ((![v626] : Fin 1 → IVec S16 32) a x).toNat < S16.size a)
theorem k0_idx91_inb : ∀ (k0_t16 : Fin k0_t16_loop.trips) (v626 : IVec S16 32) (k0_hw68 : k0_chk68 k0_t16 v626), ∀ (k0_h1 : k0_cond1 k0_t16 = 1#1), ∀ a x, ((![v626] : Fin 1 → IVec S16 32) a x).toNat < S16.size a := fun k0_t16 v626 k0_hw68 k0_h1 => k0_hw68.1 k0_h1
theorem k0_idx92_inb : ∀ (k0_t16 : Fin k0_t16_loop.trips) (v626 : IVec S16 32) (k0_hw68 : k0_chk68 k0_t16 v626), ∀ (k0_h1 : k0_cond1 k0_t16 = 1#1), ∀ a x, ((![v626] : Fin 1 → IVec S16 32) a x).toNat < S16.size a := fun k0_t16 v626 k0_hw68 k0_h1 => k0_hw68.2 k0_h1
def k0_off8 (k0_t16 : Fin k0_t16_loop.trips) : Fin 1 → Nat :=
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let c1_i32_437 : BitVec 32 := 1#32
  let v472 : BitVec 32 := Scalar.addi v347 c1_i32_437
  let c128_i32_549 : BitVec 32 := 128#32
  let v629 : BitVec 32 := Scalar.muli v472 c128_i32_549
  let c96_i32_550 : BitVec 32 := 96#32
  let v630 : BitVec 32 := Scalar.addi v629 c96_i32_550
  let v631 : Index := Scalar.indexCast v630
  ![v631.toNat]
@[reducible] def k0_t26_loop : Scf.Loop 32 :=
  let c0_i32_555 : BitVec 32 := 0#32
  let c15_i32_556 : BitVec 32 := 15#32
  let v639 : BitVec 32 := Scalar.addi c0_i32_555 c15_i32_556
  let c1_i32_557 : BitVec 32 := 1#32
  ⟨c0_i32_555, v639, c1_i32_557⟩

def k0_chk69 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx93_inb : ∀ (k0_t16 : Fin k0_t16_loop.trips) (v770 : IVec S16 32) (k0_hw69 : k0_chk69 k0_t16 v770), ∀ (k0_h1 : k0_cond1 k0_t16 = 1#1), ∀ a x, ((![v770] : Fin 1 → IVec S16 32) a x).toNat < S16.size a := fun k0_t16 v770 k0_hw69 k0_h1 => k0_hw69 k0_h1

def k0_chk70 (k0_t16 : Fin k0_t16_loop.trips) (v640 : IVec S16 32) : Prop :=
  (∀ (k0_h1 : k0_cond1 k0_t16 = 1#1), ∀ a x, ((![v640] : Fin 1 → IVec S16 32) a x).toNat < S16.size a) ∧
  (∀ (k0_h1 : k0_cond1 k0_t16 = 1#1), ∀ a x, ((![v640] : Fin 1 → IVec S16 32) a x).toNat < S16.size a)
theorem k0_idx94_inb : ∀ (k0_t16 : Fin k0_t16_loop.trips) (v640 : IVec S16 32) (k0_hw70 : k0_chk70 k0_t16 v640), ∀ (k0_h1 : k0_cond1 k0_t16 = 1#1), ∀ a x, ((![v640] : Fin 1 → IVec S16 32) a x).toNat < S16.size a := fun k0_t16 v640 k0_hw70 k0_h1 => k0_hw70.1 k0_h1
theorem k0_idx95_inb : ∀ (k0_t16 : Fin k0_t16_loop.trips) (v640 : IVec S16 32) (k0_hw70 : k0_chk70 k0_t16 v640), ∀ (k0_h1 : k0_cond1 k0_t16 = 1#1), ∀ a x, ((![v640] : Fin 1 → IVec S16 32) a x).toNat < S16.size a := fun k0_t16 v640 k0_hw70 k0_h1 => k0_hw70.2 k0_h1
def k0_off9 (k0_t16 : Fin k0_t16_loop.trips) : Fin 1 → Nat :=
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let c1_i32_437 : BitVec 32 := 1#32
  let v472 : BitVec 32 := Scalar.addi v347 c1_i32_437
  let c128_i32_561 : BitVec 32 := 128#32
  let v643 : BitVec 32 := Scalar.muli v472 c128_i32_561
  let c112_i32_562 : BitVec 32 := 112#32
  let v644 : BitVec 32 := Scalar.addi v643 c112_i32_562
  let v645 : Index := Scalar.indexCast v644
  ![v645.toNat]
@[reducible] def k0_t27_loop : Scf.Loop 32 :=
  let c0_i32_567 : BitVec 32 := 0#32
  let c15_i32_568 : BitVec 32 := 15#32
  let v653 : BitVec 32 := Scalar.addi c0_i32_567 c15_i32_568
  let c1_i32_569 : BitVec 32 := 1#32
  ⟨c0_i32_567, v653, c1_i32_569⟩

def k0_chk71 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx96_inb : ∀ (k0_t16 : Fin k0_t16_loop.trips) (v770 : IVec S16 32) (k0_hw71 : k0_chk71 k0_t16 v770), ∀ (k0_h1 : k0_cond1 k0_t16 = 1#1), ∀ a x, ((![v770] : Fin 1 → IVec S16 32) a x).toNat < S16.size a := fun k0_t16 v770 k0_hw71 k0_h1 => k0_hw71 k0_h1

def k0_chk72 (k0_t16 : Fin k0_t16_loop.trips) (v654 : IVec S16 32) : Prop :=
  (∀ (k0_h1 : k0_cond1 k0_t16 = 1#1), ∀ a x, ((![v654] : Fin 1 → IVec S16 32) a x).toNat < S16.size a) ∧
  (∀ (k0_h1 : k0_cond1 k0_t16 = 1#1), ∀ a x, ((![v654] : Fin 1 → IVec S16 32) a x).toNat < S16.size a)
theorem k0_idx97_inb : ∀ (k0_t16 : Fin k0_t16_loop.trips) (v654 : IVec S16 32) (k0_hw72 : k0_chk72 k0_t16 v654), ∀ (k0_h1 : k0_cond1 k0_t16 = 1#1), ∀ a x, ((![v654] : Fin 1 → IVec S16 32) a x).toNat < S16.size a := fun k0_t16 v654 k0_hw72 k0_h1 => k0_hw72.1 k0_h1
theorem k0_idx98_inb : ∀ (k0_t16 : Fin k0_t16_loop.trips) (v654 : IVec S16 32) (k0_hw72 : k0_chk72 k0_t16 v654), ∀ (k0_h1 : k0_cond1 k0_t16 = 1#1), ∀ a x, ((![v654] : Fin 1 → IVec S16 32) a x).toNat < S16.size a := fun k0_t16 v654 k0_hw72 k0_h1 => k0_hw72.2 k0_h1

def k0_chk73 (k0_t16 : Fin k0_t16_loop.trips) (v661 : IVec S16 32) : Prop :=
  (∀ (k0_h1 : k0_cond1 k0_t16 = 1#1), ∀ a x, ((![v661] : Fin 1 → IVec S16 32) a x).toNat < S16.size a)
theorem k0_idx99_inb : ∀ (k0_t16 : Fin k0_t16_loop.trips) (v661 : IVec S16 32) (k0_hw73 : k0_chk73 k0_t16 v661), ∀ (k0_h1 : k0_cond1 k0_t16 = 1#1), ∀ a x, ((![v661] : Fin 1 → IVec S16 32) a x).toNat < S16.size a := fun k0_t16 v661 k0_hw73 k0_h1 => k0_hw73 k0_h1

def k0_chk74 (k0_t16 : Fin k0_t16_loop.trips) (v664 : IVec S16 32) : Prop :=
  (∀ (k0_h1 : k0_cond1 k0_t16 = 1#1), ∀ a x, ((![v664] : Fin 1 → IVec S16 32) a x).toNat < S16.size a)
theorem k0_idx100_inb : ∀ (k0_t16 : Fin k0_t16_loop.trips) (v664 : IVec S16 32) (k0_hw74 : k0_chk74 k0_t16 v664), ∀ (k0_h1 : k0_cond1 k0_t16 = 1#1), ∀ a x, ((![v664] : Fin 1 → IVec S16 32) a x).toNat < S16.size a := fun k0_t16 v664 k0_hw74 k0_h1 => k0_hw74 k0_h1
@[reducible] def k0_t28_loop : Scf.Loop 32 :=
  let c0_i32_580 : BitVec 32 := 0#32
  let c15_i32_581 : BitVec 32 := 15#32
  let v677 : BitVec 32 := Scalar.addi c0_i32_580 c15_i32_581
  let c1_i32_582 : BitVec 32 := 1#32
  ⟨c0_i32_580, v677, c1_i32_582⟩

def k0_chk75 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx101_inb : ∀ (k0_t16 : Fin k0_t16_loop.trips) (v770 : IVec S16 32) (k0_hw75 : k0_chk75 k0_t16 v770), ∀ (k0_h1 : k0_cond1 k0_t16 = 1#1), ∀ a x, ((![v770] : Fin 1 → IVec S16 32) a x).toNat < S16.size a := fun k0_t16 v770 k0_hw75 k0_h1 => k0_hw75 k0_h1

def k0_chk76 (k0_t16 : Fin k0_t16_loop.trips) (v678 : IVec S16 32) : Prop :=
  (∀ (k0_h1 : k0_cond1 k0_t16 = 1#1), ∀ a x, ((![v678] : Fin 1 → IVec S16 32) a x).toNat < S16.size a) ∧
  (∀ (k0_h1 : k0_cond1 k0_t16 = 1#1), ∀ a x, ((![v678] : Fin 1 → IVec S16 32) a x).toNat < S16.size a)
theorem k0_idx102_inb : ∀ (k0_t16 : Fin k0_t16_loop.trips) (v678 : IVec S16 32) (k0_hw76 : k0_chk76 k0_t16 v678), ∀ (k0_h1 : k0_cond1 k0_t16 = 1#1), ∀ a x, ((![v678] : Fin 1 → IVec S16 32) a x).toNat < S16.size a := fun k0_t16 v678 k0_hw76 k0_h1 => k0_hw76.1 k0_h1
theorem k0_idx103_inb : ∀ (k0_t16 : Fin k0_t16_loop.trips) (v678 : IVec S16 32) (k0_hw76 : k0_chk76 k0_t16 v678), ∀ (k0_h1 : k0_cond1 k0_t16 = 1#1), ∀ a x, ((![v678] : Fin 1 → IVec S16 32) a x).toNat < S16.size a := fun k0_t16 v678 k0_hw76 k0_h1 => k0_hw76.2 k0_h1

def k0_chk77 (k0_t16 : Fin k0_t16_loop.trips) (v685 : IVec S16 32) : Prop :=
  (∀ (k0_h1 : k0_cond1 k0_t16 = 1#1), ∀ a x, ((![v685] : Fin 1 → IVec S16 32) a x).toNat < S16.size a)
theorem k0_idx104_inb : ∀ (k0_t16 : Fin k0_t16_loop.trips) (v685 : IVec S16 32) (k0_hw77 : k0_chk77 k0_t16 v685), ∀ (k0_h1 : k0_cond1 k0_t16 = 1#1), ∀ a x, ((![v685] : Fin 1 → IVec S16 32) a x).toNat < S16.size a := fun k0_t16 v685 k0_hw77 k0_h1 => k0_hw77 k0_h1

def k0_chk78 (k0_t16 : Fin k0_t16_loop.trips) (v688 : IVec S16 32) : Prop :=
  (∀ (k0_h1 : k0_cond1 k0_t16 = 1#1), ∀ a x, ((![v688] : Fin 1 → IVec S16 32) a x).toNat < S16.size a)
theorem k0_idx105_inb : ∀ (k0_t16 : Fin k0_t16_loop.trips) (v688 : IVec S16 32) (k0_hw78 : k0_chk78 k0_t16 v688), ∀ (k0_h1 : k0_cond1 k0_t16 = 1#1), ∀ a x, ((![v688] : Fin 1 → IVec S16 32) a x).toNat < S16.size a := fun k0_t16 v688 k0_hw78 k0_h1 => k0_hw78 k0_h1
@[reducible] def k0_t29_loop : Scf.Loop 32 :=
  let c0_i32_593 : BitVec 32 := 0#32
  let c15_i32_594 : BitVec 32 := 15#32
  let v701 : BitVec 32 := Scalar.addi c0_i32_593 c15_i32_594
  let c1_i32_595 : BitVec 32 := 1#32
  ⟨c0_i32_593, v701, c1_i32_595⟩

def k0_chk79 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx106_inb : ∀ (k0_t16 : Fin k0_t16_loop.trips) (v770 : IVec S16 32) (k0_hw79 : k0_chk79 k0_t16 v770), ∀ (k0_h1 : k0_cond1 k0_t16 = 1#1), ∀ a x, ((![v770] : Fin 1 → IVec S16 32) a x).toNat < S16.size a := fun k0_t16 v770 k0_hw79 k0_h1 => k0_hw79 k0_h1

def k0_chk80 (k0_t16 : Fin k0_t16_loop.trips) (v702 : IVec S16 32) : Prop :=
  (∀ (k0_h1 : k0_cond1 k0_t16 = 1#1), ∀ a x, ((![v702] : Fin 1 → IVec S16 32) a x).toNat < S16.size a) ∧
  (∀ (k0_h1 : k0_cond1 k0_t16 = 1#1), ∀ a x, ((![v702] : Fin 1 → IVec S16 32) a x).toNat < S16.size a)
theorem k0_idx107_inb : ∀ (k0_t16 : Fin k0_t16_loop.trips) (v702 : IVec S16 32) (k0_hw80 : k0_chk80 k0_t16 v702), ∀ (k0_h1 : k0_cond1 k0_t16 = 1#1), ∀ a x, ((![v702] : Fin 1 → IVec S16 32) a x).toNat < S16.size a := fun k0_t16 v702 k0_hw80 k0_h1 => k0_hw80.1 k0_h1
theorem k0_idx108_inb : ∀ (k0_t16 : Fin k0_t16_loop.trips) (v702 : IVec S16 32) (k0_hw80 : k0_chk80 k0_t16 v702), ∀ (k0_h1 : k0_cond1 k0_t16 = 1#1), ∀ a x, ((![v702] : Fin 1 → IVec S16 32) a x).toNat < S16.size a := fun k0_t16 v702 k0_hw80 k0_h1 => k0_hw80.2 k0_h1

def k0_chk81 (k0_t16 : Fin k0_t16_loop.trips) (v709 : IVec S16 32) : Prop :=
  (∀ (k0_h1 : k0_cond1 k0_t16 = 1#1), ∀ a x, ((![v709] : Fin 1 → IVec S16 32) a x).toNat < S16.size a)
theorem k0_idx109_inb : ∀ (k0_t16 : Fin k0_t16_loop.trips) (v709 : IVec S16 32) (k0_hw81 : k0_chk81 k0_t16 v709), ∀ (k0_h1 : k0_cond1 k0_t16 = 1#1), ∀ a x, ((![v709] : Fin 1 → IVec S16 32) a x).toNat < S16.size a := fun k0_t16 v709 k0_hw81 k0_h1 => k0_hw81 k0_h1

def k0_chk82 (k0_t16 : Fin k0_t16_loop.trips) (v712 : IVec S16 32) : Prop :=
  (∀ (k0_h1 : k0_cond1 k0_t16 = 1#1), ∀ a x, ((![v712] : Fin 1 → IVec S16 32) a x).toNat < S16.size a)
theorem k0_idx110_inb : ∀ (k0_t16 : Fin k0_t16_loop.trips) (v712 : IVec S16 32) (k0_hw82 : k0_chk82 k0_t16 v712), ∀ (k0_h1 : k0_cond1 k0_t16 = 1#1), ∀ a x, ((![v712] : Fin 1 → IVec S16 32) a x).toNat < S16.size a := fun k0_t16 v712 k0_hw82 k0_h1 => k0_hw82 k0_h1
@[reducible] def k0_t30_loop : Scf.Loop 32 :=
  let c0_i32_606 : BitVec 32 := 0#32
  let c15_i32_607 : BitVec 32 := 15#32
  let v725 : BitVec 32 := Scalar.addi c0_i32_606 c15_i32_607
  let c1_i32_608 : BitVec 32 := 1#32
  ⟨c0_i32_606, v725, c1_i32_608⟩

def k0_chk83 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx111_inb : ∀ (k0_t16 : Fin k0_t16_loop.trips) (v770 : IVec S16 32) (k0_hw83 : k0_chk83 k0_t16 v770), ∀ (k0_h1 : k0_cond1 k0_t16 = 1#1), ∀ a x, ((![v770] : Fin 1 → IVec S16 32) a x).toNat < S16.size a := fun k0_t16 v770 k0_hw83 k0_h1 => k0_hw83 k0_h1

def k0_chk84 (k0_t16 : Fin k0_t16_loop.trips) (v726 : IVec S16 32) : Prop :=
  (∀ (k0_h1 : k0_cond1 k0_t16 = 1#1), ∀ a x, ((![v726] : Fin 1 → IVec S16 32) a x).toNat < S16.size a) ∧
  (∀ (k0_h1 : k0_cond1 k0_t16 = 1#1), ∀ a x, ((![v726] : Fin 1 → IVec S16 32) a x).toNat < S16.size a)
theorem k0_idx112_inb : ∀ (k0_t16 : Fin k0_t16_loop.trips) (v726 : IVec S16 32) (k0_hw84 : k0_chk84 k0_t16 v726), ∀ (k0_h1 : k0_cond1 k0_t16 = 1#1), ∀ a x, ((![v726] : Fin 1 → IVec S16 32) a x).toNat < S16.size a := fun k0_t16 v726 k0_hw84 k0_h1 => k0_hw84.1 k0_h1
theorem k0_idx113_inb : ∀ (k0_t16 : Fin k0_t16_loop.trips) (v726 : IVec S16 32) (k0_hw84 : k0_chk84 k0_t16 v726), ∀ (k0_h1 : k0_cond1 k0_t16 = 1#1), ∀ a x, ((![v726] : Fin 1 → IVec S16 32) a x).toNat < S16.size a := fun k0_t16 v726 k0_hw84 k0_h1 => k0_hw84.2 k0_h1

def k0_chk85 (k0_t16 : Fin k0_t16_loop.trips) (v733 : IVec S16 32) : Prop :=
  (∀ (k0_h1 : k0_cond1 k0_t16 = 1#1), ∀ a x, ((![v733] : Fin 1 → IVec S16 32) a x).toNat < S16.size a)
theorem k0_idx114_inb : ∀ (k0_t16 : Fin k0_t16_loop.trips) (v733 : IVec S16 32) (k0_hw85 : k0_chk85 k0_t16 v733), ∀ (k0_h1 : k0_cond1 k0_t16 = 1#1), ∀ a x, ((![v733] : Fin 1 → IVec S16 32) a x).toNat < S16.size a := fun k0_t16 v733 k0_hw85 k0_h1 => k0_hw85 k0_h1

def k0_chk86 (k0_t16 : Fin k0_t16_loop.trips) (v736 : IVec S16 32) : Prop :=
  (∀ (k0_h1 : k0_cond1 k0_t16 = 1#1), ∀ a x, ((![v736] : Fin 1 → IVec S16 32) a x).toNat < S16.size a)
theorem k0_idx115_inb : ∀ (k0_t16 : Fin k0_t16_loop.trips) (v736 : IVec S16 32) (k0_hw86 : k0_chk86 k0_t16 v736), ∀ (k0_h1 : k0_cond1 k0_t16 = 1#1), ∀ a x, ((![v736] : Fin 1 → IVec S16 32) a x).toNat < S16.size a := fun k0_t16 v736 k0_hw86 k0_h1 => k0_hw86 k0_h1
@[reducible] def k0_t31_loop : Scf.Loop 32 :=
  let c0_i32_619 : BitVec 32 := 0#32
  let c15_i32_620 : BitVec 32 := 15#32
  let v749 : BitVec 32 := Scalar.addi c0_i32_619 c15_i32_620
  let c1_i32_621 : BitVec 32 := 1#32
  ⟨c0_i32_619, v749, c1_i32_621⟩

def k0_chk87 (k0_t16 : Fin k0_t16_loop.trips) (v770 : IVec S16 32) : Prop :=
  (∀ (k0_h1 : k0_cond1 k0_t16 = 1#1), ∀ a x, ((![v770] : Fin 1 → IVec S16 32) a x).toNat < S16.size a)
theorem k0_idx116_inb : ∀ (k0_t16 : Fin k0_t16_loop.trips) (v770 : IVec S16 32) (k0_hw87 : k0_chk87 k0_t16 v770), ∀ (k0_h1 : k0_cond1 k0_t16 = 1#1), ∀ a x, ((![v770] : Fin 1 → IVec S16 32) a x).toNat < S16.size a := fun k0_t16 v770 k0_hw87 k0_h1 => k0_hw87 k0_h1

def k0_chk88 (k0_t16 : Fin k0_t16_loop.trips) (v750 : IVec S16 32) : Prop :=
  (∀ (k0_h1 : k0_cond1 k0_t16 = 1#1), ∀ a x, ((![v750] : Fin 1 → IVec S16 32) a x).toNat < S16.size a) ∧
  (∀ (k0_h1 : k0_cond1 k0_t16 = 1#1), ∀ a x, ((![v750] : Fin 1 → IVec S16 32) a x).toNat < S16.size a)
theorem k0_idx117_inb : ∀ (k0_t16 : Fin k0_t16_loop.trips) (v750 : IVec S16 32) (k0_hw88 : k0_chk88 k0_t16 v750), ∀ (k0_h1 : k0_cond1 k0_t16 = 1#1), ∀ a x, ((![v750] : Fin 1 → IVec S16 32) a x).toNat < S16.size a := fun k0_t16 v750 k0_hw88 k0_h1 => k0_hw88.1 k0_h1
theorem k0_idx118_inb : ∀ (k0_t16 : Fin k0_t16_loop.trips) (v750 : IVec S16 32) (k0_hw88 : k0_chk88 k0_t16 v750), ∀ (k0_h1 : k0_cond1 k0_t16 = 1#1), ∀ a x, ((![v750] : Fin 1 → IVec S16 32) a x).toNat < S16.size a := fun k0_t16 v750 k0_hw88 k0_h1 => k0_hw88.2 k0_h1
@[reducible] def k0_t32_loop : Scf.Loop 32 :=
  let c0_i32_323 : BitVec 32 := 0#32
  let c15_i32_324 : BitVec 32 := 15#32
  let v365 : BitVec 32 := Scalar.addi c0_i32_323 c15_i32_324
  let c1_i32_325 : BitVec 32 := 1#32
  ⟨c0_i32_323, v365, c1_i32_325⟩

def k0_chk89 (v476 : IVec S16 32) : Prop :=
  (∀ a x, ((![v476] : Fin 1 → IVec S16 32) a x).toNat < S16.size a)
theorem k0_idx119_inb : ∀ (v476 : IVec S16 32) (k0_hw89 : k0_chk89 v476), ∀ a x, ((![v476] : Fin 1 → IVec S16 32) a x).toNat < S16.size a := fun v476 k0_hw89 => k0_hw89

def k0_chk90 (v366 : IVec S16 32) : Prop :=
  (∀ a x, ((![v366] : Fin 1 → IVec S16 32) a x).toNat < S16.size a) ∧
  (∀ a x, ((![v366] : Fin 1 → IVec S16 32) a x).toNat < S16.size a)
theorem k0_idx120_inb : ∀ (v366 : IVec S16 32) (k0_hw90 : k0_chk90 v366), ∀ a x, ((![v366] : Fin 1 → IVec S16 32) a x).toNat < S16.size a := fun v366 k0_hw90 => k0_hw90.1
theorem k0_idx121_inb : ∀ (v366 : IVec S16 32) (k0_hw90 : k0_chk90 v366), ∀ a x, ((![v366] : Fin 1 → IVec S16 32) a x).toNat < S16.size a := fun v366 k0_hw90 => k0_hw90.2
@[reducible] def k0_t33_loop : Scf.Loop 32 :=
  let c1_i32_330 : BitVec 32 := 1#32
  let c63_i32 : BitVec 32 := 63#32
  let v371 : BitVec 32 := Scalar.addi c1_i32_330 c63_i32
  let c1_i32_331 : BitVec 32 := 1#32
  ⟨c1_i32_330, v371, c1_i32_331⟩
def k0_off10 (k0_t33 : Fin k0_t33_loop.trips) : Fin 2 → Nat :=
  let c1_i32_330 : BitVec 32 := 1#32
  let c1_i32_331 : BitVec 32 := 1#32
  let arg34 : BitVec 32 := Scf.iv c1_i32_330 c1_i32_331 k0_t33
  let c2_i32_438 : BitVec 32 := 2#32
  let v473 : BitVec 32 := Scalar.shrsi arg34 c2_i32_438
  let v478 : Index := Scalar.indexCast v473
  let c3_i32 : BitVec 32 := 3#32
  let v474 : BitVec 32 := Scalar.andi arg34 c3_i32
  let c16_i32_439 : BitVec 32 := 16#32
  let v475 : BitVec 32 := Scalar.muli v474 c16_i32_439
  let v479 : Index := Scalar.indexCast v475
  ![v478.toNat, v479.toNat]
@[reducible] def k0_t34_loop : Scf.Loop 32 :=
  let c0_i32_449 : BitVec 32 := 0#32
  let c15_i32_450 : BitVec 32 := 15#32
  let v502 : BitVec 32 := Scalar.addi c0_i32_449 c15_i32_450
  let c1_i32_451 : BitVec 32 := 1#32
  ⟨c0_i32_449, v502, c1_i32_451⟩
def k0_cond2 (v491 : BitVec 32) : BitVec 1 :=
  let c0_i32_444 : BitVec 32 := 0#32
  let v492 : BitVec 1 := Scalar.cmpi .sgt v491 c0_i32_444
  let v493 : BitVec 32 := Scalar.extui v492
  let c0_i32_445 : BitVec 32 := 0#32
  let v494 : BitVec 1 := Scalar.cmpi .ne v493 c0_i32_445
  v494

def k0_chk91 (v491 : BitVec 32) (v536 : IVec S16 32) : Prop :=
  (∀ (k0_h2 : k0_cond2 v491 = 1#1), ∀ a x, ((![v536] : Fin 1 → IVec S16 32) a x).toNat < S16.size a)
theorem k0_idx122_inb : ∀ (v491 : BitVec 32) (v536 : IVec S16 32) (k0_hw91 : k0_chk91 v491 v536), ∀ (k0_h2 : k0_cond2 v491 = 1#1), ∀ a x, ((![v536] : Fin 1 → IVec S16 32) a x).toNat < S16.size a := fun v491 v536 k0_hw91 k0_h2 => k0_hw91 k0_h2

def k0_chk92 (v491 : BitVec 32) (v503 : IVec S16 32) : Prop :=
  (∀ (k0_h2 : k0_cond2 v491 = 1#1), ∀ a x, ((![v503] : Fin 1 → IVec S16 32) a x).toNat < S16.size a) ∧
  (∀ (k0_h2 : k0_cond2 v491 = 1#1), ∀ a x, ((![v503] : Fin 1 → IVec S16 32) a x).toNat < S16.size a)
theorem k0_idx123_inb : ∀ (v491 : BitVec 32) (v503 : IVec S16 32) (k0_hw92 : k0_chk92 v491 v503), ∀ (k0_h2 : k0_cond2 v491 = 1#1), ∀ a x, ((![v503] : Fin 1 → IVec S16 32) a x).toNat < S16.size a := fun v491 v503 k0_hw92 k0_h2 => k0_hw92.1 k0_h2
theorem k0_idx124_inb : ∀ (v491 : BitVec 32) (v503 : IVec S16 32) (k0_hw92 : k0_chk92 v491 v503), ∀ (k0_h2 : k0_cond2 v491 = 1#1), ∀ a x, ((![v503] : Fin 1 → IVec S16 32) a x).toNat < S16.size a := fun v491 v503 k0_hw92 k0_h2 => k0_hw92.2 k0_h2

def k0_chk93 (v491 : BitVec 32) (v510 : IVec S16 32) : Prop :=
  (∀ (k0_h2 : k0_cond2 v491 = 1#1), ∀ a x, ((![v510] : Fin 1 → IVec S16 32) a x).toNat < S16.size a)
theorem k0_idx125_inb : ∀ (v491 : BitVec 32) (v510 : IVec S16 32) (k0_hw93 : k0_chk93 v491 v510), ∀ (k0_h2 : k0_cond2 v491 = 1#1), ∀ a x, ((![v510] : Fin 1 → IVec S16 32) a x).toNat < S16.size a := fun v491 v510 k0_hw93 k0_h2 => k0_hw93 k0_h2

def k0_chk94 (v491 : BitVec 32) (v513 : IVec S16 32) : Prop :=
  (∀ (k0_h2 : k0_cond2 v491 = 1#1), ∀ a x, ((![v513] : Fin 1 → IVec S16 32) a x).toNat < S16.size a)
theorem k0_idx126_inb : ∀ (v491 : BitVec 32) (v513 : IVec S16 32) (k0_hw94 : k0_chk94 v491 v513), ∀ (k0_h2 : k0_cond2 v491 = 1#1), ∀ a x, ((![v513] : Fin 1 → IVec S16 32) a x).toNat < S16.size a := fun v491 v513 k0_hw94 k0_h2 => k0_hw94 k0_h2
@[reducible] def k0_t35_loop : Scf.Loop 32 :=
  let c0_i32_462 : BitVec 32 := 0#32
  let c15_i32_463 : BitVec 32 := 15#32
  let v526 : BitVec 32 := Scalar.addi c0_i32_462 c15_i32_463
  let c1_i32_464 : BitVec 32 := 1#32
  ⟨c0_i32_462, v526, c1_i32_464⟩

def k0_chk95 (v491 : BitVec 32) (v536 : IVec S16 32) : Prop :=
  (∀ (k0_h2 : k0_cond2 v491 = 1#1), ∀ a x, ((![v536] : Fin 1 → IVec S16 32) a x).toNat < S16.size a)
theorem k0_idx127_inb : ∀ (v491 : BitVec 32) (v536 : IVec S16 32) (k0_hw95 : k0_chk95 v491 v536), ∀ (k0_h2 : k0_cond2 v491 = 1#1), ∀ a x, ((![v536] : Fin 1 → IVec S16 32) a x).toNat < S16.size a := fun v491 v536 k0_hw95 k0_h2 => k0_hw95 k0_h2

def k0_chk96 (v491 : BitVec 32) (v527 : IVec S16 32) : Prop :=
  (∀ (k0_h2 : k0_cond2 v491 = 1#1), ∀ a x, ((![v527] : Fin 1 → IVec S16 32) a x).toNat < S16.size a) ∧
  (∀ (k0_h2 : k0_cond2 v491 = 1#1), ∀ a x, ((![v527] : Fin 1 → IVec S16 32) a x).toNat < S16.size a)
theorem k0_idx128_inb : ∀ (v491 : BitVec 32) (v527 : IVec S16 32) (k0_hw96 : k0_chk96 v491 v527), ∀ (k0_h2 : k0_cond2 v491 = 1#1), ∀ a x, ((![v527] : Fin 1 → IVec S16 32) a x).toNat < S16.size a := fun v491 v527 k0_hw96 k0_h2 => k0_hw96.1 k0_h2
theorem k0_idx129_inb : ∀ (v491 : BitVec 32) (v527 : IVec S16 32) (k0_hw96 : k0_chk96 v491 v527), ∀ (k0_h2 : k0_cond2 v491 = 1#1), ∀ a x, ((![v527] : Fin 1 → IVec S16 32) a x).toNat < S16.size a := fun v491 v527 k0_hw96 k0_h2 => k0_hw96.2 k0_h2

def k0_chk97 (v374 : IVec S16 32) : Prop :=
  (∀ a x, ((![v374] : Fin 1 → IVec S16 32) a x).toNat < S16.size a)
theorem k0_idx130_inb : ∀ (v374 : IVec S16 32) (k0_hw97 : k0_chk97 v374), ∀ a x, ((![v374] : Fin 1 → IVec S16 32) a x).toNat < S16.size a := fun v374 k0_hw97 => k0_hw97
def k0_off11 (k0_t16 : Fin k0_t16_loop.trips) : Fin 1 → Nat :=
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let c16_i32_337 : BitVec 32 := 16#32
  let v383 : BitVec 32 := Scalar.muli v347 c16_i32_337
  let v384 : Index := Scalar.indexCast v383
  ![v384.toNat]
def k0_cond3 (k0_t16 : Fin k0_t16_loop.trips) : BitVec 1 :=
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let c1_i32_338 : BitVec 32 := 1#32
  let v386 : BitVec 1 := Scalar.cmpi .sge v347 c1_i32_338
  let v387 : BitVec 32 := Scalar.extui v386
  let c0_i32_339 : BitVec 32 := 0#32
  let v388 : BitVec 1 := Scalar.cmpi .ne v387 c0_i32_339
  v388

def k0_off12 (i : grid0.Coords) (k0_t16 : Fin k0_t16_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let v487 : BitVec 32 := Scalar.addi v2 v347
  let c1_i32_462 : BitVec 32 := 1#32
  let v488 : BitVec 32 := Scalar.subi v487 c1_i32_462
  let c16_i32_463 : BitVec 32 := 16#32
  let v489 : BitVec 32 := Scalar.muli v488 c16_i32_463
  let c0_i32_468 : BitVec 32 := 0#32
  let c0_i32_469 : BitVec 32 := 0#32
  ![v489.toNat, 0, 0]
def k0_off13 (i : grid0.Coords) (k0_t16 : Fin k0_t16_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_304 : BitVec 32 := 2#32
  let c0_i32_174 : BitVec 32 := 0#32
  let c1_i32_176 : BitVec 32 := 1#32
  let arg33 : BitVec 32 := Scf.iv c0_i32_174 c1_i32_176 k0_t16
  let v347 : BitVec 32 := Scalar.muli c2_i32_304 arg33
  let v487 : BitVec 32 := Scalar.addi v2 v347
  let c1_i32_462 : BitVec 32 := 1#32
  let v488 : BitVec 32 := Scalar.subi v487 c1_i32_462
  let c16_i32_463 : BitVec 32 := 16#32
  let v489 : BitVec 32 := Scalar.muli v488 c16_i32_463
  let c0_i32_489 : BitVec 32 := 0#32
  ![v489.toNat, 0]
def k0_cond5 (k0_t16 : Fin k0_t16_loop.trips) : BitVec 1 :=
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let c1_i32_371 : BitVec 32 := 1#32
  let v411 : BitVec 32 := Scalar.addi v410 c1_i32_371
  let c256_i32_372 : BitVec 32 := 256#32
  let v412 : BitVec 1 := Scalar.cmpi .slt v411 c256_i32_372
  let v413 : BitVec 32 := Scalar.extui v412
  let c0_i32_373 : BitVec 32 := 0#32
  let v414 : BitVec 1 := Scalar.cmpi .ne v413 c0_i32_373
  v414

def k0_off14 (k0_t16 : Fin k0_t16_loop.trips) : Fin 1 → Nat :=
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let c1_i32_437 : BitVec 32 := 1#32
  let v472 : BitVec 32 := Scalar.addi v410 c1_i32_437
  let c128_i32_438 : BitVec 32 := 128#32
  let v473 : BitVec 32 := Scalar.muli v472 c128_i32_438
  let c0_i32_439 : BitVec 32 := 0#32
  let v474 : BitVec 32 := Scalar.addi v473 c0_i32_439
  let v475 : Index := Scalar.indexCast v474
  ![v475.toNat]
@[reducible] def k0_t36_loop : Scf.Loop 32 :=
  let c0_i32_444 : BitVec 32 := 0#32
  let c15_i32_445 : BitVec 32 := 15#32
  let v483 : BitVec 32 := Scalar.addi c0_i32_444 c15_i32_445
  let c1_i32_446 : BitVec 32 := 1#32
  ⟨c0_i32_444, v483, c1_i32_446⟩

def k0_chk98 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx131_inb : ∀ (k0_t16 : Fin k0_t16_loop.trips) (v770 : IVec S16 32) (k0_hw98 : k0_chk98 k0_t16 v770), ∀ (k0_h5 : k0_cond5 k0_t16 = 1#1), ∀ a x, ((![v770] : Fin 1 → IVec S16 32) a x).toNat < S16.size a := fun k0_t16 v770 k0_hw98 k0_h5 => k0_hw98 k0_h5

def k0_chk99 (k0_t16 : Fin k0_t16_loop.trips) (v484 : IVec S16 32) : Prop :=
  (∀ (k0_h5 : k0_cond5 k0_t16 = 1#1), ∀ a x, ((![v484] : Fin 1 → IVec S16 32) a x).toNat < S16.size a) ∧
  (∀ (k0_h5 : k0_cond5 k0_t16 = 1#1), ∀ a x, ((![v484] : Fin 1 → IVec S16 32) a x).toNat < S16.size a)
theorem k0_idx132_inb : ∀ (k0_t16 : Fin k0_t16_loop.trips) (v484 : IVec S16 32) (k0_hw99 : k0_chk99 k0_t16 v484), ∀ (k0_h5 : k0_cond5 k0_t16 = 1#1), ∀ a x, ((![v484] : Fin 1 → IVec S16 32) a x).toNat < S16.size a := fun k0_t16 v484 k0_hw99 k0_h5 => k0_hw99.1 k0_h5
theorem k0_idx133_inb : ∀ (k0_t16 : Fin k0_t16_loop.trips) (v484 : IVec S16 32) (k0_hw99 : k0_chk99 k0_t16 v484), ∀ (k0_h5 : k0_cond5 k0_t16 = 1#1), ∀ a x, ((![v484] : Fin 1 → IVec S16 32) a x).toNat < S16.size a := fun k0_t16 v484 k0_hw99 k0_h5 => k0_hw99.2 k0_h5
def k0_off15 (k0_t16 : Fin k0_t16_loop.trips) : Fin 1 → Nat :=
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let c1_i32_437 : BitVec 32 := 1#32
  let v472 : BitVec 32 := Scalar.addi v410 c1_i32_437
  let c128_i32_450 : BitVec 32 := 128#32
  let v487 : BitVec 32 := Scalar.muli v472 c128_i32_450
  let c16_i32_451 : BitVec 32 := 16#32
  let v488 : BitVec 32 := Scalar.addi v487 c16_i32_451
  let v489 : Index := Scalar.indexCast v488
  ![v489.toNat]
@[reducible] def k0_t37_loop : Scf.Loop 32 :=
  let c0_i32_456 : BitVec 32 := 0#32
  let c15_i32_457 : BitVec 32 := 15#32
  let v497 : BitVec 32 := Scalar.addi c0_i32_456 c15_i32_457
  let c1_i32_458 : BitVec 32 := 1#32
  ⟨c0_i32_456, v497, c1_i32_458⟩

def k0_chk100 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx134_inb : ∀ (k0_t16 : Fin k0_t16_loop.trips) (v770 : IVec S16 32) (k0_hw100 : k0_chk100 k0_t16 v770), ∀ (k0_h5 : k0_cond5 k0_t16 = 1#1), ∀ a x, ((![v770] : Fin 1 → IVec S16 32) a x).toNat < S16.size a := fun k0_t16 v770 k0_hw100 k0_h5 => k0_hw100 k0_h5

def k0_chk101 (k0_t16 : Fin k0_t16_loop.trips) (v498 : IVec S16 32) : Prop :=
  (∀ (k0_h5 : k0_cond5 k0_t16 = 1#1), ∀ a x, ((![v498] : Fin 1 → IVec S16 32) a x).toNat < S16.size a) ∧
  (∀ (k0_h5 : k0_cond5 k0_t16 = 1#1), ∀ a x, ((![v498] : Fin 1 → IVec S16 32) a x).toNat < S16.size a)
theorem k0_idx135_inb : ∀ (k0_t16 : Fin k0_t16_loop.trips) (v498 : IVec S16 32) (k0_hw101 : k0_chk101 k0_t16 v498), ∀ (k0_h5 : k0_cond5 k0_t16 = 1#1), ∀ a x, ((![v498] : Fin 1 → IVec S16 32) a x).toNat < S16.size a := fun k0_t16 v498 k0_hw101 k0_h5 => k0_hw101.1 k0_h5
theorem k0_idx136_inb : ∀ (k0_t16 : Fin k0_t16_loop.trips) (v498 : IVec S16 32) (k0_hw101 : k0_chk101 k0_t16 v498), ∀ (k0_h5 : k0_cond5 k0_t16 = 1#1), ∀ a x, ((![v498] : Fin 1 → IVec S16 32) a x).toNat < S16.size a := fun k0_t16 v498 k0_hw101 k0_h5 => k0_hw101.2 k0_h5

def k0_chk102 (k0_t16 : Fin k0_t16_loop.trips) (v505 : IVec S16 32) : Prop :=
  (∀ (k0_h5 : k0_cond5 k0_t16 = 1#1), ∀ a x, ((![v505] : Fin 1 → IVec S16 32) a x).toNat < S16.size a)
theorem k0_idx137_inb : ∀ (k0_t16 : Fin k0_t16_loop.trips) (v505 : IVec S16 32) (k0_hw102 : k0_chk102 k0_t16 v505), ∀ (k0_h5 : k0_cond5 k0_t16 = 1#1), ∀ a x, ((![v505] : Fin 1 → IVec S16 32) a x).toNat < S16.size a := fun k0_t16 v505 k0_hw102 k0_h5 => k0_hw102 k0_h5

def k0_chk103 (k0_t16 : Fin k0_t16_loop.trips) (v508 : IVec S16 32) : Prop :=
  (∀ (k0_h5 : k0_cond5 k0_t16 = 1#1), ∀ a x, ((![v508] : Fin 1 → IVec S16 32) a x).toNat < S16.size a)
theorem k0_idx138_inb : ∀ (k0_t16 : Fin k0_t16_loop.trips) (v508 : IVec S16 32) (k0_hw103 : k0_chk103 k0_t16 v508), ∀ (k0_h5 : k0_cond5 k0_t16 = 1#1), ∀ a x, ((![v508] : Fin 1 → IVec S16 32) a x).toNat < S16.size a := fun k0_t16 v508 k0_hw103 k0_h5 => k0_hw103 k0_h5
@[reducible] def k0_t38_loop : Scf.Loop 32 :=
  let c0_i32_469 : BitVec 32 := 0#32
  let c15_i32_470 : BitVec 32 := 15#32
  let v521 : BitVec 32 := Scalar.addi c0_i32_469 c15_i32_470
  let c1_i32_471 : BitVec 32 := 1#32
  ⟨c0_i32_469, v521, c1_i32_471⟩

def k0_chk104 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx139_inb : ∀ (k0_t16 : Fin k0_t16_loop.trips) (v770 : IVec S16 32) (k0_hw104 : k0_chk104 k0_t16 v770), ∀ (k0_h5 : k0_cond5 k0_t16 = 1#1), ∀ a x, ((![v770] : Fin 1 → IVec S16 32) a x).toNat < S16.size a := fun k0_t16 v770 k0_hw104 k0_h5 => k0_hw104 k0_h5

def k0_chk105 (k0_t16 : Fin k0_t16_loop.trips) (v522 : IVec S16 32) : Prop :=
  (∀ (k0_h5 : k0_cond5 k0_t16 = 1#1), ∀ a x, ((![v522] : Fin 1 → IVec S16 32) a x).toNat < S16.size a) ∧
  (∀ (k0_h5 : k0_cond5 k0_t16 = 1#1), ∀ a x, ((![v522] : Fin 1 → IVec S16 32) a x).toNat < S16.size a)
theorem k0_idx140_inb : ∀ (k0_t16 : Fin k0_t16_loop.trips) (v522 : IVec S16 32) (k0_hw105 : k0_chk105 k0_t16 v522), ∀ (k0_h5 : k0_cond5 k0_t16 = 1#1), ∀ a x, ((![v522] : Fin 1 → IVec S16 32) a x).toNat < S16.size a := fun k0_t16 v522 k0_hw105 k0_h5 => k0_hw105.1 k0_h5
theorem k0_idx141_inb : ∀ (k0_t16 : Fin k0_t16_loop.trips) (v522 : IVec S16 32) (k0_hw105 : k0_chk105 k0_t16 v522), ∀ (k0_h5 : k0_cond5 k0_t16 = 1#1), ∀ a x, ((![v522] : Fin 1 → IVec S16 32) a x).toNat < S16.size a := fun k0_t16 v522 k0_hw105 k0_h5 => k0_hw105.2 k0_h5
def k0_off16 (k0_t16 : Fin k0_t16_loop.trips) : Fin 1 → Nat :=
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let c1_i32_437 : BitVec 32 := 1#32
  let v472 : BitVec 32 := Scalar.addi v410 c1_i32_437
  let c128_i32_475 : BitVec 32 := 128#32
  let v525 : BitVec 32 := Scalar.muli v472 c128_i32_475
  let c32_i32_476 : BitVec 32 := 32#32
  let v526 : BitVec 32 := Scalar.addi v525 c32_i32_476
  let v527 : Index := Scalar.indexCast v526
  ![v527.toNat]
@[reducible] def k0_t39_loop : Scf.Loop 32 :=
  let c0_i32_481 : BitVec 32 := 0#32
  let c15_i32_482 : BitVec 32 := 15#32
  let v535 : BitVec 32 := Scalar.addi c0_i32_481 c15_i32_482
  let c1_i32_483 : BitVec 32 := 1#32
  ⟨c0_i32_481, v535, c1_i32_483⟩

def k0_chk106 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx142_inb : ∀ (k0_t16 : Fin k0_t16_loop.trips) (v770 : IVec S16 32) (k0_hw106 : k0_chk106 k0_t16 v770), ∀ (k0_h5 : k0_cond5 k0_t16 = 1#1), ∀ a x, ((![v770] : Fin 1 → IVec S16 32) a x).toNat < S16.size a := fun k0_t16 v770 k0_hw106 k0_h5 => k0_hw106 k0_h5

def k0_chk107 (k0_t16 : Fin k0_t16_loop.trips) (v536 : IVec S16 32) : Prop :=
  (∀ (k0_h5 : k0_cond5 k0_t16 = 1#1), ∀ a x, ((![v536] : Fin 1 → IVec S16 32) a x).toNat < S16.size a) ∧
  (∀ (k0_h5 : k0_cond5 k0_t16 = 1#1), ∀ a x, ((![v536] : Fin 1 → IVec S16 32) a x).toNat < S16.size a)
theorem k0_idx143_inb : ∀ (k0_t16 : Fin k0_t16_loop.trips) (v536 : IVec S16 32) (k0_hw107 : k0_chk107 k0_t16 v536), ∀ (k0_h5 : k0_cond5 k0_t16 = 1#1), ∀ a x, ((![v536] : Fin 1 → IVec S16 32) a x).toNat < S16.size a := fun k0_t16 v536 k0_hw107 k0_h5 => k0_hw107.1 k0_h5
theorem k0_idx144_inb : ∀ (k0_t16 : Fin k0_t16_loop.trips) (v536 : IVec S16 32) (k0_hw107 : k0_chk107 k0_t16 v536), ∀ (k0_h5 : k0_cond5 k0_t16 = 1#1), ∀ a x, ((![v536] : Fin 1 → IVec S16 32) a x).toNat < S16.size a := fun k0_t16 v536 k0_hw107 k0_h5 => k0_hw107.2 k0_h5
def k0_off17 (k0_t16 : Fin k0_t16_loop.trips) : Fin 1 → Nat :=
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let c1_i32_437 : BitVec 32 := 1#32
  let v472 : BitVec 32 := Scalar.addi v410 c1_i32_437
  let c128_i32_487 : BitVec 32 := 128#32
  let v539 : BitVec 32 := Scalar.muli v472 c128_i32_487
  let c48_i32_488 : BitVec 32 := 48#32
  let v540 : BitVec 32 := Scalar.addi v539 c48_i32_488
  let v541 : Index := Scalar.indexCast v540
  ![v541.toNat]
@[reducible] def k0_t40_loop : Scf.Loop 32 :=
  let c0_i32_493 : BitVec 32 := 0#32
  let c15_i32_494 : BitVec 32 := 15#32
  let v549 : BitVec 32 := Scalar.addi c0_i32_493 c15_i32_494
  let c1_i32_495 : BitVec 32 := 1#32
  ⟨c0_i32_493, v549, c1_i32_495⟩

def k0_chk108 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx145_inb : ∀ (k0_t16 : Fin k0_t16_loop.trips) (v770 : IVec S16 32) (k0_hw108 : k0_chk108 k0_t16 v770), ∀ (k0_h5 : k0_cond5 k0_t16 = 1#1), ∀ a x, ((![v770] : Fin 1 → IVec S16 32) a x).toNat < S16.size a := fun k0_t16 v770 k0_hw108 k0_h5 => k0_hw108 k0_h5

def k0_chk109 (k0_t16 : Fin k0_t16_loop.trips) (v550 : IVec S16 32) : Prop :=
  (∀ (k0_h5 : k0_cond5 k0_t16 = 1#1), ∀ a x, ((![v550] : Fin 1 → IVec S16 32) a x).toNat < S16.size a) ∧
  (∀ (k0_h5 : k0_cond5 k0_t16 = 1#1), ∀ a x, ((![v550] : Fin 1 → IVec S16 32) a x).toNat < S16.size a)
theorem k0_idx146_inb : ∀ (k0_t16 : Fin k0_t16_loop.trips) (v550 : IVec S16 32) (k0_hw109 : k0_chk109 k0_t16 v550), ∀ (k0_h5 : k0_cond5 k0_t16 = 1#1), ∀ a x, ((![v550] : Fin 1 → IVec S16 32) a x).toNat < S16.size a := fun k0_t16 v550 k0_hw109 k0_h5 => k0_hw109.1 k0_h5
theorem k0_idx147_inb : ∀ (k0_t16 : Fin k0_t16_loop.trips) (v550 : IVec S16 32) (k0_hw109 : k0_chk109 k0_t16 v550), ∀ (k0_h5 : k0_cond5 k0_t16 = 1#1), ∀ a x, ((![v550] : Fin 1 → IVec S16 32) a x).toNat < S16.size a := fun k0_t16 v550 k0_hw109 k0_h5 => k0_hw109.2 k0_h5

def k0_chk110 (k0_t16 : Fin k0_t16_loop.trips) (v557 : IVec S16 32) : Prop :=
  (∀ (k0_h5 : k0_cond5 k0_t16 = 1#1), ∀ a x, ((![v557] : Fin 1 → IVec S16 32) a x).toNat < S16.size a)
theorem k0_idx148_inb : ∀ (k0_t16 : Fin k0_t16_loop.trips) (v557 : IVec S16 32) (k0_hw110 : k0_chk110 k0_t16 v557), ∀ (k0_h5 : k0_cond5 k0_t16 = 1#1), ∀ a x, ((![v557] : Fin 1 → IVec S16 32) a x).toNat < S16.size a := fun k0_t16 v557 k0_hw110 k0_h5 => k0_hw110 k0_h5

def k0_chk111 (k0_t16 : Fin k0_t16_loop.trips) (v560 : IVec S16 32) : Prop :=
  (∀ (k0_h5 : k0_cond5 k0_t16 = 1#1), ∀ a x, ((![v560] : Fin 1 → IVec S16 32) a x).toNat < S16.size a)
theorem k0_idx149_inb : ∀ (k0_t16 : Fin k0_t16_loop.trips) (v560 : IVec S16 32) (k0_hw111 : k0_chk111 k0_t16 v560), ∀ (k0_h5 : k0_cond5 k0_t16 = 1#1), ∀ a x, ((![v560] : Fin 1 → IVec S16 32) a x).toNat < S16.size a := fun k0_t16 v560 k0_hw111 k0_h5 => k0_hw111 k0_h5
@[reducible] def k0_t41_loop : Scf.Loop 32 :=
  let c0_i32_506 : BitVec 32 := 0#32
  let c15_i32_507 : BitVec 32 := 15#32
  let v573 : BitVec 32 := Scalar.addi c0_i32_506 c15_i32_507
  let c1_i32_508 : BitVec 32 := 1#32
  ⟨c0_i32_506, v573, c1_i32_508⟩

def k0_chk112 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx150_inb : ∀ (k0_t16 : Fin k0_t16_loop.trips) (v770 : IVec S16 32) (k0_hw112 : k0_chk112 k0_t16 v770), ∀ (k0_h5 : k0_cond5 k0_t16 = 1#1), ∀ a x, ((![v770] : Fin 1 → IVec S16 32) a x).toNat < S16.size a := fun k0_t16 v770 k0_hw112 k0_h5 => k0_hw112 k0_h5

def k0_chk113 (k0_t16 : Fin k0_t16_loop.trips) (v574 : IVec S16 32) : Prop :=
  (∀ (k0_h5 : k0_cond5 k0_t16 = 1#1), ∀ a x, ((![v574] : Fin 1 → IVec S16 32) a x).toNat < S16.size a) ∧
  (∀ (k0_h5 : k0_cond5 k0_t16 = 1#1), ∀ a x, ((![v574] : Fin 1 → IVec S16 32) a x).toNat < S16.size a)
theorem k0_idx151_inb : ∀ (k0_t16 : Fin k0_t16_loop.trips) (v574 : IVec S16 32) (k0_hw113 : k0_chk113 k0_t16 v574), ∀ (k0_h5 : k0_cond5 k0_t16 = 1#1), ∀ a x, ((![v574] : Fin 1 → IVec S16 32) a x).toNat < S16.size a := fun k0_t16 v574 k0_hw113 k0_h5 => k0_hw113.1 k0_h5
theorem k0_idx152_inb : ∀ (k0_t16 : Fin k0_t16_loop.trips) (v574 : IVec S16 32) (k0_hw113 : k0_chk113 k0_t16 v574), ∀ (k0_h5 : k0_cond5 k0_t16 = 1#1), ∀ a x, ((![v574] : Fin 1 → IVec S16 32) a x).toNat < S16.size a := fun k0_t16 v574 k0_hw113 k0_h5 => k0_hw113.2 k0_h5
def k0_off18 (k0_t16 : Fin k0_t16_loop.trips) : Fin 1 → Nat :=
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let c1_i32_437 : BitVec 32 := 1#32
  let v472 : BitVec 32 := Scalar.addi v410 c1_i32_437
  let c128_i32_512 : BitVec 32 := 128#32
  let v577 : BitVec 32 := Scalar.muli v472 c128_i32_512
  let c64_i32_513 : BitVec 32 := 64#32
  let v578 : BitVec 32 := Scalar.addi v577 c64_i32_513
  let v579 : Index := Scalar.indexCast v578
  ![v579.toNat]
@[reducible] def k0_t42_loop : Scf.Loop 32 :=
  let c0_i32_518 : BitVec 32 := 0#32
  let c15_i32_519 : BitVec 32 := 15#32
  let v587 : BitVec 32 := Scalar.addi c0_i32_518 c15_i32_519
  let c1_i32_520 : BitVec 32 := 1#32
  ⟨c0_i32_518, v587, c1_i32_520⟩

def k0_chk114 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx153_inb : ∀ (k0_t16 : Fin k0_t16_loop.trips) (v770 : IVec S16 32) (k0_hw114 : k0_chk114 k0_t16 v770), ∀ (k0_h5 : k0_cond5 k0_t16 = 1#1), ∀ a x, ((![v770] : Fin 1 → IVec S16 32) a x).toNat < S16.size a := fun k0_t16 v770 k0_hw114 k0_h5 => k0_hw114 k0_h5

def k0_chk115 (k0_t16 : Fin k0_t16_loop.trips) (v588 : IVec S16 32) : Prop :=
  (∀ (k0_h5 : k0_cond5 k0_t16 = 1#1), ∀ a x, ((![v588] : Fin 1 → IVec S16 32) a x).toNat < S16.size a) ∧
  (∀ (k0_h5 : k0_cond5 k0_t16 = 1#1), ∀ a x, ((![v588] : Fin 1 → IVec S16 32) a x).toNat < S16.size a)
theorem k0_idx154_inb : ∀ (k0_t16 : Fin k0_t16_loop.trips) (v588 : IVec S16 32) (k0_hw115 : k0_chk115 k0_t16 v588), ∀ (k0_h5 : k0_cond5 k0_t16 = 1#1), ∀ a x, ((![v588] : Fin 1 → IVec S16 32) a x).toNat < S16.size a := fun k0_t16 v588 k0_hw115 k0_h5 => k0_hw115.1 k0_h5
theorem k0_idx155_inb : ∀ (k0_t16 : Fin k0_t16_loop.trips) (v588 : IVec S16 32) (k0_hw115 : k0_chk115 k0_t16 v588), ∀ (k0_h5 : k0_cond5 k0_t16 = 1#1), ∀ a x, ((![v588] : Fin 1 → IVec S16 32) a x).toNat < S16.size a := fun k0_t16 v588 k0_hw115 k0_h5 => k0_hw115.2 k0_h5
def k0_off19 (k0_t16 : Fin k0_t16_loop.trips) : Fin 1 → Nat :=
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let c1_i32_437 : BitVec 32 := 1#32
  let v472 : BitVec 32 := Scalar.addi v410 c1_i32_437
  let c128_i32_524 : BitVec 32 := 128#32
  let v591 : BitVec 32 := Scalar.muli v472 c128_i32_524
  let c80_i32_525 : BitVec 32 := 80#32
  let v592 : BitVec 32 := Scalar.addi v591 c80_i32_525
  let v593 : Index := Scalar.indexCast v592
  ![v593.toNat]
@[reducible] def k0_t43_loop : Scf.Loop 32 :=
  let c0_i32_530 : BitVec 32 := 0#32
  let c15_i32_531 : BitVec 32 := 15#32
  let v601 : BitVec 32 := Scalar.addi c0_i32_530 c15_i32_531
  let c1_i32_532 : BitVec 32 := 1#32
  ⟨c0_i32_530, v601, c1_i32_532⟩

def k0_chk116 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx156_inb : ∀ (k0_t16 : Fin k0_t16_loop.trips) (v770 : IVec S16 32) (k0_hw116 : k0_chk116 k0_t16 v770), ∀ (k0_h5 : k0_cond5 k0_t16 = 1#1), ∀ a x, ((![v770] : Fin 1 → IVec S16 32) a x).toNat < S16.size a := fun k0_t16 v770 k0_hw116 k0_h5 => k0_hw116 k0_h5

def k0_chk117 (k0_t16 : Fin k0_t16_loop.trips) (v602 : IVec S16 32) : Prop :=
  (∀ (k0_h5 : k0_cond5 k0_t16 = 1#1), ∀ a x, ((![v602] : Fin 1 → IVec S16 32) a x).toNat < S16.size a) ∧
  (∀ (k0_h5 : k0_cond5 k0_t16 = 1#1), ∀ a x, ((![v602] : Fin 1 → IVec S16 32) a x).toNat < S16.size a)
theorem k0_idx157_inb : ∀ (k0_t16 : Fin k0_t16_loop.trips) (v602 : IVec S16 32) (k0_hw117 : k0_chk117 k0_t16 v602), ∀ (k0_h5 : k0_cond5 k0_t16 = 1#1), ∀ a x, ((![v602] : Fin 1 → IVec S16 32) a x).toNat < S16.size a := fun k0_t16 v602 k0_hw117 k0_h5 => k0_hw117.1 k0_h5
theorem k0_idx158_inb : ∀ (k0_t16 : Fin k0_t16_loop.trips) (v602 : IVec S16 32) (k0_hw117 : k0_chk117 k0_t16 v602), ∀ (k0_h5 : k0_cond5 k0_t16 = 1#1), ∀ a x, ((![v602] : Fin 1 → IVec S16 32) a x).toNat < S16.size a := fun k0_t16 v602 k0_hw117 k0_h5 => k0_hw117.2 k0_h5

def k0_chk118 (k0_t16 : Fin k0_t16_loop.trips) (v609 : IVec S16 32) : Prop :=
  (∀ (k0_h5 : k0_cond5 k0_t16 = 1#1), ∀ a x, ((![v609] : Fin 1 → IVec S16 32) a x).toNat < S16.size a)
theorem k0_idx159_inb : ∀ (k0_t16 : Fin k0_t16_loop.trips) (v609 : IVec S16 32) (k0_hw118 : k0_chk118 k0_t16 v609), ∀ (k0_h5 : k0_cond5 k0_t16 = 1#1), ∀ a x, ((![v609] : Fin 1 → IVec S16 32) a x).toNat < S16.size a := fun k0_t16 v609 k0_hw118 k0_h5 => k0_hw118 k0_h5

def k0_chk119 (k0_t16 : Fin k0_t16_loop.trips) (v612 : IVec S16 32) : Prop :=
  (∀ (k0_h5 : k0_cond5 k0_t16 = 1#1), ∀ a x, ((![v612] : Fin 1 → IVec S16 32) a x).toNat < S16.size a)
theorem k0_idx160_inb : ∀ (k0_t16 : Fin k0_t16_loop.trips) (v612 : IVec S16 32) (k0_hw119 : k0_chk119 k0_t16 v612), ∀ (k0_h5 : k0_cond5 k0_t16 = 1#1), ∀ a x, ((![v612] : Fin 1 → IVec S16 32) a x).toNat < S16.size a := fun k0_t16 v612 k0_hw119 k0_h5 => k0_hw119 k0_h5
@[reducible] def k0_t44_loop : Scf.Loop 32 :=
  let c0_i32_543 : BitVec 32 := 0#32
  let c15_i32_544 : BitVec 32 := 15#32
  let v625 : BitVec 32 := Scalar.addi c0_i32_543 c15_i32_544
  let c1_i32_545 : BitVec 32 := 1#32
  ⟨c0_i32_543, v625, c1_i32_545⟩

def k0_chk120 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx161_inb : ∀ (k0_t16 : Fin k0_t16_loop.trips) (v770 : IVec S16 32) (k0_hw120 : k0_chk120 k0_t16 v770), ∀ (k0_h5 : k0_cond5 k0_t16 = 1#1), ∀ a x, ((![v770] : Fin 1 → IVec S16 32) a x).toNat < S16.size a := fun k0_t16 v770 k0_hw120 k0_h5 => k0_hw120 k0_h5

def k0_chk121 (k0_t16 : Fin k0_t16_loop.trips) (v626 : IVec S16 32) : Prop :=
  (∀ (k0_h5 : k0_cond5 k0_t16 = 1#1), ∀ a x, ((![v626] : Fin 1 → IVec S16 32) a x).toNat < S16.size a) ∧
  (∀ (k0_h5 : k0_cond5 k0_t16 = 1#1), ∀ a x, ((![v626] : Fin 1 → IVec S16 32) a x).toNat < S16.size a)
theorem k0_idx162_inb : ∀ (k0_t16 : Fin k0_t16_loop.trips) (v626 : IVec S16 32) (k0_hw121 : k0_chk121 k0_t16 v626), ∀ (k0_h5 : k0_cond5 k0_t16 = 1#1), ∀ a x, ((![v626] : Fin 1 → IVec S16 32) a x).toNat < S16.size a := fun k0_t16 v626 k0_hw121 k0_h5 => k0_hw121.1 k0_h5
theorem k0_idx163_inb : ∀ (k0_t16 : Fin k0_t16_loop.trips) (v626 : IVec S16 32) (k0_hw121 : k0_chk121 k0_t16 v626), ∀ (k0_h5 : k0_cond5 k0_t16 = 1#1), ∀ a x, ((![v626] : Fin 1 → IVec S16 32) a x).toNat < S16.size a := fun k0_t16 v626 k0_hw121 k0_h5 => k0_hw121.2 k0_h5
def k0_off20 (k0_t16 : Fin k0_t16_loop.trips) : Fin 1 → Nat :=
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let c1_i32_437 : BitVec 32 := 1#32
  let v472 : BitVec 32 := Scalar.addi v410 c1_i32_437
  let c128_i32_549 : BitVec 32 := 128#32
  let v629 : BitVec 32 := Scalar.muli v472 c128_i32_549
  let c96_i32_550 : BitVec 32 := 96#32
  let v630 : BitVec 32 := Scalar.addi v629 c96_i32_550
  let v631 : Index := Scalar.indexCast v630
  ![v631.toNat]
@[reducible] def k0_t45_loop : Scf.Loop 32 :=
  let c0_i32_555 : BitVec 32 := 0#32
  let c15_i32_556 : BitVec 32 := 15#32
  let v639 : BitVec 32 := Scalar.addi c0_i32_555 c15_i32_556
  let c1_i32_557 : BitVec 32 := 1#32
  ⟨c0_i32_555, v639, c1_i32_557⟩

def k0_chk122 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx164_inb : ∀ (k0_t16 : Fin k0_t16_loop.trips) (v770 : IVec S16 32) (k0_hw122 : k0_chk122 k0_t16 v770), ∀ (k0_h5 : k0_cond5 k0_t16 = 1#1), ∀ a x, ((![v770] : Fin 1 → IVec S16 32) a x).toNat < S16.size a := fun k0_t16 v770 k0_hw122 k0_h5 => k0_hw122 k0_h5

def k0_chk123 (k0_t16 : Fin k0_t16_loop.trips) (v640 : IVec S16 32) : Prop :=
  (∀ (k0_h5 : k0_cond5 k0_t16 = 1#1), ∀ a x, ((![v640] : Fin 1 → IVec S16 32) a x).toNat < S16.size a) ∧
  (∀ (k0_h5 : k0_cond5 k0_t16 = 1#1), ∀ a x, ((![v640] : Fin 1 → IVec S16 32) a x).toNat < S16.size a)
theorem k0_idx165_inb : ∀ (k0_t16 : Fin k0_t16_loop.trips) (v640 : IVec S16 32) (k0_hw123 : k0_chk123 k0_t16 v640), ∀ (k0_h5 : k0_cond5 k0_t16 = 1#1), ∀ a x, ((![v640] : Fin 1 → IVec S16 32) a x).toNat < S16.size a := fun k0_t16 v640 k0_hw123 k0_h5 => k0_hw123.1 k0_h5
theorem k0_idx166_inb : ∀ (k0_t16 : Fin k0_t16_loop.trips) (v640 : IVec S16 32) (k0_hw123 : k0_chk123 k0_t16 v640), ∀ (k0_h5 : k0_cond5 k0_t16 = 1#1), ∀ a x, ((![v640] : Fin 1 → IVec S16 32) a x).toNat < S16.size a := fun k0_t16 v640 k0_hw123 k0_h5 => k0_hw123.2 k0_h5
def k0_off21 (k0_t16 : Fin k0_t16_loop.trips) : Fin 1 → Nat :=
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let c1_i32_437 : BitVec 32 := 1#32
  let v472 : BitVec 32 := Scalar.addi v410 c1_i32_437
  let c128_i32_561 : BitVec 32 := 128#32
  let v643 : BitVec 32 := Scalar.muli v472 c128_i32_561
  let c112_i32_562 : BitVec 32 := 112#32
  let v644 : BitVec 32 := Scalar.addi v643 c112_i32_562
  let v645 : Index := Scalar.indexCast v644
  ![v645.toNat]
@[reducible] def k0_t46_loop : Scf.Loop 32 :=
  let c0_i32_567 : BitVec 32 := 0#32
  let c15_i32_568 : BitVec 32 := 15#32
  let v653 : BitVec 32 := Scalar.addi c0_i32_567 c15_i32_568
  let c1_i32_569 : BitVec 32 := 1#32
  ⟨c0_i32_567, v653, c1_i32_569⟩

def k0_chk124 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx167_inb : ∀ (k0_t16 : Fin k0_t16_loop.trips) (v770 : IVec S16 32) (k0_hw124 : k0_chk124 k0_t16 v770), ∀ (k0_h5 : k0_cond5 k0_t16 = 1#1), ∀ a x, ((![v770] : Fin 1 → IVec S16 32) a x).toNat < S16.size a := fun k0_t16 v770 k0_hw124 k0_h5 => k0_hw124 k0_h5

def k0_chk125 (k0_t16 : Fin k0_t16_loop.trips) (v654 : IVec S16 32) : Prop :=
  (∀ (k0_h5 : k0_cond5 k0_t16 = 1#1), ∀ a x, ((![v654] : Fin 1 → IVec S16 32) a x).toNat < S16.size a) ∧
  (∀ (k0_h5 : k0_cond5 k0_t16 = 1#1), ∀ a x, ((![v654] : Fin 1 → IVec S16 32) a x).toNat < S16.size a)
theorem k0_idx168_inb : ∀ (k0_t16 : Fin k0_t16_loop.trips) (v654 : IVec S16 32) (k0_hw125 : k0_chk125 k0_t16 v654), ∀ (k0_h5 : k0_cond5 k0_t16 = 1#1), ∀ a x, ((![v654] : Fin 1 → IVec S16 32) a x).toNat < S16.size a := fun k0_t16 v654 k0_hw125 k0_h5 => k0_hw125.1 k0_h5
theorem k0_idx169_inb : ∀ (k0_t16 : Fin k0_t16_loop.trips) (v654 : IVec S16 32) (k0_hw125 : k0_chk125 k0_t16 v654), ∀ (k0_h5 : k0_cond5 k0_t16 = 1#1), ∀ a x, ((![v654] : Fin 1 → IVec S16 32) a x).toNat < S16.size a := fun k0_t16 v654 k0_hw125 k0_h5 => k0_hw125.2 k0_h5

def k0_chk126 (k0_t16 : Fin k0_t16_loop.trips) (v661 : IVec S16 32) : Prop :=
  (∀ (k0_h5 : k0_cond5 k0_t16 = 1#1), ∀ a x, ((![v661] : Fin 1 → IVec S16 32) a x).toNat < S16.size a)
theorem k0_idx170_inb : ∀ (k0_t16 : Fin k0_t16_loop.trips) (v661 : IVec S16 32) (k0_hw126 : k0_chk126 k0_t16 v661), ∀ (k0_h5 : k0_cond5 k0_t16 = 1#1), ∀ a x, ((![v661] : Fin 1 → IVec S16 32) a x).toNat < S16.size a := fun k0_t16 v661 k0_hw126 k0_h5 => k0_hw126 k0_h5

def k0_chk127 (k0_t16 : Fin k0_t16_loop.trips) (v664 : IVec S16 32) : Prop :=
  (∀ (k0_h5 : k0_cond5 k0_t16 = 1#1), ∀ a x, ((![v664] : Fin 1 → IVec S16 32) a x).toNat < S16.size a)
theorem k0_idx171_inb : ∀ (k0_t16 : Fin k0_t16_loop.trips) (v664 : IVec S16 32) (k0_hw127 : k0_chk127 k0_t16 v664), ∀ (k0_h5 : k0_cond5 k0_t16 = 1#1), ∀ a x, ((![v664] : Fin 1 → IVec S16 32) a x).toNat < S16.size a := fun k0_t16 v664 k0_hw127 k0_h5 => k0_hw127 k0_h5
@[reducible] def k0_t47_loop : Scf.Loop 32 :=
  let c0_i32_580 : BitVec 32 := 0#32
  let c15_i32_581 : BitVec 32 := 15#32
  let v677 : BitVec 32 := Scalar.addi c0_i32_580 c15_i32_581
  let c1_i32_582 : BitVec 32 := 1#32
  ⟨c0_i32_580, v677, c1_i32_582⟩

def k0_chk128 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx172_inb : ∀ (k0_t16 : Fin k0_t16_loop.trips) (v770 : IVec S16 32) (k0_hw128 : k0_chk128 k0_t16 v770), ∀ (k0_h5 : k0_cond5 k0_t16 = 1#1), ∀ a x, ((![v770] : Fin 1 → IVec S16 32) a x).toNat < S16.size a := fun k0_t16 v770 k0_hw128 k0_h5 => k0_hw128 k0_h5

def k0_chk129 (k0_t16 : Fin k0_t16_loop.trips) (v678 : IVec S16 32) : Prop :=
  (∀ (k0_h5 : k0_cond5 k0_t16 = 1#1), ∀ a x, ((![v678] : Fin 1 → IVec S16 32) a x).toNat < S16.size a) ∧
  (∀ (k0_h5 : k0_cond5 k0_t16 = 1#1), ∀ a x, ((![v678] : Fin 1 → IVec S16 32) a x).toNat < S16.size a)
theorem k0_idx173_inb : ∀ (k0_t16 : Fin k0_t16_loop.trips) (v678 : IVec S16 32) (k0_hw129 : k0_chk129 k0_t16 v678), ∀ (k0_h5 : k0_cond5 k0_t16 = 1#1), ∀ a x, ((![v678] : Fin 1 → IVec S16 32) a x).toNat < S16.size a := fun k0_t16 v678 k0_hw129 k0_h5 => k0_hw129.1 k0_h5
theorem k0_idx174_inb : ∀ (k0_t16 : Fin k0_t16_loop.trips) (v678 : IVec S16 32) (k0_hw129 : k0_chk129 k0_t16 v678), ∀ (k0_h5 : k0_cond5 k0_t16 = 1#1), ∀ a x, ((![v678] : Fin 1 → IVec S16 32) a x).toNat < S16.size a := fun k0_t16 v678 k0_hw129 k0_h5 => k0_hw129.2 k0_h5

def k0_chk130 (k0_t16 : Fin k0_t16_loop.trips) (v685 : IVec S16 32) : Prop :=
  (∀ (k0_h5 : k0_cond5 k0_t16 = 1#1), ∀ a x, ((![v685] : Fin 1 → IVec S16 32) a x).toNat < S16.size a)
theorem k0_idx175_inb : ∀ (k0_t16 : Fin k0_t16_loop.trips) (v685 : IVec S16 32) (k0_hw130 : k0_chk130 k0_t16 v685), ∀ (k0_h5 : k0_cond5 k0_t16 = 1#1), ∀ a x, ((![v685] : Fin 1 → IVec S16 32) a x).toNat < S16.size a := fun k0_t16 v685 k0_hw130 k0_h5 => k0_hw130 k0_h5

def k0_chk131 (k0_t16 : Fin k0_t16_loop.trips) (v688 : IVec S16 32) : Prop :=
  (∀ (k0_h5 : k0_cond5 k0_t16 = 1#1), ∀ a x, ((![v688] : Fin 1 → IVec S16 32) a x).toNat < S16.size a)
theorem k0_idx176_inb : ∀ (k0_t16 : Fin k0_t16_loop.trips) (v688 : IVec S16 32) (k0_hw131 : k0_chk131 k0_t16 v688), ∀ (k0_h5 : k0_cond5 k0_t16 = 1#1), ∀ a x, ((![v688] : Fin 1 → IVec S16 32) a x).toNat < S16.size a := fun k0_t16 v688 k0_hw131 k0_h5 => k0_hw131 k0_h5
@[reducible] def k0_t48_loop : Scf.Loop 32 :=
  let c0_i32_593 : BitVec 32 := 0#32
  let c15_i32_594 : BitVec 32 := 15#32
  let v701 : BitVec 32 := Scalar.addi c0_i32_593 c15_i32_594
  let c1_i32_595 : BitVec 32 := 1#32
  ⟨c0_i32_593, v701, c1_i32_595⟩

def k0_chk132 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx177_inb : ∀ (k0_t16 : Fin k0_t16_loop.trips) (v770 : IVec S16 32) (k0_hw132 : k0_chk132 k0_t16 v770), ∀ (k0_h5 : k0_cond5 k0_t16 = 1#1), ∀ a x, ((![v770] : Fin 1 → IVec S16 32) a x).toNat < S16.size a := fun k0_t16 v770 k0_hw132 k0_h5 => k0_hw132 k0_h5

def k0_chk133 (k0_t16 : Fin k0_t16_loop.trips) (v702 : IVec S16 32) : Prop :=
  (∀ (k0_h5 : k0_cond5 k0_t16 = 1#1), ∀ a x, ((![v702] : Fin 1 → IVec S16 32) a x).toNat < S16.size a) ∧
  (∀ (k0_h5 : k0_cond5 k0_t16 = 1#1), ∀ a x, ((![v702] : Fin 1 → IVec S16 32) a x).toNat < S16.size a)
theorem k0_idx178_inb : ∀ (k0_t16 : Fin k0_t16_loop.trips) (v702 : IVec S16 32) (k0_hw133 : k0_chk133 k0_t16 v702), ∀ (k0_h5 : k0_cond5 k0_t16 = 1#1), ∀ a x, ((![v702] : Fin 1 → IVec S16 32) a x).toNat < S16.size a := fun k0_t16 v702 k0_hw133 k0_h5 => k0_hw133.1 k0_h5
theorem k0_idx179_inb : ∀ (k0_t16 : Fin k0_t16_loop.trips) (v702 : IVec S16 32) (k0_hw133 : k0_chk133 k0_t16 v702), ∀ (k0_h5 : k0_cond5 k0_t16 = 1#1), ∀ a x, ((![v702] : Fin 1 → IVec S16 32) a x).toNat < S16.size a := fun k0_t16 v702 k0_hw133 k0_h5 => k0_hw133.2 k0_h5

def k0_chk134 (k0_t16 : Fin k0_t16_loop.trips) (v709 : IVec S16 32) : Prop :=
  (∀ (k0_h5 : k0_cond5 k0_t16 = 1#1), ∀ a x, ((![v709] : Fin 1 → IVec S16 32) a x).toNat < S16.size a)
theorem k0_idx180_inb : ∀ (k0_t16 : Fin k0_t16_loop.trips) (v709 : IVec S16 32) (k0_hw134 : k0_chk134 k0_t16 v709), ∀ (k0_h5 : k0_cond5 k0_t16 = 1#1), ∀ a x, ((![v709] : Fin 1 → IVec S16 32) a x).toNat < S16.size a := fun k0_t16 v709 k0_hw134 k0_h5 => k0_hw134 k0_h5

def k0_chk135 (k0_t16 : Fin k0_t16_loop.trips) (v712 : IVec S16 32) : Prop :=
  (∀ (k0_h5 : k0_cond5 k0_t16 = 1#1), ∀ a x, ((![v712] : Fin 1 → IVec S16 32) a x).toNat < S16.size a)
theorem k0_idx181_inb : ∀ (k0_t16 : Fin k0_t16_loop.trips) (v712 : IVec S16 32) (k0_hw135 : k0_chk135 k0_t16 v712), ∀ (k0_h5 : k0_cond5 k0_t16 = 1#1), ∀ a x, ((![v712] : Fin 1 → IVec S16 32) a x).toNat < S16.size a := fun k0_t16 v712 k0_hw135 k0_h5 => k0_hw135 k0_h5
@[reducible] def k0_t49_loop : Scf.Loop 32 :=
  let c0_i32_606 : BitVec 32 := 0#32
  let c15_i32_607 : BitVec 32 := 15#32
  let v725 : BitVec 32 := Scalar.addi c0_i32_606 c15_i32_607
  let c1_i32_608 : BitVec 32 := 1#32
  ⟨c0_i32_606, v725, c1_i32_608⟩

def k0_chk136 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx182_inb : ∀ (k0_t16 : Fin k0_t16_loop.trips) (v770 : IVec S16 32) (k0_hw136 : k0_chk136 k0_t16 v770), ∀ (k0_h5 : k0_cond5 k0_t16 = 1#1), ∀ a x, ((![v770] : Fin 1 → IVec S16 32) a x).toNat < S16.size a := fun k0_t16 v770 k0_hw136 k0_h5 => k0_hw136 k0_h5

def k0_chk137 (k0_t16 : Fin k0_t16_loop.trips) (v726 : IVec S16 32) : Prop :=
  (∀ (k0_h5 : k0_cond5 k0_t16 = 1#1), ∀ a x, ((![v726] : Fin 1 → IVec S16 32) a x).toNat < S16.size a) ∧
  (∀ (k0_h5 : k0_cond5 k0_t16 = 1#1), ∀ a x, ((![v726] : Fin 1 → IVec S16 32) a x).toNat < S16.size a)
theorem k0_idx183_inb : ∀ (k0_t16 : Fin k0_t16_loop.trips) (v726 : IVec S16 32) (k0_hw137 : k0_chk137 k0_t16 v726), ∀ (k0_h5 : k0_cond5 k0_t16 = 1#1), ∀ a x, ((![v726] : Fin 1 → IVec S16 32) a x).toNat < S16.size a := fun k0_t16 v726 k0_hw137 k0_h5 => k0_hw137.1 k0_h5
theorem k0_idx184_inb : ∀ (k0_t16 : Fin k0_t16_loop.trips) (v726 : IVec S16 32) (k0_hw137 : k0_chk137 k0_t16 v726), ∀ (k0_h5 : k0_cond5 k0_t16 = 1#1), ∀ a x, ((![v726] : Fin 1 → IVec S16 32) a x).toNat < S16.size a := fun k0_t16 v726 k0_hw137 k0_h5 => k0_hw137.2 k0_h5

def k0_chk138 (k0_t16 : Fin k0_t16_loop.trips) (v733 : IVec S16 32) : Prop :=
  (∀ (k0_h5 : k0_cond5 k0_t16 = 1#1), ∀ a x, ((![v733] : Fin 1 → IVec S16 32) a x).toNat < S16.size a)
theorem k0_idx185_inb : ∀ (k0_t16 : Fin k0_t16_loop.trips) (v733 : IVec S16 32) (k0_hw138 : k0_chk138 k0_t16 v733), ∀ (k0_h5 : k0_cond5 k0_t16 = 1#1), ∀ a x, ((![v733] : Fin 1 → IVec S16 32) a x).toNat < S16.size a := fun k0_t16 v733 k0_hw138 k0_h5 => k0_hw138 k0_h5

def k0_chk139 (k0_t16 : Fin k0_t16_loop.trips) (v736 : IVec S16 32) : Prop :=
  (∀ (k0_h5 : k0_cond5 k0_t16 = 1#1), ∀ a x, ((![v736] : Fin 1 → IVec S16 32) a x).toNat < S16.size a)
theorem k0_idx186_inb : ∀ (k0_t16 : Fin k0_t16_loop.trips) (v736 : IVec S16 32) (k0_hw139 : k0_chk139 k0_t16 v736), ∀ (k0_h5 : k0_cond5 k0_t16 = 1#1), ∀ a x, ((![v736] : Fin 1 → IVec S16 32) a x).toNat < S16.size a := fun k0_t16 v736 k0_hw139 k0_h5 => k0_hw139 k0_h5
@[reducible] def k0_t50_loop : Scf.Loop 32 :=
  let c0_i32_619 : BitVec 32 := 0#32
  let c15_i32_620 : BitVec 32 := 15#32
  let v749 : BitVec 32 := Scalar.addi c0_i32_619 c15_i32_620
  let c1_i32_621 : BitVec 32 := 1#32
  ⟨c0_i32_619, v749, c1_i32_621⟩

def k0_chk140 (k0_t16 : Fin k0_t16_loop.trips) (v770 : IVec S16 32) : Prop :=
  (∀ (k0_h5 : k0_cond5 k0_t16 = 1#1), ∀ a x, ((![v770] : Fin 1 → IVec S16 32) a x).toNat < S16.size a)
theorem k0_idx187_inb : ∀ (k0_t16 : Fin k0_t16_loop.trips) (v770 : IVec S16 32) (k0_hw140 : k0_chk140 k0_t16 v770), ∀ (k0_h5 : k0_cond5 k0_t16 = 1#1), ∀ a x, ((![v770] : Fin 1 → IVec S16 32) a x).toNat < S16.size a := fun k0_t16 v770 k0_hw140 k0_h5 => k0_hw140 k0_h5

def k0_chk141 (k0_t16 : Fin k0_t16_loop.trips) (v750 : IVec S16 32) : Prop :=
  (∀ (k0_h5 : k0_cond5 k0_t16 = 1#1), ∀ a x, ((![v750] : Fin 1 → IVec S16 32) a x).toNat < S16.size a) ∧
  (∀ (k0_h5 : k0_cond5 k0_t16 = 1#1), ∀ a x, ((![v750] : Fin 1 → IVec S16 32) a x).toNat < S16.size a)
theorem k0_idx188_inb : ∀ (k0_t16 : Fin k0_t16_loop.trips) (v750 : IVec S16 32) (k0_hw141 : k0_chk141 k0_t16 v750), ∀ (k0_h5 : k0_cond5 k0_t16 = 1#1), ∀ a x, ((![v750] : Fin 1 → IVec S16 32) a x).toNat < S16.size a := fun k0_t16 v750 k0_hw141 k0_h5 => k0_hw141.1 k0_h5
theorem k0_idx189_inb : ∀ (k0_t16 : Fin k0_t16_loop.trips) (v750 : IVec S16 32) (k0_hw141 : k0_chk141 k0_t16 v750), ∀ (k0_h5 : k0_cond5 k0_t16 = 1#1), ∀ a x, ((![v750] : Fin 1 → IVec S16 32) a x).toNat < S16.size a := fun k0_t16 v750 k0_hw141 k0_h5 => k0_hw141.2 k0_h5
@[reducible] def k0_t51_loop : Scf.Loop 32 :=
  let c0_i32_389 : BitVec 32 := 0#32
  let c15_i32_390 : BitVec 32 := 15#32
  let v428 : BitVec 32 := Scalar.addi c0_i32_389 c15_i32_390
  let c1_i32_391 : BitVec 32 := 1#32
  ⟨c0_i32_389, v428, c1_i32_391⟩

def k0_chk142 (v476 : IVec S16 32) : Prop :=
  (∀ a x, ((![v476] : Fin 1 → IVec S16 32) a x).toNat < S16.size a)
theorem k0_idx190_inb : ∀ (v476 : IVec S16 32) (k0_hw142 : k0_chk142 v476), ∀ a x, ((![v476] : Fin 1 → IVec S16 32) a x).toNat < S16.size a := fun v476 k0_hw142 => k0_hw142

def k0_chk143 (v429 : IVec S16 32) : Prop :=
  (∀ a x, ((![v429] : Fin 1 → IVec S16 32) a x).toNat < S16.size a) ∧
  (∀ a x, ((![v429] : Fin 1 → IVec S16 32) a x).toNat < S16.size a)
theorem k0_idx191_inb : ∀ (v429 : IVec S16 32) (k0_hw143 : k0_chk143 v429), ∀ a x, ((![v429] : Fin 1 → IVec S16 32) a x).toNat < S16.size a := fun v429 k0_hw143 => k0_hw143.1
theorem k0_idx192_inb : ∀ (v429 : IVec S16 32) (k0_hw143 : k0_chk143 v429), ∀ a x, ((![v429] : Fin 1 → IVec S16 32) a x).toNat < S16.size a := fun v429 k0_hw143 => k0_hw143.2
@[reducible] def k0_t52_loop : Scf.Loop 32 :=
  let c1_i32_396 : BitVec 32 := 1#32
  let c63_i32_397 : BitVec 32 := 63#32
  let v434 : BitVec 32 := Scalar.addi c1_i32_396 c63_i32_397
  let c1_i32_398 : BitVec 32 := 1#32
  ⟨c1_i32_396, v434, c1_i32_398⟩
def k0_off22 (k0_t52 : Fin k0_t52_loop.trips) : Fin 2 → Nat :=
  let c1_i32_396 : BitVec 32 := 1#32
  let c1_i32_398 : BitVec 32 := 1#32
  let arg34 : BitVec 32 := Scf.iv c1_i32_396 c1_i32_398 k0_t52
  let c2_i32_438 : BitVec 32 := 2#32
  let v473 : BitVec 32 := Scalar.shrsi arg34 c2_i32_438
  let v478 : Index := Scalar.indexCast v473
  let c3_i32 : BitVec 32 := 3#32
  let v474 : BitVec 32 := Scalar.andi arg34 c3_i32
  let c16_i32_439 : BitVec 32 := 16#32
  let v475 : BitVec 32 := Scalar.muli v474 c16_i32_439
  let v479 : Index := Scalar.indexCast v475
  ![v478.toNat, v479.toNat]
@[reducible] def k0_t53_loop : Scf.Loop 32 :=
  let c0_i32_449 : BitVec 32 := 0#32
  let c15_i32_450 : BitVec 32 := 15#32
  let v502 : BitVec 32 := Scalar.addi c0_i32_449 c15_i32_450
  let c1_i32_451 : BitVec 32 := 1#32
  ⟨c0_i32_449, v502, c1_i32_451⟩
def k0_cond6 (v491 : BitVec 32) : BitVec 1 :=
  let c0_i32_444 : BitVec 32 := 0#32
  let v492 : BitVec 1 := Scalar.cmpi .sgt v491 c0_i32_444
  let v493 : BitVec 32 := Scalar.extui v492
  let c0_i32_445 : BitVec 32 := 0#32
  let v494 : BitVec 1 := Scalar.cmpi .ne v493 c0_i32_445
  v494

def k0_chk144 (v491 : BitVec 32) (v536 : IVec S16 32) : Prop :=
  (∀ (k0_h6 : k0_cond6 v491 = 1#1), ∀ a x, ((![v536] : Fin 1 → IVec S16 32) a x).toNat < S16.size a)
theorem k0_idx193_inb : ∀ (v491 : BitVec 32) (v536 : IVec S16 32) (k0_hw144 : k0_chk144 v491 v536), ∀ (k0_h6 : k0_cond6 v491 = 1#1), ∀ a x, ((![v536] : Fin 1 → IVec S16 32) a x).toNat < S16.size a := fun v491 v536 k0_hw144 k0_h6 => k0_hw144 k0_h6

def k0_chk145 (v491 : BitVec 32) (v503 : IVec S16 32) : Prop :=
  (∀ (k0_h6 : k0_cond6 v491 = 1#1), ∀ a x, ((![v503] : Fin 1 → IVec S16 32) a x).toNat < S16.size a) ∧
  (∀ (k0_h6 : k0_cond6 v491 = 1#1), ∀ a x, ((![v503] : Fin 1 → IVec S16 32) a x).toNat < S16.size a)
theorem k0_idx194_inb : ∀ (v491 : BitVec 32) (v503 : IVec S16 32) (k0_hw145 : k0_chk145 v491 v503), ∀ (k0_h6 : k0_cond6 v491 = 1#1), ∀ a x, ((![v503] : Fin 1 → IVec S16 32) a x).toNat < S16.size a := fun v491 v503 k0_hw145 k0_h6 => k0_hw145.1 k0_h6
theorem k0_idx195_inb : ∀ (v491 : BitVec 32) (v503 : IVec S16 32) (k0_hw145 : k0_chk145 v491 v503), ∀ (k0_h6 : k0_cond6 v491 = 1#1), ∀ a x, ((![v503] : Fin 1 → IVec S16 32) a x).toNat < S16.size a := fun v491 v503 k0_hw145 k0_h6 => k0_hw145.2 k0_h6

def k0_chk146 (v491 : BitVec 32) (v510 : IVec S16 32) : Prop :=
  (∀ (k0_h6 : k0_cond6 v491 = 1#1), ∀ a x, ((![v510] : Fin 1 → IVec S16 32) a x).toNat < S16.size a)
theorem k0_idx196_inb : ∀ (v491 : BitVec 32) (v510 : IVec S16 32) (k0_hw146 : k0_chk146 v491 v510), ∀ (k0_h6 : k0_cond6 v491 = 1#1), ∀ a x, ((![v510] : Fin 1 → IVec S16 32) a x).toNat < S16.size a := fun v491 v510 k0_hw146 k0_h6 => k0_hw146 k0_h6

def k0_chk147 (v491 : BitVec 32) (v513 : IVec S16 32) : Prop :=
  (∀ (k0_h6 : k0_cond6 v491 = 1#1), ∀ a x, ((![v513] : Fin 1 → IVec S16 32) a x).toNat < S16.size a)
theorem k0_idx197_inb : ∀ (v491 : BitVec 32) (v513 : IVec S16 32) (k0_hw147 : k0_chk147 v491 v513), ∀ (k0_h6 : k0_cond6 v491 = 1#1), ∀ a x, ((![v513] : Fin 1 → IVec S16 32) a x).toNat < S16.size a := fun v491 v513 k0_hw147 k0_h6 => k0_hw147 k0_h6
@[reducible] def k0_t54_loop : Scf.Loop 32 :=
  let c0_i32_462 : BitVec 32 := 0#32
  let c15_i32_463 : BitVec 32 := 15#32
  let v526 : BitVec 32 := Scalar.addi c0_i32_462 c15_i32_463
  let c1_i32_464 : BitVec 32 := 1#32
  ⟨c0_i32_462, v526, c1_i32_464⟩

def k0_chk148 (v491 : BitVec 32) (v536 : IVec S16 32) : Prop :=
  (∀ (k0_h6 : k0_cond6 v491 = 1#1), ∀ a x, ((![v536] : Fin 1 → IVec S16 32) a x).toNat < S16.size a)
theorem k0_idx198_inb : ∀ (v491 : BitVec 32) (v536 : IVec S16 32) (k0_hw148 : k0_chk148 v491 v536), ∀ (k0_h6 : k0_cond6 v491 = 1#1), ∀ a x, ((![v536] : Fin 1 → IVec S16 32) a x).toNat < S16.size a := fun v491 v536 k0_hw148 k0_h6 => k0_hw148 k0_h6

def k0_chk149 (v491 : BitVec 32) (v527 : IVec S16 32) : Prop :=
  (∀ (k0_h6 : k0_cond6 v491 = 1#1), ∀ a x, ((![v527] : Fin 1 → IVec S16 32) a x).toNat < S16.size a) ∧
  (∀ (k0_h6 : k0_cond6 v491 = 1#1), ∀ a x, ((![v527] : Fin 1 → IVec S16 32) a x).toNat < S16.size a)
theorem k0_idx199_inb : ∀ (v491 : BitVec 32) (v527 : IVec S16 32) (k0_hw149 : k0_chk149 v491 v527), ∀ (k0_h6 : k0_cond6 v491 = 1#1), ∀ a x, ((![v527] : Fin 1 → IVec S16 32) a x).toNat < S16.size a := fun v491 v527 k0_hw149 k0_h6 => k0_hw149.1 k0_h6
theorem k0_idx200_inb : ∀ (v491 : BitVec 32) (v527 : IVec S16 32) (k0_hw149 : k0_chk149 v491 v527), ∀ (k0_h6 : k0_cond6 v491 = 1#1), ∀ a x, ((![v527] : Fin 1 → IVec S16 32) a x).toNat < S16.size a := fun v491 v527 k0_hw149 k0_h6 => k0_hw149.2 k0_h6

def k0_chk150 (v437 : IVec S16 32) : Prop :=
  (∀ a x, ((![v437] : Fin 1 → IVec S16 32) a x).toNat < S16.size a)
theorem k0_idx201_inb : ∀ (v437 : IVec S16 32) (k0_hw150 : k0_chk150 v437), ∀ a x, ((![v437] : Fin 1 → IVec S16 32) a x).toNat < S16.size a := fun v437 k0_hw150 => k0_hw150
def k0_off23 (k0_t16 : Fin k0_t16_loop.trips) : Fin 1 → Nat :=
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let c16_i32_405 : BitVec 32 := 16#32
  let v446 : BitVec 32 := Scalar.muli v410 c16_i32_405
  let v447 : Index := Scalar.indexCast v446
  ![v447.toNat]
def k0_cond7 (k0_t16 : Fin k0_t16_loop.trips) : BitVec 1 :=
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let c1_i32_406 : BitVec 32 := 1#32
  let v449 : BitVec 1 := Scalar.cmpi .sge v410 c1_i32_406
  let v450 : BitVec 32 := Scalar.extui v449
  let c0_i32_407 : BitVec 32 := 0#32
  let v451 : BitVec 1 := Scalar.cmpi .ne v450 c0_i32_407
  v451

def k0_off24 (i : grid0.Coords) (k0_t16 : Fin k0_t16_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let v487 : BitVec 32 := Scalar.addi v2 v410
  let c1_i32_462 : BitVec 32 := 1#32
  let v488 : BitVec 32 := Scalar.subi v487 c1_i32_462
  let c16_i32_463 : BitVec 32 := 16#32
  let v489 : BitVec 32 := Scalar.muli v488 c16_i32_463
  let c0_i32_468 : BitVec 32 := 0#32
  let c0_i32_469 : BitVec 32 := 0#32
  ![v489.toNat, 0, 0]
def k0_off25 (i : grid0.Coords) (k0_t16 : Fin k0_t16_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_369 : BitVec 32 := 2#32
  let c0_i32_174 : BitVec 32 := 0#32
  let c1_i32_176 : BitVec 32 := 1#32
  let arg33 : BitVec 32 := Scf.iv c0_i32_174 c1_i32_176 k0_t16
  let v409 : BitVec 32 := Scalar.muli c2_i32_369 arg33
  let c1_i32_370 : BitVec 32 := 1#32
  let v410 : BitVec 32 := Scalar.addi v409 c1_i32_370
  let v487 : BitVec 32 := Scalar.addi v2 v410
  let c1_i32_462 : BitVec 32 := 1#32
  let v488 : BitVec 32 := Scalar.subi v487 c1_i32_462
  let c16_i32_463 : BitVec 32 := 16#32
  let v489 : BitVec 32 := Scalar.muli v488 c16_i32_463
  let c0_i32_489 : BitVec 32 := 0#32
  ![v489.toNat, 0]
def k0_off26 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c255_i32 : BitVec 32 := 255#32
  let v290 : BitVec 32 := Scalar.addi v2 c255_i32
  let c16_i32_203 : BitVec 32 := 16#32
  let v291 : BitVec 32 := Scalar.muli v290 c16_i32_203
  let c0_i32_208 : BitVec 32 := 0#32
  let c0_i32_209 : BitVec 32 := 0#32
  ![v291.toNat, 0, 0]
def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c255_i32 : BitVec 32 := 255#32
  let v290 : BitVec 32 := Scalar.addi v2 c255_i32
  let c16_i32_203 : BitVec 32 := 16#32
  let v291 : BitVec 32 := Scalar.muli v290 c16_i32_203
  let c0_i32_229 : BitVec 32 := 0#32
  ![v291.toNat, 0]
def k0_off28 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c16_i32_303 : BitVec 32 := 16#32
  let v346 : BitVec 32 := Scalar.muli v2 c16_i32_303
  ![v346.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x8192 : Shape := ⟨2, ![8192, 8192]⟩
abbrev S8192x256 : Shape := ⟨2, ![8192, 256]⟩
abbrev S8192x3 : Shape := ⟨2, ![8192, 3]⟩
abbrev S8192x16 : Shape := ⟨2, ![8192, 16]⟩
abbrev S131072 : Shape := ⟨1, ![131072]⟩
abbrev S_ : Shape := ⟨0, ![]⟩
abbrev S131072x1 : Shape := ⟨2, ![131072, 1]⟩
abbrev S131072x256 : Shape := ⟨2, ![131072, 256]⟩
abbrev S131072x2x128 : Shape := ⟨3, ![131072, 2, 128]⟩
abbrev S131072x3 : Shape := ⟨2, ![131072, 3]⟩
abbrev S131072x128 : Shape := ⟨2, ![131072, 128]⟩

abbrev nBuf : Space → Nat
  | .hbm => 40
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S8192x256, .f32⟩
  | .hbm, ⟨3, _⟩ => ⟨S8192x3, .f32⟩
  | .hbm, ⟨4, _⟩ => ⟨S8192x8192, .f32⟩
  | .hbm, ⟨5, _⟩ => ⟨S8192x16, .f32⟩
  | .hbm, ⟨6, _⟩ => ⟨S8192x16, .i32⟩
  | .hbm, ⟨7, _⟩ => ⟨S131072, .i32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S131072x1, .i32⟩
  | .hbm, ⟨16, _⟩ => ⟨S131072x256, .f32⟩
  | .hbm, ⟨17, _⟩ => ⟨S131072x2x128, .f32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x256, .f32⟩
  | .hbm, ⟨27, _⟩ => ⟨S131072x2x128, .f32⟩
  | .hbm, ⟨28, _⟩ => ⟨S_, .i32⟩
  | .hbm, ⟨29, _⟩ => ⟨S131072, .i32⟩
  | .hbm, ⟨30, _⟩ => ⟨S131072, .i1⟩
  | .hbm, ⟨31, _⟩ => ⟨S_, .i32⟩
  | .hbm, ⟨32, _⟩ => ⟨S131072, .i32⟩
  | .hbm, ⟨33, _⟩ => ⟨S131072, .i32⟩
  | .hbm, ⟨34, _⟩ => ⟨S131072, .i32⟩
  | .hbm, ⟨35, _⟩ => ⟨S131072x1, .i32⟩
  | .hbm, ⟨36, _⟩ => ⟨S131072x3, .f32⟩
  | .hbm, ⟨37, _⟩ => ⟨S_, .i32⟩
  | .hbm, ⟨38, _⟩ => ⟨S_, .f32⟩
  | .hbm, ⟨39, _⟩ => ⟨S131072x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_call0_v0 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Combine.lean ====
abbrev S8192x16x32 : Shape := ⟨3, ![8192, 16, 32]⟩
abbrev S8192x16x256 : Shape := ⟨3, ![8192, 16, 256]⟩
abbrev S8192x16 : Shape := ⟨2, ![8192, 16]⟩
abbrev S3x256 : Shape := ⟨2, ![3, 256]⟩
abbrev S256 : Shape := ⟨1, ![256]⟩
abbrev S2x3 : Shape := ⟨2, ![2, 3]⟩
abbrev S2x32 : Shape := ⟨2, ![2, 32]⟩
abbrev S32x32 : Shape := ⟨2, ![32, 32]⟩
abbrev S32 : Shape := ⟨1, ![32]⟩
abbrev S8192x256 : Shape := ⟨2, ![8192, 256]⟩
abbrev S256x16x32 : Shape := ⟨3, ![256, 16, 32]⟩
abbrev S256x16x256 : Shape := ⟨3, ![256, 16, 256]⟩
abbrev S256x16 : Shape := ⟨2, ![256, 16]⟩
abbrev S256x256 : Shape := ⟨2, ![256, 256]⟩
abbrev S4096x32 : Shape := ⟨2, ![4096, 32]⟩
abbrev S1x32 : Shape := ⟨2, ![1, 32]⟩
abbrev S256x32 : Shape := ⟨2, ![256, 32]⟩
abbrev S256x1x32 : Shape := ⟨3, ![256, 1, 32]⟩
abbrev S1x1x256 : Shape := ⟨3, ![1, 1, 256]⟩
abbrev S1x1 : Shape := ⟨2, ![1, 1]⟩
abbrev S256x16x1 : Shape := ⟨3, ![256, 16, 1]⟩
abbrev S1x256 : Shape := ⟨2, ![1, 256]⟩
abbrev S4096x256 : Shape := ⟨2, ![4096, 256]⟩
abbrev S256x16x8x32 : Shape := ⟨4, ![256, 16, 8, 32]⟩
abbrev S256x16x1x32 : Shape := ⟨4, ![256, 16, 1, 32]⟩
abbrev S256x8x32 : Shape := ⟨3, ![256, 8, 32]⟩

abbrev nBuf : Space → Nat
  | .hbm => 12
  | .vmem => 18
  | .smem => 0
  | _ => 0

abbrev bufTy : (tb : Table) → Fin (tcTables nBuf tb) → BufTy
  | .hbm, ⟨0, _⟩ => ⟨S8192x16x32, .f32⟩
  | .hbm, ⟨1, _⟩ => ⟨S8192x16x256, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S3x256, .f32⟩
  | .hbm, ⟨6, _⟩ => ⟨S256, .f32⟩
  | .hbm, ⟨7, _⟩ => ⟨S2x3, .f32⟩
  | .hbm, ⟨8, _⟩ => ⟨S2x32, .f32⟩
  | .hbm, ⟨9, _⟩ => ⟨S32x32, .f32⟩
  | .hbm, ⟨10, _⟩ => ⟨S32, .f32⟩
  | .hbm, ⟨11, _⟩ => ⟨S8192x256, .f32⟩
  | .local _ .vmem, ⟨0, _⟩ => ⟨S256x16x32, .f32⟩
  | .local _ .vmem, ⟨1, _⟩ => ⟨S256x16x32, .f32⟩
  | .local _ .vmem, ⟨2, _⟩ => ⟨S256x16x256, .f32⟩
  | .local _ .vmem, ⟨3, _⟩ => ⟨S256x16x256, .f32⟩
  | .local _ .vmem, ⟨4, _⟩ => ⟨S256x16, .f32⟩
  | .local _ .vmem, ⟨5, _⟩ => ⟨S256x16, .f32⟩
  | .local _ .vmem, ⟨6, _⟩ => ⟨S256x16, .f32⟩
  | .local _ .vmem, ⟨7, _⟩ => ⟨S256x16, .f32⟩
  | .local _ .vmem, ⟨8, _⟩ => ⟨S256x16, .f32⟩
  | .local _ .vmem, ⟨9, _⟩ => ⟨S256x16, .f32⟩
  | .local _ .vmem, ⟨10, _⟩ => ⟨S3x256, .f32⟩
  | .local _ .vmem, ⟨11, _⟩ => ⟨S256, .f32⟩
  | .local _ .vmem, ⟨12, _⟩ => ⟨S2x3, .f32⟩
  | .local _ .vmem, ⟨13, _⟩ => ⟨S2x32, .f32⟩
  | .local _ .vmem, ⟨14, _⟩ => ⟨S32x32, .f32⟩
  | .local _ .vmem, ⟨15, _⟩ => ⟨S32, .f32⟩
  | .local _ .vmem, ⟨16, _⟩ => ⟨S256x256, .f32⟩
  | .local _ .vmem, ⟨17, _⟩ => ⟨S256x256, .f32⟩
  | _, _ => ⟨S8192x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== CombineReferenceIdeal.lean ====
abbrev S8192x16x32 : Shape := ⟨3, ![8192, 16, 32]⟩
abbrev S8192x16x256 : Shape := ⟨3, ![8192, 16, 256]⟩
abbrev S8192x16 : Shape := ⟨2, ![8192, 16]⟩
abbrev S3x256 : Shape := ⟨2, ![3, 256]⟩
abbrev S256 : Shape := ⟨1, ![256]⟩
abbrev S2x3 : Shape := ⟨2, ![2, 3]⟩
abbrev S2x32 : Shape := ⟨2, ![2, 32]⟩
abbrev S32x32 : Shape := ⟨2, ![32, 32]⟩
abbrev S32 : Shape := ⟨1, ![32]⟩
abbrev S8192x16x1 : Shape := ⟨3, ![8192, 16, 1]⟩
abbrev S8192x16x3 : Shape := ⟨3, ![8192, 16, 3]⟩
abbrev S1x3 : Shape := ⟨2, ![1, 3]⟩
abbrev S3 : Shape := ⟨1, ![3]⟩
abbrev S1x1x3 : Shape := ⟨3, ![1, 1, 3]⟩
abbrev S_ : Shape := ⟨0, ![]⟩
abbrev S1x1x256 : Shape := ⟨3, ![1, 1, 256]⟩
abbrev S1x32 : Shape := ⟨2, ![1, 32]⟩
abbrev S1x1x32 : Shape := ⟨3, ![1, 1, 32]⟩
abbrev S8192x32 : Shape := ⟨2, ![8192, 32]⟩
abbrev S8192x1x32 : Shape := ⟨3, ![8192, 1, 32]⟩
abbrev S8192x16x8x32 : Shape := ⟨4, ![8192, 16, 8, 32]⟩
abbrev S8192x16x1x32 : Shape := ⟨4, ![8192, 16, 1, 32]⟩
abbrev S8192x8x32 : Shape := ⟨3, ![8192, 8, 32]⟩
abbrev S8192x256 : Shape := ⟨2, ![8192, 256]⟩

abbrev nBuf : Space → Nat
  | .hbm => 72
  | .vmem => 0
  | .smem => 0
  | _ => 0

abbrev bufTy : (tb : Table) → Fin (tcTables nBuf tb) → BufTy
  | .hbm, ⟨0, _⟩ => ⟨S8192x16x32, .f32⟩
  | .hbm, ⟨1, _⟩ => ⟨S8192x16x256, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S3x256, .f32⟩
  | .hbm, ⟨6, _⟩ => ⟨S256, .f32⟩
  | .hbm, ⟨7, _⟩ => ⟨S2x3, .f32⟩
  | .hbm, ⟨8, _⟩ => ⟨S2x32, .f32⟩
  | .hbm, ⟨9, _⟩ => ⟨S32x32, .f32⟩
  | .hbm, ⟨10, _⟩ => ⟨S32, .f32⟩
  | .hbm, ⟨11, _⟩ => ⟨S8192x16x1, .f32⟩
  | .hbm, ⟨12, _⟩ => ⟨S8192x16x1, .f32⟩
  | .hbm, ⟨13, _⟩ => ⟨S8192x16x1, .f32⟩
  | .hbm, ⟨14, _⟩ => ⟨S8192x16x3, .f32⟩
  | .hbm, ⟨15, _⟩ => ⟨S1x3, .f32⟩
  | .hbm, ⟨16, _⟩ => ⟨S3, .f32⟩
  | .hbm, ⟨17, _⟩ => ⟨S1x1x3, .f32⟩
  | .hbm, ⟨18, _⟩ => ⟨S8192x16x3, .f32⟩
  | .hbm, ⟨19, _⟩ => ⟨S8192x16x3, .f32⟩
  | .hbm, ⟨20, _⟩ => ⟨S1x3, .f32⟩
  | .hbm, ⟨21, _⟩ => ⟨S3, .f32⟩
  | .hbm, ⟨22, _⟩ => ⟨S1x1x3, .f32⟩
  | .hbm, ⟨23, _⟩ => ⟨S8192x16x3, .f32⟩
  | .hbm, ⟨24, _⟩ => ⟨S8192x16x3, .f32⟩
  | .hbm, ⟨25, _⟩ => ⟨S_, .f32⟩
  | .hbm, ⟨26, _⟩ => ⟨S8192x16x3, .f32⟩
  | .hbm, ⟨27, _⟩ => ⟨S8192x16x3, .f32⟩
  | .hbm, ⟨28, _⟩ => ⟨S8192x16x256, .f32⟩
  | .hbm, ⟨29, _⟩ => ⟨S1x1x256, .f32⟩
  | .hbm, ⟨30, _⟩ => ⟨S8192x16x256, .f32⟩
  | .hbm, ⟨31, _⟩ => ⟨S8192x16x256, .f32⟩
  | .hbm, ⟨32, _⟩ => ⟨S1x32, .f32⟩
  | .hbm, ⟨33, _⟩ => ⟨S32, .f32⟩
  | .hbm, ⟨34, _⟩ => ⟨S1x1x32, .f32⟩
  | .hbm, ⟨35, _⟩ => ⟨S8192x16x32, .f32⟩
  | .hbm, ⟨36, _⟩ => ⟨S8192x16x32, .f32⟩
  | .hbm, ⟨37, _⟩ => ⟨S1x32, .f32⟩
  | .hbm, ⟨38, _⟩ => ⟨S32, .f32⟩
  | .hbm, ⟨39, _⟩ => ⟨S1x1x32, .f32⟩
  | .hbm, ⟨40, _⟩ => ⟨S8192x16x32, .f32⟩
  | .hbm, ⟨41, _⟩ => ⟨S8192x16x32, .f32⟩
  | .hbm, ⟨42, _⟩ => ⟨S_, .f32⟩
  | .hbm, ⟨43, _⟩ => ⟨S8192x16x32, .f32⟩
  | .hbm, ⟨44, _⟩ => ⟨S8192x16x32, .f32⟩
  | .hbm, ⟨45, _⟩ => ⟨S32x32, .f32⟩
  | .hbm, ⟨46, _⟩ => ⟨S8192x16x32, .f32⟩
  | .hbm, ⟨47, _⟩ => ⟨S1x1x32, .f32⟩
  | .hbm, ⟨48, _⟩ => ⟨S8192x16x32, .f32⟩
  | .hbm, ⟨49, _⟩ => ⟨S8192x16x32, .f32⟩
  | .hbm, ⟨50, _⟩ => ⟨S_, .f32⟩
  | .hbm, ⟨51, _⟩ => ⟨S8192x32, .f32⟩
  | .hbm, ⟨52, _⟩ => ⟨S_, .f32⟩
  | .hbm, ⟨53, _⟩ => ⟨S8192x32, .f32⟩
  | .hbm, ⟨54, _⟩ => ⟨S8192x32, .f32⟩
  | .hbm, ⟨55, _⟩ => ⟨S8192x1x32, .f32⟩
  | .hbm, ⟨56, _⟩ => ⟨S8192x16x32, .f32⟩
  | .hbm, ⟨57, _⟩ => ⟨S8192x16x32, .f32⟩
  | .hbm, ⟨58, _⟩ => ⟨S8192x16x32, .f32⟩
  | .hbm, ⟨59, _⟩ => ⟨S_, .f32⟩
  | .hbm, ⟨60, _⟩ => ⟨S8192x32, .f32⟩
  | .hbm, ⟨61, _⟩ => ⟨S8192x1x32, .f32⟩
  | .hbm, ⟨62, _⟩ => ⟨S8192x16x32, .f32⟩
  | .hbm, ⟨63, _⟩ => ⟨S8192x16x32, .f32⟩
  | .hbm, ⟨64, _⟩ => ⟨S8192x16x256, .f32⟩
  | .hbm, ⟨65, _⟩ => ⟨S8192x16x8x32, .f32⟩
  | .hbm, ⟨66, _⟩ => ⟨S8192x16x1x32, .f32⟩
  | .hbm, ⟨67, _⟩ => ⟨S8192x16x8x32, .f32⟩
  | .hbm, ⟨68, _⟩ => ⟨S8192x16x8x32, .f32⟩
  | .hbm, ⟨69, _⟩ => ⟨S_, .f32⟩
  | .hbm, ⟨70, _⟩ => ⟨S8192x8x32, .f32⟩
  | .hbm, ⟨71, _⟩ => ⟨S8192x256, .f32⟩
  | _, _ => ⟨S8192x16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_cst : Ref sig .tc := ⟨.hbm, 42, rfl⟩
abbrev main_call1_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_cst_0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_2 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Project.lean ====
abbrev S8192x256 : Shape := ⟨2, ![8192, 256]⟩
abbrev S256x256 : Shape := ⟨2, ![256, 256]⟩
abbrev S256 : Shape := ⟨1, ![256]⟩
abbrev S1024x256 : Shape := ⟨2, ![1024, 256]⟩
abbrev S1x256 : Shape := ⟨2, ![1, 256]⟩

abbrev nBuf : Space → Nat
  | .hbm => 10
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8192x256, .f32⟩
  | .hbm, ⟨8, _⟩ => ⟨S8192x256, .f32⟩
  | .hbm, ⟨9, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjectReferenceIdeal.lean ====
abbrev S8192x256 : Shape := ⟨2, ![8192, 256]⟩
abbrev S256x256 : Shape := ⟨2, ![256, 256]⟩
abbrev S256 : Shape := ⟨1, ![256]⟩
abbrev S1x256 : Shape := ⟨2, ![1, 256]⟩

abbrev nBuf : Space → Nat
  | .hbm => 22
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S256x256, .f32⟩
  | .hbm, ⟨13, _⟩ => ⟨S8192x256, .f32⟩
  | .hbm, ⟨14, _⟩ => ⟨S1x256, .f32⟩
  | .hbm, ⟨15, _⟩ => ⟨S8192x256, .f32⟩
  | .hbm, ⟨16, _⟩ => ⟨S8192x256, .f32⟩
  | .hbm, ⟨17, _⟩ => ⟨S256x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Distances.lean ====
abbrev S8192x3 : Shape := ⟨2, ![8192, 3]⟩
abbrev S_ : Shape := ⟨0, ![]⟩
abbrev S8192x8 : Shape := ⟨2, ![8192, 8]⟩
abbrev S8192 : Shape := ⟨1, ![8192]⟩
abbrev S8x8192 : Shape := ⟨2, ![8, 8192]⟩
abbrev S1x8192 : Shape := ⟨2, ![1, 8192]⟩
abbrev S8192x8192 : Shape := ⟨2, ![8192, 8192]⟩
abbrev S8192x128 : Shape := ⟨2, ![8192, 128]⟩
abbrev S256x8 : Shape := ⟨2, ![256, 8]⟩
abbrev S256 : Shape := ⟨1, ![256]⟩
abbrev S256x8192 : Shape := ⟨2, ![256, 8192]⟩
abbrev S256x128 : Shape := ⟨2, ![256, 128]⟩
abbrev S256x1 : Shape := ⟨2, ![256, 1]⟩
abbrev S256x128x64 : Shape := ⟨3, ![256, 128, 64]⟩

abbrev nBuf : Space → Nat
  | .hbm => 11
  | .vmem => 10
  | .smem => 0
  | _ => 0

abbrev bufTy : (tb : Table) → Fin (tcTables nBuf tb) → BufTy
  | .hbm, ⟨0, _⟩ => ⟨S8192x3, .f32⟩
  | .hbm, ⟨1, _⟩ => ⟨S_, .i32⟩
  | .hbm, ⟨2, _⟩ => ⟨S_, .f32⟩
  | .hbm, ⟨3, _⟩ => ⟨S8192x8, .f32⟩
  | .hbm, ⟨4, _⟩ => ⟨S8192x3, .f32⟩
  | .hbm, ⟨5, _⟩ => ⟨S_, .f32⟩
  | .hbm, ⟨6, _⟩ => ⟨S8192, .f32⟩
  | .hbm, ⟨7, _⟩ => ⟨S8x8192, .f32⟩
  | .hbm, ⟨8, _⟩ => ⟨S1x8192, .f32⟩
  | .hbm, ⟨9, _⟩ => ⟨S8192x8192, .f32⟩
  | .hbm, ⟨10, _⟩ => ⟨S8192x128, .f32⟩
  | .local _ .vmem, ⟨0, _⟩ => ⟨S256x8, .f32⟩
  | .local _ .vmem, ⟨1, _⟩ => ⟨S256x8, .f32⟩
  | .local _ .vmem, ⟨2, _⟩ => ⟨S8x8192, .f32⟩
  | .local _ .vmem, ⟨3, _⟩ => ⟨S256, .f32⟩
  | .local _ .vmem, ⟨4, _⟩ => ⟨S256, .f32⟩
  | .local _ .vmem, ⟨5, _⟩ => ⟨S1x8192, .f32⟩
  | .local _ .vmem, ⟨6, _⟩ => ⟨S256x8192, .f32⟩
  | .local _ .vmem, ⟨7, _⟩ => ⟨S256x8192, .f32⟩
  | .local _ .vmem, ⟨8, _⟩ => ⟨S256x128, .f32⟩
  | .local _ .vmem, ⟨9, _⟩ => ⟨S256x128, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DistancesReferenceIdeal.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩
abbrev S8192x128x64 : Shape := ⟨3, ![8192, 128, 64]⟩
abbrev S8192x128 : Shape := ⟨2, ![8192, 128]⟩

abbrev nBuf : Space → Nat
  | .hbm => 18
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S3x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x128x64, .f32⟩
  | .hbm, ⟨16, _⟩ => ⟨S_, .f32⟩
  | .hbm, ⟨17, _⟩ => ⟨S8192x128, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Moments.lean ====
abbrev S8192x16 : Shape := ⟨2, ![8192, 16]⟩
abbrev S8192x16x256 : Shape := ⟨3, ![8192, 16, 256]⟩
abbrev S8192x256 : Shape := ⟨2, ![8192, 256]⟩
abbrev S3x256 : Shape := ⟨2, ![3, 256]⟩
abbrev S256 : Shape := ⟨1, ![256]⟩
abbrev S2x3 : Shape := ⟨2, ![2, 3]⟩
abbrev S2x256 : Shape := ⟨2, ![2, 256]⟩
abbrev S256x16 : Shape := ⟨2, ![256, 16]⟩
abbrev S256x16x256 : Shape := ⟨3, ![256, 16, 256]⟩
abbrev S256x256 : Shape := ⟨2, ![256, 256]⟩
abbrev S1x1x256 : Shape := ⟨3, ![1, 1, 256]⟩
abbrev S1x1 : Shape := ⟨2, ![1, 1]⟩
abbrev S256x16x1 : Shape := ⟨3, ![256, 16, 1]⟩
abbrev S1x256 : Shape := ⟨2, ![1, 256]⟩
abbrev S4096x256 : Shape := ⟨2, ![4096, 256]⟩
abbrev S256x1x256 : Shape := ⟨3, ![256, 1, 256]⟩

abbrev nBuf : Space → Nat
  | .hbm => 9
  | .vmem => 14
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16x256, .f32⟩
  | .hbm, ⟨4, _⟩ => ⟨S8192x256, .f32⟩
  | .hbm, ⟨5, _⟩ => ⟨S3x256, .f32⟩
  | .hbm, ⟨6, _⟩ => ⟨S256, .f32⟩
  | .hbm, ⟨7, _⟩ => ⟨S2x3, .f32⟩
  | .hbm, ⟨8, _⟩ => ⟨S2x256, .f32⟩
  | .local _ .vmem, ⟨0, _⟩ => ⟨S256x16, .f32⟩
  | .local _ .vmem, ⟨1, _⟩ => ⟨S256x16, .f32⟩
  | .local _ .vmem, ⟨2, _⟩ => ⟨S256x16, .f32⟩
  | .local _ .vmem, ⟨3, _⟩ => ⟨S256x16, .f32⟩
  | .local _ .vmem, ⟨4, _⟩ => ⟨S256x16, .f32⟩
  | .local _ .vmem, ⟨5, _⟩ => ⟨S256x16, .f32⟩
  | .local _ .vmem, ⟨6, _⟩ => ⟨S256x16x256, .f32⟩
  | .local _ .vmem, ⟨7, _⟩ => ⟨S256x16x256, .f32⟩
  | .local _ .vmem, ⟨8, _⟩ => ⟨S256x256, .f32⟩
  | .local _ .vmem, ⟨9, _⟩ => ⟨S256x256, .f32⟩
  | .local _ .vmem, ⟨10, _⟩ => ⟨S3x256, .f32⟩
  | .local _ .vmem, ⟨11, _⟩ => ⟨S256, .f32⟩
  | .local _ .vmem, ⟨12, _⟩ => ⟨S2x3, .f32⟩
  | .local _ .vmem, ⟨13, _⟩ => ⟨S2x256, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MomentsReferenceIdeal.lean ====
abbrev S8192x16 : Shape := ⟨2, ![8192, 16]⟩
abbrev S8192x16x256 : Shape := ⟨3, ![8192, 16, 256]⟩
abbrev S8192x256 : Shape := ⟨2, ![8192, 256]⟩
abbrev S3x256 : Shape := ⟨2, ![3, 256]⟩
abbrev S256 : Shape := ⟨1, ![256]⟩
abbrev S2x3 : Shape := ⟨2, ![2, 3]⟩
abbrev S8192x16x1 : Shape := ⟨3, ![8192, 16, 1]⟩
abbrev S8192x16x3 : Shape := ⟨3, ![8192, 16, 3]⟩
abbrev S1x3 : Shape := ⟨2, ![1, 3]⟩
abbrev S3 : Shape := ⟨1, ![3]⟩
abbrev S1x1x3 : Shape := ⟨3, ![1, 1, 3]⟩
abbrev S_ : Shape := ⟨0, ![]⟩
abbrev S1x1x256 : Shape := ⟨3, ![1, 1, 256]⟩
abbrev S8192x1x256 : Shape := ⟨3, ![8192, 1, 256]⟩
abbrev S1x256 : Shape := ⟨2, ![1, 256]⟩
abbrev S2x256 : Shape := ⟨2, ![2, 256]⟩

abbrev nBuf : Space → Nat
  | .hbm => 45
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16x256, .f32⟩
  | .hbm, ⟨4, _⟩ => ⟨S8192x256, .f32⟩
  | .hbm, ⟨5, _⟩ => ⟨S3x256, .f32⟩
  | .hbm, ⟨6, _⟩ => ⟨S256, .f32⟩
  | .hbm, ⟨7, _⟩ => ⟨S2x3, .f32⟩
  | .hbm, ⟨8, _⟩ => ⟨S8192x16x1, .f32⟩
  | .hbm, ⟨9, _⟩ => ⟨S8192x16x1, .f32⟩
  | .hbm, ⟨10, _⟩ => ⟨S8192x16x1, .f32⟩
  | .hbm, ⟨11, _⟩ => ⟨S8192x16x3, .f32⟩
  | .hbm, ⟨12, _⟩ => ⟨S1x3, .f32⟩
  | .hbm, ⟨13, _⟩ => ⟨S3, .f32⟩
  | .hbm, ⟨14, _⟩ => ⟨S1x1x3, .f32⟩
  | .hbm, ⟨15, _⟩ => ⟨S8192x16x3, .f32⟩
  | .hbm, ⟨16, _⟩ => ⟨S8192x16x3, .f32⟩
  | .hbm, ⟨17, _⟩ => ⟨S1x3, .f32⟩
  | .hbm, ⟨18, _⟩ => ⟨S3, .f32⟩
  | .hbm, ⟨19, _⟩ => ⟨S1x1x3, .f32⟩
  | .hbm, ⟨20, _⟩ => ⟨S8192x16x3, .f32⟩
  | .hbm, ⟨21, _⟩ => ⟨S8192x16x3, .f32⟩
  | .hbm, ⟨22, _⟩ => ⟨S_, .f32⟩
  | .hbm, ⟨23, _⟩ => ⟨S8192x16x3, .f32⟩
  | .hbm, ⟨24, _⟩ => ⟨S8192x16x3, .f32⟩
  | .hbm, ⟨25, _⟩ => ⟨S8192x16x256, .f32⟩
  | .hbm, ⟨26, _⟩ => ⟨S1x1x256, .f32⟩
  | .hbm, ⟨27, _⟩ => ⟨S8192x16x256, .f32⟩
  | .hbm, ⟨28, _⟩ => ⟨S8192x16x256, .f32⟩
  | .hbm, ⟨29, _⟩ => ⟨S8192x1x256, .f32⟩
  | .hbm, ⟨30, _⟩ => ⟨S8192x16x256, .f32⟩
  | .hbm, ⟨31, _⟩ => ⟨S8192x16x256, .f32⟩
  | .hbm, ⟨32, _⟩ => ⟨S8192x16x256, .f32⟩
  | .hbm, ⟨33, _⟩ => ⟨S_, .f32⟩
  | .hbm, ⟨34, _⟩ => ⟨S8192x256, .f32⟩
  | .hbm, ⟨35, _⟩ => ⟨S_, .f32⟩
  | .hbm, ⟨36, _⟩ => ⟨S256, .f32⟩
  | .hbm, ⟨37, _⟩ => ⟨S8192x16x256, .f32⟩
  | .hbm, ⟨38, _⟩ => ⟨S_, .f32⟩
  | .hbm, ⟨39, _⟩ => ⟨S8192x256, .f32⟩
  | .hbm, ⟨40, _⟩ => ⟨S_, .f32⟩
  | .hbm, ⟨41, _⟩ => ⟨S256, .f32⟩
  | .hbm, ⟨42, _⟩ => ⟨S1x256, .f32⟩
  | .hbm, ⟨43, _⟩ => ⟨S1x256, .f32⟩
  | .hbm, ⟨44, _⟩ => ⟨S2x256, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Proof.Base.lean ====
/- The vocabulary of the proofs about the SparseCore call: its configuration, the resource algebra, and its buffers
   as a vector subcore addresses them. -/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The resource algebra: the handshakes' rounds and the transfers' counters. -/
abbrev UH : Type := URounds (GSem nD τ sig) ℕ
abbrev UU : Type := UH × Counters
/-- The propositions' model. -/
abbrev MM (F : FTy → Type) : Type _ := MT nD τ sig (HIx 1) (Elt F) ℕ UU ℕ
abbrev EH : Emb UH (MT nD τ sig (HIx 1) (Elt F) ℕ UU ℕ) := embL

/-! ## A subcore's thread and its buffers -/

abbrev cV (L : grid0.Coords) : Fin τ.nSC := (L 0).castLE hcore0
abbrev jV (L : grid0.Coords) : Fin τ.nSub := (L 1).castLE hsub0
/-- The thread of the vector subcore at grid point `L` of device `d`. -/
abbrev tV (d : Dev nD) (L : grid0.Coords) : Thread nD τ := V d (cV L) (jV L)

abbrev a2 : Memref sig .scVector .hbm S1048576 .f32 := Memref.whole main_v4_scv
abbrev a3 : Memref sig .scVector .hbm S1048576x128 .f32 := Memref.whole main_v3_scv
abbrev a4 : Memref sig .scVector .hbm S8192x2x128 .f32 := Memref.whole main_v5_scv
abbrev a5 : Memref sig .scVector .hbm S8192x2x128 .f32 := Memref.whole main_v6_scv
abbrev a6 : Memref sig .scVector .hbm S8192x128 .f32 := Memref.whole main_v7_scv
abbrev a7 : Memref sig .scVector .hbm S131072 .i32 := Memref.whole main_v8_0_scv
abbrev a8 : Memref sig .scVector .hbm S131072x2x128 .f32 := Memref.whole main_v8_1_scv
abbrev a9 : Memref sig .scVector .hbm S131072x2x128 .f32 := Memref.whole main_v8_2_scv
abbrev a10 : Memref sig .scVector .hbm S131072x128 .f32 := Memref.whole main_v8_3_scv
abbrev a11 : Memref sig .scVector .vmem S32768 .f32 := Memref.whole cc0_scratch0
abbrev a12 : Memref sig .scVector .vmem S2x16x128 .f32 := Memref.whole cc0_scratch1
abbrev a13 : Memref sig .scVector .vmem S2x16 .i32 := Memref.whole cc0_scratch2
abbrev a14 : Memref sig .scVector .vmem S2x16 .i32 := Memref.whole cc0_scratch3
abbrev a15 : Memref sig .scVector .vmem S4096 .i32 := Memref.whole cc0_scratch4
abbrev a16 : Memref sig .scVector .vmem S2x16 .i32 := Memref.whole cc0_scratch5
abbrev a17 : Memref sig .scVector .vmem S2x16x2x128 .f32 := Memref.whole cc0_scratch6
abbrev a18 : Memref sig .scVector .vmem S2x16x2x128 .f32 := Memref.whole cc0_scratch7
abbrev a19 : Memref sig .scVector .vmem S2x16x128 .f32 := Memref.whole cc0_scratch8
abbrev a20 : Memref sig .scVector .vmem S16 .f32 := Memref.whole cc0_scratch9
abbrev a21 : Memref sig .scVector .vmem S16 .i32 := Memref.whole cc0_scratch10

/-- The weakest precondition of a subcore's program. -/
abbrev wpV [FloatOps F] (d : Dev nD) (L : grid0.Coords) {α : Type}
    (p : Prog (TpuEff nD τ sig (Elt F) Λ₀ (tV d L).2) α) (Q : α → sProp (MM F)) : sProp (MM F) :=
  wp frame (wpE (defs₀ (F := F)) 𝒱₀ (tV d L) none) Set.univ p Q

end Cert.Proof.Knn
-- ==== Proof.Sort.lean ====
/- The rank sort of sixteen keys with their payloads: what it computes, and its rule. -/
module

public import proofs.«01_k».proof.Proof.Base

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## What it computes -/

abbrev lanes : IVec S16 32 := iota .scVector S16 32 [0] iota_S16_d0_w32_scVector

/-- The lane a trip compares each lane with: `n + 1` further on, modulo sixteen. -/
def rot (n : ℕ) : IVec S16 32 :=
  andi (addi lanes (broadcast S16 (Scalar.addi (Scf.iv 0#32 1#32 n) 1#32))) (broadcast S16 15#32)

theorem rot_lt (n : ℕ) (x : S16.Idx) : (rot n x).toNat < 16 := by
  have h : (rot n x).toNat ≤ (15#32).toNat := by
    show (_ &&& (15#32)).toNat ≤ _
    rw [BitVec.toNat_and]
    exact Nat.and_le_right
  exact Nat.lt_of_le_of_lt h (by decide)

theorem rot_inb (n : ℕ) : ∀ a x, ((![rot n] : Fin 1 → IVec S16 32) a x).toNat < S16.size a := by
  intro a x; rw [Fin.eq_zero a]; exact rot_lt n x

/-- One trip's addition to the ranks: one where the compared key goes before. -/
def rankStep (k : Vec F S16 .f32) (acc : IVec S16 32) (j : IVec S16 32) (kj : Vec F S16 .f32) : IVec S16 32 :=
  addi acc (select (ori (cmpf .olt kj k) (andi (cmpf .oeq kj k) (cmpi .slt j lanes))) (broadcast S16 1#32) (broadcast S16 0#32))

/-- The ranks after `n` trips. -/
def rankAt (k : Vec F S16 .f32) : ℕ → IVec S16 32
  | 0 => broadcast S16 0#32
  | n + 1 => rankStep k (rankAt k n) (rot n) (loadIdx k ![rot n] (rot_inb n))

theorem rankAt_le (k : Vec F S16 .f32) (n : ℕ) (hn : n ≤ 15) (x : S16.Idx) : (rankAt k n x).toNat ≤ n := by
  induction n with
  | zero => exact Nat.le_refl 0
  | succ n ih =>
    have ih := ih (by omega)
    show (rankAt k n x + (if _ then 1#32 else 0#32)).toNat ≤ _
    rw [BitVec.toNat_add]
    split
    · simp; omega
    · simp; omega

theorem rank_inb (k : Vec F S16 .f32) : ∀ a x, ((![rankAt k 15] : Fin 1 → IVec S16 32) a x).toNat < S16.size a := by
  intro a x; rw [Fin.eq_zero a]; exact Nat.lt_succ_of_le (rankAt_le k 15 (le_refl _) x)

/-- The keys scattered to their ranks. -/
def sortK (k : Vec F S16 .f32) : Vec F S16 .f32 := storeIdx k ![rankAt k 15] k (fun _ => 1#1) false (rank_inb k)
/-- The payloads scattered to their keys' ranks. -/
def sortV (k : Vec F S16 .f32) (v : Vec F S16 .i32) : Vec F S16 .i32 := storeIdx v ![rankAt k 15] v (fun _ => 1#1) false (rank_inb k)

/-! ## Its rule -/

section Rule

variable (d : Dev nD) (L : grid0.Coords)

/-- The two sixteen-word scratch buffers, at whatever they hold. -/
def scr : sProp (MM F) :=
  iprop(∃ fk fv, ((a20).view.loc (tV d L) ↦{fullShare} fk) ∗ ((a21).view.loc (tV d L) ↦{fullShare} fv))

abbrev rAll : Rect S16 := Rect.unit (s := S16) ![0] S16.size inb_S16_S16_0

theorem off0 : (![0] : Fin 1 → ℕ) = fun _ => 0 := by funext a; rw [Fin.eq_zero a]; rfl
theorem read_a20 (f : S16.Idx → Elt F .f32) : ((a20).access rAll).read (Elt F) f = f :=
  Memref.read_access_unit_zero (Elt F) cc0_scratch9 off0 _ f
theorem read_a21 (f : S16.Idx → Elt F .i32) : ((a21).access rAll).read (Elt F) f = f :=
  Memref.read_access_unit_zero (Elt F) cc0_scratch10 off0 _ f
theorem write_a20 (f w : S16.Idx → Elt F .f32) : ((a20).access rAll).write (Elt F) f w Finset.univ = w :=
  Memref.write_access_unit_zero_univ (Elt F) cc0_scratch9 off0 _ f w
theorem write_a21 (f w : S16.Idx → Elt F .i32) : ((a21).access rAll).write (Elt F) f w Finset.univ = w :=
  Memref.write_access_unit_zero_univ (Elt F) cc0_scratch10 off0 _ f w
theorem set_a20 : ((a20).access (Rect.whole S16)).set = Finset.univ := Memref.set_access_whole cc0_scratch9
theorem set_a21 : ((a21).access (Rect.whole S16)).set = Finset.univ := Memref.set_access_whole cc0_scratch10

theorem readW_a20 (f : S16.Idx → Elt F .f32) : ((a20).access (Rect.whole S16)).read (Elt F) f = f :=
  Memref.read_access_whole (Elt F) cc0_scratch9 f
theorem readW_a21 (f : S16.Idx → Elt F .i32) : ((a21).access (Rect.whole S16)).read (Elt F) f = f :=
  Memref.read_access_whole (Elt F) cc0_scratch10 f
theorem writeW_a20 (f w : S16.Idx → Elt F .f32) : ((a20).access (Rect.whole S16)).write (Elt F) f w Finset.univ = w :=
  Memref.write_access_whole_univ (Elt F) cc0_scratch9 f w
theorem writeW_a21 (f w : S16.Idx → Elt F .i32) : ((a21).access (Rect.whole S16)).write (Elt F) f w Finset.univ = w :=
  Memref.write_access_whole_univ (Elt F) cc0_scratch10 f w

variable {d L}

/-- The sort at the head of a program: the continuation runs with the keys and payloads sorted. -/
theorem wp_sort {α : Type} {Q : α → sProp (MM F)} {X : sProp (MM F)}
    {l : Scf.Loop 32} {hl : l.OK} (hlb : l = ⟨0#32, 15#32, 1#32⟩) {k : Vec F S16 .f32} {v : Vec F S16 .i32}
    {chk1 : IVec S16 32 → Prop} {dec1 : ∀ w, Decidable (chk1 w)}
    {body : Fin l.trips → IVec S16 32 → Prog (TpuEff nD τ sig (Elt F) Λ₀ (tV d L).2) (IVec S16 32)} {init : IVec S16 32}
    (hinit : init = broadcast S16 0#32)
    (hbody : ∀ n acc, body n acc = (do
      have hw : chk1 (rot n) := (← Prog.lift (TpuEff.assume (chk1 (rot n)) (dec1 (rot n)))).down
      let kj : Vec F S16 .f32 ← SparseCore.vectorLoadIdx a20 ![rot n] (rot_inb n) (View.loads_vmem h_S16)
      pure (rankStep k acc (rot n) kj)))
    (hc1 : ∀ n, chk1 (rot n))
    {chk2 : IVec S16 32 → Prop} {dec2 : ∀ w, Decidable (chk2 w)}
    (hx2 : ∀ w, chk2 w → ∀ a x, ((![w] : Fin 1 → IVec S16 32) a x).toNat < S16.size a)
    (hc2 : chk2 (rankAt k 15))
    {kk : Vec F S16 .f32 → Vec F S16 .i32 → Prog (TpuEff nD τ sig (Elt F) Λ₀ (tV d L).2) α}
    (hK : ∀ ko vo, ko = sortK k → vo = sortV k v → iprop(scr (F := F) d L ∗ X) ⊢ wpV d L (kk ko vo) Q) :
    iprop(scr (F := F) d L ∗ X) ⊢ wpV d L (do
      let _ : Vec F S16 .f32 ← Prog.lift (.load a20 rAll.toLoadRect (View.loadsAt_vmem h_S16))
      Prog.lift (.store a20 rAll k Finset.univ (View.stores_vmem_bits_univ h_S16 rfl) (.inl rfl))
      let _ : Vec F S16 .i32 ← Prog.lift (.load a21 rAll.toLoadRect (View.loadsAt_vmem h_S16))
      Prog.lift (.store a21 rAll v Finset.univ (View.stores_vmem_bits_univ h_S16 rfl) (.inl rfl))
      let rk : IVec S16 32 ← Scf.Loop.for l hl init body
      have hw : chk2 rk := (← Prog.lift (TpuEff.assume (chk2 rk) (dec2 rk))).down
      SparseCore.vectorStoreIdx a20 ![rk] k (fun _ => 1#1) false (hx2 rk hw) (View.stores_vmem_bits_univ h_S16 rfl)
      SparseCore.vectorStoreIdx a21 ![rk] v (fun _ => 1#1) false (hx2 rk hw) (View.stores_vmem_bits_univ h_S16 rfl)
      let ko : Vec F S16 .f32 ← Prog.lift (.load a20 rAll.toLoadRect (View.loadsAt_vmem h_S16))
      let vo : Vec F S16 .i32 ← Prog.lift (.load a21 rAll.toLoadRect (View.loadsAt_vmem h_S16))
      kk ko vo) Q := by
  subst hlb hinit
  unfold scr wpV
  simp only [Prog.bind_lift]
  iintro ⟨⟨%fk, %fv, Hk, Hv⟩, HX⟩
  iapply (wp_load_rect 𝒱₀ (tV d L) none Set.univ (m := a20) (r := rAll) (Finset.subset_univ _)) $$ Hk
  iintro Hk
  iapply (wp_store 𝒱₀ (tV d L) none Set.univ (m := a20) (r := rAll) (Finset.subset_univ _)) $$ Hk
  iintro Hk
  iapply (wp_load_rect 𝒱₀ (tV d L) none Set.univ (m := a21) (r := rAll) (Finset.subset_univ _)) $$ Hv
  iintro Hv
  iapply (wp_store 𝒱₀ (tV d L) none Set.univ (m := a21) (r := rAll) (Finset.subset_univ _)) $$ Hv
  iintro Hv
  rw [write_a20 _ k, write_a21 _ v]
  iapply (Scf.wp_for_bind frame (wpE (defs₀ (F := F)) 𝒱₀ (tV d L) none) Set.univ _ _ _ _ _ _
    (fun n acc => iprop(⌜acc = rankAt k n⌝ ∗ ((a20).view.loc (tV d L) ↦{fullShare} k))) ?_) $$ [Hk]
  · intro n acc
    rw [hbody]
    simp only [Prog.bind_lift, Prog.pure_eq_ret]
    iintro ⟨%hacc, Hk⟩
    iapply (wp_assume 𝒱₀ (tV d L) none Set.univ (hc1 n))
    iapply (SparseCore.wp_vectorLoadIdx 𝒱₀ (tV d L) none Set.univ (base := a20) (Finset.subset_univ _)) $$ Hk
    iintro Hk
    rw [wp_ret]
    imodintro
    isplitr
    · ipureintro; subst hacc
      rw [readW_a20]; rfl
    · iexact Hk
  · isplitr
    · ipureintro; rfl
    · iexact Hk
  iintro %rk ⟨%hrk, Hk⟩
  have hrk : rk = rankAt k 15 := hrk
  subst hrk
  iapply (wp_assume 𝒱₀ (tV d L) none Set.univ hc2)
  iapply (SparseCore.wp_vectorStoreIdx 𝒱₀ (tV d L) none Set.univ (base := a20)) $$ [Hk]
  · rw [set_a20]; iexact Hk
  iintro Hk
  iapply (SparseCore.wp_vectorStoreIdx 𝒱₀ (tV d L) none Set.univ (base := a21)) $$ [Hv]
  · rw [set_a21]; iexact Hv
  iintro Hv
  iapply (wp_load_rect 𝒱₀ (tV d L) none Set.univ (m := a20) (r := rAll) (by rw [set_a20]; exact Finset.subset_univ _)) $$ Hk
  iintro Hk
  iapply (wp_load_rect 𝒱₀ (tV d L) none Set.univ (m := a21) (r := rAll) (by rw [set_a21]; exact Finset.subset_univ _)) $$ Hv
  iintro Hv
  rw [read_a20, read_a21, set_a20, set_a21]
  rw [readW_a20, readW_a21, writeW_a20, writeW_a21]
  iapply (hK _ _ rfl rfl)
  unfold scr
  isplitr [HX]
  · iexists _, _
    isplitl [Hk]
    · iexact Hk
    · iexact Hv
  · iexact HX

/-- Lane `x` of a reversed vector is lane `15 - x`. -/
def revIx : IVec S16 32 := subi (broadcast S16 15#32) lanes

theorem revIx_lt : ∀ x : S16.Idx, (revIx x).toNat < 16 := by decide

theorem revIx_inb : ∀ a x, ((![revIx] : Fin 1 → IVec S16 32) a x).toNat < S16.size a := by
  intro a x; rw [Fin.eq_zero a]; exact revIx_lt x

/-- A vector reversed. -/
def rev {e : EltTy} (k : Vec F S16 e) : Vec F S16 e := loadIdx k ![revIx] revIx_inb

/-- The reversal at the head of a program. -/
theorem wp_rev {α : Type} {Q : α → sProp (MM F)} {X : sProp (MM F)} {k : Vec F S16 .f32} {v : Vec F S16 .i32}
    {j j' : IVec S16 32} (hj : j = revIx) (hj' : j' = revIx)
    {P1 P2 : Prop} {dec1 : Decidable P1} {dec2 : Decidable P2}
    (hA : P1 → ∀ a x, ((![j] : Fin 1 → IVec S16 32) a x).toNat < S16.size a)
    (hB : P2 → ∀ a x, ((![j'] : Fin 1 → IVec S16 32) a x).toNat < S16.size a)
    (hP1 : P1) (hP2 : P2)
    {kk : Vec F S16 .f32 → Vec F S16 .i32 → Prog (TpuEff nD τ sig (Elt F) Λ₀ (tV d L).2) α}
    (hK : ∀ ko vo, ko = rev k → vo = rev v → iprop(scr (F := F) d L ∗ X) ⊢ wpV d L (kk ko vo) Q) :
    iprop(scr (F := F) d L ∗ X) ⊢ wpV d L (do
      let _ : Vec F S16 .f32 ← Prog.lift (.load a20 rAll.toLoadRect (View.loadsAt_vmem h_S16))
      Prog.lift (.store a20 rAll k Finset.univ (View.stores_vmem_bits_univ h_S16 rfl) (.inl rfl))
      let _ : Vec F S16 .i32 ← Prog.lift (.load a21 rAll.toLoadRect (View.loadsAt_vmem h_S16))
      Prog.lift (.store a21 rAll v Finset.univ (View.stores_vmem_bits_univ h_S16 rfl) (.inl rfl))
      have hw : P1 := (← Prog.lift (TpuEff.assume P1 dec1)).down
      let ko : Vec F S16 .f32 ← SparseCore.vectorLoadIdx a20 ![j] (hA hw) (View.loads_vmem h_S16)
      have hw : P2 := (← Prog.lift (TpuEff.assume P2 dec2)).down
      let vo : Vec F S16 .i32 ← SparseCore.vectorLoadIdx a21 ![j'] (hB hw) (View.loads_vmem h_S16)
      kk ko vo) Q := by
  subst hj hj'
  unfold scr wpV
  simp only [Prog.bind_lift]
  iintro ⟨⟨%fk, %fv, Hk, Hv⟩, HX⟩
  iapply (wp_load_rect 𝒱₀ (tV d L) none Set.univ (m := a20) (r := rAll) (Finset.subset_univ _)) $$ Hk
  iintro Hk
  iapply (wp_store 𝒱₀ (tV d L) none Set.univ (m := a20) (r := rAll) (Finset.subset_univ _)) $$ Hk
  iintro Hk
  iapply (wp_load_rect 𝒱₀ (tV d L) none Set.univ (m := a21) (r := rAll) (Finset.subset_univ _)) $$ Hv
  iintro Hv
  iapply (wp_store 𝒱₀ (tV d L) none Set.univ (m := a21) (r := rAll) (Finset.subset_univ _)) $$ Hv
  iintro Hv
  rw [write_a20 _ k, write_a21 _ v]
  iapply (wp_assume 𝒱₀ (tV d L) none Set.univ hP1)
  iapply (SparseCore.wp_vectorLoadIdx 𝒱₀ (tV d L) none Set.univ (base := a20) (Finset.subset_univ _)) $$ Hk
  iintro Hk
  iapply (wp_assume 𝒱₀ (tV d L) none Set.univ hP2)
  iapply (SparseCore.wp_vectorLoadIdx 𝒱₀ (tV d L) none Set.univ (base := a21) (Finset.subset_univ _)) $$ Hv
  iintro Hv
  rw [readW_a20, readW_a21]
  iapply (hK _ _ rfl rfl)
  unfold scr
  isplitr [HX]
  · iexists _, _
    isplitl [Hk]
    · iexact Hk
    · iexact Hv
  · iexact HX

/-- The lane-wise lesser, by key and then payload, of a list and a reversed one: its mask, keys and payloads. -/
def loM (a : Vec F S16 .f32) (ai : Vec F S16 .i32) (b : Vec F S16 .f32) (bi : Vec F S16 .i32) : IVec S16 1 :=
  ori (cmpf .olt a b) (andi (cmpf .oeq a b) (cmpi .sle ai bi))
def loK (a : Vec F S16 .f32) (ai : Vec F S16 .i32) (b : Vec F S16 .f32) (bi : Vec F S16 .i32) : Vec F S16 .f32 :=
  select (loM a ai b bi) a b
def loI (a : Vec F S16 .f32) (ai : Vec F S16 .i32) (b : Vec F S16 .f32) (bi : Vec F S16 .i32) : Vec F S16 .i32 :=
  select (loM a ai b bi) ai bi

/-- A sorted list: keys and payloads. -/
abbrev KV (F : FTy → Type) : Type := Vec F S16 .f32 × Vec F S16 .i32
/-- The sixteen keys and payloads, sorted. -/
def sortP (p : KV F) : KV F := (sortK p.1, sortV p.1 p.2)
/-- Two sorted lists merged, their sixteen least kept. -/
def mergeP (a b : KV F) : KV F :=
  sortP (loK a.1 a.2 (rev b.1) (rev b.2), loI a.1 a.2 (rev b.1) (rev b.2))

/-- A load of a rectangle of the subcore's group minima at the head of a program. -/
theorem wp_gm {α : Type} {Q : α → sProp (MM F)} {X : sProp (MM F)} {f : S32768.Idx → Elt F .f32}
    {r : Rect S32768} {hl : (a11).view.LoadsAt r.toLoadRect} {kk : (r.shape.Idx → Elt F .f32) → Prog (TpuEff nD τ sig (Elt F) Λ₀ (tV d L).2) α}
    (hK : ∀ w, w = ((a11).access r).read (Elt F) f → iprop(scr (F := F) d L ∗ ((a11).view.loc (tV d L) ↦{fullShare} f) ∗ X) ⊢ wpV d L (kk w) Q) :
    iprop(scr (F := F) d L ∗ ((a11).view.loc (tV d L) ↦{fullShare} f) ∗ X) ⊢ wpV d L (do
      let w ← Prog.lift (.load a11 r.toLoadRect hl)
      kk w) Q := by
  unfold wpV
  simp only [Prog.bind_lift]
  iintro ⟨HS, Hg, HX⟩
  iapply (wp_load_rect 𝒱₀ (tV d L) none Set.univ (m := a11) (r := r) (Finset.subset_univ _)) $$ Hg
  iintro Hg
  iapply (hK _ rfl)
  isplitl [HS]
  · iexact HS
  isplitl [Hg]
  · iexact Hg
  · iexact HX

end Rule

end Cert.Proof.Knn
-- ==== Proof.Stage.lean ====
/- The steps of the group selection: a chunk loaded and sorted, two sorted lists merged. -/
module

public import proofs.«01_k».proof.Proof.Sort

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {L : grid0.Coords}

/-- The sixteen group minima from offset `off` on. -/
abbrev chunk (f : S32768.Idx → Elt F .f32) (off : Fin 1 → ℕ) (h : ∀ a, off a + S16.size a ≤ S32768.size a) : Vec F S16 .f32 :=
  ((a11).access (Rect.unit (s := S32768) off S16.size h)).read (Elt F) f

/-- A chunk of group minima is loaded and sorted: its sorted list is at the continuation. -/
theorem wp_gsort {α : Type} {Q : α → sProp (MM F)} {X : sProp (MM F)} {f : S32768.Idx → Elt F .f32}
    {off : Fin 1 → ℕ} {hoff : ∀ a, off a + S16.size a ≤ S32768.size a}
    {hld : (a11).view.LoadsAt (Rect.unit (s := S32768) off S16.size hoff).toLoadRect}
    {l : Scf.Loop 32} {hl : l.OK} (hlb : l = ⟨0#32, 15#32, 1#32⟩) {v : Vec F S16 .i32}
    {chk1 : IVec S16 32 → Prop} {dec1 : ∀ w, Decidable (chk1 w)}
    {body : Vec F S16 .f32 → Fin l.trips → IVec S16 32 → Prog (TpuEff nD τ sig (Elt F) Λ₀ (tV d L).2) (IVec S16 32)} {init : IVec S16 32}
    (hinit : init = broadcast S16 0#32)
    (hbody : ∀ k n acc, body k n acc = (do
      have hw : chk1 (rot n) := (← Prog.lift (TpuEff.assume (chk1 (rot n)) (dec1 (rot n)))).down
      let kj : Vec F S16 .f32 ← SparseCore.vectorLoadIdx a20 ![rot n] (rot_inb n) (View.loads_vmem h_S16)
      pure (rankStep k acc (rot n) kj)))
    (hc1 : ∀ n, chk1 (rot n))
    {chk2 : IVec S16 32 → Prop} {dec2 : ∀ w, Decidable (chk2 w)}
    (hx2 : ∀ w, chk2 w → ∀ a x, ((![w] : Fin 1 → IVec S16 32) a x).toNat < S16.size a)
    (hc2 : ∀ k : Vec F S16 .f32, chk2 (rankAt k 15))
    {kk : Vec F S16 .f32 → Vec F S16 .f32 → Vec F S16 .i32 → Prog (TpuEff nD τ sig (Elt F) Λ₀ (tV d L).2) α}
    (hK : ∀ k ko vo, ((ko, vo) : KV F) = sortP (chunk f off hoff, v) →
      iprop(scr (F := F) d L ∗ ((a11).view.loc (tV d L) ↦{fullShare} f) ∗ X) ⊢ wpV d L (kk k ko vo) Q) :
    iprop(scr (F := F) d L ∗ ((a11).view.loc (tV d L) ↦{fullShare} f) ∗ X) ⊢ wpV d L (do
      let k : Vec F S16 .f32 ← Prog.lift (.load a11 (Rect.unit (s := S32768) off S16.size hoff).toLoadRect hld)
      let _ : Vec F S16 .f32 ← Prog.lift (.load a20 rAll.toLoadRect (View.loadsAt_vmem h_S16))
      Prog.lift (.store a20 rAll k Finset.univ (View.stores_vmem_bits_univ h_S16 rfl) (.inl rfl))
      let _ : Vec F S16 .i32 ← Prog.lift (.load a21 rAll.toLoadRect (View.loadsAt_vmem h_S16))
      Prog.lift (.store a21 rAll v Finset.univ (View.stores_vmem_bits_univ h_S16 rfl) (.inl rfl))
      let rk : IVec S16 32 ← Scf.Loop.for l hl init (body k)
      have hw : chk2 rk := (← Prog.lift (TpuEff.assume (chk2 rk) (dec2 rk))).down
      SparseCore.vectorStoreIdx a20 ![rk] k (fun _ => 1#1) false (hx2 rk hw) (View.stores_vmem_bits_univ h_S16 rfl)
      SparseCore.vectorStoreIdx a21 ![rk] v (fun _ => 1#1) false (hx2 rk hw) (View.stores_vmem_bits_univ h_S16 rfl)
      let ko : Vec F S16 .f32 ← Prog.lift (.load a20 rAll.toLoadRect (View.loadsAt_vmem h_S16))
      let vo : Vec F S16 .i32 ← Prog.lift (.load a21 rAll.toLoadRect (View.loadsAt_vmem h_S16))
      kk k ko vo) Q := by
  refine wp_gm ?_
  intro k hk
  refine wp_sort hlb hinit (hbody k) hc1 hx2 (hc2 k) ?_
  intro ko vo hko hvo
  exact hK k ko vo (by subst hk hko hvo; rfl)

/-- Two sorted lists are merged: the second reversed, the lesser of each lane kept, the sixteen sorted. -/
theorem wp_merge {α : Type} {Q : α → sProp (MM F)} {X : sProp (MM F)} {a b : Vec F S16 .f32} {ai bi : Vec F S16 .i32}
    {j j' : IVec S16 32} (hj : j = revIx) (hj' : j' = revIx)
    {P1 P2 : Prop} {decA : Decidable P1} {decB : Decidable P2}
    (hA : P1 → ∀ a x, ((![j] : Fin 1 → IVec S16 32) a x).toNat < S16.size a)
    (hB : P2 → ∀ a x, ((![j'] : Fin 1 → IVec S16 32) a x).toNat < S16.size a)
    (hP1 : P1) (hP2 : P2)
    {l : Scf.Loop 32} {hl : l.OK} (hlb : l = ⟨0#32, 15#32, 1#32⟩)
    {k : Vec F S16 .f32 → Vec F S16 .i32 → Vec F S16 .f32} {v : Vec F S16 .f32 → Vec F S16 .i32 → Vec F S16 .i32}
    (hk : ∀ r ri, k r ri = loK a ai r ri) (hv : ∀ r ri, v r ri = loI a ai r ri)
    {chk1 : IVec S16 32 → Prop} {dec1 : ∀ w, Decidable (chk1 w)}
    {body : Vec F S16 .f32 → Vec F S16 .i32 → Fin l.trips → IVec S16 32 → Prog (TpuEff nD τ sig (Elt F) Λ₀ (tV d L).2) (IVec S16 32)}
    {init : IVec S16 32} (hinit : init = broadcast S16 0#32)
    (hbody : ∀ r ri n acc, body r ri n acc = (do
      have hw : chk1 (rot n) := (← Prog.lift (TpuEff.assume (chk1 (rot n)) (dec1 (rot n)))).down
      let kj : Vec F S16 .f32 ← SparseCore.vectorLoadIdx a20 ![rot n] (rot_inb n) (View.loads_vmem h_S16)
      pure (rankStep (k r ri) acc (rot n) kj)))
    (hc1 : ∀ n, chk1 (rot n))
    {chk2 : IVec S16 32 → Prop} {dec2 : ∀ w, Decidable (chk2 w)}
    (hx2 : ∀ w, chk2 w → ∀ a x, ((![w] : Fin 1 → IVec S16 32) a x).toNat < S16.size a)
    (hc2 : ∀ k : Vec F S16 .f32, chk2 (rankAt k 15))
    {kk : Vec F S16 .f32 → Vec F S16 .i32 → Vec F S16 .f32 → Vec F S16 .i32 → Prog (TpuEff nD τ sig (Elt F) Λ₀ (tV d L).2) α}
    (hK : ∀ r ri ko vo, ((ko, vo) : KV F) = mergeP (a, ai) (b, bi) → iprop(scr (F := F) d L ∗ X) ⊢ wpV d L (kk r ri ko vo) Q) :
    iprop(scr (F := F) d L ∗ X) ⊢ wpV d L (do
      let _ : Vec F S16 .f32 ← Prog.lift (.load a20 rAll.toLoadRect (View.loadsAt_vmem h_S16))
      Prog.lift (.store a20 rAll b Finset.univ (View.stores_vmem_bits_univ h_S16 rfl) (.inl rfl))
      let _ : Vec F S16 .i32 ← Prog.lift (.load a21 rAll.toLoadRect (View.loadsAt_vmem h_S16))
      Prog.lift (.store a21 rAll bi Finset.univ (View.stores_vmem_bits_univ h_S16 rfl) (.inl rfl))
      have hw : P1 := (← Prog.lift (TpuEff.assume P1 decA)).down
      let r : Vec F S16 .f32 ← SparseCore.vectorLoadIdx a20 ![j] (hA hw) (View.loads_vmem h_S16)
      have hw : P2 := (← Prog.lift (TpuEff.assume P2 decB)).down
      let ri : Vec F S16 .i32 ← SparseCore.vectorLoadIdx a21 ![j'] (hB hw) (View.loads_vmem h_S16)
      let _ : Vec F S16 .f32 ← Prog.lift (.load a20 rAll.toLoadRect (View.loadsAt_vmem h_S16))
      Prog.lift (.store a20 rAll (k r ri) Finset.univ (View.stores_vmem_bits_univ h_S16 rfl) (.inl rfl))
      let _ : Vec F S16 .i32 ← Prog.lift (.load a21 rAll.toLoadRect (View.loadsAt_vmem h_S16))
      Prog.lift (.store a21 rAll (v r ri) Finset.univ (View.stores_vmem_bits_univ h_S16 rfl) (.inl rfl))
      let rk : IVec S16 32 ← Scf.Loop.for l hl init (body r ri)
      have hw : chk2 rk := (← Prog.lift (TpuEff.assume (chk2 rk) (dec2 rk))).down
      SparseCore.vectorStoreIdx a20 ![rk] (k r ri) (fun _ => 1#1) false (hx2 rk hw) (View.stores_vmem_bits_univ h_S16 rfl)
      SparseCore.vectorStoreIdx a21 ![rk] (v r ri) (fun _ => 1#1) false (hx2 rk hw) (View.stores_vmem_bits_univ h_S16 rfl)
      let ko : Vec F S16 .f32 ← Prog.lift (.load a20 rAll.toLoadRect (View.loadsAt_vmem h_S16))
      let vo : Vec F S16 .i32 ← Prog.lift (.load a21 rAll.toLoadRect (View.loadsAt_vmem h_S16))
      kk r ri ko vo) Q := by
  refine wp_rev hj hj' hA hB hP1 hP2 ?_
  intro r ri hr hri
  refine wp_sort hlb hinit (hbody r ri) hc1 hx2 (hc2 _) ?_
  intro ko vo hko hvo
  refine hK r ri ko vo ?_
  subst hko hvo hr hri
  rw [hk, hv]
  rfl

/-- Two chunks of group minima are sorted and merged: the sixteen least of the two are at the continuation. -/
theorem wp_pair {α : Type} {Q : α → sProp (MM F)} {X : sProp (MM F)} {f : S32768.Idx → Elt F .f32}
    {off1 : Fin 1 → ℕ} {hoff1 : ∀ a, off1 a + S16.size a ≤ S32768.size a}
    {hld1 : (a11).view.LoadsAt (Rect.unit (s := S32768) off1 S16.size hoff1).toLoadRect} {v1 : Vec F S16 .i32}
    {off2 : Fin 1 → ℕ} {hoff2 : ∀ a, off2 a + S16.size a ≤ S32768.size a}
    {hld2 : (a11).view.LoadsAt (Rect.unit (s := S32768) off2 S16.size hoff2).toLoadRect} {v2 : Vec F S16 .i32}
    {l1 : Scf.Loop 32} {hl1 : l1.OK} (hlb1 : l1 = ⟨0#32, 15#32, 1#32⟩)
    {ck1 : IVec S16 32 → Prop} {dk1 : ∀ w, Decidable (ck1 w)}
    {body1 : Vec F S16 .f32 → Fin l1.trips → IVec S16 32 → Prog (TpuEff nD τ sig (Elt F) Λ₀ (tV d L).2) (IVec S16 32)} {init1 : IVec S16 32}
    (hinit1 : init1 = broadcast S16 0#32)
    (hbody1 : ∀ k1 n acc, body1 k1 n acc = (do
      have hw : ck1 (rot n) := (← Prog.lift (TpuEff.assume (ck1 (rot n)) (dk1 (rot n)))).down
      let kj : Vec F S16 .f32 ← SparseCore.vectorLoadIdx a20 ![rot n] (rot_inb n) (View.loads_vmem h_S16)
      pure (rankStep k1 acc (rot n) kj)))
    (hc1 : ∀ n, ck1 (rot n))
    {cs1 : IVec S16 32 → Prop} {ds1 : ∀ w, Decidable (cs1 w)}
    (hx1 : ∀ w, cs1 w → ∀ a x, ((![w] : Fin 1 → IVec S16 32) a x).toNat < S16.size a)
    (hs1 : ∀ k : Vec F S16 .f32, cs1 (rankAt k 15))
    {l2 : Scf.Loop 32} {hl2 : l2.OK} (hlb2 : l2 = ⟨0#32, 15#32, 1#32⟩)
    {ck2 : IVec S16 32 → Prop} {dk2 : ∀ w, Decidable (ck2 w)}
    {body2 : Vec F S16 .f32 → Vec F S16 .f32 → Vec F S16 .i32 → Vec F S16 .f32 → Fin l2.trips → IVec S16 32 → Prog (TpuEff nD τ sig (Elt F) Λ₀ (tV d L).2) (IVec S16 32)} {init2 : IVec S16 32}
    (hinit2 : init2 = broadcast S16 0#32)
    (hbody2 : ∀ k1 a ai k2 n acc, body2 k1 a ai k2 n acc = (do
      have hw : ck2 (rot n) := (← Prog.lift (TpuEff.assume (ck2 (rot n)) (dk2 (rot n)))).down
      let kj : Vec F S16 .f32 ← SparseCore.vectorLoadIdx a20 ![rot n] (rot_inb n) (View.loads_vmem h_S16)
      pure (rankStep k2 acc (rot n) kj)))
    (hc2 : ∀ n, ck2 (rot n))
    {cs2 : IVec S16 32 → Prop} {ds2 : ∀ w, Decidable (cs2 w)}
    (hx2 : ∀ w, cs2 w → ∀ a x, ((![w] : Fin 1 → IVec S16 32) a x).toNat < S16.size a)
    (hs2 : ∀ k : Vec F S16 .f32, cs2 (rankAt k 15))
    {j j' : IVec S16 32} (hj : j = revIx) (hj' : j' = revIx)
    {P1 P2 : Prop} {decA : Decidable P1} {decB : Decidable P2}
    (hA : P1 → ∀ a x, ((![j] : Fin 1 → IVec S16 32) a x).toNat < S16.size a)
    (hB : P2 → ∀ a x, ((![j'] : Fin 1 → IVec S16 32) a x).toNat < S16.size a)
    (hP1 : P1) (hP2 : P2)
    {k : Vec F S16 .f32 → Vec F S16 .f32 → Vec F S16 .i32 → Vec F S16 .f32 → Vec F S16 .f32 → Vec F S16 .i32 → Vec F S16 .f32 → Vec F S16 .i32 → Vec F S16 .f32} {v : Vec F S16 .f32 → Vec F S16 .f32 → Vec F S16 .i32 → Vec F S16 .f32 → Vec F S16 .f32 → Vec F S16 .i32 → Vec F S16 .f32 → Vec F S16 .i32 → Vec F S16 .i32}
    (hk : ∀ k1 a ai k2 b bi r ri, k k1 a ai k2 b bi r ri = loK a ai r ri) (hv : ∀ k1 a ai k2 b bi r ri, v k1 a ai k2 b bi r ri = loI a ai r ri)
    {l3 : Scf.Loop 32} {hl3 : l3.OK} (hlb3 : l3 = ⟨0#32, 15#32, 1#32⟩)
    {ck3 : IVec S16 32 → Prop} {dk3 : ∀ w, Decidable (ck3 w)}
    {body3 : Vec F S16 .f32 → Vec F S16 .f32 → Vec F S16 .i32 → Vec F S16 .f32 → Vec F S16 .f32 → Vec F S16 .i32 → Vec F S16 .f32 → Vec F S16 .i32 → Fin l3.trips → IVec S16 32 → Prog (TpuEff nD τ sig (Elt F) Λ₀ (tV d L).2) (IVec S16 32)} {init3 : IVec S16 32}
    (hinit3 : init3 = broadcast S16 0#32)
    (hbody3 : ∀ k1 a ai k2 b bi r ri n acc, body3 k1 a ai k2 b bi r ri n acc = (do
      have hw : ck3 (rot n) := (← Prog.lift (TpuEff.assume (ck3 (rot n)) (dk3 (rot n)))).down
      let kj : Vec F S16 .f32 ← SparseCore.vectorLoadIdx a20 ![rot n] (rot_inb n) (View.loads_vmem h_S16)
      pure (rankStep (k k1 a ai k2 b bi r ri) acc (rot n) kj)))
    (hc3 : ∀ n, ck3 (rot n))
    {cs3 : IVec S16 32 → Prop} {ds3 : ∀ w, Decidable (cs3 w)}
    (hx3 : ∀ w, cs3 w → ∀ a x, ((![w] : Fin 1 → IVec S16 32) a x).toNat < S16.size a)
    (hs3 : ∀ k : Vec F S16 .f32, cs3 (rankAt k 15))
    {kk : Vec F S16 .f32 → Vec F S16 .f32 → Vec F S16 .i32 → Vec F S16 .f32 → Vec F S16 .f32 → Vec F S16 .i32 → Vec F S16 .f32 → Vec F S16 .i32 → Vec F S16 .f32 → Vec F S16 .i32 → Prog (TpuEff nD τ sig (Elt F) Λ₀ (tV d L).2) α}
    (hK : ∀ k1 a ai k2 b bi r ri ko vo, ((ko, vo) : KV F) = mergeP (sortP (chunk f off1 hoff1, v1)) (sortP (chunk f off2 hoff2, v2)) →
      iprop(scr (F := F) d L ∗ ((a11).view.loc (tV d L) ↦{fullShare} f) ∗ X) ⊢ wpV d L (kk k1 a ai k2 b bi r ri ko vo) Q) :
    iprop(scr (F := F) d L ∗ ((a11).view.loc (tV d L) ↦{fullShare} f) ∗ X) ⊢ wpV d L (do
      let k1 : Vec F S16 .f32 ← Prog.lift (.load a11 (Rect.unit (s := S32768) off1 S16.size hoff1).toLoadRect hld1)
      let _ : Vec F S16 .f32 ← Prog.lift (.load a20 rAll.toLoadRect (View.loadsAt_vmem h_S16))
      Prog.lift (.store a20 rAll k1 Finset.univ (View.stores_vmem_bits_univ h_S16 rfl) (.inl rfl))
      let _ : Vec F S16 .i32 ← Prog.lift (.load a21 rAll.toLoadRect (View.loadsAt_vmem h_S16))
      Prog.lift (.store a21 rAll v1 Finset.univ (View.stores_vmem_bits_univ h_S16 rfl) (.inl rfl))
      let rk : IVec S16 32 ← Scf.Loop.for l1 hl1 init1 (body1 k1)
      have hw : cs1 rk := (← Prog.lift (TpuEff.assume (cs1 rk) (ds1 rk))).down
      SparseCore.vectorStoreIdx a20 ![rk] k1 (fun _ => 1#1) false (hx1 rk hw) (View.stores_vmem_bits_univ h_S16 rfl)
      SparseCore.vectorStoreIdx a21 ![rk] v1 (fun _ => 1#1) false (hx1 rk hw) (View.stores_vmem_bits_univ h_S16 rfl)
      let a : Vec F S16 .f32 ← Prog.lift (.load a20 rAll.toLoadRect (View.loadsAt_vmem h_S16))
      let ai : Vec F S16 .i32 ← Prog.lift (.load a21 rAll.toLoadRect (View.loadsAt_vmem h_S16))
      let k2 : Vec F S16 .f32 ← Prog.lift (.load a11 (Rect.unit (s := S32768) off2 S16.size hoff2).toLoadRect hld2)
      let _ : Vec F S16 .f32 ← Prog.lift (.load a20 rAll.toLoadRect (View.loadsAt_vmem h_S16))
      Prog.lift (.store a20 rAll k2 Finset.univ (View.stores_vmem_bits_univ h_S16 rfl) (.inl rfl))
      let _ : Vec F S16 .i32 ← Prog.lift (.load a21 rAll.toLoadRect (View.loadsAt_vmem h_S16))
      Prog.lift (.store a21 rAll v2 Finset.univ (View.stores_vmem_bits_univ h_S16 rfl) (.inl rfl))
      let rk : IVec S16 32 ← Scf.Loop.for l2 hl2 init2 (body2 k1 a ai k2)
      have hw : cs2 rk := (← Prog.lift (TpuEff.assume (cs2 rk) (ds2 rk))).down
      SparseCore.vectorStoreIdx a20 ![rk] k2 (fun _ => 1#1) false (hx2 rk hw) (View.stores_vmem_bits_univ h_S16 rfl)
      SparseCore.vectorStoreIdx a21 ![rk] v2 (fun _ => 1#1) false (hx2 rk hw) (View.stores_vmem_bits_univ h_S16 rfl)
      let b : Vec F S16 .f32 ← Prog.lift (.load a20 rAll.toLoadRect (View.loadsAt_vmem h_S16))
      let bi : Vec F S16 .i32 ← Prog.lift (.load a21 rAll.toLoadRect (View.loadsAt_vmem h_S16))
      let _ : Vec F S16 .f32 ← Prog.lift (.load a20 rAll.toLoadRect (View.loadsAt_vmem h_S16))
      Prog.lift (.store a20 rAll b Finset.univ (View.stores_vmem_bits_univ h_S16 rfl) (.inl rfl))
      let _ : Vec F S16 .i32 ← Prog.lift (.load a21 rAll.toLoadRect (View.loadsAt_vmem h_S16))
      Prog.lift (.store a21 rAll bi Finset.univ (View.stores_vmem_bits_univ h_S16 rfl) (.inl rfl))
      have hw : P1 := (← Prog.lift (TpuEff.assume P1 decA)).down
      let r : Vec F S16 .f32 ← SparseCore.vectorLoadIdx a20 ![j] (hA hw) (View.loads_vmem h_S16)
      have hw : P2 := (← Prog.lift (TpuEff.assume P2 decB)).down
      let ri : Vec F S16 .i32 ← SparseCore.vectorLoadIdx a21 ![j'] (hB hw) (View.loads_vmem h_S16)
      let _ : Vec F S16 .f32 ← Prog.lift (.load a20 rAll.toLoadRect (View.loadsAt_vmem h_S16))
      Prog.lift (.store a20 rAll (k k1 a ai k2 b bi r ri) Finset.univ (View.stores_vmem_bits_univ h_S16 rfl) (.inl rfl))
      let _ : Vec F S16 .i32 ← Prog.lift (.load a21 rAll.toLoadRect (View.loadsAt_vmem h_S16))
      Prog.lift (.store a21 rAll (v k1 a ai k2 b bi r ri) Finset.univ (View.stores_vmem_bits_univ h_S16 rfl) (.inl rfl))
      let rk : IVec S16 32 ← Scf.Loop.for l3 hl3 init3 (body3 k1 a ai k2 b bi r ri)
      have hw : cs3 rk := (← Prog.lift (TpuEff.assume (cs3 rk) (ds3 rk))).down
      SparseCore.vectorStoreIdx a20 ![rk] (k k1 a ai k2 b bi r ri) (fun _ => 1#1) false (hx3 rk hw) (View.stores_vmem_bits_univ h_S16 rfl)
      SparseCore.vectorStoreIdx a21 ![rk] (v k1 a ai k2 b bi r ri) (fun _ => 1#1) false (hx3 rk hw) (View.stores_vmem_bits_univ h_S16 rfl)
      let ko : Vec F S16 .f32 ← Prog.lift (.load a20 rAll.toLoadRect (View.loadsAt_vmem h_S16))
      let vo : Vec F S16 .i32 ← Prog.lift (.load a21 rAll.toLoadRect (View.loadsAt_vmem h_S16))
      kk k1 a ai k2 b bi r ri ko vo) Q := by
  refine wp_gsort hlb1 hinit1 hbody1 hc1 hx1 hs1 ?_
  intro k1 a ai e1
  refine wp_gsort hlb2 hinit2 (hbody2 k1 a ai) hc2 hx2 hs2 ?_
  intro k2 b bi e2
  refine wp_merge hj hj' hA hB hP1 hP2 hlb3 (hk k1 a ai k2 b bi) (hv k1 a ai k2 b bi) hinit3 (hbody3 k1 a ai k2 b bi) hc3 hx3 hs3 ?_
  intro r ri ko vo e3
  exact hK k1 a ai k2 b bi r ri ko vo (by rw [e3, e1, e2])

end Cert.Proof.Knn
-- ==== Proof.Slots.lean ====
/- Memrefs held at what they read, and the rules of a subcore's copies, loads and stores over them. -/
module

public import proofs.«01_k».proof.Proof.Stage
public import Idealize.ShloMosaic.Lib.Pipeline.Value

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Hold

variable (d : Dev nD) (L : grid0.Coords)

/-- The elements under a memref are held at share `q`, and read as `X`. -/
def hold {sp : Space} {s : Shape} {e : EltTy} (m : Memref sig .scVector sp s e) (q : PosShare TreeShare)
    (X : s.Idx → Elt F e) : sProp (MM F) :=
  iprop(∃ f, (m.view.loc (tV d L) ↦[m.view.set]{q} f) ∗ ⌜m.view.read (Elt F) f = X⌝)

/-- The elements under a memref are held outright, at whatever they are. -/
def holdAny {sp : Space} {s : Shape} {e : EltTy} (m : Memref sig .scVector sp s e) : sProp (MM F) :=
  iprop(∃ f : Buf (Elt F) (m.view.loc (tV d L)), m.view.loc (tV d L) ↦[m.view.set]{fullShare} f)

/-- What the thread owes, its waits so far beyond `W` all of this program's own. -/
def OW (O : CellTallies nD τ sig (HIx 1)) (W : Waits sig (HIx 1)) : sProp (MM F) :=
  iprop(Transfers.MayWaits (tV d L) (default : HIx 1) O ∗ ∃ W', ⌜∀ p ∈ W', p ∈ W ∨ p.2 = none⌝ ∗ owes (tV d L) O W')

/-- A copy of this thread's under way. -/
abbrev fly (sem : DmaSem sig) (N : ℕ) (D : sProp (MM F)) : sProp (MM F) :=
  Transfers.Flight countersEmb (tV d L) (.dma sem) (default : HIx 1) N D

/-- The semaphore at zero. -/
abbrev zero (sem : DmaSem sig) : sProp (MM F) := semVal (tV d L, SemLoc.dma sem) 0

variable {d L}

theorem hold_any {sp : Space} {s : Shape} {e : EltTy} {m : Memref sig .scVector sp s e} {X : s.Idx → Elt F e} :
    hold d L m fullShare X ⊢ holdAny (F := F) d L m := by
  unfold hold holdAny
  iintro ⟨%f, H, -⟩
  iexists f; iexact H

/-- A wait for a copy under way: what it delivers is here. -/
theorem wp_await {α : Type} {Q : α → sProp (MM F)} {O : CellTallies nD τ sig (HIx 1)} {W : Waits sig (HIx 1)}
    {sp sp' : Space} {s s' : Shape} {e e' : EltTy} {κ' : Kind} {sem : DmaSem sig} {N : ℕ}
    {srcw : Memref sig (tV d L).2.kind sp' s' e'} {dstw : Memref sig κ' sp s e} {hsrc : srcw.view.WordExact} {hdst : dstw.view.WordExact}
    {k : PUnit → Prog (TpuEff nD τ sig (Elt F) Λ₀ (tV d L).2) α} (hN : dstw.view.dmaCredit = N) {D : sProp (MM F)} :
    iprop(fly d L sem N D ∗ OW d L O W)
      ⊢ iprop((iprop(D ∗ zero d L sem ∗ OW d L O W) -∗ wpV d L (k ⟨⟩) Q)
          -∗ wpV d L (.op (.waitDma2 sem srcw dstw hsrc hdst) k) Q) := by
  unfold OW wpV
  iintro ⟨Hfl, #Hmw, %W', %hW', HO⟩ Hk
  iapply (Transfers.wp_waitLocalO countersEmb 𝒱₀ (tV d L) none (default : HIx 1) hN) $$ [Hfl HO]
  · isplitl [Hfl]; · iexact Hfl
    isplitl [HO]; · iexact HO
    iapply (Transfers.MayWaits.elim (SemLoc.dma sem)) $$ Hmw
  iintro ⟨HD, Hz, HO⟩
  iapply Hk
  isplitl [HD]; · iexact HD
  isplitl [Hz]; · iexact Hz
  isplitr; · iexact Hmw
  iexists _
  isplitr
  swap; · iexact HO
  ipureintro
  intro p hp
  rcases Finset.mem_insert.mp hp with hp | hp
  · exact .inr (hp ▸ rfl)
  · exact hW' p hp

/-- The start of a copy: it delivers the destination reading what the source reads, and the source back. -/
theorem wp_copy {α : Type} {Q : α → sProp (MM F)} {sp sp' : Space} {s : Shape} {e : EltTy}
    {src : Memref sig .scVector sp s e} {dst : Memref sig .scVector sp' s e} {sem : DmaSem sig}
    {hsrc : src.view.WordExact} {hdst : dst.view.WordExact} {hsem : DmaTarget.Typed (nD := nD) (p := (tV d L).2) sp (.dma sem) (.here dst)}
    {k : PUnit → Prog (TpuEff nD τ sig (Elt F) Λ₀ (tV d L).2) α} {q : PosShare TreeShare} {X : s.Idx → Elt F e}
    (hs : 0 < s.numel) :
    iprop(hold d L src q X ∗ holdAny (F := F) d L dst ∗ zero d L sem)
      ⊢ iprop((fly d L sem dst.view.dmaCredit iprop(hold d L dst fullShare X ∗ hold d L src q X) -∗ wpV d L (k ⟨⟩) Q)
          -∗ wpV d L (.op (.enqueueDma src (.here dst) (.dma sem) hsrc hdst hsem) k) Q) := by
  unfold wpV
  iintro ⟨Hs, Hd, Hz⟩ Hk
  ihave Hs := (Entails.of_eq (show hold d L src q X = iprop(∃ f, (src.view.loc (tV d L) ↦[src.view.set]{q} f) ∗ ⌜src.view.read (Elt F) f = X⌝) from rfl)) $$ Hs
  ihave Hd := (Entails.of_eq (show holdAny (F := F) d L dst = iprop(∃ f : Buf (Elt F) (dst.view.loc (tV d L)), dst.view.loc (tV d L) ↦[dst.view.set]{fullShare} f) from rfl)) $$ Hd
  icases Hs with ⟨%fs, Hs, %hX⟩
  icases Hd with ⟨%fd, Hd⟩
  iapply (Transfers.wp_dmaLocal countersEmb 𝒱₀ (tV d L) none (src := src) (dst := dst) (sm := .dma sem) (Sd := dst.view.set) (default : HIx 1) _ rfl
    (View.dmaCredit_pos _ hs) (fun _ h => h)) $$ [Hs Hd Hz]
  · isplitl [Hs]; · iexact Hs
    isplitl [Hd] <;> iassumption
  iintro Hfl
  iapply Hk
  iapply (Transfers.Flight_mono countersEmb (tV d L) ?_) $$ Hfl
  iintro ⟨Hd, Hs⟩
  isplitl [Hd]
  · unfold hold
    iexists _
    isplitl [Hd]; · iexact Hd
    ipureintro
    rw [View.read_write_univ]
    exact hX
  · unfold hold
    iexists _
    isplitl [Hs]; · iexact Hs
    ipureintro; exact hX

/-- The start of an indirect gather: it delivers the destination reading the rows that the list names. -/
theorem wp_gather {α : Type} {Q : α → sProp (MM F)} {sp : Space} {s₀ s si : Shape} {e : EltTy} {a : ℕ}
    {src : Memref sig .scVector sp s₀ e} {dst : Memref sig .scVector .vmem s e} {hg : s₀.Gathers a s}
    {offs : Memref sig .scVector .vmem si .i32} {hn : si.numel = s.size hg.axis'} {sem : DmaSem sig}
    {hp : (tV d L).2.kind = .scVector} {hsrc : src.view.WordExact} {he : e.bits = 32} {hsp : sp = .hbm ∨ sp = .shared} {hr : s₀.StreamRows a}
    {k : PUnit → Prog (TpuEff nD τ sig (Elt F) Λ₀ (tV d L).2) α}
    {q qo : PosShare TreeShare} {X : s₀.Idx → Elt F e} {Y : si.Idx → BitVec 32}
    (N : ℕ) (hN : ∑ j, (dst.slice (s.rowRect hg.axis' j) (s.stride_rowRect hg.axis' j)).view.dmaCredit = N)
    (hs : 0 < s.numel) (hin : ∀ x, (Y x).toNat < s₀.size hg.axis)
    {G : s.Idx → Elt F e} (hG : SparseCore.gatherPayload hg X (SparseCore.rows (F := F) Y hn hin) = G) :
    iprop(hold d L src q X ∗ holdAny (F := F) d L dst ∗ hold (F := F) d L offs qo Y ∗ zero d L sem)
      ⊢ iprop((fly d L sem N iprop(hold d L dst fullShare G ∗ hold d L src q X ∗ hold (F := F) d L offs qo Y) -∗ wpV d L (k ⟨⟩) Q)
          -∗ wpV d L (SparseCore.enqueueIndirectGather hp src dst hg offs hn sem hsrc he hsp hr >>= k) Q) := by
  subst hG
  unfold wpV
  iintro ⟨Hs, Hd, Ho, Hz⟩ Hk
  ihave Hs := (Entails.of_eq (show hold d L src q X = iprop(∃ f, (src.view.loc (tV d L) ↦[src.view.set]{q} f) ∗ ⌜src.view.read (Elt F) f = X⌝) from rfl)) $$ Hs
  ihave Hd := (Entails.of_eq (show holdAny (F := F) d L dst = iprop(∃ f : Buf (Elt F) (dst.view.loc (tV d L)), dst.view.loc (tV d L) ↦[dst.view.set]{fullShare} f) from rfl)) $$ Hd
  ihave Ho := (Entails.of_eq (show hold (F := F) d L offs qo Y = iprop(∃ f, (offs.view.loc (tV d L) ↦[offs.view.set]{qo} f) ∗ ⌜offs.view.read (Elt F) f = Y⌝) from rfl)) $$ Ho
  icases Hs with ⟨%fs, Hs, %hX⟩
  icases Hd with ⟨%fd, Hd⟩
  icases Ho with ⟨%fo, Ho, %hY⟩
  subst hX hY
  iapply (SparseCore.wp_indirectGatherLocal countersEmb 𝒱₀ (tV d L) none (src := src) (dst := dst) (hg := hg) (offs := offs) (default : HIx 1) N hN hs hin) $$ [Hs Hd Ho Hz]
  · isplitl [Hs]; · iexact Hs
    isplitl [Hd]; · iexact Hd
    isplitl [Ho] <;> iassumption
  iintro Hfl
  iapply Hk
  iapply (Transfers.Flight_mono countersEmb (tV d L) ?_) $$ Hfl
  iintro ⟨Hd, Hs, Ho⟩
  isplitl [Hd]
  · unfold hold
    iexists _
    isplitl [Hd]; · iexact Hd
    ipureintro
    rw [View.read_write_univ]
  isplitl [Hs]
  · unfold hold
    iexists _
    isplitl [Hs]; · iexact Hs
    ipureintro; rfl
  · unfold hold
    iexists _
    isplitl [Ho]; · iexact Ho
    ipureintro; rfl

theorem hold_open {sp : Space} {s : Shape} {e : EltTy} {m : Memref sig .scVector sp s e} {q : PosShare TreeShare} {X : s.Idx → Elt F e} :
    hold d L m q X ⊢ iprop(∃ f, (m.view.loc (tV d L) ↦[m.view.set]{q} f) ∗ ⌜m.view.read (Elt F) f = X⌝) := Entails.of_eq rfl

/-- A load of a rectangle of a held memref. -/
theorem wp_peek {α : Type} {Q : α → sProp (MM F)} {s : Shape} {e : EltTy} {m : Memref sig .scVector .vmem s e} {r : Rect s}
    {hl : m.view.LoadsAt r.toLoadRect} {k : (r.shape.Idx → Elt F e) → Prog (TpuEff nD τ sig (Elt F) Λ₀ (tV d L).2) α}
    {q : PosShare TreeShare} {X : s.Idx → Elt F e} :
    hold d L m q X ⊢ iprop((hold d L m q X -∗ wpV d L (k fun x => X (r.emb x)) Q) -∗ wpV d L (.op (.load m r.toLoadRect hl) k) Q) := by
  iintro H Hk
  ihave H := hold_open $$ H
  icases H with ⟨%f, H, %hX⟩
  subst hX
  unfold wpV
  iapply (wp_load_rect 𝒱₀ (tV d L) none Set.univ (m := m) (r := r) (View.set_slice_subset _ _)) $$ H
  iintro H
  iapply Hk
  unfold hold
  iexists f
  isplitl [H]; · iexact H
  ipureintro; rfl

/-- An indexed load of a held memref. -/
theorem wp_look {α : Type} {Q : α → sProp (MM F)} {s t : Shape} {e : EltTy} {m : Memref sig .scVector .vmem s e} {idxs : Fin s.rank → IVec t 32}
    {h : ∀ a x, (idxs a x).toNat < s.size a} {hl : m.view.Loads} {k : Vec F t e → Prog (TpuEff nD τ sig (Elt F) Λ₀ (tV d L).2) α}
    {q : PosShare TreeShare} {X : s.Idx → Elt F e} :
    hold d L m q X ⊢ iprop((hold d L m q X -∗ wpV d L (k (loadIdx X idxs h)) Q) -∗ wpV d L (SparseCore.vectorLoadIdx m idxs h hl >>= k) Q) := by
  iintro H Hk
  ihave H := hold_open $$ H
  icases H with ⟨%f, H, %hX⟩
  subst hX
  unfold wpV
  iapply (SparseCore.wp_vectorLoadIdx 𝒱₀ (tV d L) none Set.univ (base := m) (View.set_slice_subset _ _)) $$ H
  iintro H
  rw [show (m.access (.whole s)).read (Elt F) f = m.view.read (Elt F) f from funext fun x => congrArg (m.view.read (Elt F) f) (Rect.emb_whole_apply s x)]
  iapply Hk
  unfold hold
  iexists f
  isplitl [H]; · iexact H
  ipureintro; rfl

/-- Row `b` of a buffer of two rows of sixteen. -/
abbrev rowM (m : Memref sig .scVector .vmem S2x16 .i32) (b : ℕ) (hb : ∀ a, (![b, 0] : Fin 2 → ℕ) a + S1x16.size a ≤ S2x16.size a) :
    Memref sig .scVector .vmem S16 .i32 :=
  (m.slice (Rect.unit (s := S2x16) ![b, 0] S1x16.size hb) (fun _ => rfl)).squeeze S16 squeezes_S1x16_S16

/-- A row is stored. -/
theorem wp_putRow {α : Type} {Q : α → sProp (MM F)} {m : Memref sig .scVector .vmem S2x16 .i32} {b : ℕ}
    {hb : ∀ a, (![b, 0] : Fin 2 → ℕ) a + S1x16.size a ≤ S2x16.size a}
    {hl : m.view.LoadsAt (Rect.unit (s := S2x16) ![b, 0] S1x16.size hb).toLoadRect}
    {hx : (m.access (Rect.unit (s := S2x16) ![b, 0] S1x16.size hb)).Stores Finset.univ} {hm : (Finset.univ : Finset S1x16.Idx) = Finset.univ ∨ _}
    {v : Vec F S16 .i32} {k : PUnit → Prog (TpuEff nD τ sig (Elt F) Λ₀ (tV d L).2) α} :
    holdAny (F := F) d L (rowM m b hb) ⊢ iprop((hold (F := F) d L (rowM m b hb) fullShare v -∗ wpV d L (k ⟨⟩) Q)
      -∗ wpV d L (.op (.load m (Rect.unit (s := S2x16) ![b, 0] S1x16.size hb).toLoadRect hl) fun _ =>
        .op (.store m (Rect.unit (s := S2x16) ![b, 0] S1x16.size hb) (shapeCast S1x16 v shapeCasts_S16_S1x16) Finset.univ hx hm) k) Q) := by
  iintro H Hk
  ihave H := (Entails.of_eq (show holdAny (F := F) d L (rowM m b hb) = iprop(∃ f : Buf (Elt F) ((rowM m b hb).view.loc (tV d L)), (rowM m b hb).view.loc (tV d L) ↦[(rowM m b hb).view.set]{fullShare} f) from rfl)) $$ H
  icases H with ⟨%f, H⟩
  have hs : (rowM m b hb).view.set = (m.access (Rect.unit (s := S2x16) ![b, 0] S1x16.size hb)).set := View.set_reshape _ _
  unfold wpV
  iapply (wp_load_rect 𝒱₀ (tV d L) none Set.univ (m := m) (r := Rect.unit (s := S2x16) ![b, 0] S1x16.size hb) hs.symm.subset) $$ H
  iintro H
  iapply (wp_store 𝒱₀ (tV d L) none Set.univ (m := m) (r := Rect.unit (s := S2x16) ![b, 0] S1x16.size hb) hs.symm.subset) $$ H
  iintro H
  iapply Hk
  unfold hold
  iexists _
  isplitl [H]; · iexact H
  ipureintro
  rw [Memref.read_squeeze_slice (hc := shapeCasts_S1x16_S16)]
  refine Eq.trans (congrArg (fun w => shapeCast S16 w shapeCasts_S1x16_S16) (View.read_write_univ (v := m.access (Rect.unit (s := S2x16) ![b, 0] S1x16.size hb)) f _)) ?_
  exact shapeCast_shapeCast v _ _

/-- The `n`-th entry of a subcore's list of candidates. -/
def ent (n : ℕ) : S4096.Idx := fun a => ⟨n % 4096, by obtain rfl := Fin.eq_zero a; exact Nat.mod_lt _ (by decide)⟩

/-- Sixteen entries of the list are stored, the others kept. -/
theorem wp_putList {α : Type} {Q : α → sProp (MM F)} {off : Fin 1 → ℕ} {ho : ∀ a, off a + S16.size a ≤ S4096.size a}
    {hl : (a15).view.LoadsAt (Rect.unit (s := S4096) off S16.size ho).toLoadRect}
    {hx : ((a15).access (Rect.unit (s := S4096) off S16.size ho)).Stores Finset.univ} {hm : (Finset.univ : Finset S16.Idx) = Finset.univ ∨ _}
    {v : Vec F S16 .i32} {k : PUnit → Prog (TpuEff nD τ sig (Elt F) Λ₀ (tV d L).2) α} {f : S4096.Idx → Elt F .i32} :
    ((a15).view.loc (tV d L) ↦{fullShare} f) ⊢ iprop((∀ g : S4096.Idx → Elt F .i32,
          ⌜(∀ x : S16.Idx, g (ent (off 0 + (x 0).val)) = v x) ∧ ∀ n, n < off 0 → g (ent n) = f (ent n)⌝
          -∗ ((a15).view.loc (tV d L) ↦{fullShare} g) -∗ wpV d L (k ⟨⟩) Q)
      -∗ wpV d L (.op (.load a15 (Rect.unit (s := S4096) off S16.size ho).toLoadRect hl) fun _ =>
        .op (.store a15 (Rect.unit (s := S4096) off S16.size ho) v Finset.univ hx hm) k) Q) := by
  have h0 : off 0 + 16 ≤ 4096 := ho 0
  have hemb : ∀ x : S16.Idx, ent (off 0 + (x 0).val) = (Rect.unit (s := S4096) off S16.size ho).emb x := by
    intro x
    have hx : (x 0).val < 16 := (x 0).isLt
    funext a
    obtain rfl := Fin.eq_zero a
    refine Fin.ext ?_
    show (off 0 + (x 0).val) % 4096 = off 0 + 1 * (x 0).val
    rw [Nat.mod_eq_of_lt (by omega), Nat.one_mul]
  iintro H Hk
  unfold wpV
  iapply (wp_load_rect 𝒱₀ (tV d L) none Set.univ (m := a15) (r := Rect.unit (s := S4096) off S16.size ho) (Finset.subset_univ _)) $$ H
  iintro H
  iapply (wp_store 𝒱₀ (tV d L) none Set.univ (m := a15) (r := Rect.unit (s := S4096) off S16.size ho) (Finset.subset_univ _)) $$ H
  iintro H
  iapply Hk $$ %_ [] H
  ipureintro
  refine ⟨fun x => ?_, fun n hn => ?_⟩
  · rw [hemb x]
    exact congrFun (View.read_write_univ (v := (a15).access (Rect.unit (s := S4096) off S16.size ho)) f v) x
  · refine View.write_of_not_mem _ _ _ ?_
    intro hm
    obtain ⟨x, _, he⟩ := Finset.mem_map.mp hm
    have hx : (x 0).val < 16 := (x 0).isLt
    have h1 := congrArg (fun j : S4096.Idx => (j 0).val) he
    have h2 : off 0 + 1 * (x 0).val = n % 4096 := h1
    rw [Nat.mod_eq_of_lt (by omega)] at h2
    omega

end Hold

end Cert.Proof.Knn
-- ==== Proof.Spec.lean ====
/- What a subcore computes, row by row, and how large its indices are. -/
module

public import proofs.«01_k».proof.Proof.Stage

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The sixteen groups of a row -/

/-- A subcore's `n`-th group minimum. -/
def gm1 (n : ℕ) : S32768.Idx := fun a => ⟨n % 32768, by obtain rfl := Fin.eq_zero a; exact Nat.mod_lt _ (by decide)⟩
/-- The `n`-th of sixteen lanes. -/
def lane1 (n : Fin 16) : S16.Idx := fun a => ⟨n.val, by obtain rfl := Fin.eq_zero a; exact n.isLt⟩

/-- Sixteen consecutive values of a subcore's group minima. -/
def chunkAt (T : S32768.Idx → Elt F .f32) (n : ℕ) : Vec F S16 .f32 :=
  fun x => T (gm1 (n + (x 0).val))

theorem chunk_eq (T : S32768.Idx → Elt F .f32) (off : Fin 1 → ℕ) (h : ∀ a, off a + S16.size a ≤ S32768.size a) (n : ℕ) (hn : off 0 = n) :
    chunk T off h = chunkAt T n := by
  subst hn
  funext x
  show T ((Rect.unit (s := S32768) off S16.size h).emb x) = T _
  congr 1
  funext a
  obtain rfl : a = 0 := Fin.eq_zero a
  refine Fin.ext ?_
  have h0 : off 0 + 16 ≤ 32768 := h 0
  have hx : (x 0).val < 16 := (x 0).isLt
  show off 0 + 1 * (x 0).val = (off 0 + (x 0).val) % 32768
  rw [Nat.mod_eq_of_lt (by omega), Nat.one_mul]

/-- The positions from the word `w` on. -/
def pos (w : BitVec 32) : IVec S16 32 := addi (broadcast S16 w) lanes

/-- A chunk of row `r`'s group minima, sorted with its positions. -/
def grpChunk (T : S32768.Idx → Elt F .f32) (r c : ℕ) : KV F := sortP (chunkAt T (r * 128 + 16 * c), pos (BitVec.ofNat 32 (16 * c)))

/-- The sixteen least group minima of row `r` with their positions. -/
def groups (T : S32768.Idx → Elt F .f32) (r : ℕ) : KV F :=
  mergeP (mergeP (mergeP (grpChunk T r 0) (grpChunk T r 1)) (mergeP (grpChunk T r 2) (grpChunk T r 3)))
    (mergeP (mergeP (grpChunk T r 4) (grpChunk T r 5)) (mergeP (grpChunk T r 6) (grpChunk T r 7)))

/-- The positions of those groups within the row. -/
def giV (T : S32768.Idx → Elt F .f32) (r : ℕ) : Vec F S16 .i32 := (groups T r).2

/-- The first row of a subcore. -/
def baseW (L : grid0.Coords) : BitVec 32 :=
  Scalar.muli (Scalar.addi (Scalar.muli (BitVec.ofNat 32 (L 1).val) 2#32) (BitVec.ofNat 32 (L 0).val)) 256#32

def baseN (L : grid0.Coords) : ℕ := ((L 1).val * 2 + (L 0).val) * 256

/-- The rows of the distance table that hold those groups. -/
def gidxV (L : grid0.Coords) (T : S32768.Idx → Elt F .f32) (r : ℕ) : Vec F S16 .i32 :=
  addi (broadcast S16 (Scalar.muli (Scalar.addi (baseW L) (BitVec.ofNat 32 r)) 128#32)) (giV T r)

/-- A list's entries as rows of a table. -/
def modRows (Y : S16.Idx → BitVec 32) (n : ℕ) (hn : 0 < n) : Fin 16 → Fin n := fun k => ⟨(Y (lane1 k)).toNat % n, Nat.mod_lt _ hn⟩

theorem rows_eq {s₀ : Shape} {a : ℕ} {s : Shape} (hg : s₀.Gathers a s) (Y : S16.Idx → BitVec 32) (hn : S16.numel = s.size hg.axis')
    (h : ∀ x, (Y x).toNat < s₀.size hg.axis) (k : Fin (s.size hg.axis')) :
    (SparseCore.rows (F := F) Y hn h k).val = (Y (lane1 ⟨k.val, lt_of_lt_of_eq k.isLt hn.symm⟩)).toNat := by
  show (Y (S16.rowMajor.symm (k.cast hn.symm))).toNat = _
  congr 2
  rw [Equiv.symm_apply_eq]
  refine Fin.ext ?_
  rw [Shape.rowMajor_val_one]
  rfl

/-- The slab of the groups that a list names. -/
def slabV (D2 : S1048576x128.Idx → Elt F .f32) (Y : S16.Idx → BitVec 32) : S16x128.Idx → Elt F .f32 :=
  SparseCore.gatherPayload gathers_S1048576x128_S16x128 D2 (modRows Y 1048576 (by decide))
/-- The rows of a table of two by 128 that a list names. -/
def rows3 (X : S8192x2x128.Idx → Elt F .f32) (Y : S16.Idx → BitVec 32) : S16x2x128.Idx → Elt F .f32 :=
  SparseCore.gatherPayload gathers_S8192x2x128_S16x2x128 X (modRows Y 8192 (by decide))
/-- The rows of a table of 128 that a list names. -/
def rows2 (X : S8192x128.Idx → Elt F .f32) (Y : S16.Idx → BitVec 32) : S16x128.Idx → Elt F .f32 :=
  SparseCore.gatherPayload gathers_S8192x128_S16x128 X (modRows Y 8192 (by decide))

/-! ## The sixteen candidates of a slab -/

/-- The sixteen values of a slab at row `o 0` from column `o 1` on. -/
def slabChunk (Z : S16x128.Idx → Elt F .f32) (o : Fin 2 → ℕ) (h : ∀ a, o a + S1x16.size a ≤ S16x128.size a) : Vec F S1x16 .f32 :=
  fun x => Z ((Rect.unit (s := S16x128) o S1x16.size h).emb x)

theorem chunk_inb (n : ℕ) (hn : n < 64) : ∀ a, (![n / 4, n % 4 * 16] : Fin 2 → ℕ) a + S1x16.size a ≤ S16x128.size a := by
  intro a
  match a with
  | 0 => show n / 4 + 1 ≤ 16; omega
  | 1 => show n % 4 * 16 + 16 ≤ 128; omega

/-- The last key of a sorted list. -/
def lastK (k : Vec F S16 .f32) : F .f32 := k0_pay209 k

/-- One step: a chunk with a value below the sixteenth is sorted and merged, any other is passed over. -/
def selStep (Z : S16x128.Idx → Elt F .f32) (n : ℕ) (hn : n < 64) (p : KV F) : KV F :=
  if k0_cond2 (extractAt ![15] (k0_pay211 (lastK p.1) (slabChunk Z ![n / 4, n % 4 * 16] (chunk_inb n hn))) inpos_S16_p15) = 1#1 then
    mergeP p (sortP (shapeCast S16 (slabChunk Z ![n / 4, n % 4 * 16] (chunk_inb n hn)) shapeCasts_S1x16_S16, pos (BitVec.ofNat 32 (n * 16))))
  else p

/-- The sixteen least of the first `n + 1` chunks. -/
def selAt (Z : S16x128.Idx → Elt F .f32) : ℕ → KV F
  | 0 => sortP (shapeCast S16 (slabChunk Z ![0, 0] inb_S16x128_S1x16_0_0) shapeCasts_S1x16_S16, lanes)
  | n + 1 => if h : n + 1 < 64 then selStep Z (n + 1) h (selAt Z n) else selAt Z n

/-- The positions of a slab's sixteen least. -/
def ciV (Z : S16x128.Idx → Elt F .f32) : Vec F S16 .i32 := (selAt Z 63).2

theorem lt_of_and (v : BitVec 32) (m : BitVec 32) : (v &&& m).toNat ≤ m.toNat := by
  rw [BitVec.toNat_and]; exact Nat.and_le_right

/-! ## How large they are -/

theorem storeIdx_mem {s : Shape} {e : EltTy} {d : Fin 1 → ℕ} (f : Vec F s e) (idxs : Fin s.rank → IVec ⟨1, d⟩ 32) (v : Vec F ⟨1, d⟩ e)
    (mask : IVec ⟨1, d⟩ 1) (h : ∀ a x, (idxs a x).toNat < s.size a) (P : Elt F e → Prop) (hf : ∀ j, P (f j)) (hv : ∀ j, P (v j)) (x : s.Idx) :
    P (storeIdx f idxs v mask false h x) := by
  unfold storeIdx
  refine List.foldlRecOn (motive := fun (g : Vec F s e) => ∀ j, P (g j)) _ _ hf ?_ x
  intro g hg k _ j
  dsimp only
  split
  · beta_reduce
    split
    · rw [if_neg (by decide)]; exact hv _
    · exact hg j
  · exact hg j

theorem sortV_mem (k : Vec F S16 .f32) (v : Vec F S16 .i32) (x : S16.Idx) : ∃ y, sortV k v x = v y :=
  storeIdx_mem v ![rankAt k 15] v (fun _ => 1#1) (rank_inb k) (fun w => ∃ y, w = v y) (fun j => ⟨j, rfl⟩) (fun j => ⟨j, rfl⟩) x

def Below (n : ℕ) (v : Vec F S16 .i32) : Prop := ∀ x, (v x : BitVec 32).toNat < n

theorem Below.sortP {n : ℕ} {p : KV F} (h : Below (F := F) n p.2) : Below (F := F) n (sortP p).2 := by
  intro x
  obtain ⟨y, hy⟩ := sortV_mem p.1 p.2 x
  show (sortV p.1 p.2 x : BitVec 32).toNat < n
  rw [hy]; exact h y

theorem Below.mergeP {n : ℕ} {p q : KV F} (hp : Below (F := F) n p.2) (hq : Below (F := F) n q.2) : Below (F := F) n (mergeP p q).2 := by
  refine Below.sortP ?_
  intro x
  show (if _ then p.2 x else rev q.2 x : BitVec 32).toNat < n
  split
  · exact hp x
  · exact hq _

theorem lanes_toNat (x : S16.Idx) : (lanes x).toNat = (x 0).val := by
  have hx : (x 0).val < 16 := (x 0).isLt
  show (iota .scVector S16 32 [0] iota_S16_d0_w32_scVector x).toNat = _
  rw [show iota .scVector S16 32 [0] iota_S16_d0_w32_scVector x = BitVec.ofNat 32 (x 0).val by simp [iota], BitVec.toNat_ofNat, Nat.mod_eq_of_lt (by omega)]

theorem pos_toNat (n : ℕ) (hn : n < 65536) (x : S16.Idx) : (pos (BitVec.ofNat 32 n) x).toNat = n + (x 0).val := by
  have hx : (x 0).val < 16 := (x 0).isLt
  show (BitVec.ofNat 32 n + lanes x).toNat = _
  rw [BitVec.toNat_add, lanes_toNat, BitVec.toNat_ofNat]
  omega

theorem grpChunk_below (T : S32768.Idx → Elt F .f32) (r c : ℕ) (hc : c < 8) : Below (F := F) 128 (grpChunk T r c).2 := by
  refine Below.sortP ?_
  intro x
  have hx : (x 0).val < 16 := (x 0).isLt
  show (pos _ x).toNat < 128
  rw [pos_toNat _ (by omega)]; omega

theorem giV_below (T : S32768.Idx → Elt F .f32) (r : ℕ) : Below (F := F) 128 (giV T r) := by
  have h := fun c hc => grpChunk_below T r c hc
  exact (((h 0 (by decide)).mergeP (h 1 (by decide))).mergeP ((h 2 (by decide)).mergeP (h 3 (by decide)))).mergeP
    (((h 4 (by decide)).mergeP (h 5 (by decide))).mergeP ((h 6 (by decide)).mergeP (h 7 (by decide))))

theorem selAt_below (Z : S16x128.Idx → Elt F .f32) (n : ℕ) : Below (F := F) 1024 (selAt Z n).2 := by
  induction n with
  | zero =>
    refine Below.sortP ?_
    intro x
    have hx : (x 0).val < 16 := (x 0).isLt
    show (lanes x).toNat < 1024
    rw [lanes_toNat]; omega
  | succ n ih =>
    unfold selAt
    split
    · rename_i h
      unfold selStep
      split
      · refine ih.mergeP (Below.sortP ?_)
        intro x
        have hx : (x 0).val < 16 := (x 0).isLt
        show (pos _ x).toNat < 1024
        rw [pos_toNat _ (by omega)]; omega
      · exact ih
    · exact ih

theorem coords_lt (L : grid0.Coords) : (L 0).val < 2 ∧ (L 1).val < 16 := ⟨(L 0).isLt, (L 1).isLt⟩

theorem baseN_le (L : grid0.Coords) : baseN L + 256 ≤ 8192 := by
  have := coords_lt L
  unfold baseN; omega

theorem baseW_eq (L : grid0.Coords) : baseW L = BitVec.ofNat 32 (baseN L) := by
  unfold baseN
  simp only [BitVec.ofNat_add, BitVec.ofNat_mul]
  rfl

theorem gidxV_toNat (L : grid0.Coords) (T : S32768.Idx → Elt F .f32) (r : ℕ) (hr : r < 256) (x : S16.Idx) :
    (gidxV L T r x : BitVec 32).toNat = (baseN L + r) * 128 + (giV T r x : BitVec 32).toNat := by
  have hb := baseN_le L
  have hg : (giV T r x : BitVec 32).toNat < 128 := giV_below T r x
  show ((baseW L + BitVec.ofNat 32 r) * 128#32 + (giV T r x : BitVec 32)).toNat = _
  rw [baseW_eq, BitVec.toNat_add, BitVec.toNat_mul, BitVec.toNat_add, BitVec.toNat_ofNat, BitVec.toNat_ofNat]
  simp only [BitVec.toNat_ofNat]
  omega

theorem gidxV_lt (L : grid0.Coords) (T : S32768.Idx → Elt F .f32) (r : ℕ) (hr : r < 256) (x : S16.Idx) :
    (gidxV L T r x : BitVec 32).toNat < 1048576 := by
  have hb := baseN_le L
  have hg : (giV T r x : BitVec 32).toNat < 128 := giV_below T r x
  rw [gidxV_toNat L T r hr x]
  omega

theorem shr6_toNat (v : BitVec 32) (h : v.toNat < 1024) : (IntOp.shrsi .vector v 6#32).toNat = v.toNat / 64 := by
  have hm : v.msb = false := BitVec.msb_eq_false_iff_two_mul_lt.mpr (by omega)
  show (if _ then v.sshiftRight 6 else _ : BitVec 32).toNat = _
  rw [if_pos (by decide), BitVec.sshiftRight_eq_of_msb_false hm, BitVec.toNat_ushiftRight, Nat.shiftRight_eq_div_pow]

theorem shr6_inb {c : Vec F S16 .i32} (hc : Below (F := F) 1024 c) :
    ∀ a x, ((![k0_pay215 (F := F) c] : Fin 1 → IVec S16 32) a x).toNat < S16.size a := by
  intro a x
  obtain rfl := Fin.eq_zero a
  show (IntOp.shrsi .vector (c x : BitVec 32) 6#32).toNat < 16
  have := hc x
  rw [shr6_toNat _ this]; omega

/-- The rows of the tables that a row's sixteen least distances are at. -/
def candV (g c : Vec F S16 .i32) (hc : Below (F := F) 1024 c) : Vec F S16 .i32 :=
  k0_pay216 c (loadIdx g ![k0_pay215 c] (shr6_inb hc))

theorem candV_toNat (g c : Vec F S16 .i32) (hg : Below (F := F) 128 g) (hc : Below (F := F) 1024 c) (x : S16.Idx) :
    (candV g c hc x : BitVec 32).toNat = (loadIdx g ![k0_pay215 c] (shr6_inb hc) x : BitVec 32).toNat * 64 + (c x : BitVec 32).toNat % 64 := by
  have h1 := hc x
  have h2 : (loadIdx g ![k0_pay215 c] (shr6_inb hc) x : BitVec 32).toNat < 128 := hg _
  show ((loadIdx g ![k0_pay215 c] (shr6_inb hc) x : BitVec 32) * 64#32 + ((c x : BitVec 32) &&& 63#32)).toNat = _
  rw [BitVec.toNat_add, BitVec.toNat_mul, BitVec.toNat_and]
  have h3 : (c x : BitVec 32).toNat &&& (63#32).toNat = (c x : BitVec 32).toNat % 64 := Nat.and_two_pow_sub_one_eq_mod _ 6
  rw [h3]
  simp only [BitVec.toNat_ofNat]
  omega

theorem candV_lt (g c : Vec F S16 .i32) (hg : Below (F := F) 128 g) (hc : Below (F := F) 1024 c) (x : S16.Idx) :
    (candV g c hc x : BitVec 32).toNat < 8192 := by
  have h2 : (loadIdx g ![k0_pay215 c] (shr6_inb hc) x : BitVec 32).toNat < 128 := hg _
  rw [candV_toNat g c hg hc x]
  omega

/-- Row `r`'s slab and candidates. -/
def slabR (L : grid0.Coords) (T : S32768.Idx → Elt F .f32) (D2 : S1048576x128.Idx → Elt F .f32) (r : ℕ) : S16x128.Idx → Elt F .f32 :=
  slabV D2 (gidxV L T r)
def candR (L : grid0.Coords) (T : S32768.Idx → Elt F .f32) (D2 : S1048576x128.Idx → Elt F .f32) (r : ℕ) : Vec F S16 .i32 :=
  candV (giV T r) (ciV (slabR L T D2 r)) (selAt_below _ _)

theorem candR_lt (L : grid0.Coords) (T : S32768.Idx → Elt F .f32) (D2 : S1048576x128.Idx → Elt F .f32) (r : ℕ) (x : S16.Idx) :
    (candR L T D2 r x : BitVec 32).toNat < 8192 := candV_lt _ _ (giV_below T r) (selAt_below _ _) x

end Cert.Proof.Knn
-- ==== Proof.State.lean ====
/- What a subcore holds between two rows, and the rules of its steps. -/
module

public import proofs.«01_k».proof.Proof.Slots
public import proofs.«01_k».proof.Proof.Spec

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The windows -/

theorem inb2 (b : Fin 2) : ∀ a, (![b.val, 0] : Fin 2 → ℕ) a + S1x16.size a ≤ S2x16.size a := by
  have := b.isLt
  intro a
  match a with
  | 0 => show b.val + 1 ≤ 2; omega
  | 1 => exact Nat.le_refl 16
theorem inb3 (b : Fin 2) : ∀ a, (![b.val, 0, 0] : Fin 3 → ℕ) a + S1x16x128.size a ≤ S2x16x128.size a := by
  have := b.isLt
  intro a
  match a with
  | 0 => show b.val + 1 ≤ 2; omega
  | 1 => exact Nat.le_refl 16
  | 2 => exact Nat.le_refl 128
theorem inb4 (b : Fin 2) : ∀ a, (![b.val, 0, 0, 0] : Fin 4 → ℕ) a + S1x16x2x128.size a ≤ S2x16x2x128.size a := by
  have := b.isLt
  intro a
  match a with
  | 0 => show b.val + 1 ≤ 2; omega
  | 1 => exact Nat.le_refl 16
  | 2 => exact Nat.le_refl 2
  | 3 => exact Nat.le_refl 128

abbrev rowB (m : Memref sig .scVector .vmem S2x16 .i32) (b : Fin 2) : Memref sig .scVector .vmem S16 .i32 := rowM m b.val (inb2 b)
abbrev planeB (m : Memref sig .scVector .vmem S2x16x128 .f32) (b : Fin 2) : Memref sig .scVector .vmem S16x128 .f32 :=
  (m.slice (Rect.unit (s := S2x16x128) ![b.val, 0, 0] S1x16x128.size (inb3 b)) (fun _ => rfl)).squeeze S16x128 squeezes_S1x16x128_S16x128
abbrev cubeB (m : Memref sig .scVector .vmem S2x16x2x128 .f32) (b : Fin 2) : Memref sig .scVector .vmem S16x2x128 .f32 :=
  (m.slice (Rect.unit (s := S2x16x2x128) ![b.val, 0, 0, 0] S1x16x2x128.size (inb4 b)) (fun _ => rfl)).squeeze S16x2x128 squeezes_S1x16x2x128_S16x2x128

abbrev tabD : Memref sig .scVector .hbm S1048576x128 .f32 :=
  a3.slice (Rect.unit (s := S1048576x128) ![0, 0] S1048576x128.size inb_S1048576x128_S1048576x128_0_0) (fun _ => rfl)
abbrev tab3 (m : Memref sig .scVector .hbm S8192x2x128 .f32) : Memref sig .scVector .hbm S8192x2x128 .f32 :=
  m.slice (Rect.unit (s := S8192x2x128) ![0, 0, 0] S8192x2x128.size inb_S8192x2x128_S8192x2x128_0_0_0) (fun _ => rfl)
abbrev tabP : Memref sig .scVector .hbm S8192x128 .f32 :=
  a6.slice (Rect.unit (s := S8192x128) ![0, 0] S8192x128.size inb_S8192x128_S8192x128_0_0) (fun _ => rfl)

theorem out_inb3 (L : grid0.Coords) (k : ℕ) :
    ∀ a, (![(baseN L + k % 256) * 16, 0, 0] : Fin 3 → ℕ) a + S16x2x128.size a ≤ S131072x2x128.size a := by
  have := baseN_le L
  intro a
  match a with
  | 0 => show (baseN L + k % 256) * 16 + 16 ≤ 131072; omega
  | 1 => exact Nat.le_refl 2
  | 2 => exact Nat.le_refl 128
theorem out_inb2 (L : grid0.Coords) (k : ℕ) :
    ∀ a, (![(baseN L + k % 256) * 16, 0] : Fin 2 → ℕ) a + S16x128.size a ≤ S131072x128.size a := by
  have := baseN_le L
  intro a
  match a with
  | 0 => show (baseN L + k % 256) * 16 + 16 ≤ 131072; omega
  | 1 => exact Nat.le_refl 128

abbrev out3 (m : Memref sig .scVector .hbm S131072x2x128 .f32) (L : grid0.Coords) (k : ℕ) : Memref sig .scVector .hbm S16x2x128 .f32 :=
  m.slice (Rect.unit (s := S131072x2x128) ![(baseN L + k % 256) * 16, 0, 0] S16x2x128.size (out_inb3 L k)) (fun _ => rfl)
abbrev out2 (m : Memref sig .scVector .hbm S131072x128 .f32) (L : grid0.Coords) (k : ℕ) : Memref sig .scVector .hbm S16x128 .f32 :=
  m.slice (Rect.unit (s := S131072x128) ![(baseN L + k % 256) * 16, 0] S16x128.size (out_inb2 L k)) (fun _ => rfl)

theorem out3_eq (m : Memref sig .scVector .hbm S131072x2x128 .f32) (L : grid0.Coords) (k : ℕ) (hk : k < 256) (off : Fin 3 → ℕ)
    (h : ∀ a, off a + S16x2x128.size a ≤ S131072x2x128.size a) (ho : off = ![(baseN L + k) * 16, 0, 0]) :
    m.slice (Rect.unit (s := S131072x2x128) off S16x2x128.size h) (fun _ => rfl) = out3 m L k := by
  have : off = ![(baseN L + k % 256) * 16, 0, 0] := by rw [ho, Nat.mod_eq_of_lt hk]
  subst this; rfl
theorem out2_eq (m : Memref sig .scVector .hbm S131072x128 .f32) (L : grid0.Coords) (k : ℕ) (hk : k < 256) (off : Fin 2 → ℕ)
    (h : ∀ a, off a + S16x128.size a ≤ S131072x128.size a) (ho : off = ![(baseN L + k) * 16, 0]) :
    m.slice (Rect.unit (s := S131072x128) off S16x128.size h) (fun _ => rfl) = out2 m L k := by
  have : off = ![(baseN L + k % 256) * 16, 0] := by rw [ho, Nat.mod_eq_of_lt hk]
  subst this; rfl

abbrev ssl (b : Fin 2) : DmaSem sig := (![cc0_scratch11, cc0_scratch12] b).sem
abbrev sok (b : Fin 2) : DmaSem sig := (![cc0_scratch16, cc0_scratch17] b).sem
abbrev sov (b : Fin 2) : DmaSem sig := (![cc0_scratch18, cc0_scratch19] b).sem
abbrev sop (b : Fin 2) : DmaSem sig := (![cc0_scratch20, cc0_scratch21] b).sem

/-- What the tables read, and the shares of them that a subcore has. -/
structure Ins (F : FTy → Type) where
  gm : S1048576.Idx → Elt F .f32
  d2 : S1048576x128.Idx → Elt F .f32
  xk : S8192x2x128.Idx → Elt F .f32
  xv : S8192x2x128.Idx → Elt F .f32
  xp : S8192x128.Idx → Elt F .f32
  qg : PosShare TreeShare
  qd : Fin 2 → PosShare TreeShare
  qk : PosShare TreeShare
  qv : PosShare TreeShare
  qp : PosShare TreeShare

/-- A subcore's group minima. -/
def Ins.T (I : Ins F) (L : grid0.Coords) : S32768.Idx → Elt F .f32 := fun x => I.gm fun a =>
  ⟨(baseN L * 128 + (x 0).val) % 1048576, by obtain rfl := Fin.eq_zero a; exact Nat.mod_lt _ (by decide)⟩

def Ins.gi (I : Ins F) (L : grid0.Coords) (r : ℕ) : Vec F S16 .i32 := giV (I.T L) r
def Ins.gidx (I : Ins F) (L : grid0.Coords) (r : ℕ) : Vec F S16 .i32 := gidxV L (I.T L) r
def Ins.slab (I : Ins F) (L : grid0.Coords) (r : ℕ) : S16x128.Idx → Elt F .f32 := slabR L (I.T L) I.d2 r
def Ins.cand (I : Ins F) (L : grid0.Coords) (r : ℕ) : Vec F S16 .i32 := candR L (I.T L) I.d2 r

section State

variable (d : Dev nD) (L : grid0.Coords) (I : Ins F)

/-- Row `r`'s slab on its way into slot `b`. -/
def SlabFly (b : Fin 2) (r : ℕ) : sProp (MM F) :=
  iprop(fly d L (ssl b) (planeB a12 b).view.dmaCredit iprop(hold d L (planeB a12 b) fullShare (I.slab L r) ∗ hold d L tabD (I.qd b) I.d2
      ∗ hold (F := F) d L (rowB a14 b) fullShare (I.gidx L r))
    ∗ hold (F := F) d L (rowB a13 b) fullShare (I.gi L r))
/-- Slot `b` of the slabs at rest. -/
def SlabFree (b : Fin 2) : sProp (MM F) :=
  iprop(holdAny (F := F) d L (planeB a12 b) ∗ hold d L tabD (I.qd b) I.d2 ∗ holdAny (F := F) d L (rowB a14 b)
    ∗ zero d L (ssl b) ∗ holdAny (F := F) d L (rowB a13 b))

/-- The three gathers at rest. -/
def GIdle : sProp (MM F) :=
  iprop((zero d L cc0_scratch13.sem ∗ hold d L (tab3 a4) I.qk I.xk) ∗ (zero d L cc0_scratch14.sem ∗ hold d L (tab3 a5) I.qv I.xv)
    ∗ (zero d L cc0_scratch15.sem ∗ hold d L tabP I.qp I.xp))
/-- Row `r`'s three gathers on their way into slot `b`. -/
def GFly (b : Fin 2) (r : ℕ) : sProp (MM F) :=
  iprop(fly d L cc0_scratch13.sem (cubeB a17 b).view.dmaCredit iprop(hold d L (cubeB a17 b) fullShare (rows3 I.xk (I.cand L r)) ∗ hold d L (tab3 a4) I.qk I.xk
      ∗ hold (F := F) d L (rowB a16 b) fullShare.left (I.cand L r))
    ∗ fly d L cc0_scratch14.sem (cubeB a18 b).view.dmaCredit iprop(hold d L (cubeB a18 b) fullShare (rows3 I.xv (I.cand L r)) ∗ hold d L (tab3 a5) I.qv I.xv
      ∗ hold (F := F) d L (rowB a16 b) fullShare.right.left (I.cand L r))
    ∗ fly d L cc0_scratch15.sem (planeB a19 b).view.dmaCredit iprop(hold d L (planeB a19 b) fullShare (rows2 I.xp (I.cand L r)) ∗ hold d L tabP I.qp I.xp
      ∗ hold (F := F) d L (rowB a16 b) fullShare.right.right (I.cand L r)))

/-- Row `r`'s places in the results, whatever is there; and as they are to be. -/
def OutAny (r : ℕ) : sProp (MM F) :=
  iprop(holdAny (F := F) d L (out3 a8 L r) ∗ holdAny (F := F) d L (out3 a9 L r) ∗ holdAny (F := F) d L (out2 a10 L r))
def OutIs (r : ℕ) : sProp (MM F) :=
  iprop(hold d L (out3 a8 L r) fullShare (rows3 I.xk (I.cand L r)) ∗ hold d L (out3 a9 L r) fullShare (rows3 I.xv (I.cand L r))
    ∗ hold d L (out2 a10 L r) fullShare (rows2 I.xp (I.cand L r)))

/-- The write-outs of slot `b` at rest. -/
def WZero (b : Fin 2) : sProp (MM F) := iprop(zero d L (sok b) ∗ zero d L (sov b) ∗ zero d L (sop b))
/-- Slot `b` of the gathered rows at rest. -/
def DestFree (b : Fin 2) : sProp (MM F) :=
  iprop(holdAny (F := F) d L (cubeB a17 b) ∗ holdAny (F := F) d L (cubeB a18 b) ∗ holdAny (F := F) d L (planeB a19 b))
/-- Row `r`'s write-outs on their way from slot `b`. -/
def WFly (b : Fin 2) (r : ℕ) : sProp (MM F) :=
  iprop(fly d L (sok b) (out3 a8 L r).view.dmaCredit iprop(hold d L (out3 a8 L r) fullShare (rows3 I.xk (I.cand L r))
      ∗ hold d L (cubeB a17 b) fullShare (rows3 I.xk (I.cand L r)))
    ∗ fly d L (sov b) (out3 a9 L r).view.dmaCredit iprop(hold d L (out3 a9 L r) fullShare (rows3 I.xv (I.cand L r))
      ∗ hold d L (cubeB a18 b) fullShare (rows3 I.xv (I.cand L r)))
    ∗ fly d L (sop b) (out2 a10 L r).view.dmaCredit iprop(hold d L (out2 a10 L r) fullShare (rows2 I.xp (I.cand L r))
      ∗ hold d L (planeB a19 b) fullShare (rows2 I.xp (I.cand L r))))

variable {d L I}

/-! ## Shares of a held memref -/

theorem hold_split {sp : Space} {s : Shape} {e : EltTy} {m : Memref sig .scVector sp s e} {q : PosShare TreeShare} {X : s.Idx → Elt F e} :
    hold d L m q X ⊢ iprop(hold d L m q.left X ∗ hold d L m q.right X) := by
  iintro H
  ihave H := hold_open $$ H
  icases H with ⟨%f, H, %hX⟩
  ihave H := (pointsTo_share (PosShare.mem_left_op_right q)).1 $$ H
  icases H with ⟨H1, H2⟩
  unfold hold
  isplitl [H1]
  · iexists f; isplitl [H1]; · iexact H1
    ipureintro; exact hX
  · iexists f; isplitl [H2]; · iexact H2
    ipureintro; exact hX

theorem hold_join {sp : Space} {s : Shape} {e : EltTy} {m : Memref sig .scVector sp s e} {q : PosShare TreeShare} {X : s.Idx → Elt F e} :
    iprop(hold d L m q.left X ∗ hold d L m q.right X) ⊢ hold d L m q X := by
  iintro ⟨H, H'⟩
  ihave H := hold_open $$ H
  icases H with ⟨%f, H, %hX⟩
  ihave H' := hold_open $$ H'
  icases H' with ⟨%g, H', %hY⟩
  have hfg : ∀ i ∈ m.view.set, g i = f i := by
    intro i hi
    obtain ⟨x, -, rfl⟩ := Finset.mem_map.mp hi
    have h := congrFun (hY.trans hX.symm) x
    rw [View.read_apply, View.read_apply] at h
    exact cast_inj _ |>.mp h
  ihave H' := (Entails.of_eq (pointsTo_congr hfg)) $$ H'
  ihave H := (pointsTo_share (PosShare.mem_left_op_right q)).2 $$ [H H']
  · isplitl [H] <;> iassumption
  unfold hold
  iexists f; isplitl [H]; · iexact H
  ipureintro; exact hX

end State

end Cert.Proof.Knn
-- ==== Proof.Steps.lean ====
/- The rules of a row's copies: the slab's wait, the gathers' and the write-outs' starts and waits. -/
module

public import proofs.«01_k».proof.Proof.State

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {L : grid0.Coords} {I : Ins F}
variable {O : CellTallies nD τ sig (HIx 1)} {W : Waits sig (HIx 1)} {α : Type} {Q : α → sProp (MM F)}

/-- The three gathers of row `r` are waited for and their rows sent out. -/
theorem wp_flush {c : Fin 2} {r : ℕ} {o8 o9 : Memref sig .scVector .hbm S16x2x128 .f32} {o10 : Memref sig .scVector .hbm S16x128 .f32}
    (h8 : o8 = out3 a8 L r) (h9 : o9 = out3 a9 L r) (h10 : o10 = out2 a10 L r)
    {w1 w1' w2 w2' w3 w3' e1 e1' t1 e2 e2' t2 e3 e3' t3}
    {k : PUnit → Prog (TpuEff nD τ sig (Elt F) Λ₀ (tV d L).2) α} :
    iprop(GFly d L I c r ∗ WZero d L c ∗ OutAny d L r ∗ OW d L O W)
      ⊢ iprop((iprop(GIdle d L I ∗ WFly d L I c r ∗ holdAny (F := F) d L (rowB a16 c) ∗ OW d L O W) -∗ wpV d L (k ⟨⟩) Q)
        -∗ wpV d L (SparseCore.waitIndirectGather cc0_scratch13.sem (tab3 a4) (cubeB a17 c) w1 w1' >>= fun _ =>
          SparseCore.waitIndirectGather cc0_scratch14.sem (tab3 a5) (cubeB a18 c) w2 w2' >>= fun _ =>
          SparseCore.waitIndirectGather cc0_scratch15.sem tabP (planeB a19 c) w3 w3' >>= fun _ =>
          Prog.lift (.enqueueDma (cubeB a17 c) (.here o8) (.dma (sok c)) e1 e1' t1) >>= fun _ =>
          Prog.lift (.enqueueDma (cubeB a18 c) (.here o9) (.dma (sov c)) e2 e2' t2) >>= fun _ =>
          Prog.lift (.enqueueDma (planeB a19 c) (.here o10) (.dma (sop c)) e3 e3' t3) >>= k) Q) := by
  subst h8 h9 h10
  unfold GFly WZero OutAny
  iintro ⟨⟨G1, G2, G3⟩, ⟨Z1, Z2, Z3⟩, ⟨A1, A2, A3⟩, HO⟩ Hk
  iapply (wp_await rfl) $$ [G1 HO]
  · isplitl [G1] <;> iassumption
  iintro ⟨⟨B1, T1, C1⟩, Y1, HO⟩
  iapply (wp_await rfl) $$ [G2 HO]
  · isplitl [G2] <;> iassumption
  iintro ⟨⟨B2, T2, C2⟩, Y2, HO⟩
  iapply (wp_await rfl) $$ [G3 HO]
  · isplitl [G3] <;> iassumption
  iintro ⟨⟨B3, T3, C3⟩, Y3, HO⟩
  iapply (wp_copy (by decide)) $$ [B1 A1 Z1]
  · isplitl [B1]; · iexact B1
    isplitl [A1] <;> iassumption
  iintro F1
  iapply (wp_copy (by decide)) $$ [B2 A2 Z2]
  · isplitl [B2]; · iexact B2
    isplitl [A2] <;> iassumption
  iintro F2
  iapply (wp_copy (by decide)) $$ [B3 A3 Z3]
  · isplitl [B3]; · iexact B3
    isplitl [A3] <;> iassumption
  iintro F3
  iapply Hk
  ihave C := hold_join $$ [C2 C3]
  · isplitl [C2] <;> iassumption
  ihave C := hold_join $$ [C1 C]
  · isplitl [C1] <;> iassumption
  unfold GIdle WFly
  isplitl [Y1 T1 Y2 T2 Y3 T3]
  · isplitl [Y1 T1]; · isplitl [Y1] <;> iassumption
    isplitl [Y2 T2]; · isplitl [Y2] <;> iassumption
    isplitl [Y3] <;> iassumption
  isplitl [F1 F2 F3]
  · isplitl [F1]; · iexact F1
    isplitl [F2] <;> iassumption
  isplitl [C]
  · iapply hold_any $$ C
  · iexact HO

/-- The three write-outs of row `r` are waited for. -/
theorem wp_drain {c : Fin 2} {r : ℕ} {o8 o9 : Memref sig .scVector .hbm S16x2x128 .f32} {o10 : Memref sig .scVector .hbm S16x128 .f32}
    {s8 s9 : Memref sig .scVector .vmem S16x2x128 .f32} {s10 : Memref sig .scVector .vmem S16x128 .f32}
    (h8 : o8.view.dmaCredit = (out3 a8 L r).view.dmaCredit) (h9 : o9.view.dmaCredit = (out3 a9 L r).view.dmaCredit)
    (h10 : o10.view.dmaCredit = (out2 a10 L r).view.dmaCredit)
    {e1 e1' e2 e2' e3 e3'}
    {k : PUnit → Prog (TpuEff nD τ sig (Elt F) Λ₀ (tV d L).2) α} :
    iprop(WFly d L I c r ∗ OW d L O W)
      ⊢ iprop((iprop(OutIs d L I r ∗ DestFree d L c ∗ WZero d L c ∗ OW d L O W) -∗ wpV d L (k ⟨⟩) Q)
        -∗ wpV d L (Prog.lift (.waitDma2 (sok c) s8 o8 e1 e1') >>= fun _ =>
          Prog.lift (.waitDma2 (sov c) s9 o9 e2 e2') >>= fun _ =>
          Prog.lift (.waitDma2 (sop c) s10 o10 e3 e3') >>= k) Q) := by
  unfold WFly
  iintro ⟨⟨F1, F2, F3⟩, HO⟩ Hk
  iapply (wp_await h8) $$ [F1 HO]
  · isplitl [F1] <;> iassumption
  iintro ⟨⟨A1, B1⟩, Y1, HO⟩
  iapply (wp_await h9) $$ [F2 HO]
  · isplitl [F2] <;> iassumption
  iintro ⟨⟨A2, B2⟩, Y2, HO⟩
  iapply (wp_await h10) $$ [F3 HO]
  · isplitl [F3] <;> iassumption
  iintro ⟨⟨A3, B3⟩, Y3, HO⟩
  iapply Hk
  unfold OutIs DestFree WZero
  isplitl [A1 A2 A3]
  · isplitl [A1]; · iexact A1
    isplitl [A2] <;> iassumption
  isplitl [B1 B2 B3]
  · isplitl [B1]; · iapply hold_any $$ B1
    isplitl [B2]; · iapply hold_any $$ B2
    iapply hold_any $$ B3
  isplitl [Y1 Y2 Y3]
  · isplitl [Y1]; · iexact Y1
    isplitl [Y2] <;> iassumption
  iexact HO

theorem credit_slab (b : Fin 2) :
    ∑ j, ((planeB a12 b).slice (S16x128.rowRect gathers_S1048576x128_S16x128.axis' j) (S16x128.stride_rowRect gathers_S1048576x128_S16x128.axis' j)).view.dmaCredit
      = (planeB a12 b).view.dmaCredit := by
  match b with
  | 0 => decide
  | 1 => decide
theorem credit_k (b : Fin 2) :
    ∑ j, ((cubeB a17 b).slice (S16x2x128.rowRect gathers_S8192x2x128_S16x2x128.axis' j) (S16x2x128.stride_rowRect gathers_S8192x2x128_S16x2x128.axis' j)).view.dmaCredit
      = (cubeB a17 b).view.dmaCredit := by
  match b with
  | 0 => decide
  | 1 => decide
theorem credit_v (b : Fin 2) :
    ∑ j, ((cubeB a18 b).slice (S16x2x128.rowRect gathers_S8192x2x128_S16x2x128.axis' j) (S16x2x128.stride_rowRect gathers_S8192x2x128_S16x2x128.axis' j)).view.dmaCredit
      = (cubeB a18 b).view.dmaCredit := by
  match b with
  | 0 => decide
  | 1 => decide
theorem credit_p (b : Fin 2) :
    ∑ j, ((planeB a19 b).slice (S16x128.rowRect gathers_S8192x128_S16x128.axis' j) (S16x128.stride_rowRect gathers_S8192x128_S16x128.axis' j)).view.dmaCredit
      = (planeB a19 b).view.dmaCredit := by
  match b with
  | 0 => decide
  | 1 => decide

theorem rows_mod {s₀ : Shape} {a : ℕ} {s : Shape} (hg : s₀.Gathers a s) (Y : S16.Idx → BitVec 32) (hn : S16.numel = s.size hg.axis')
    (h : ∀ x, (Y x).toNat < s₀.size hg.axis) (n : ℕ) (hp : 0 < n) (e : s₀.size hg.axis = n) (k : Fin (s.size hg.axis')) :
    (SparseCore.rows (F := F) Y hn h k).val = (modRows Y n hp (k.cast hn.symm)).val := by
  rw [rows_eq]
  show _ = _ % n
  rw [Nat.mod_eq_of_lt (lt_of_lt_of_eq (h _) e)]
  rfl

theorem slab_load (r : ℕ) (hn) (h : ∀ x : S16.Idx, (I.gidx L r x).toNat < S1048576x128.size gathers_S1048576x128_S16x128.axis) :
    SparseCore.gatherPayload gathers_S1048576x128_S16x128 I.d2 (SparseCore.rows (F := F) (I.gidx L r) hn h) = I.slab L r :=
  congrArg (SparseCore.gatherPayload gathers_S1048576x128_S16x128 I.d2)
    (funext fun k => Fin.ext (rows_mod gathers_S1048576x128_S16x128 _ hn h 1048576 (by decide) rfl k))

theorem cube_load (X : Vec F S8192x2x128 .f32) (Y : Vec F S16 .i32) (hn) (h : ∀ x : S16.Idx, (Y x).toNat < S8192x2x128.size gathers_S8192x2x128_S16x2x128.axis) :
    SparseCore.gatherPayload gathers_S8192x2x128_S16x2x128 X (SparseCore.rows (F := F) Y hn h) = rows3 X Y :=
  congrArg (SparseCore.gatherPayload gathers_S8192x2x128_S16x2x128 X)
    (funext fun k => Fin.ext (rows_mod gathers_S8192x2x128_S16x2x128 _ hn h 8192 (by decide) rfl k))

theorem plane_load (X : Vec F S8192x128 .f32) (Y : Vec F S16 .i32) (hn) (h : ∀ x : S16.Idx, (Y x).toNat < S8192x128.size gathers_S8192x128_S16x128.axis) :
    SparseCore.gatherPayload gathers_S8192x128_S16x128 X (SparseCore.rows (F := F) Y hn h) = rows2 X Y :=
  congrArg (SparseCore.gatherPayload gathers_S8192x128_S16x128 X)
    (funext fun k => Fin.ext (rows_mod gathers_S8192x128_S16x128 _ hn h 8192 (by decide) rfl k))

/-- Row `r`'s slab is sent for. -/
theorem wp_sendSlab {b : Fin 2} {r : ℕ} (hr : r < 256) {hn hp hsrc he hsp hst}
    {k : PUnit → Prog (TpuEff nD τ sig (Elt F) Λ₀ (tV d L).2) α} :
    iprop(holdAny (F := F) d L (planeB a12 b) ∗ hold d L tabD (I.qd b) I.d2 ∗ hold (F := F) d L (rowB a14 b) fullShare (I.gidx L r)
        ∗ zero d L (ssl b) ∗ hold (F := F) d L (rowB a13 b) fullShare (I.gi L r))
      ⊢ iprop((SlabFly d L I b r -∗ wpV d L (k ⟨⟩) Q)
        -∗ wpV d L (SparseCore.enqueueIndirectGather hp tabD (planeB a12 b) gathers_S1048576x128_S16x128 (rowB a14 b) hn (ssl b) hsrc he hsp hst >>= k) Q) := by
  iintro ⟨A, T, Y, Z, G⟩ Hk
  iapply (wp_gather (Y := I.gidx L r) _ (credit_slab b) (by decide) (fun x => gidxV_lt L (I.T L) r hr x) (G := I.slab L r) (slab_load r _ _)) $$ [A T Y Z]
  · isplitl [T]; · iexact T
    isplitl [A]; · iexact A
    isplitl [Y] <;> iassumption
  · iintro F
    iapply Hk
    unfold SlabFly
    isplitl [F] <;> iassumption

end Cert.Proof.Knn
-- ==== Proof.Words.lean ====
/- What the printed words of a row are worth: offsets and conditions, by the trip of the loop over pairs of rows. -/
module

public import proofs.«01_k».proof.Proof.Steps

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The loop over pairs of rows -/

theorem cond1_true : ∀ i, k0_cond1 i = 1#1 := by decide
theorem cond7_true : ∀ i, k0_cond7 i = 1#1 := by decide
theorem cond3_iff : ∀ i, k0_cond3 i = 1#1 ↔ 1 ≤ i.val := by decide
theorem cond5_iff : ∀ i, k0_cond5 i = 1#1 ↔ i.val < 127 := by decide

/-- The printed index of a pair, and its two rows. -/
abbrev pairW (i : Fin k0_t16_loop.trips) : BitVec 32 := Scf.iv 0#32 1#32 i
abbrev evenW (i : Fin k0_t16_loop.trips) : BitVec 32 := Scalar.muli 2#32 (pairW i)
abbrev oddW (i : Fin k0_t16_loop.trips) : BitVec 32 := Scalar.addi (evenW i) 1#32

theorem evenW_eq : ∀ i, evenW i = BitVec.ofNat 32 (2 * i.val) := by decide
theorem oddW_eq : ∀ i, oddW i = BitVec.ofNat 32 (2 * i.val + 1) := by decide
theorem even_two : ∀ i, Scalar.cmpi .ne (Scalar.extui (Scalar.cmpi .sge (evenW i) 2#32)) 0#32 = 1#1 ↔ 1 ≤ i.val := by decide
theorem odd_two : ∀ i, Scalar.cmpi .ne (Scalar.extui (Scalar.cmpi .sge (oddW i) 2#32)) 0#32 = 1#1 ↔ 1 ≤ i.val := by decide

theorem off2_eq : ∀ i, k0_off2 i 0 = (2 * i.val + 1) * 128 + 16 * 0 := by decide
theorem off3_eq : ∀ i, k0_off3 i 0 = (2 * i.val + 1) * 128 + 16 * 1 := by decide
theorem off4_eq : ∀ i, k0_off4 i 0 = (2 * i.val + 1) * 128 + 16 * 2 := by decide
theorem off5_eq : ∀ i, k0_off5 i 0 = (2 * i.val + 1) * 128 + 16 * 3 := by decide
theorem off6_eq : ∀ i, k0_off6 i 0 = (2 * i.val + 1) * 128 + 16 * 4 := by decide
theorem off7_eq : ∀ i, k0_off7 i 0 = (2 * i.val + 1) * 128 + 16 * 5 := by decide
theorem off8_eq : ∀ i, k0_off8 i 0 = (2 * i.val + 1) * 128 + 16 * 6 := by decide
theorem off9_eq : ∀ i, k0_off9 i 0 = (2 * i.val + 1) * 128 + 16 * 7 := by decide
theorem off14_eq : ∀ i, k0_off14 i 0 = (2 * i.val + 2) * 128 + 16 * 0 := by decide
theorem off15_eq : ∀ i, k0_off15 i 0 = (2 * i.val + 2) * 128 + 16 * 1 := by decide
theorem off16_eq : ∀ i, k0_off16 i 0 = (2 * i.val + 2) * 128 + 16 * 2 := by decide
theorem off17_eq : ∀ i, k0_off17 i 0 = (2 * i.val + 2) * 128 + 16 * 3 := by decide
theorem off18_eq : ∀ i, k0_off18 i 0 = (2 * i.val + 2) * 128 + 16 * 4 := by decide
theorem off19_eq : ∀ i, k0_off19 i 0 = (2 * i.val + 2) * 128 + 16 * 5 := by decide
theorem off20_eq : ∀ i, k0_off20 i 0 = (2 * i.val + 2) * 128 + 16 * 6 := by decide
theorem off21_eq : ∀ i, k0_off21 i 0 = (2 * i.val + 2) * 128 + 16 * 7 := by decide
theorem off11_eq : ∀ i, k0_off11 i 0 = 2 * i.val * 16 := by decide
theorem off23_eq : ∀ i, k0_off23 i 0 = (2 * i.val + 1) * 16 := by decide

theorem off10_eq : ∀ k, k0_off10 k = ![(k.val + 1) / 4, (k.val + 1) % 4 * 16] := by decide
theorem chunkW_eq : ∀ k : Fin k0_t33_loop.trips, Scalar.muli (Scf.iv 1#32 1#32 k) 16#32 = BitVec.ofNat 32 ((k.val + 1) * 16) := by decide

/-! ## The places of the results -/

theorem word_place (L : grid0.Coords) (n : ℕ) (hn : n < 256) :
    (Scalar.muli (Scalar.addi (baseW L) (BitVec.ofNat 32 n)) 16#32 : BitVec 32).toNat = (baseN L + n) * 16 := by
  have hb := baseN_le L
  show ((baseW L + BitVec.ofNat 32 n) * 16#32).toNat = _
  rw [baseW_eq, BitVec.toNat_mul, BitVec.toNat_add, BitVec.toNat_ofNat, BitVec.toNat_ofNat]
  simp only [BitVec.toNat_ofNat]
  omega

theorem word_prev (L : grid0.Coords) (w : BitVec 32) (n : ℕ) (hn : n + 1 < 256) (hw : w = BitVec.ofNat 32 (n + 1)) :
    (Scalar.muli (Scalar.subi (Scalar.addi (baseW L) w) 1#32) 16#32 : BitVec 32).toNat = (baseN L + n) * 16 := by
  rw [← word_place L n (by omega)]
  subst hw
  have : (baseW L + BitVec.ofNat 32 (n + 1)) - 1#32 = baseW L + BitVec.ofNat 32 n := by
    rw [BitVec.ofNat_add, ← BitVec.add_assoc]
    exact BitVec.add_sub_cancel _ _
  exact congrArg (fun v : BitVec 32 => (v * 16#32).toNat) this

theorem off12_eq (L : grid0.Coords) (i : Fin k0_t16_loop.trips) (n : ℕ) (hn : n + 1 = 2 * i.val) : k0_off12 L i = ![(baseN L + n) * 16, 0, 0] := by
  have hi : i.val < 128 := i.isLt
  exact congrArg (fun v : ℕ => (![v, 0, 0] : Fin 3 → ℕ)) (word_prev L (evenW i) n (by omega) (by rw [evenW_eq, hn]))
theorem off13_eq (L : grid0.Coords) (i : Fin k0_t16_loop.trips) (n : ℕ) (hn : n + 1 = 2 * i.val) : k0_off13 L i = ![(baseN L + n) * 16, 0] := by
  have hi : i.val < 128 := i.isLt
  exact congrArg (fun v : ℕ => (![v, 0] : Fin 2 → ℕ)) (word_prev L (evenW i) n (by omega) (by rw [evenW_eq, hn]))
theorem off24_eq (L : grid0.Coords) (i : Fin k0_t16_loop.trips) : k0_off24 L i = ![(baseN L + 2 * i.val) * 16, 0, 0] := by
  have hi : i.val < 128 := i.isLt
  exact congrArg (fun v : ℕ => (![v, 0, 0] : Fin 3 → ℕ)) (word_prev L (oddW i) (2 * i.val) (by omega) (oddW_eq i))
theorem off25_eq (L : grid0.Coords) (i : Fin k0_t16_loop.trips) : k0_off25 L i = ![(baseN L + 2 * i.val) * 16, 0] := by
  have hi : i.val < 128 := i.isLt
  exact congrArg (fun v : ℕ => (![v, 0] : Fin 2 → ℕ)) (word_prev L (oddW i) (2 * i.val) (by omega) (oddW_eq i))
theorem off26_eq (L : grid0.Coords) : k0_off26 L = ![(baseN L + 255) * 16, 0, 0] :=
  congrArg (fun v : ℕ => (![v, 0, 0] : Fin 3 → ℕ)) (word_place L 255 (by decide))
theorem off27_eq (L : grid0.Coords) : k0_off27 L = ![(baseN L + 255) * 16, 0] :=
  congrArg (fun v : ℕ => (![v, 0] : Fin 2 → ℕ)) (word_place L 255 (by decide))
theorem off28_eq (L : grid0.Coords) : k0_off28 L = ![baseN L * 16] := by
  have hb := baseN_le L
  refine congrArg (fun v : ℕ => (![v] : Fin 1 → ℕ)) ?_
  show (baseW L * 16#32).toNat = _
  rw [baseW_eq, BitVec.toNat_mul, BitVec.toNat_ofNat]
  simp only [BitVec.toNat_ofNat]
  omega
theorem off1_eq (L : grid0.Coords) : k0_off1 L = ![baseN L * 128] := by
  have hb := baseN_le L
  refine congrArg (fun v : ℕ => (![v] : Fin 1 → ℕ)) ?_
  show (baseW L * 128#32).toNat = _
  rw [baseW_eq, BitVec.toNat_mul, BitVec.toNat_ofNat]
  simp only [BitVec.toNat_ofNat]
  omega

/-! ## A row's groups, from the printed chunks -/

theorem groups_eq {T : S32768.Idx → Elt F .f32} {r : ℕ} {o : Fin 8 → Fin 1 → ℕ} {h : ∀ c a, o c a + S16.size a ≤ S32768.size a} {w : Fin 8 → Vec F S16 .i32}
    (ho : ∀ c, o c 0 = r * 128 + 16 * c.val) (hw : ∀ c : Fin 8, w c = pos (BitVec.ofNat 32 (16 * c.val))) :
    mergeP (mergeP (mergeP (sortP (chunk T (o 0) (h 0), w 0)) (sortP (chunk T (o 1) (h 1), w 1)))
        (mergeP (sortP (chunk T (o 2) (h 2), w 2)) (sortP (chunk T (o 3) (h 3), w 3))))
      (mergeP (mergeP (sortP (chunk T (o 4) (h 4), w 4)) (sortP (chunk T (o 5) (h 5), w 5)))
        (mergeP (sortP (chunk T (o 6) (h 6), w 6)) (sortP (chunk T (o 7) (h 7), w 7)))) = groups T r := by
  have e : ∀ c, sortP (chunk T (o c) (h c), w c) = grpChunk T r c.val := by
    intro c
    rw [chunk_eq T (o c) (h c) _ (ho c), hw c]; rfl
  rw [e 0, e 1, e 2, e 3, e 4, e 5, e 6, e 7]
  rfl

end Cert.Proof.Knn
-- ==== Proof.Select.lean ====
/- The sixteen least of a slab: the loop over its chunks, and the candidates looked up. -/
module

public import proofs.«01_k».proof.Proof.Words

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Select

variable {d : Dev nD} {L : grid0.Coords} {I : Ins F}

/-- What the loop over a slab's chunks carries. -/
abbrev Carry (F : FTy → Type) := Vec F S16 .f32 × Vec F S16 .i32 × F .f32

def carryOf (p : KV F) : Carry F := (p.1, p.2, lastK p.1)

theorem selAt_succ (Z : S16x128.Idx → Elt F .f32) (n : ℕ) (h : n + 1 < 64) : selAt Z (n + 1) = selStep Z (n + 1) h (selAt Z n) := by
  rw [selAt, dif_pos h]

theorem slabChunk_congr (Z : S16x128.Idx → Elt F .f32) {o o' : Fin 2 → ℕ} (h : ∀ a, o a + S1x16.size a ≤ S16x128.size a)
    (h' : ∀ a, o' a + S1x16.size a ≤ S16x128.size a) (e : o = o') : slabChunk Z o h = slabChunk Z o' h' := by
  subst e; rfl

end Select

end Cert.Proof.Knn
-- ==== Proof.Ends.lean ====
/- The steps at a row's ends: its group rows are written and its slab sent for; its slab arrives and its first chunk is sorted. -/
module

public import proofs.«01_k».proof.Proof.Steps
public import proofs.«01_k».proof.Proof.Select
public import proofs.«01_k».proof.Proof.Words

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Ends

/-- A row's slab in its slot, with what its group rows hold. -/
def SlabHeld (d : Dev nD) (L : grid0.Coords) (I : Ins F) (b : Fin 2) (r : ℕ) : sProp (MM F) :=
  iprop(hold d L (planeB a12 b) fullShare (I.slab L r) ∗ hold d L tabD (I.qd b) I.d2 ∗ hold (F := F) d L (rowB a14 b) fullShare (I.gidx L r)
    ∗ zero d L (ssl b) ∗ hold (F := F) d L (rowB a13 b) fullShare (I.gi L r))

variable {d : Dev nD} {L : grid0.Coords} {I : Ins F}

theorem slab_free {b : Fin 2} {r : ℕ} : SlabHeld d L I b r ⊢ SlabFree d L I b := by
  unfold SlabHeld SlabFree
  iintro ⟨A, T, Y, Z, G⟩
  isplitl [A]; · iapply hold_any $$ A
  isplitl [T]; · iexact T
  isplitl [Y]; · iapply hold_any $$ Y
  isplitl [Z]; · iexact Z
  iapply hold_any $$ G

/-- The groups taken are a row's: their positions, and the rows of the distance table that they name. -/
theorem row_vals {r : ℕ} {p : KV F} (h : p = groups (I.T L) r) : p.2 = I.gi L r := by subst h; rfl

/-- A row's groups, from its eight chunks. -/
theorem row_groups {T : S32768.Idx → Elt F .f32} {r : ℕ} {o0 o1 o2 o3 o4 o5 o6 o7 : Fin 1 → ℕ} {h0 h1 h2 h3 h4 h5 h6 h7} {w0 w1 w2 w3 w4 w5 w6 w7 : Vec F S16 .i32} {p : KV F}
    (e : p = mergeP (mergeP (mergeP (sortP (chunk T o0 h0, w0)) (sortP (chunk T o1 h1, w1))) (mergeP (sortP (chunk T o2 h2, w2)) (sortP (chunk T o3 h3, w3))))
      (mergeP (mergeP (sortP (chunk T o4 h4, w4)) (sortP (chunk T o5 h5, w5))) (mergeP (sortP (chunk T o6 h6, w6)) (sortP (chunk T o7 h7, w7)))))
    (p0 : o0 0 = r * 128 + 16 * 0) (p1 : o1 0 = r * 128 + 16 * 1) (p2 : o2 0 = r * 128 + 16 * 2) (p3 : o3 0 = r * 128 + 16 * 3)
    (p4 : o4 0 = r * 128 + 16 * 4) (p5 : o5 0 = r * 128 + 16 * 5) (p6 : o6 0 = r * 128 + 16 * 6) (p7 : o7 0 = r * 128 + 16 * 7)
    (q0 : w0 = pos 0#32) (q1 : w1 = pos 16#32) (q2 : w2 = pos 32#32) (q3 : w3 = pos 48#32)
    (q4 : w4 = pos 64#32) (q5 : w5 = pos 80#32) (q6 : w6 = pos 96#32) (q7 : w7 = pos 112#32) : p = groups T r := by
  subst q0 q1 q2 q3 q4 q5 q6 q7
  rw [e, chunk_eq T o0 h0 _ p0, chunk_eq T o1 h1 _ p1, chunk_eq T o2 h2 _ p2, chunk_eq T o3 h3 _ p3, chunk_eq T o4 h4 _ p4, chunk_eq T o5 h5 _ p5,
    chunk_eq T o6 h6 _ p6, chunk_eq T o7 h7 _ p7]
  rfl

/-- A row's groups are written down and its slab is sent for. -/
theorem wp_begin {α : Type} {Q : α → sProp (MM F)} {b : Fin 2} {r : ℕ} (hr : r < 256) {v w : Vec F S16 .i32} (hv : v = I.gi L r) (hw : w = I.gidx L r)
    {hl hx hm hl' hx' hm'} {k : PUnit → Prog (TpuEff nD τ sig (Elt F) Λ₀ (tV d L).2) α} :
    SlabFree d L I b ⊢ iprop((SlabFly d L I b r -∗ wpV d L (k ⟨⟩) Q)
      -∗ wpV d L (.op (.load a13 (Rect.unit (s := S2x16) ![b.val, 0] S1x16.size (inb2 b)).toLoadRect hl) fun _ =>
        .op (.store a13 (Rect.unit (s := S2x16) ![b.val, 0] S1x16.size (inb2 b)) (shapeCast S1x16 v shapeCasts_S16_S1x16) Finset.univ hx hm) fun _ =>
        .op (.load a14 (Rect.unit (s := S2x16) ![b.val, 0] S1x16.size (inb2 b)).toLoadRect hl') fun _ =>
        .op (.store a14 (Rect.unit (s := S2x16) ![b.val, 0] S1x16.size (inb2 b)) (shapeCast S1x16 w shapeCasts_S16_S1x16) Finset.univ hx' hm') fun _ =>
        SparseCore.enqueueIndirectGather rfl tabD (planeB a12 b) gathers_S1048576x128_S16x128 (rowB a14 b) rfl (ssl b) (View.wordExact_bits rfl) rfl (Or.inl rfl) >>= k) Q) := by
  subst hv hw
  unfold SlabFree
  iintro ⟨A, T, Y, Z, G⟩ Hk
  iapply wp_putRow $$ G
  iintro G
  iapply wp_putRow $$ Y
  iintro Y
  iapply (wp_sendSlab hr) $$ [A T Y Z G]
  · isplitl [A]; · iexact A
    isplitl [T]; · iexact T
    isplitl [Y]; · iexact Y
    isplitl [Z] <;> iassumption
  iexact Hk

/-- A row's slab arrives. -/
theorem wp_arrive {α : Type} {Q : α → sProp (MM F)} {O : CellTallies nD τ sig (HIx 1)} {W : Waits sig (HIx 1)} {b : Fin 2} {r : ℕ} {w w'}
    {k : PUnit → Prog (TpuEff nD τ sig (Elt F) Λ₀ (tV d L).2) α} :
    iprop(SlabFly d L I b r ∗ OW (F := F) d L O W)
      ⊢ iprop((iprop(SlabHeld d L I b r ∗ OW (F := F) d L O W) -∗ wpV d L (k ⟨⟩) Q)
        -∗ wpV d L (SparseCore.waitIndirectGather (ssl b) tabD (planeB a12 b) w w' >>= k) Q) := by
  unfold SlabFly SlabHeld
  iintro ⟨⟨Fl, G⟩, HO⟩ Hk
  iapply (wp_await rfl) $$ [Fl HO]
  · isplitl [Fl] <;> iassumption
  iintro ⟨⟨A, T, Y⟩, Z, HO⟩
  iapply Hk
  isplitr [HO]
  swap; · iexact HO
  isplitl [A]; · iexact A
  isplitl [T]; · iexact T
  isplitl [Y]; · iexact Y
  isplitl [Z] <;> iassumption

/-- A slab's first chunk is read. -/
theorem wp_firstChunk {α : Type} {Q : α → sProp (MM F)} {b : Fin 2} {r : ℕ} {hl}
    {k : Vec F S1x16 .f32 → Prog (TpuEff nD τ sig (Elt F) Λ₀ (tV d L).2) α} :
    SlabHeld d L I b r ⊢ iprop((SlabHeld d L I b r -∗ wpV d L (k (slabChunk (I.slab L r) ![0, 0] inb_S16x128_S1x16_0_0)) Q)
      -∗ wpV d L (.op (.load (planeB a12 b) (Rect.unit (s := S16x128) ![0, 0] S1x16.size inb_S16x128_S1x16_0_0).toLoadRect hl) k) Q) := by
  unfold SlabHeld
  iintro ⟨A, R⟩ Hk
  iapply wp_peek $$ A
  iintro A
  iapply Hk
  isplitl [A] <;> iassumption

end Ends

end Cert.Proof.Knn
-- ==== Proof.Part25.lean ====
/- The first quarter of a pair's trip: the odd row's groups are taken and its slab sent for; the even row's slab arrives and its first chunk is sorted. -/
module

public import proofs.«01_k».proof.Proof.Ends

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Odd

variable {d : Dev nD} {L : grid0.Coords} {I : Ins F}

set_option maxHeartbeats 400000 in
theorem wp_part25 {α : Type} {Q : α → sProp (MM F)} {O : CellTallies nD τ sig (HIx 1)} {W : Waits sig (HIx 1)} (i : Fin k0_t16_loop.trips)
    {X : sProp (MM F)} {kk : _ → Prog (TpuEff nD τ sig (Elt F) Λ₀ (tV d L).2) α}
    (hk : iprop(scr (F := F) d L ∗ ((a11).view.loc (tV d L) ↦{fullShare} I.T L) ∗ SlabFly d L I 1 (2 * i.val + 1) ∗ SlabHeld d L I 0 (2 * i.val) ∗ OW (F := F) d L O W ∗ X)
      ⊢ wpV d L (kk ⟨pairW i, evenW i, (selAt (I.slab L (2 * i.val)) 0).1, (selAt (I.slab L (2 * i.val)) 0).2, lastK (selAt (I.slab L (2 * i.val)) 0).1, 1#32⟩) Q) :
    iprop(scr (F := F) d L ∗ ((a11).view.loc (tV d L) ↦{fullShare} I.T L) ∗ SlabFree d L I 1 ∗ SlabFly d L I 0 (2 * i.val) ∗ OW (F := F) d L O W ∗ X)
      ⊢ wpV d L (k0_part25 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1 (baseW L) lanes 0#32 1#32 i >>= kk) Q := by
  rw [k0_part25_eq_skeleton]
  unfold k0_part25_skel
  have hc := cond1_true i
  rw [dif_pos hc]
  simp only [k0_part1_eq_skeleton, k0_part1_skel, Prog.bind_assoc, Prog.pure_eq_ret, Prog.bind_ret]
  simp only [k0_part2_eq_skeleton, k0_part2_skel, k0_part3_eq_skeleton, k0_part3_skel, Prog.bind_assoc, Prog.pure_eq_ret, Prog.bind_ret]
  refine wp_pair rfl rfl (fun _ _ _ => rfl) (fun n _ => rot_inb n) (fun _ h => h.1 hc) (fun _ => ⟨fun _ => rank_inb _, fun _ => rank_inb _⟩) rfl rfl (fun _ _ _ _ _ _ => rfl) (fun n _ => rot_inb n) (fun _ h => h.1 hc) (fun _ => ⟨fun _ => rank_inb _, fun _ => rank_inb _⟩) rfl rfl (fun h => h hc) (fun h => h hc) (fun _ => revIx_inb) (fun _ => revIx_inb) (fun _ _ _ _ _ _ _ _ => rfl) (fun _ _ _ _ _ _ _ _ => rfl) rfl rfl (fun _ _ _ _ _ _ _ _ _ _ => rfl) (fun n _ => rot_inb n) (fun _ h => h.1 hc) (fun _ => ⟨fun _ => rank_inb _, fun _ => rank_inb _⟩) ?_
  intro _ _ _ _ _ _ _ _ k0 i0 e0
  simp only [k0_part4_eq_skeleton, k0_part4_skel, k0_part5_eq_skeleton, k0_part5_skel, Prog.bind_assoc, Prog.pure_eq_ret, Prog.bind_ret]
  refine wp_pair rfl rfl (fun _ _ _ => rfl) (fun n _ => rot_inb n) (fun _ h => h.1 hc) (fun _ => ⟨fun _ => rank_inb _, fun _ => rank_inb _⟩) rfl rfl (fun _ _ _ _ _ _ => rfl) (fun n _ => rot_inb n) (fun _ h => h.1 hc) (fun _ => ⟨fun _ => rank_inb _, fun _ => rank_inb _⟩) rfl rfl (fun h => h hc) (fun h => h hc) (fun _ => revIx_inb) (fun _ => revIx_inb) (fun _ _ _ _ _ _ _ _ => rfl) (fun _ _ _ _ _ _ _ _ => rfl) rfl rfl (fun _ _ _ _ _ _ _ _ _ _ => rfl) (fun n _ => rot_inb n) (fun _ h => h.1 hc) (fun _ => ⟨fun _ => rank_inb _, fun _ => rank_inb _⟩) ?_
  intro _ _ _ _ _ _ _ _ k1 i1 e1
  simp only [k0_part6_eq_skeleton, k0_part6_skel, k0_part7_eq_skeleton, k0_part7_skel, Prog.bind_assoc, Prog.pure_eq_ret, Prog.bind_ret]
  refine wp_pair rfl rfl (fun _ _ _ => rfl) (fun n _ => rot_inb n) (fun _ h => h.1 hc) (fun _ => ⟨fun _ => rank_inb _, fun _ => rank_inb _⟩) rfl rfl (fun _ _ _ _ _ _ => rfl) (fun n _ => rot_inb n) (fun _ h => h.1 hc) (fun _ => ⟨fun _ => rank_inb _, fun _ => rank_inb _⟩) rfl rfl (fun h => h hc) (fun h => h hc) (fun _ => revIx_inb) (fun _ => revIx_inb) (fun _ _ _ _ _ _ _ _ => rfl) (fun _ _ _ _ _ _ _ _ => rfl) rfl rfl (fun _ _ _ _ _ _ _ _ _ _ => rfl) (fun n _ => rot_inb n) (fun _ h => h.1 hc) (fun _ => ⟨fun _ => rank_inb _, fun _ => rank_inb _⟩) ?_
  intro _ _ _ _ _ _ _ _ k2 i2 e2
  simp only [k0_part8_eq_skeleton, k0_part8_skel, k0_part9_eq_skeleton, k0_part9_skel, Prog.bind_assoc, Prog.pure_eq_ret, Prog.bind_ret]
  refine wp_pair rfl rfl (fun _ _ _ => rfl) (fun n _ => rot_inb n) (fun _ h => h.1 hc) (fun _ => ⟨fun _ => rank_inb _, fun _ => rank_inb _⟩) rfl rfl (fun _ _ _ _ _ _ => rfl) (fun n _ => rot_inb n) (fun _ h => h.1 hc) (fun _ => ⟨fun _ => rank_inb _, fun _ => rank_inb _⟩) rfl rfl (fun h => h hc) (fun h => h hc) (fun _ => revIx_inb) (fun _ => revIx_inb) (fun _ _ _ _ _ _ _ _ => rfl) (fun _ _ _ _ _ _ _ _ => rfl) rfl rfl (fun _ _ _ _ _ _ _ _ _ _ => rfl) (fun n _ => rot_inb n) (fun _ h => h.1 hc) (fun _ => ⟨fun _ => rank_inb _, fun _ => rank_inb _⟩) ?_
  intro _ _ _ _ _ _ _ _ k3 i3 e3
  refine wp_merge rfl rfl (fun h => h hc) (fun h => h hc) (fun _ => revIx_inb) (fun _ => revIx_inb) rfl (fun _ _ => rfl) (fun _ _ => rfl) rfl (fun _ _ _ _ => rfl) (fun n _ => rot_inb n) (fun _ h => h.1 hc) (fun _ => ⟨fun _ => rank_inb _, fun _ => rank_inb _⟩) ?_
  intro _ _ k4 i4 e4
  rw [e0, e1] at e4
  simp only [k0_part10_eq_skeleton, k0_part10_skel, Prog.bind_assoc, Prog.pure_eq_ret, Prog.bind_ret]
  refine wp_merge rfl rfl (fun h => h hc) (fun h => h hc) (fun _ => revIx_inb) (fun _ => revIx_inb) rfl (fun _ _ => rfl) (fun _ _ => rfl) rfl (fun _ _ _ _ => rfl) (fun n _ => rot_inb n) (fun _ h => h.1 hc) (fun _ => ⟨fun _ => rank_inb _, fun _ => rank_inb _⟩) ?_
  intro _ _ k5 i5 e5
  rw [e2, e3] at e5
  refine wp_merge rfl rfl (fun h => h hc) (fun h => h hc) (fun _ => revIx_inb) (fun _ => revIx_inb) rfl (fun _ _ => rfl) (fun _ _ => rfl) rfl (fun _ _ _ _ => rfl) (fun n _ => rot_inb n) (fun _ h => h.1 hc) (fun _ => ⟨fun _ => rank_inb _, fun _ => rank_inb _⟩) ?_
  intro _ _ k6 i6 e6
  rw [e4, e5] at e6
  have eg := row_groups e6 (off2_eq i) (off3_eq i) (off4_eq i) (off5_eq i) (off6_eq i) (off7_eq i) (off8_eq i) (off9_eq i) rfl rfl rfl rfl rfl rfl rfl rfl
  clear e0 e1 e2 e3 e4 e5 e6
  have hgi : i6 = I.gi L (2 * i.val + 1) := row_vals (p := (k6, i6)) eg
  have hgx : k0_pay92 (baseW L) (oddW i) i6 = I.gidx L (2 * i.val + 1) := by
    rw [hgi, oddW_eq]; rfl
  have hi : i.val < 128 := i.isLt
  iintro ⟨S, G, HF, Fl, HO, HX⟩
  iapply (wp_begin (b := 1) (r := 2 * i.val + 1) (by omega) hgi hgx) $$ HF
  iintro HF
  iapply (wp_arrive (b := 0)) $$ [Fl HO]
  · isplitl [Fl] <;> iassumption
  iintro ⟨Hh, HO⟩
  iapply (wp_firstChunk (b := 0)) $$ Hh
  iintro Hh
  iapply (wp_sort (X := iprop(((a11).view.loc (tV d L) ↦{fullShare} I.T L) ∗ SlabFly d L I 1 (2 * i.val + 1) ∗ SlabHeld d L I 0 (2 * i.val) ∗ OW (F := F) d L O W ∗ X))
    rfl rfl (fun _ _ => rfl) (fun n => rot_inb n) (fun _ h => h.1) ⟨rank_inb _, rank_inb _⟩ ?_) $$ [S G HF Hh HO HX]
  · intro ko vo hko hvo
    subst hko hvo
    exact hk
  isplitl [S]; · iexact S
  isplitl [G]; · iexact G
  isplitl [HF]; · iexact HF
  isplitl [Hh]; · iexact Hh
  isplitl [HO] <;> iassumption

end Odd

end Cert.Proof.Knn
-- ==== Proof.Pick.lean ====
/- A row's candidates are named and written down, and their rows are sent for; how far the rows have come. -/
module

public import proofs.«01_k».proof.Proof.Ends
public import Idealize.ShloMosaic.Lib.Pipeline.Kit
public import Idealize.SL.BI.BigOpNat

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Pick

/-- The first `r` rows of a subcore's list of candidates are there. -/
def Listed (L : grid0.Coords) (I : Ins F) (r : ℕ) (f : S4096.Idx → Elt F .i32) : Prop :=
  ∀ r' < r, ∀ x : S16.Idx, f (ent (r' * 16 + (x 0).val)) = I.cand L r' x

/-- The list of candidates, its first `r` rows there. -/
def ListIs (d : Dev nD) (L : grid0.Coords) (I : Ins F) (r : ℕ) : sProp (MM F) :=
  iprop(∃ f : S4096.Idx → Elt F .i32, ⌜Listed L I r f⌝ ∗ ((a15).view.loc (tV d L) ↦{fullShare} f))

variable {d : Dev nD} {L : grid0.Coords} {I : Ins F}

theorem listed_succ {r : ℕ} {f g : S4096.Idx → Elt F .i32} (h : Listed L I r f)
    (hg : (∀ x : S16.Idx, g (ent (r * 16 + (x 0).val)) = I.cand L r x) ∧ ∀ n, n < r * 16 → g (ent n) = f (ent n)) : Listed L I (r + 1) g := by
  intro r' hr x
  have hx : (x 0).val < 16 := (x 0).isLt
  rcases Nat.lt_succ_iff_lt_or_eq.mp hr with hr | rfl
  · rw [hg.2 _ (by omega)]; exact h r' hr x
  · exact hg.1 x

/-- A branch at the head of a program. -/
theorem wp_either {α : Type} {Q : α → sProp (MM F)} {P : sProp (MM F)} {c : Prop} {dec : Decidable c}
    {A : c → Prog (TpuEff nD τ sig (Elt F) Λ₀ (tV d L).2) α} {B : ¬c → Prog (TpuEff nD τ sig (Elt F) Λ₀ (tV d L).2) α}
    (hA : ∀ h, P ⊢ wpV d L (A h) Q) (hB : ∀ h, P ⊢ wpV d L (B h) Q) : P ⊢ wpV d L (dite c A B) Q := by
  by_cases h : c
  · rw [dif_pos h]; exact hA h
  · rw [dif_neg h]; exact hB h

/-- A branch whose two ways go on to the same rest, which is met once. -/
theorem wp_branchOn {α β : Type} {Q : α → sProp (MM F)} {P M : sProp (MM F)} {c : Prop} {dec : Decidable c}
    {A : c → Prog (TpuEff nD τ sig (Elt F) Λ₀ (tV d L).2) β} {rest : Prog (TpuEff nD τ sig (Elt F) Λ₀ (tV d L).2) β}
    {kk : β → Prog (TpuEff nD τ sig (Elt F) Λ₀ (tV d L).2) α}
    (hR : M ⊢ wpV d L (rest >>= kk) Q) (hA : ∀ h : c, P ⊢ iprop((M -∗ wpV d L (rest >>= kk) Q) -∗ wpV d L (A h >>= kk) Q)) (hB : ¬c → P ⊢ M) :
    P ⊢ wpV d L (dite c A (fun _ => rest) >>= kk) Q := by
  by_cases h : c
  · rw [dif_pos h]
    iintro HP
    iapply (hA h) $$ HP
    iintro HM
    iapply hR $$ HM
  · rw [dif_neg h]
    exact (hB h).trans hR

/-- The end of a program. -/
theorem wp_end {α : Type} {Q : α → sProp (MM F)} {P : sProp (MM F)} {a : α} (h : P ⊢ Q a) : P ⊢ wpV d L (Prog.ret a) Q := by
  unfold wpV
  rw [wp_ret]
  iintro HP
  imodintro
  iapply h $$ HP

/-- A chunk of a slab in its slot is read. -/
theorem wp_chunkRead {α : Type} {Q : α → sProp (MM F)} {b : Fin 2} {r n : ℕ} (hn : n < 64) {off : Fin 2 → ℕ} {hoff : ∀ a, off a + S1x16.size a ≤ S16x128.size a}
    (ho : off = ![n / 4, n % 4 * 16]) {hl}
    {k : Vec F S1x16 .f32 → Prog (TpuEff nD τ sig (Elt F) Λ₀ (tV d L).2) α} :
    SlabHeld d L I b r ⊢ iprop((SlabHeld d L I b r -∗ wpV d L (k (slabChunk (I.slab L r) ![n / 4, n % 4 * 16] (chunk_inb n hn))) Q)
      -∗ wpV d L (Prog.lift (.load (planeB a12 b) (Rect.unit (s := S16x128) off S1x16.size hoff).toLoadRect hl) >>= k) Q) := by
  subst ho
  unfold SlabHeld
  iintro ⟨A, R⟩ Hk
  iapply wp_peek $$ A
  iintro A
  iapply Hk
  isplitl [A] <;> iassumption

/-- The loop over the chunks of a slab in its slot. -/
theorem wp_selectHeld {α : Type} {Q : α → sProp (MM F)} {X : sProp (MM F)} {b : Fin 2} {r : ℕ}
    {l : Scf.Loop 32} {hl : l.OK} (hlb : l = ⟨1#32, 64#32, 1#32⟩)
    {init : Carry F} (hinit : init = carryOf (selAt (I.slab L r) 0))
    {body : Fin l.trips → Carry F → Prog (TpuEff nD τ sig (Elt F) Λ₀ (tV d L).2) (Carry F)}
    (hB : ∀ (k : Fin l.trips) (hk : k.val + 1 < 64) (p : KV F), iprop(scr (F := F) d L ∗ SlabHeld d L I b r)
      ⊢ wpV d L (body k (p.1, p.2, lastK p.1)) (fun q => iprop(scr (F := F) d L ∗ SlabHeld d L I b r ∗ ⌜q = carryOf (selStep (I.slab L r) (k.val + 1) hk p)⌝)))
    {kk : Carry F → Prog (TpuEff nD τ sig (Elt F) Λ₀ (tV d L).2) α}
    (hK : iprop(scr (F := F) d L ∗ SlabHeld d L I b r ∗ X) ⊢ wpV d L (kk (carryOf (selAt (I.slab L r) 63))) Q) :
    iprop(scr (F := F) d L ∗ SlabHeld d L I b r ∗ X) ⊢ wpV d L (Scf.Loop.for l hl init body >>= kk) Q := by
  subst hlb hinit
  iintro ⟨HS, HZ, HX⟩
  unfold wpV
  iapply (Scf.wp_for_bind frame (wpE (defs₀ (F := F)) 𝒱₀ (tV d L) none) Set.univ _ _ _ _ _ _
    (fun n acc => iprop(⌜acc = carryOf (selAt (I.slab L r) n)⌝ ∗ scr (F := F) d L ∗ SlabHeld d L I b r)) ?_) $$ [HS HZ]
  · intro k acc
    have hk : k.val + 1 < 64 := Nat.succ_lt_succ (show k.val < 63 from k.isLt)
    iintro ⟨%hacc, HS, HZ⟩
    subst hacc
    ihave H := (hB k hk (selAt (I.slab L r) k.val)) $$ [HS HZ]
    · isplitl [HS] <;> iassumption
    unfold wpV
    iapply (wp_wand frame (wpE (defs₀ (F := F)) 𝒱₀ (tV d L) none)) $$ H
    iintro %q ⟨HS, HZ, %hq⟩
    isplitr
    · ipureintro
      rw [hq, selAt_succ (I.slab L r) _ hk]
    · isplitl [HS] <;> iassumption
  · isplitr
    · ipureintro; rfl
    · isplitl [HS] <;> iassumption
  iintro %acc ⟨%hacc, HS, HZ⟩
  have hacc : acc = carryOf (selAt (I.slab L r) 63) := hacc
  subst hacc
  iapply hK
  isplitl [HS]; · iexact HS
  isplitl [HZ] <;> iassumption

/-- What a better chunk makes of the sixteen. -/
theorem improve_eq {p : KV F} {c : Vec F S16 .f32} {w : BitVec 32} {n : ℕ} {k1 k2 : Vec F S16 .f32} {i1 i2 : Vec F S16 .i32}
    (e2 : (k2, i2) = mergeP (p.1, p.2) (k1, i1)) (ek : k1 = sortK c) (ei : i1 = sortV c (pos w)) (hw : w = BitVec.ofNat 32 n) :
    (k2, i2, lastK k2) = carryOf (mergeP p (sortP (c, pos (BitVec.ofNat 32 n)))) := by
  subst ek ei hw
  have e : (k2, i2) = mergeP p (sortP (c, pos (BitVec.ofNat 32 n))) := e2
  rw [← e]; rfl

/-- A row's candidates are named from its groups and its slab's sixteen, and listed. -/
theorem wp_pick {α : Type} {Q : α → sProp (MM F)} {b : Fin 2} {r : ℕ} {ci : Vec F S16 .i32} (hci : ci = ciV (I.slab L r))
    {chk : IVec S16 32 → Prop} {dec : Decidable (chk (k0_pay215 (F := F) ci))}
    (hA : chk (k0_pay215 (F := F) ci) → ∀ a x, ((![k0_pay215 (F := F) ci] : Fin 1 → IVec S16 32) a x).toNat < S16.size a)
    (hP : (∀ a x, ((![k0_pay215 (F := F) ci] : Fin 1 → IVec S16 32) a x).toNat < S16.size a) → chk (k0_pay215 (F := F) ci))
    {off : Fin 1 → ℕ} {ho : ∀ a, off a + S16.size a ≤ S4096.size a} (hoff : off 0 = r * 16)
    {hl hl' hx hm} {kk : Vec F S16 .i32 → Prog (TpuEff nD τ sig (Elt F) Λ₀ (tV d L).2) α} :
    iprop(SlabHeld d L I b r ∗ ListIs d L I r) ⊢ iprop((∀ v, ⌜k0_pay216 ci v = I.cand L r⌝ -∗ iprop(SlabHeld d L I b r ∗ ListIs d L I (r + 1)) -∗ wpV d L (kk v) Q)
      -∗ wpV d L (Prog.lift (.assume (chk (k0_pay215 (F := F) ci)) dec) >>= fun h =>
        SparseCore.vectorLoadIdx (rowB a13 b) ![k0_pay215 (F := F) ci] (hA h.down) hl >>= fun v =>
        Prog.lift (.load a15 (Rect.unit (s := S4096) off S16.size ho).toLoadRect hl') >>= fun _ =>
        Prog.lift (.store a15 (Rect.unit (s := S4096) off S16.size ho) (k0_pay216 ci v) Finset.univ hx hm) >>= fun _ => kk v) Q) := by
  subst hci
  unfold ListIs
  iintro ⟨Hh, %f, %hf, HL⟩ Hk
  ihave Hh := (Entails.of_eq (show SlabHeld d L I b r = iprop(hold d L (planeB a12 b) fullShare (I.slab L r) ∗ hold d L tabD (I.qd b) I.d2
    ∗ hold (F := F) d L (rowB a14 b) fullShare (I.gidx L r) ∗ zero d L (ssl b) ∗ hold (F := F) d L (rowB a13 b) fullShare (I.gi L r)) from rfl)) $$ Hh
  icases Hh with ⟨A, T, Y, Z, G⟩
  have hin : chk (k0_pay215 (F := F) (ciV (I.slab L r))) := hP (shr6_inb (selAt_below _ _))
  unfold wpV
  iapply (wp_assume 𝒱₀ (tV d L) none Set.univ hin)
  iapply (wp_look (hl := hl)) $$ G
  iintro G
  iapply wp_putList $$ HL
  iintro %g %hg HL
  iapply Hk $$ %_ []
  · ipureintro; rfl
  isplitr [HL]
  · unfold SlabHeld
    isplitl [A]; · iexact A
    isplitl [T]; · iexact T
    isplitl [Y]; · iexact Y
    isplitl [Z] <;> iassumption
  · iexists g
    isplitr
    swap; · iexact HL
    ipureintro
    rw [hoff] at hg
    exact listed_succ hf hg

/-- The first of a row's three gathers is under way. -/
def FirstFly (d : Dev nD) (L : grid0.Coords) (I : Ins F) (b : Fin 2) (r : ℕ) : sProp (MM F) :=
  iprop(fly d L cc0_scratch13.sem (cubeB a17 b).view.dmaCredit iprop(hold d L (cubeB a17 b) fullShare (rows3 I.xk (I.cand L r)) ∗ hold d L (tab3 a4) I.qk I.xk
      ∗ hold (F := F) d L (rowB a16 b) fullShare.left (I.cand L r))
    ∗ (zero d L cc0_scratch14.sem ∗ hold d L (tab3 a5) I.qv I.xv) ∗ (zero d L cc0_scratch15.sem ∗ hold d L tabP I.qp I.xp)
    ∗ holdAny (F := F) d L (cubeB a18 b) ∗ holdAny (F := F) d L (planeB a19 b) ∗ hold (F := F) d L (rowB a16 b) fullShare.right (I.cand L r))

/-- A row's candidates are put in their slot and the first of its gathers is sent for. -/
theorem wp_fetchFirst {α : Type} {Q : α → sProp (MM F)} {b : Fin 2} {r : ℕ} {hl hx hm} {v : Vec F S16 .i32} (hv : v = I.cand L r)
    {k : PUnit → Prog (TpuEff nD τ sig (Elt F) Λ₀ (tV d L).2) α} :
    iprop(GIdle d L I ∗ DestFree d L b ∗ holdAny (F := F) d L (rowB a16 b))
      ⊢ iprop((FirstFly d L I b r -∗ wpV d L (k ⟨⟩) Q)
        -∗ wpV d L (Prog.lift (.load a16 (Rect.unit (s := S2x16) ![b.val, 0] S1x16.size (inb2 b)).toLoadRect hl) >>= fun _ =>
        Prog.lift (.store a16 (Rect.unit (s := S2x16) ![b.val, 0] S1x16.size (inb2 b)) (shapeCast S1x16 v shapeCasts_S16_S1x16) Finset.univ hx hm) >>= fun _ =>
          SparseCore.enqueueIndirectGather rfl (tab3 a4) (cubeB a17 b) gathers_S8192x2x128_S16x2x128 (rowB a16 b) rfl cc0_scratch13.sem (View.wordExact_bits rfl) rfl (Or.inl rfl) >>= k) Q) := by
  subst hv
  unfold GIdle DestFree
  iintro ⟨⟨⟨Z1, T1⟩, R2, R3⟩, ⟨A1, A2, A3⟩, C⟩ Hk
  iapply wp_putRow $$ C
  iintro C
  ihave C := hold_split $$ C
  icases C with ⟨C1, C⟩
  iapply (wp_gather (Y := I.cand L r) (hsp := Or.inl rfl) (hr := by decide) _ (credit_k b) (by decide) (fun x => candR_lt L (I.T L) I.d2 r x) (G := rows3 I.xk (I.cand L r)) (cube_load I.xk (I.cand L r) _ _)) $$ [A1 T1 C1 Z1]
  · isplitl [T1]; · iexact T1
    isplitl [A1]; · iexact A1
    isplitl [C1] <;> iassumption
  iintro F1
  iapply Hk
  unfold FirstFly
  isplitl [F1]; · iexact F1
  isplitl [R2]; · iexact R2
  isplitl [R3]; · iexact R3
  isplitl [A2]; · iexact A2
  isplitl [A3] <;> iassumption

/-- The other two gathers are sent for. -/
theorem wp_fetchRest {α : Type} {Q : α → sProp (MM F)} {b : Fin 2} {r : ℕ} {k : PUnit → Prog (TpuEff nD τ sig (Elt F) Λ₀ (tV d L).2) α} :
    FirstFly d L I b r
      ⊢ iprop((GFly d L I b r -∗ wpV d L (k ⟨⟩) Q)
        -∗ wpV d L (SparseCore.enqueueIndirectGather rfl (tab3 a5) (cubeB a18 b) gathers_S8192x2x128_S16x2x128 (rowB a16 b) rfl cc0_scratch14.sem (View.wordExact_bits rfl) rfl (Or.inl rfl) >>= fun _ =>
          SparseCore.enqueueIndirectGather rfl tabP (planeB a19 b) gathers_S8192x128_S16x128 (rowB a16 b) rfl cc0_scratch15.sem (View.wordExact_bits rfl) rfl (Or.inl rfl) >>= k) Q) := by
  unfold FirstFly
  iintro ⟨F1, ⟨Z2, T2⟩, ⟨Z3, T3⟩, A2, A3, C⟩ Hk
  ihave C := hold_split $$ C
  icases C with ⟨C2, C3⟩
  iapply (wp_gather (Y := I.cand L r) (hsp := Or.inl rfl) (hr := by decide) _ (credit_v b) (by decide) (fun x => candR_lt L (I.T L) I.d2 r x) (G := rows3 I.xv (I.cand L r)) (cube_load I.xv (I.cand L r) _ _)) $$ [A2 T2 C2 Z2]
  · isplitl [T2]; · iexact T2
    isplitl [A2]; · iexact A2
    isplitl [C2] <;> iassumption
  iintro F2
  iapply (wp_gather (Y := I.cand L r) (hsp := Or.inl rfl) (hr := by decide) _ (credit_p b) (by decide) (fun x => candR_lt L (I.T L) I.d2 r x) (G := rows2 I.xp (I.cand L r)) (plane_load I.xp (I.cand L r) _ _)) $$ [A3 T3 C3 Z3]
  · isplitl [T3]; · iexact T3
    isplitl [A3]; · iexact A3
    isplitl [C3] <;> iassumption
  iintro F3
  iapply Hk
  unfold GFly
  isplitl [F1]; · iexact F1
  isplitl [F2] <;> iassumption

/-! ## How far the rows have come -/

/-- The rows from `n` on are not yet written. -/
def Rest (d : Dev nD) (L : grid0.Coords) (n : ℕ) : sProp (MM F) := bigSep (Finset.Ico n 256) fun r => OutAny (F := F) d L r
/-- The rows below `n` are as they are to be. -/
def Done (d : Dev nD) (L : grid0.Coords) (I : Ins F) (n : ℕ) : sProp (MM F) := bigSep (Finset.Ico 0 n) fun r => OutIs d L I r

theorem rest_take {n : ℕ} (h : n < 256) : Rest (F := F) d L n ⊢ iprop(OutAny (F := F) d L n ∗ Rest (F := F) d L (n + 1)) :=
  Entails.of_eq (bigSep_Ico_succ_bot h _)
theorem done_put {n : ℕ} : iprop(OutIs d L I n ∗ Done d L I n) ⊢ Done d L I (n + 1) :=
  Entails.of_eq (bigSep_Ico_succ_top (Nat.zero_le n) _).symm

/-- The second slot before row `2 i` takes over the first: at rest, or row `2 i - 1` on its way out. -/
def Half (d : Dev nD) (L : grid0.Coords) (I : Ins F) : ℕ → sProp (MM F)
  | 0 => iprop(DestFree (F := F) d L 1 ∗ WZero (F := F) d L 1 ∗ Done d L I 0)
  | n + 1 => iprop(WFly d L I 1 (2 * n + 1) ∗ Done d L I (2 * n + 1))

/-- Before the pair of rows `2 i` and `2 i + 1`. -/
def Before (d : Dev nD) (L : grid0.Coords) (I : Ins F) : ℕ → sProp (MM F)
  | 0 => iprop(GIdle d L I ∗ DestFree (F := F) d L 0 ∗ WZero (F := F) d L 0 ∗ DestFree (F := F) d L 1 ∗ WZero (F := F) d L 1
      ∗ holdAny (F := F) d L (rowB a16 1) ∗ Rest (F := F) d L 0 ∗ Done d L I 0)
  | n + 1 => iprop(GFly d L I 1 (2 * n + 1) ∗ WFly d L I 0 (2 * n) ∗ WZero (F := F) d L 1 ∗ Rest (F := F) d L (2 * n + 1) ∗ Done d L I (2 * n))

/-- Row `2 i`'s slot is free, its row before handed on. -/
def Mid (d : Dev nD) (L : grid0.Coords) (I : Ins F) (i : ℕ) : sProp (MM F) :=
  iprop(GIdle d L I ∗ DestFree (F := F) d L 0 ∗ WZero (F := F) d L 0 ∗ holdAny (F := F) d L (rowB a16 1) ∗ Rest (F := F) d L (2 * i) ∗ Half d L I i)

/-- Between: row `2 i - 1`'s gathers are over and its write-outs begun, row `2 i - 2`'s write-outs still to be waited for. -/
def Turn (d : Dev nD) (L : grid0.Coords) (I : Ins F) : ℕ → sProp (MM F)
  | 0 => Mid d L I 0
  | n + 1 => iprop(GIdle d L I ∗ WFly d L I 0 (2 * n) ∗ holdAny (F := F) d L (rowB a16 1) ∗ Rest (F := F) d L (2 * (n + 1))
      ∗ WFly d L I 1 (2 * n + 1) ∗ Done d L I (2 * n))

theorem before_zero {m : ℕ} (h : m = 0) : Before d L I m ⊢ Turn d L I m := by
  subst h
  show iprop(GIdle d L I ∗ DestFree (F := F) d L 0 ∗ WZero (F := F) d L 0 ∗ DestFree (F := F) d L 1 ∗ WZero (F := F) d L 1
      ∗ holdAny (F := F) d L (rowB a16 1) ∗ Rest (F := F) d L 0 ∗ Done d L I 0) ⊢ iprop(GIdle d L I ∗ DestFree (F := F) d L 0 ∗ WZero (F := F) d L 0
        ∗ holdAny (F := F) d L (rowB a16 1) ∗ Rest (F := F) d L 0 ∗ DestFree (F := F) d L 1 ∗ WZero (F := F) d L 1 ∗ Done d L I 0)
  iintro ⟨A, B, C, D, E, G, H, K⟩
  isplitl [A]; · iexact A
  isplitl [B]; · iexact B
  isplitl [C]; · iexact C
  isplitl [G]; · iexact G
  isplitl [H]; · iexact H
  isplitl [D]; · iexact D
  isplitl [E] <;> iassumption

theorem before_succ {m n : ℕ} (h : m = n + 1) : Before d L I m
    ⊢ iprop(GFly d L I 1 (2 * n + 1) ∗ WFly d L I 0 (2 * n) ∗ WZero (F := F) d L 1 ∗ Rest (F := F) d L (2 * n + 1) ∗ Done d L I (2 * n)) := by
  subst h; exact .rfl

theorem before_of {n : ℕ} : iprop(GFly d L I 1 (2 * n + 1) ∗ WFly d L I 0 (2 * n) ∗ WZero (F := F) d L 1 ∗ Rest (F := F) d L (2 * n + 1) ∗ Done d L I (2 * n))
    ⊢ Before d L I (n + 1) := .rfl

theorem turn_of {m n : ℕ} (h : m = n + 1) : iprop(GIdle d L I ∗ WFly d L I 0 (2 * n) ∗ holdAny (F := F) d L (rowB a16 1) ∗ Rest (F := F) d L (2 * n + 1 + 1)
      ∗ WFly d L I 1 (2 * n + 1) ∗ Done d L I (2 * n)) ⊢ Turn d L I m := by
  subst h; exact .rfl

theorem turn_zero {m : ℕ} (h : m = 0) : Turn d L I m ⊢ Mid d L I m := by
  subst h; exact .rfl

theorem turn_succ {m n : ℕ} (h : m = n + 1) : Turn d L I m ⊢ iprop(GIdle d L I ∗ WFly d L I 0 (2 * n) ∗ holdAny (F := F) d L (rowB a16 1)
      ∗ Rest (F := F) d L (2 * (n + 1)) ∗ WFly d L I 1 (2 * n + 1) ∗ Done d L I (2 * n)) := by
  subst h; exact .rfl

theorem mid_of {m n : ℕ} (h : m = n + 1) : iprop(GIdle d L I ∗ DestFree (F := F) d L 0 ∗ WZero (F := F) d L 0 ∗ holdAny (F := F) d L (rowB a16 1)
      ∗ Rest (F := F) d L (2 * (n + 1)) ∗ WFly d L I 1 (2 * n + 1) ∗ Done d L I (2 * n + 1)) ⊢ Mid d L I m := by
  subst h; exact .rfl

theorem half_succ {m n : ℕ} (h : m = n + 1) : Half d L I m ⊢ iprop(WFly d L I 1 (2 * n + 1) ∗ Done d L I (2 * n + 1)) := by
  subst h; exact .rfl

end Pick

end Cert.Proof.Knn
-- ==== Proof.Part26.lean ====
/- The second quarter of a pair's trip: the even row's sixteen are selected and named, the row before goes out, and the even row's own are sent for. -/
module

public import proofs.«01_k».proof.Proof.Pick

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Even

variable {d : Dev nD} {L : grid0.Coords} {I : Ins F}

set_option maxHeartbeats 400000 in
theorem wp_part26 {α : Type} {Q : α → sProp (MM F)} {O : CellTallies nD τ sig (HIx 1)} {W : Waits sig (HIx 1)} (i : Fin k0_t16_loop.trips)
    {X : sProp (MM F)} {kk : _ → Prog (TpuEff nD τ sig (Elt F) Λ₀ (tV d L).2) α}
    (hk : iprop(scr (F := F) d L ∗ SlabHeld d L I 0 (2 * i.val) ∗ ListIs d L I (2 * i.val + 1) ∗ FirstFly d L I 0 (2 * i.val) ∗ WZero (F := F) d L 0
        ∗ holdAny (F := F) d L (rowB a16 1) ∗ Rest (F := F) d L (2 * i.val) ∗ Half d L I i.val ∗ OW (F := F) d L O W ∗ X)
      ⊢ wpV d L (kk ⟨⟩) Q) :
    iprop(scr (F := F) d L ∗ SlabHeld d L I 0 (2 * i.val) ∗ ListIs d L I (2 * i.val) ∗ Before d L I i.val ∗ holdAny (F := F) d L (rowB a16 0) ∗ OW (F := F) d L O W ∗ X)
      ⊢ wpV d L (k0_part26 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1 (baseW L) lanes i (evenW i) (selAt (I.slab L (2 * i.val)) 0).1 (selAt (I.slab L (2 * i.val)) 0).2
        (lastK (selAt (I.slab L (2 * i.val)) 0).1) 1#32 >>= kk) Q := by
  rw [k0_part26_eq_skeleton]
  unfold k0_part26_skel
  simp only [Prog.bind_assoc, Prog.pure_eq_ret, Prog.bind_ret]
  refine wp_selectHeld rfl rfl ?_ ?_
  · intro k hk p
    unfold k0_t33_body
    simp only [Prog.bind_assoc, Prog.pure_eq_ret, Prog.bind_ret]
    iintro ⟨S, Hh⟩
    iapply (wp_chunkRead (b := 0) hk (off10_eq k)) $$ Hh
    iintro Hh
    iapply (wp_either (P := iprop(scr (F := F) d L ∗ SlabHeld d L I 0 (2 * i.val))) ?_ ?_) $$ [S Hh]
    · intro hc
      have e : selStep (I.slab L (2 * i.val)) (k.val + 1) hk p = _ := if_pos hc
      rw [e]
      simp only [k0_part11_eq_skeleton, k0_part11_skel, Prog.bind_assoc, Prog.pure_eq_ret, Prog.bind_ret]
      refine wp_sort rfl rfl (fun _ _ => rfl) (fun n _ => rot_inb n) (fun _ h => h.1 hc) (by exact ⟨fun _ => rank_inb _, fun _ => rank_inb _⟩) ?_
      intro k1 i1 ek ei
      refine wp_merge rfl rfl (fun h => h hc) (fun h => h hc) (fun _ => revIx_inb) (fun _ => revIx_inb) rfl (fun _ _ => rfl) (fun _ _ => rfl) rfl (fun _ _ _ _ => rfl) (fun n _ => rot_inb n) (fun _ h => h.1 hc) (by exact fun _ => ⟨fun _ => rank_inb _, fun _ => rank_inb _⟩) ?_
      intro _ _ k2 i2 e2
      refine wp_end ?_
      iintro ⟨S, Hh⟩
      isplitl [S]; · iexact S
      isplitl [Hh]; · iexact Hh
      ipureintro
      exact improve_eq e2 ek ei (chunkW_eq k)
    · intro hc
      have e : selStep (I.slab L (2 * i.val)) (k.val + 1) hk p = _ := if_neg hc
      rw [e]
      refine wp_end ?_
      iintro ⟨S, Hh⟩
      isplitl [S]; · iexact S
      isplitl [Hh]; · iexact Hh
      ipureintro; rfl
    · isplitl [S] <;> iassumption
  iintro ⟨S, Hh, HL, HB, HC, HO, HX⟩
  iapply (wp_pick (b := 0) (chk := k0_chk97) (ci := ciV (I.slab L (2 * i.val))) rfl (fun h => h) (fun h => h) (off11_eq i)) $$ [Hh HL]
  · isplitl [Hh] <;> iassumption
  iintro %v %hv ⟨Hh, HL⟩
  iapply (wp_branchOn (P := iprop(Before d L I i.val ∗ OW (F := F) d L O W ∗ scr (F := F) d L ∗ SlabHeld d L I 0 (2 * i.val) ∗ ListIs d L I (2 * i.val + 1) ∗ holdAny (F := F) d L (rowB a16 0) ∗ X))
    (M := iprop(Turn d L I i.val ∗ OW (F := F) d L O W ∗ scr (F := F) d L ∗ SlabHeld d L I 0 (2 * i.val) ∗ ListIs d L I (2 * i.val + 1) ∗ holdAny (F := F) d L (rowB a16 0) ∗ X)) ?_ ?_ ?_) $$ [S Hh HL HB HC HO HX]
  · refine wp_branchOn (M := iprop(Mid d L I i.val ∗ OW (F := F) d L O W ∗ scr (F := F) d L ∗ SlabHeld d L I 0 (2 * i.val) ∗ ListIs d L I (2 * i.val + 1) ∗ holdAny (F := F) d L (rowB a16 0) ∗ X)) ?_ ?_ ?_
    · simp only [Prog.bind_assoc, Prog.pure_eq_ret, Prog.bind_ret]
      unfold Mid
      iintro ⟨⟨GI, DF, WZ, C1, HR, HH⟩, HO, S, Hh, HL, HC, HX⟩
      iapply (wp_fetchFirst (b := 0) hv) $$ [GI DF HC]
      · isplitl [GI]; · iexact GI
        isplitl [DF] <;> iassumption
      iintro FF
      iapply hk
      isplitl [S]; · iexact S
      isplitl [Hh]; · iexact Hh
      isplitl [HL]; · iexact HL
      isplitl [FF]; · iexact FF
      isplitl [WZ]; · iexact WZ
      isplitl [C1]; · iexact C1
      isplitl [HR]; · iexact HR
      isplitl [HH]; · iexact HH
      isplitl [HO] <;> iassumption
    · intro hc
      obtain ⟨n, hn⟩ : ∃ n, i.val = n + 1 := Nat.exists_eq_add_of_le' ((even_two i).mp hc)
      simp only [Prog.bind_assoc, Prog.pure_eq_ret, Prog.bind_ret]
      iintro ⟨HT, HO, HY⟩ Hk
      ihave HT := (turn_succ hn) $$ HT
      icases HT with ⟨GI, WF, C1, HR, WG, HD⟩
      iapply (wp_drain (c := 0) (r := 2 * n) ?_ ?_ ?_) $$ [WF HO]
      · rfl
      · rfl
      · rfl
      · isplitl [WF] <;> iassumption
      iintro ⟨OI, DF, WZ, HO⟩
      iapply Hk
      isplitr [HO HY]
      · iapply (mid_of hn)
        isplitl [GI]; · iexact GI
        isplitl [DF]; · iexact DF
        isplitl [WZ]; · iexact WZ
        isplitl [C1]; · iexact C1
        isplitl [HR]; · iexact HR
        isplitl [WG]; · iexact WG
        iapply done_put
        isplitl [OI] <;> iassumption
      · isplitl [HO] <;> iassumption
    · intro hc
      have hi : i.val = 0 := by
        rcases Nat.eq_zero_or_pos i.val with h | h
        · exact h
        · exact absurd ((even_two i).mpr h) hc
      iintro ⟨HT, HY⟩
      isplitl [HT]
      · iapply (turn_zero hi) $$ HT
      · iexact HY
  · intro hc
    obtain ⟨n, hn⟩ : ∃ n, i.val = n + 1 := Nat.exists_eq_add_of_le' ((cond3_iff i).mp hc)
    have hi : i.val < 128 := i.isLt
    simp only [k0_part12_eq_skeleton, k0_part12_skel, Prog.bind_assoc, Prog.pure_eq_ret, Prog.bind_ret]
    iintro ⟨HB, HO, HY⟩ Hk
    ihave HB := (before_succ hn) $$ HB
    icases HB with ⟨GF, WF, WZ, HR, HD⟩
    ihave HR := (rest_take (by omega)) $$ HR
    icases HR with ⟨OA, HR⟩
    iapply (wp_flush (c := 1) (r := 2 * n + 1) (out3_eq a8 L (2 * n + 1) (by omega) _ _ (off12_eq L i (2 * n + 1) (by omega)))
      (out3_eq a9 L (2 * n + 1) (by omega) _ _ (off12_eq L i (2 * n + 1) (by omega)))
      (out2_eq a10 L (2 * n + 1) (by omega) _ _ (off13_eq L i (2 * n + 1) (by omega)))) $$ [GF WZ OA HO]
    · isplitl [GF]; · iexact GF
      isplitl [WZ]; · iexact WZ
      isplitl [OA] <;> iassumption
    iintro ⟨GI, WG, C1, HO⟩
    iapply Hk
    isplitr [HO HY]
    · iapply (turn_of hn)
      isplitl [GI]; · iexact GI
      isplitl [WF]; · iexact WF
      isplitl [C1]; · iexact C1
      isplitl [HR]; · iexact HR
      isplitl [WG] <;> iassumption
    · isplitl [HO] <;> iassumption
  · intro hc
    have hi : i.val = 0 := by
      rcases Nat.eq_zero_or_pos i.val with h | h
      · exact h
      · exact absurd ((cond3_iff i).mpr h) hc
    iintro ⟨HB, HY⟩
    isplitl [HB]
    · iapply (before_zero hi) $$ HB
    · iexact HY
  · isplitl [HB]; · iexact HB
    isplitl [HO]; · iexact HO
    isplitl [S]; · iexact S
    isplitl [Hh]; · iexact Hh
    isplitl [HL]; · iexact HL
    isplitl [HC] <;> iassumption

end Even

end Cert.Proof.Knn
-- ==== Proof.Part27.lean ====
/- The third quarter of a pair's trip: the even row's other gathers, the next even row's groups and slab, and the odd row's slab arrives. -/
module

public import proofs.«01_k».proof.Proof.Pick

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Next

/-- The slab of the even row after pair `i`: sent for, if there is such a row. -/
def Next (d : Dev nD) (L : grid0.Coords) (I : Ins F) (i : ℕ) : sProp (MM F) :=
  if i < 128 then SlabFly d L I 0 (2 * i) else SlabFree d L I 0

variable {d : Dev nD} {L : grid0.Coords} {I : Ins F}

theorem next_fly {i r : ℕ} (h : i < 128) (hr : r = 2 * i) : SlabFly d L I 0 r ⊢ Next d L I i := by
  subst hr; unfold Next; rw [if_pos h]
theorem fly_next {i : ℕ} (h : i < 128) : Next d L I i ⊢ SlabFly d L I 0 (2 * i) := by
  unfold Next; rw [if_pos h]
theorem next_free {i : ℕ} (h : ¬ i < 128) : SlabFree d L I 0 ⊢ Next d L I i := by
  unfold Next; rw [if_neg h]
theorem free_next {i : ℕ} (h : ¬ i < 128) : Next d L I i ⊢ SlabFree d L I 0 := by
  unfold Next; rw [if_neg h]

theorem nextW_eq : ∀ i, Scalar.addi (oddW i) 1#32 = BitVec.ofNat 32 (2 * i.val + 2) := by decide

/-- A branch as before, the scratch and the table of groups named. -/
theorem wp_branchTable {α β : Type} {Q : α → sProp (MM F)} {S G X M : sProp (MM F)} {c : Prop} {dec : Decidable c}
    {A : c → Prog (TpuEff nD τ sig (Elt F) Λ₀ (tV d L).2) β} {rest : Prog (TpuEff nD τ sig (Elt F) Λ₀ (tV d L).2) β}
    {kk : β → Prog (TpuEff nD τ sig (Elt F) Λ₀ (tV d L).2) α}
    (hR : M ⊢ wpV d L (rest >>= kk) Q) (hA : ∀ h : c, iprop(S ∗ G ∗ X ∗ (M -∗ wpV d L (rest >>= kk) Q)) ⊢ wpV d L (A h >>= kk) Q)
    (hB : ¬c → iprop(S ∗ G ∗ X) ⊢ M) : iprop(S ∗ G ∗ X) ⊢ wpV d L (dite c A (fun _ => rest) >>= kk) Q := by
  refine wp_branchOn hR (fun h => ?_) hB
  iintro ⟨S, G, X⟩ Hk
  iapply (hA h)
  isplitl [S]; · iexact S
  isplitl [G]; · iexact G
  isplitl [X] <;> iassumption

set_option maxHeartbeats 400000 in
theorem wp_part27 {α : Type} {Q : α → sProp (MM F)} {O : CellTallies nD τ sig (HIx 1)} {W : Waits sig (HIx 1)} (i : Fin k0_t16_loop.trips)
    {X : sProp (MM F)} {kk : _ → Prog (TpuEff nD τ sig (Elt F) Λ₀ (tV d L).2) α}
    (hk : iprop(scr (F := F) d L ∗ ((a11).view.loc (tV d L) ↦{fullShare} I.T L) ∗ Next d L I (i.val + 1) ∗ SlabHeld d L I 1 (2 * i.val + 1)
      ∗ GFly d L I 0 (2 * i.val) ∗ OW (F := F) d L O W ∗ X) ⊢ wpV d L (kk (oddW i)) Q) :
    iprop(scr (F := F) d L ∗ ((a11).view.loc (tV d L) ↦{fullShare} I.T L) ∗ SlabFree d L I 0 ∗ SlabFly d L I 1 (2 * i.val + 1)
        ∗ FirstFly d L I 0 (2 * i.val) ∗ OW (F := F) d L O W ∗ X)
      ⊢ wpV d L (k0_part27 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1 (baseW L) lanes i (pairW i) >>= kk) Q := by
  have hi : i.val < 128 := i.isLt
  rw [k0_part27_eq_skeleton]
  unfold k0_part27_skel
  simp only [Prog.bind_assoc, Prog.pure_eq_ret, Prog.bind_ret]
  iintro ⟨S, G, HF, Fl, FF, HO, HX⟩
  iapply (wp_fetchRest (b := 0)) $$ FF
  iintro GF
  iapply (wp_branchTable (S := scr (F := F) d L) (G := iprop((a11).view.loc (tV d L) ↦{fullShare} I.T L))
    (X := iprop(SlabFree d L I 0 ∗ SlabFly d L I 1 (2 * i.val + 1) ∗ GFly d L I 0 (2 * i.val) ∗ OW (F := F) d L O W ∗ X))
    (M := iprop(scr (F := F) d L ∗ ((a11).view.loc (tV d L) ↦{fullShare} I.T L) ∗ Next d L I (i.val + 1) ∗ SlabFly d L I 1 (2 * i.val + 1) ∗ GFly d L I 0 (2 * i.val) ∗ OW (F := F) d L O W ∗ X))
    ?_ ?_ ?_) $$ [S G HF Fl GF HO HX]
  · simp only [Prog.bind_assoc, Prog.pure_eq_ret, Prog.bind_ret]
    iintro ⟨S, G, HN, Fl, GF, HO, HX⟩
    iapply (wp_arrive (b := 1)) $$ [Fl HO]
    · isplitl [Fl] <;> iassumption
    iintro ⟨Hh, HO⟩
    iapply hk
    isplitl [S]; · iexact S
    isplitl [G]; · iexact G
    isplitl [HN]; · iexact HN
    isplitl [Hh]; · iexact Hh
    isplitl [GF]; · iexact GF
    isplitl [HO] <;> iassumption
  · intro hc
    simp only [k0_part13_eq_skeleton, k0_part13_skel, Prog.bind_assoc, Prog.pure_eq_ret, Prog.bind_ret]
    simp only [k0_part14_eq_skeleton, k0_part14_skel, k0_part15_eq_skeleton, k0_part15_skel, Prog.bind_assoc, Prog.pure_eq_ret, Prog.bind_ret]
    refine wp_pair rfl rfl (fun _ _ _ => rfl) (fun n _ => rot_inb n) (fun _ h => h.1 hc) (fun _ => ⟨fun _ => rank_inb _, fun _ => rank_inb _⟩) rfl rfl (fun _ _ _ _ _ _ => rfl) (fun n _ => rot_inb n) (fun _ h => h.1 hc) (fun _ => ⟨fun _ => rank_inb _, fun _ => rank_inb _⟩) rfl rfl (fun h => h hc) (fun h => h hc) (fun _ => revIx_inb) (fun _ => revIx_inb) (fun _ _ _ _ _ _ _ _ => rfl) (fun _ _ _ _ _ _ _ _ => rfl) rfl rfl (fun _ _ _ _ _ _ _ _ _ _ => rfl) (fun n _ => rot_inb n) (fun _ h => h.1 hc) (fun _ => ⟨fun _ => rank_inb _, fun _ => rank_inb _⟩) ?_
    intro _ _ _ _ _ _ _ _ k0 i0 e0
    simp only [k0_part16_eq_skeleton, k0_part16_skel, k0_part17_eq_skeleton, k0_part17_skel, Prog.bind_assoc, Prog.pure_eq_ret, Prog.bind_ret]
    refine wp_pair rfl rfl (fun _ _ _ => rfl) (fun n _ => rot_inb n) (fun _ h => h.1 hc) (fun _ => ⟨fun _ => rank_inb _, fun _ => rank_inb _⟩) rfl rfl (fun _ _ _ _ _ _ => rfl) (fun n _ => rot_inb n) (fun _ h => h.1 hc) (fun _ => ⟨fun _ => rank_inb _, fun _ => rank_inb _⟩) rfl rfl (fun h => h hc) (fun h => h hc) (fun _ => revIx_inb) (fun _ => revIx_inb) (fun _ _ _ _ _ _ _ _ => rfl) (fun _ _ _ _ _ _ _ _ => rfl) rfl rfl (fun _ _ _ _ _ _ _ _ _ _ => rfl) (fun n _ => rot_inb n) (fun _ h => h.1 hc) (fun _ => ⟨fun _ => rank_inb _, fun _ => rank_inb _⟩) ?_
    intro _ _ _ _ _ _ _ _ k1 i1 e1
    simp only [k0_part18_eq_skeleton, k0_part18_skel, k0_part19_eq_skeleton, k0_part19_skel, Prog.bind_assoc, Prog.pure_eq_ret, Prog.bind_ret]
    refine wp_pair rfl rfl (fun _ _ _ => rfl) (fun n _ => rot_inb n) (fun _ h => h.1 hc) (fun _ => ⟨fun _ => rank_inb _, fun _ => rank_inb _⟩) rfl rfl (fun _ _ _ _ _ _ => rfl) (fun n _ => rot_inb n) (fun _ h => h.1 hc) (fun _ => ⟨fun _ => rank_inb _, fun _ => rank_inb _⟩) rfl rfl (fun h => h hc) (fun h => h hc) (fun _ => revIx_inb) (fun _ => revIx_inb) (fun _ _ _ _ _ _ _ _ => rfl) (fun _ _ _ _ _ _ _ _ => rfl) rfl rfl (fun _ _ _ _ _ _ _ _ _ _ => rfl) (fun n _ => rot_inb n) (fun _ h => h.1 hc) (fun _ => ⟨fun _ => rank_inb _, fun _ => rank_inb _⟩) ?_
    intro _ _ _ _ _ _ _ _ k2 i2 e2
    simp only [k0_part20_eq_skeleton, k0_part20_skel, k0_part21_eq_skeleton, k0_part21_skel, Prog.bind_assoc, Prog.pure_eq_ret, Prog.bind_ret]
    refine wp_pair rfl rfl (fun _ _ _ => rfl) (fun n _ => rot_inb n) (fun _ h => h.1 hc) (fun _ => ⟨fun _ => rank_inb _, fun _ => rank_inb _⟩) rfl rfl (fun _ _ _ _ _ _ => rfl) (fun n _ => rot_inb n) (fun _ h => h.1 hc) (fun _ => ⟨fun _ => rank_inb _, fun _ => rank_inb _⟩) rfl rfl (fun h => h hc) (fun h => h hc) (fun _ => revIx_inb) (fun _ => revIx_inb) (fun _ _ _ _ _ _ _ _ => rfl) (fun _ _ _ _ _ _ _ _ => rfl) rfl rfl (fun _ _ _ _ _ _ _ _ _ _ => rfl) (fun n _ => rot_inb n) (fun _ h => h.1 hc) (fun _ => ⟨fun _ => rank_inb _, fun _ => rank_inb _⟩) ?_
    intro _ _ _ _ _ _ _ _ k3 i3 e3
    refine wp_merge rfl rfl (fun h => h hc) (fun h => h hc) (fun _ => revIx_inb) (fun _ => revIx_inb) rfl (fun _ _ => rfl) (fun _ _ => rfl) rfl (fun _ _ _ _ => rfl) (fun n _ => rot_inb n) (fun _ h => h.1 hc) (fun _ => ⟨fun _ => rank_inb _, fun _ => rank_inb _⟩) ?_
    intro _ _ k4 i4 e4
    rw [e0, e1] at e4
    simp only [k0_part22_eq_skeleton, k0_part22_skel, Prog.bind_assoc, Prog.pure_eq_ret, Prog.bind_ret]
    refine wp_merge rfl rfl (fun h => h hc) (fun h => h hc) (fun _ => revIx_inb) (fun _ => revIx_inb) rfl (fun _ _ => rfl) (fun _ _ => rfl) rfl (fun _ _ _ _ => rfl) (fun n _ => rot_inb n) (fun _ h => h.1 hc) (fun _ => ⟨fun _ => rank_inb _, fun _ => rank_inb _⟩) ?_
    intro _ _ k5 i5 e5
    rw [e2, e3] at e5
    refine wp_merge rfl rfl (fun h => h hc) (fun h => h hc) (fun _ => revIx_inb) (fun _ => revIx_inb) rfl (fun _ _ => rfl) (fun _ _ => rfl) rfl (fun _ _ _ _ => rfl) (fun n _ => rot_inb n) (fun _ h => h.1 hc) (fun _ => ⟨fun _ => rank_inb _, fun _ => rank_inb _⟩) ?_
    intro _ _ k6 i6 e6
    rw [e4, e5] at e6
    have eg := row_groups e6 (off14_eq i) (off15_eq i) (off16_eq i) (off17_eq i) (off18_eq i) (off19_eq i) (off20_eq i) (off21_eq i) rfl rfl rfl rfl rfl rfl rfl rfl
    clear e0 e1 e2 e3 e4 e5 e6
    have hlt : i.val < 127 := (cond5_iff i).mp hc
    have hgi : i6 = I.gi L (2 * i.val + 2) := row_vals (p := (k6, i6)) eg
    have hgx : k0_pay194 (baseW L) (Scalar.addi (oddW i) 1#32) i6 = I.gidx L (2 * i.val + 2) := by
      rw [hgi, nextW_eq]; rfl
    iintro ⟨S, G, ⟨HF, HY⟩, Hk⟩
    iapply (wp_begin (b := 0) (r := 2 * i.val + 2) (by omega) hgi hgx) $$ HF
    iintro HF
    iapply Hk
    isplitl [S]; · iexact S
    isplitl [G]; · iexact G
    isplitl [HF]
    · iapply (next_fly (by omega) (by omega)) $$ HF
    · iexact HY
  · intro hc
    have hlt : ¬ i.val + 1 < 128 := fun h => hc ((cond5_iff i).mpr (by omega))
    iintro ⟨S, G, HF, HY⟩
    isplitl [S]; · iexact S
    isplitl [G]; · iexact G
    isplitl [HF]
    · iapply (next_free hlt) $$ HF
    · iexact HY
  · isplitl [S]; · iexact S
    isplitl [G]; · iexact G
    isplitl [HF]; · iexact HF
    isplitl [Fl]; · iexact Fl
    isplitl [GF]; · iexact GF
    isplitl [HO] <;> iassumption

end Next

end Cert.Proof.Knn
-- ==== Proof.Part28.lean ====
/- The last quarter of a pair's trip: the odd row's sixteen are selected and named, and the even row goes out. -/
module

public import proofs.«01_k».proof.Proof.Pick

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Late

variable {d : Dev nD} {L : grid0.Coords} {I : Ins F}

/-- A branch whose condition always holds. -/
theorem wp_surely {α β : Type} {Q : α → sProp (MM F)} {P : sProp (MM F)} {c : Prop} {dec : Decidable c}
    {A : c → Prog (TpuEff nD τ sig (Elt F) Λ₀ (tV d L).2) β} {B : ¬c → Prog (TpuEff nD τ sig (Elt F) Λ₀ (tV d L).2) β}
    {kk : β → Prog (TpuEff nD τ sig (Elt F) Λ₀ (tV d L).2) α} (hc : c) (h : P ⊢ wpV d L (A hc >>= kk) Q) : P ⊢ wpV d L (dite c A B >>= kk) Q := by
  rw [dif_pos hc]; exact h

set_option maxHeartbeats 400000 in
theorem wp_part28 {α : Type} {Q : α → sProp (MM F)} {O : CellTallies nD τ sig (HIx 1)} {W : Waits sig (HIx 1)} (i : Fin k0_t16_loop.trips)
    {X : sProp (MM F)} {kk : _ → Prog (TpuEff nD τ sig (Elt F) Λ₀ (tV d L).2) α}
    (hk : ∀ v, v = I.cand L (2 * i.val + 1) → iprop(scr (F := F) d L ∗ SlabHeld d L I 1 (2 * i.val + 1) ∗ ListIs d L I (2 * i.val + 1 + 1) ∗ GIdle d L I ∗ WFly d L I 0 (2 * i.val)
        ∗ holdAny (F := F) d L (rowB a16 0) ∗ Rest (F := F) d L (2 * i.val + 1) ∗ OW (F := F) d L O W ∗ X)
      ⊢ wpV d L (kk v) Q) :
    iprop(scr (F := F) d L ∗ SlabHeld d L I 1 (2 * i.val + 1) ∗ ListIs d L I (2 * i.val + 1) ∗ GFly d L I 0 (2 * i.val) ∗ WZero (F := F) d L 0
        ∗ Rest (F := F) d L (2 * i.val) ∗ OW (F := F) d L O W ∗ X)
      ⊢ wpV d L (k0_part28 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1 (baseW L) lanes i (oddW i) >>= kk) Q := by
  have hi : i.val < 128 := i.isLt
  rw [k0_part28_eq_skeleton]
  unfold k0_part28_skel
  simp only [Prog.bind_assoc, Prog.pure_eq_ret, Prog.bind_ret]
  iintro ⟨S, Hh, HL, HG, HZ, HR, HO, HX⟩
  iapply (wp_firstChunk (b := 1)) $$ Hh
  iintro Hh
  iapply (wp_sort (X := iprop(SlabHeld d L I 1 (2 * i.val + 1) ∗ ListIs d L I (2 * i.val + 1) ∗ GFly d L I 0 (2 * i.val) ∗ WZero (F := F) d L 0
        ∗ Rest (F := F) d L (2 * i.val) ∗ OW (F := F) d L O W ∗ X))
    rfl rfl (fun _ _ => rfl) (fun n => rot_inb n) (fun _ h => h.1) ⟨rank_inb _, rank_inb _⟩ ?_) $$ [S Hh HL HG HZ HR HO HX]
  swap
  · isplitl [S]; · iexact S
    isplitl [Hh]; · iexact Hh
    isplitl [HL]; · iexact HL
    isplitl [HG]; · iexact HG
    isplitl [HZ]; · iexact HZ
    isplitl [HR]; · iexact HR
    isplitl [HO] <;> iassumption
  intro ko vo hko hvo
  subst hko hvo
  refine wp_selectHeld (r := 2 * i.val + 1) rfl rfl ?_ ?_
  · intro k hk p
    unfold k0_t52_body
    simp only [Prog.bind_assoc, Prog.pure_eq_ret, Prog.bind_ret]
    iintro ⟨S, Hh⟩
    iapply (wp_chunkRead (b := 1) hk (off10_eq k)) $$ Hh
    iintro Hh
    iapply (wp_either (P := iprop(scr (F := F) d L ∗ SlabHeld d L I 1 (2 * i.val + 1))) ?_ ?_) $$ [S Hh]
    · intro hc
      have e : selStep (I.slab L (2 * i.val + 1)) (k.val + 1) hk p = _ := if_pos hc
      rw [e]
      simp only [k0_part23_eq_skeleton, k0_part23_skel, Prog.bind_assoc, Prog.pure_eq_ret, Prog.bind_ret]
      refine wp_sort rfl rfl (fun _ _ => rfl) (fun n _ => rot_inb n) (fun _ h => h.1 hc) (by exact ⟨fun _ => rank_inb _, fun _ => rank_inb _⟩) ?_
      intro k1 i1 ek ei
      refine wp_merge rfl rfl (fun h => h hc) (fun h => h hc) (fun _ => revIx_inb) (fun _ => revIx_inb) rfl (fun _ _ => rfl) (fun _ _ => rfl) rfl (fun _ _ _ _ => rfl) (fun n _ => rot_inb n) (fun _ h => h.1 hc) (by exact fun _ => ⟨fun _ => rank_inb _, fun _ => rank_inb _⟩) ?_
      intro _ _ k2 i2 e2
      refine wp_end ?_
      iintro ⟨S, Hh⟩
      isplitl [S]; · iexact S
      isplitl [Hh]; · iexact Hh
      ipureintro
      exact improve_eq e2 ek ei (chunkW_eq k)
    · intro hc
      have e : selStep (I.slab L (2 * i.val + 1)) (k.val + 1) hk p = _ := if_neg hc
      rw [e]
      refine wp_end ?_
      iintro ⟨S, Hh⟩
      isplitl [S]; · iexact S
      isplitl [Hh]; · iexact Hh
      ipureintro; rfl
    · isplitl [S] <;> iassumption
  iintro ⟨S, Hh, HL, HG, HZ, HR, HO, HX⟩
  iapply (wp_pick (b := 1) (chk := k0_chk150) (ci := ciV (I.slab L (2 * i.val + 1))) rfl (fun h => h) (fun h => h) (off23_eq i)) $$ [Hh HL]
  · isplitl [Hh] <;> iassumption
  iintro %v %hv ⟨Hh, HL⟩
  iapply (wp_surely (P := iprop(scr (F := F) d L ∗ SlabHeld d L I 1 (2 * i.val + 1) ∗ ListIs d L I (2 * i.val + 1 + 1) ∗ GFly d L I 0 (2 * i.val) ∗ WZero (F := F) d L 0
    ∗ Rest (F := F) d L (2 * i.val) ∗ OW (F := F) d L O W ∗ X)) (cond7_true i) ?_) $$ [S Hh HL HG HZ HR HO HX]
  swap
  · isplitl [S]; · iexact S
    isplitl [Hh]; · iexact Hh
    isplitl [HL]; · iexact HL
    isplitl [HG]; · iexact HG
    isplitl [HZ]; · iexact HZ
    isplitl [HR]; · iexact HR
    isplitl [HO] <;> iassumption
  simp only [k0_part24_eq_skeleton, k0_part24_skel, Prog.bind_assoc, Prog.pure_eq_ret, Prog.bind_ret]
  iintro ⟨S, Hh, HL, HG, HZ, HR, HO, HX⟩
  ihave HR := (rest_take (by omega)) $$ HR
  icases HR with ⟨OA, HR⟩
  iapply (wp_flush (c := 0) (r := 2 * i.val) (out3_eq a8 L (2 * i.val) (by omega) _ _ (off24_eq L i))
    (out3_eq a9 L (2 * i.val) (by omega) _ _ (off24_eq L i))
    (out2_eq a10 L (2 * i.val) (by omega) _ _ (off25_eq L i))) $$ [HG HZ OA HO]
  · isplitl [HG]; · iexact HG
    isplitl [HZ]; · iexact HZ
    isplitl [OA] <;> iassumption
  iintro ⟨GI, WF, HC, HO⟩
  iapply (hk _ hv)
  isplitl [S]; · iexact S
  isplitl [Hh]; · iexact Hh
  isplitl [HL]; · iexact HL
  isplitl [GI]; · iexact GI
  isplitl [WF]; · iexact WF
  isplitl [HC]; · iexact HC
  isplitl [HR]; · iexact HR
  isplitl [HO] <;> iassumption

end Late

end Cert.Proof.Knn
-- ==== Proof.Pairs.lean ====
/- A pair's whole trip, and the loop over the pairs. -/
module

public import proofs.«01_k».proof.Proof.Part25
public import proofs.«01_k».proof.Proof.Part26
public import proofs.«01_k».proof.Proof.Part27
public import proofs.«01_k».proof.Proof.Part28

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Loop

/-- What holds before pair `i`. -/
def AtPair (d : Dev nD) (L : grid0.Coords) (I : Ins F) (O : CellTallies nD τ sig (HIx 1)) (W : Waits sig (HIx 1)) (i : ℕ) : sProp (MM F) :=
  iprop(scr (F := F) d L ∗ ((a11).view.loc (tV d L) ↦{fullShare} I.T L) ∗ SlabFree d L I 1 ∗ Next d L I i ∗ ListIs d L I (2 * i) ∗ Before d L I i
    ∗ holdAny (F := F) d L (rowB a16 0) ∗ OW (F := F) d L O W)

variable {d : Dev nD} {L : grid0.Coords} {I : Ins F} {O : CellTallies nD τ sig (HIx 1)} {W : Waits sig (HIx 1)}

theorem half_zero {m : ℕ} (h : m = 0) : Half d L I m ⊢ iprop(DestFree (F := F) d L 1 ∗ WZero (F := F) d L 1 ∗ Done d L I (2 * m)) := by
  subst h; exact .rfl

theorem wp_unpure {α : Type} {Q : α → sProp (MM F)} {P : sProp (MM F)} {p : Prog (TpuEff nD τ sig (Elt F) Λ₀ (tV d L).2) α}
    (h : P ⊢ wpV d L (p >>= Pure.pure) Q) : P ⊢ wpV d L p Q := by
  rw [Prog.bind_pure] at h; exact h

set_option maxHeartbeats 400000 in
theorem pair_trip {α : Type} {Q : α → sProp (MM F)} (i : Fin k0_t16_loop.trips) (v251 : Vec F S16 .f32) (v252 : Vec F S16 .i32) (v253 : IVec S16 32) (c0 : BitVec 32)
    {kk : Unit → Prog (TpuEff nD τ sig (Elt F) Λ₀ (tV d L).2) α} (hk : AtPair d L I O W (i.val + 1) ⊢ wpV d L (kk ⟨⟩) Q) :
    AtPair d L I O W i.val ⊢ wpV d L (k0_t16_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1 (baseW L) lanes v251 v252 v253 c0 i ⟨⟩ >>= kk) Q := by
  have hi : i.val < 128 := i.isLt
  unfold AtPair at hk ⊢
  unfold k0_t16_body
  simp only [Prog.bind_assoc, Prog.pure_eq_ret, Prog.bind_ret]
  iintro ⟨S, G, SF, HN, HL, HB, HC, HO⟩
  ihave HN := (fly_next hi) $$ HN
  iapply (wp_part25 (I := I) i (X := iprop(ListIs d L I (2 * i.val) ∗ Before d L I i.val ∗ holdAny (F := F) d L (rowB a16 0))) ?_) $$ [S G SF HN HL HB HC HO]
  swap
  · isplitl [S]; · iexact S
    isplitl [G]; · iexact G
    isplitl [SF]; · iexact SF
    isplitl [HN]; · iexact HN
    isplitl [HO]; · iexact HO
    isplitl [HL]; · iexact HL
    isplitl [HB] <;> iassumption
  iintro ⟨S, G, F1, H0, HO, HL, HB, HC⟩
  iapply (wp_part26 (I := I) i (X := iprop(((a11).view.loc (tV d L) ↦{fullShare} I.T L) ∗ SlabFly d L I 1 (2 * i.val + 1))) ?_) $$ [S G F1 H0 HO HL HB HC]
  swap
  · isplitl [S]; · iexact S
    isplitl [H0]; · iexact H0
    isplitl [HL]; · iexact HL
    isplitl [HB]; · iexact HB
    isplitl [HC]; · iexact HC
    isplitl [HO]; · iexact HO
    isplitl [G] <;> iassumption
  iintro ⟨S, H0, HL, FF, WZ, C1, HR, HH, HO, G, F1⟩
  ihave H0 := slab_free $$ H0
  iapply (wp_part27 (I := I) i (X := iprop(ListIs d L I (2 * i.val + 1) ∗ WZero (F := F) d L 0 ∗ holdAny (F := F) d L (rowB a16 1) ∗ Rest (F := F) d L (2 * i.val) ∗ Half d L I i.val)) ?_)
    $$ [S G F1 H0 HO HL FF WZ C1 HR HH]
  swap
  · isplitl [S]; · iexact S
    isplitl [G]; · iexact G
    isplitl [H0]; · iexact H0
    isplitl [F1]; · iexact F1
    isplitl [FF]; · iexact FF
    isplitl [HO]; · iexact HO
    isplitl [HL]; · iexact HL
    isplitl [WZ]; · iexact WZ
    isplitl [C1]; · iexact C1
    isplitl [HR] <;> iassumption
  iintro ⟨S, G, HN, H1, GF, HO, HL, WZ, C1, HR, HH⟩
  iapply (wp_part28 (I := I) i (X := iprop(((a11).view.loc (tV d L) ↦{fullShare} I.T L) ∗ Next d L I (i.val + 1) ∗ holdAny (F := F) d L (rowB a16 1) ∗ Half d L I i.val)) ?_)
    $$ [S G HN H1 GF HO HL WZ C1 HR HH]
  swap
  · isplitl [S]; · iexact S
    isplitl [H1]; · iexact H1
    isplitl [HL]; · iexact HL
    isplitl [GF]; · iexact GF
    isplitl [WZ]; · iexact WZ
    isplitl [HR]; · iexact HR
    isplitl [HO]; · iexact HO
    isplitl [G]; · iexact G
    isplitl [HN]; · iexact HN
    isplitl [C1] <;> iassumption
  intro v hv
  simp only [Prog.bind_assoc, Prog.pure_eq_ret, Prog.bind_ret]
  iintro ⟨S, H1, HL, GI, WF, HC, HR, HO, G, HN, C1, HH⟩
  ihave H1 := slab_free $$ H1
  iapply (wp_branchOn (P := iprop(Half d L I i.val ∗ OW (F := F) d L O W ∗ scr (F := F) d L ∗ ((a11).view.loc (tV d L) ↦{fullShare} I.T L) ∗ SlabFree d L I 1
      ∗ Next d L I (i.val + 1) ∗ ListIs d L I (2 * i.val + 1 + 1) ∗ holdAny (F := F) d L (rowB a16 0) ∗ GIdle d L I ∗ WFly d L I 0 (2 * i.val) ∗ holdAny (F := F) d L (rowB a16 1) ∗ Rest (F := F) d L (2 * i.val + 1)))
    (M := iprop((DestFree (F := F) d L 1 ∗ WZero (F := F) d L 1 ∗ Done d L I (2 * i.val)) ∗ OW (F := F) d L O W ∗ scr (F := F) d L ∗ ((a11).view.loc (tV d L) ↦{fullShare} I.T L) ∗ SlabFree d L I 1
      ∗ Next d L I (i.val + 1) ∗ ListIs d L I (2 * i.val + 1 + 1) ∗ holdAny (F := F) d L (rowB a16 0) ∗ GIdle d L I ∗ WFly d L I 0 (2 * i.val) ∗ holdAny (F := F) d L (rowB a16 1) ∗ Rest (F := F) d L (2 * i.val + 1)))
    ?_ ?_ ?_) $$ [S H1 HL GI WF HC HR HO G HN C1 HH]
  · simp only [Prog.bind_assoc, Prog.pure_eq_ret, Prog.bind_ret]
    iintro ⟨⟨DF, WZ, HD⟩, HO, S, G, SF, HN, HL, HC, GI, WF, C1, HR⟩
    iapply (wp_fetchFirst (b := 1) hv) $$ [GI DF C1]
    · isplitl [GI]; · iexact GI
      isplitl [DF] <;> iassumption
    iintro FF
    iapply (wp_fetchRest (b := 1)) $$ FF
    iintro GF
    iapply hk
    isplitl [S]; · iexact S
    isplitl [G]; · iexact G
    isplitl [SF]; · iexact SF
    isplitl [HN]; · iexact HN
    isplitl [HL]; · iexact HL
    isplitr [HC HO]
    · iapply before_of
      isplitl [GF]; · iexact GF
      isplitl [WF]; · iexact WF
      isplitl [WZ]; · iexact WZ
      isplitl [HR] <;> iassumption
    · isplitl [HC] <;> iassumption
  · intro hc
    obtain ⟨n, hn⟩ : ∃ n, i.val = n + 1 := Nat.exists_eq_add_of_le' ((odd_two i).mp hc)
    simp only [Prog.bind_assoc, Prog.pure_eq_ret, Prog.bind_ret]
    iintro ⟨HH, HO, HY⟩ Hk
    ihave HH := (half_succ hn) $$ HH
    icases HH with ⟨WF, HD⟩
    iapply (wp_drain (c := 1) (r := 2 * n + 1) ?_ ?_ ?_) $$ [WF HO]
    · rfl
    · rfl
    · rfl
    · isplitl [WF] <;> iassumption
    iintro ⟨OI, DF, WZ, HO⟩
    iapply Hk
    isplitr [HO HY]
    · isplitl [DF]; · iexact DF
      isplitl [WZ]; · iexact WZ
      have e : 2 * i.val = 2 * n + 1 + 1 := by omega
      rw [e]
      iapply done_put
      isplitl [OI] <;> iassumption
    · isplitl [HO] <;> iassumption
  · intro hc
    have hi : i.val = 0 := by
      rcases Nat.eq_zero_or_pos i.val with h | h
      · exact h
      · exact absurd ((odd_two i).mpr h) hc
    iintro ⟨HH, HY⟩
    isplitl [HH]
    · iapply (half_zero hi) $$ HH
    · iexact HY
  · isplitl [HH]; · iexact HH
    isplitl [HO]; · iexact HO
    isplitl [S]; · iexact S
    isplitl [G]; · iexact G
    isplitl [H1]; · iexact H1
    isplitl [HN]; · iexact HN
    isplitl [HL]; · iexact HL
    isplitl [HC]; · iexact HC
    isplitl [GI]; · iexact GI
    isplitl [WF]; · iexact WF
    isplitl [C1] <;> iassumption

/-- A counted loop that keeps an invariant. -/
theorem wp_rounds {α : Type} {Q : α → sProp (MM F)} {X : sProp (MM F)} {Inv : ℕ → sProp (MM F)} {l : Scf.Loop 32} {hl : l.OK}
    {body : Fin l.trips → Unit → Prog (TpuEff nD τ sig (Elt F) Λ₀ (tV d L).2) Unit} (hB : ∀ k u, Inv k.val ⊢ wpV d L (body k u) (fun _ => Inv (k.val + 1)))
    {n : ℕ} (hn : l.trips = n) {kk : Unit → Prog (TpuEff nD τ sig (Elt F) Λ₀ (tV d L).2) α} (hk : iprop(Inv n ∗ X) ⊢ wpV d L (kk ⟨⟩) Q) :
    iprop(Inv 0 ∗ X) ⊢ wpV d L (Scf.Loop.for l hl ⟨⟩ body >>= kk) Q := by
  subst hn
  iintro ⟨HA, HX⟩
  unfold wpV
  iapply (Scf.wp_for_bind frame (wpE (defs₀ (F := F)) 𝒱₀ (tV d L) none) Set.univ _ _ _ _ _ _ (fun n _ => Inv n) ?_) $$ [HA]
  · intro k u
    exact hB k u
  · iexact HA
  iintro %_ HA
  iapply hk
  isplitl [HA]
  · iexact HA
  · iexact HX

theorem pairs_trips : k0_t16_loop.trips = 128 := by decide

/-- The loop over the pairs. -/
theorem wp_pairs {α : Type} {Q : α → sProp (MM F)} {X : sProp (MM F)} {v251 : Vec F S16 .f32} {v252 : Vec F S16 .i32} {v253 : IVec S16 32} {c0 : BitVec 32}
    {kk : Unit → Prog (TpuEff nD τ sig (Elt F) Λ₀ (tV d L).2) α} (hk : iprop(AtPair d L I O W 128 ∗ X) ⊢ wpV d L (kk ⟨⟩) Q) :
    iprop(AtPair d L I O W 0 ∗ X) ⊢ wpV d L (Scf.Loop.for k0_t16_loop k0_t16_ok ⟨⟩ (k0_t16_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1 (baseW L) lanes v251 v252 v253 c0) >>= kk) Q :=
  wp_rounds (Inv := AtPair d L I O W) (fun k u => by
    cases u
    refine wp_unpure ?_
    refine pair_trip k v251 v252 v253 c0 ?_
    exact wp_end .rfl) pairs_trips hk

end Loop

end Cert.Proof.Knn
-- ==== Proof.Tile.lean ====
/- A vector subcore's whole program: its part of the group minima is copied in, the rows are gone through, and the list of candidates is copied out. -/
module

public import proofs.«01_k».proof.Proof.Pairs

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Tile

/-- A subcore's part of the group minima, and of the list of candidates. -/
abbrev gmPart (L : grid0.Coords) : Memref sig .scVector .hbm S32768 .f32 :=
  a2.slice (Rect.unit (s := S1048576) (k0_off1 L) S32768.size (k0_off1_inb L)) (fun _ => rfl)
abbrev idxPart (L : grid0.Coords) : Memref sig .scVector .hbm S4096 .i32 :=
  a7.slice (Rect.unit (s := S131072) (k0_off28 L) S4096.size (k0_off28_inb L)) (fun _ => rfl)

/-- A subcore's scratch and semaphores at rest, and its shares of the tables. -/
def AtRest (d : Dev nD) (L : grid0.Coords) (I : Ins F) : sProp (MM F) :=
  iprop(scr (F := F) d L ∗ holdAny (F := F) d L a11 ∗ hold d L (gmPart L) I.qg (I.T L) ∗ SlabFree d L I 0 ∗ SlabFree d L I 1 ∗ GIdle d L I
    ∗ DestFree (F := F) d L 0 ∗ WZero (F := F) d L 0 ∗ DestFree (F := F) d L 1 ∗ WZero (F := F) d L 1
    ∗ holdAny (F := F) d L (rowB a16 0) ∗ holdAny (F := F) d L (rowB a16 1) ∗ zero d L cc0_scoped0.sem ∗ zero d L cc0_scoped1.sem)

/-- What a subcore has written: its list of candidates, and the rows that they name. -/
def Written (d : Dev nD) (L : grid0.Coords) (I : Ins F) : sProp (MM F) :=
  iprop((∃ f : S4096.Idx → Elt F .i32, ⌜Listed L I 256 f⌝ ∗ hold (F := F) d L (idxPart L) fullShare f) ∗ Done d L I 256)

variable {d : Dev nD} {L : grid0.Coords} {I : Ins F} {O : CellTallies nD τ sig (HIx 1)} {W : Waits sig (HIx 1)}

/-- The group minima copied in: a subcore's table of them. -/
theorem hold_table {X : S32768.Idx → Elt F .f32} : hold (F := F) d L a11 fullShare X ⊢ ((a11).view.loc (tV d L) ↦{fullShare} X) := by
  unfold hold
  iintro ⟨%f, H, %h⟩
  have h : f = X := h
  subst h
  have e : (a11).view.set = Finset.univ := View.set_whole _
  rw [e]
  iexact H
theorem table_any {X : S32768.Idx → Elt F .f32} : ((a11).view.loc (tV d L) ↦{fullShare} X) ⊢ holdAny (F := F) d L a11 := by
  have e : (a11).view.set = Finset.univ := View.set_whole _
  unfold holdAny
  rw [e]
  iintro H
  iexists X
  iexact H
/-- The list of candidates, as what a copy out of it reads. -/
theorem list_hold {f : S4096.Idx → Elt F .i32} : ((a15).view.loc (tV d L) ↦{fullShare} f) ⊢ hold (F := F) d L a15 fullShare f := by
  have e : (a15).view.set = Finset.univ := View.set_whole _
  unfold hold
  rw [e]
  iintro H
  iexists f
  isplitl [H]; · iexact H
  ipureintro; rfl

/-- The start of a subcore's program: its part of the group minima is copied in. -/
theorem wp_copyIn {α : Type} {Q : α → sProp (MM F)} {P Y : sProp (MM F)} {h1 h2 h3 h4 h5} {k : PUnit → Prog (TpuEff nD τ sig (Elt F) Λ₀ (tV d L).2) α}
    (hP : P ⊢ iprop(scr (F := F) d L ∗ holdAny (F := F) d L a11 ∗ hold d L (gmPart L) I.qg (I.T L) ∗ zero d L cc0_scoped0.sem ∗ OW (F := F) d L O W ∗ Y))
    (hk : iprop(scr (F := F) d L ∗ ((a11).view.loc (tV d L) ↦{fullShare} I.T L) ∗ hold d L (gmPart L) I.qg (I.T L) ∗ zero d L cc0_scoped0.sem ∗ OW (F := F) d L O W ∗ Y)
      ⊢ wpV d L (k ⟨⟩) Q) :
    P ⊢ wpV d L (Prog.lift (.enqueueDma (gmPart L) (.here a11) (.dma cc0_scoped0.sem) h1 h2 h3) >>= fun _ =>
      Prog.lift (.waitDma2 cc0_scoped0.sem (gmPart L) a11 h4 h5) >>= k) Q := by
  refine hP.trans ?_
  iintro ⟨S, A11, HG, Z0, HO, HY⟩
  iapply (wp_copy (by decide)) $$ [HG A11 Z0]
  · isplitl [HG]; · iexact HG
    isplitl [A11] <;> iassumption
  iintro Fl
  iapply (wp_await rfl) $$ [Fl HO]
  · isplitl [Fl] <;> iassumption
  iintro ⟨⟨A11, HG⟩, Z0, HO⟩
  ihave A11 := hold_table $$ A11
  iapply hk
  isplitl [S]; · iexact S
  isplitl [A11]; · iexact A11
  isplitl [HG]; · iexact HG
  isplitl [Z0]; · iexact Z0
  isplitl [HO] <;> iassumption

theorem before_start : iprop(GIdle d L I ∗ DestFree (F := F) d L 0 ∗ WZero (F := F) d L 0 ∗ DestFree (F := F) d L 1 ∗ WZero (F := F) d L 1
      ∗ holdAny (F := F) d L (rowB a16 1) ∗ Rest (F := F) d L 0) ⊢ Before d L I 0 := by
  show _ ⊢ iprop(GIdle d L I ∗ DestFree (F := F) d L 0 ∗ WZero (F := F) d L 0 ∗ DestFree (F := F) d L 1 ∗ WZero (F := F) d L 1
      ∗ holdAny (F := F) d L (rowB a16 1) ∗ Rest (F := F) d L 0 ∗ Done d L I 0)
  iintro ⟨A, B, C, D, E, G, H⟩
  isplitl [A]; · iexact A
  isplitl [B]; · iexact B
  isplitl [C]; · iexact C
  isplitl [D]; · iexact D
  isplitl [E]; · iexact E
  isplitl [G]; · iexact G
  isplitl [H]; · iexact H
  unfold Done
  rw [Finset.Ico_self, bigSep_empty]
  iempintro

set_option maxHeartbeats 1000000 in
theorem tile_run :
    iprop(AtRest d L I ∗ ListIs d L I 0 ∗ Rest (F := F) d L 0 ∗ holdAny (F := F) d L (idxPart L) ∗ OW (F := F) d L O W)
      ⊢ wpV d L (cc0__sc_select_kernel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1) (fun _ => iprop(AtRest d L I ∗ holdAny (F := F) d L a15 ∗ Written d L I ∗ OW (F := F) d L O W)) := by
  rw [cc0__sc_select_kernel_eq_skeleton]
  unfold cc0__sc_select_kernel_skel AtRest
  simp only [k0_part29_eq_skeleton, k0_part29_skel, Prog.bind_assoc, Prog.pure_eq_ret, Prog.bind_ret]
  refine wp_copyIn (I := I) (O := O) (W := W) (Y := iprop(SlabFree d L I 0 ∗ SlabFree d L I 1 ∗ ListIs d L I 0 ∗ Before d L I 0 ∗ holdAny (F := F) d L (rowB a16 0)
      ∗ holdAny (F := F) d L (idxPart L) ∗ zero d L cc0_scoped1.sem)) ?_ ?_
  · iintro ⟨⟨S, A11, HG, SF0, SF1, GI, DF0, WZ0, DF1, WZ1, C0, C1, Z0, Z1⟩, HL, HR, HI, HO⟩
    isplitl [S]; · iexact S
    isplitl [A11]; · iexact A11
    isplitl [HG]; · iexact HG
    isplitl [Z0]; · iexact Z0
    isplitl [HO]; · iexact HO
    isplitl [SF0]; · iexact SF0
    isplitl [SF1]; · iexact SF1
    isplitl [HL]; · iexact HL
    isplitr [C0 HI Z1]
    · iapply before_start
      isplitl [GI]; · iexact GI
      isplitl [DF0]; · iexact DF0
      isplitl [WZ0]; · iexact WZ0
      isplitl [DF1]; · iexact DF1
      isplitl [WZ1]; · iexact WZ1
      isplitl [C1] <;> iassumption
    isplitl [C0]; · iexact C0
    isplitl [HI] <;> iassumption
  simp only [k0_part30_eq_skeleton, k0_part30_skel, k0_part31_eq_skeleton, k0_part31_skel, Prog.bind_assoc, Prog.pure_eq_ret, Prog.bind_ret]
  refine wp_pair rfl rfl (fun _ _ _ => rfl) (fun n => rot_inb n) (fun _ h => h.1) (fun _ => ⟨rank_inb _, rank_inb _⟩) rfl rfl (fun _ _ _ _ _ _ => rfl) (fun n => rot_inb n) (fun _ h => h.1) (fun _ => ⟨rank_inb _, rank_inb _⟩) rfl rfl (fun h => h) (fun h => h) revIx_inb revIx_inb (fun _ _ _ _ _ _ _ _ => rfl) (fun _ _ _ _ _ _ _ _ => rfl) rfl rfl (fun _ _ _ _ _ _ _ _ _ _ => rfl) (fun n => rot_inb n) (fun _ h => h.1) (fun _ => ⟨rank_inb _, rank_inb _⟩) ?_
  intro _ _ _ _ _ _ _ _ k0 i0 e0
  simp only [k0_part32_eq_skeleton, k0_part32_skel, k0_part33_eq_skeleton, k0_part33_skel, Prog.bind_assoc, Prog.pure_eq_ret, Prog.bind_ret]
  refine wp_pair rfl rfl (fun _ _ _ => rfl) (fun n => rot_inb n) (fun _ h => h.1) (fun _ => ⟨rank_inb _, rank_inb _⟩) rfl rfl (fun _ _ _ _ _ _ => rfl) (fun n => rot_inb n) (fun _ h => h.1) (fun _ => ⟨rank_inb _, rank_inb _⟩) rfl rfl (fun h => h) (fun h => h) revIx_inb revIx_inb (fun _ _ _ _ _ _ _ _ => rfl) (fun _ _ _ _ _ _ _ _ => rfl) rfl rfl (fun _ _ _ _ _ _ _ _ _ _ => rfl) (fun n => rot_inb n) (fun _ h => h.1) (fun _ => ⟨rank_inb _, rank_inb _⟩) ?_
  intro _ _ _ _ _ _ _ _ k1 i1 e1
  simp only [k0_part34_eq_skeleton, k0_part34_skel, k0_part35_eq_skeleton, k0_part35_skel, Prog.bind_assoc, Prog.pure_eq_ret, Prog.bind_ret]
  refine wp_pair rfl rfl (fun _ _ _ => rfl) (fun n => rot_inb n) (fun _ h => h.1) (fun _ => ⟨rank_inb _, rank_inb _⟩) rfl rfl (fun _ _ _ _ _ _ => rfl) (fun n => rot_inb n) (fun _ h => h.1) (fun _ => ⟨rank_inb _, rank_inb _⟩) rfl rfl (fun h => h) (fun h => h) revIx_inb revIx_inb (fun _ _ _ _ _ _ _ _ => rfl) (fun _ _ _ _ _ _ _ _ => rfl) rfl rfl (fun _ _ _ _ _ _ _ _ _ _ => rfl) (fun n => rot_inb n) (fun _ h => h.1) (fun _ => ⟨rank_inb _, rank_inb _⟩) ?_
  intro _ _ _ _ _ _ _ _ k2 i2 e2
  simp only [k0_part36_eq_skeleton, k0_part36_skel, Prog.bind_assoc, Prog.pure_eq_ret, Prog.bind_ret]
  refine wp_pair rfl rfl (fun _ _ _ => rfl) (fun n => rot_inb n) (fun _ h => h.1) (fun _ => ⟨rank_inb _, rank_inb _⟩) rfl rfl (fun _ _ _ _ _ _ => rfl) (fun n => rot_inb n) (fun _ h => h.1) (fun _ => ⟨rank_inb _, rank_inb _⟩) rfl rfl (fun h => h) (fun h => h) revIx_inb revIx_inb (fun _ _ _ _ _ _ _ _ => rfl) (fun _ _ _ _ _ _ _ _ => rfl) rfl rfl (fun _ _ _ _ _ _ _ _ _ _ => rfl) (fun n => rot_inb n) (fun _ h => h.1) (fun _ => ⟨rank_inb _, rank_inb _⟩) ?_
  intro _ _ _ _ _ _ _ _ k3 i3 e3
  simp only [k0_part37_eq_skeleton, k0_part37_skel, Prog.bind_assoc, Prog.pure_eq_ret, Prog.bind_ret]
  refine wp_merge rfl rfl (fun h => h) (fun h => h) revIx_inb revIx_inb rfl (fun _ _ => rfl) (fun _ _ => rfl) rfl (fun _ _ _ _ => rfl) (fun n => rot_inb n) (fun _ h => h.1) (fun _ => ⟨rank_inb _, rank_inb _⟩) ?_
  intro _ _ k4 i4 e4
  rw [e0, e1] at e4
  simp only [k0_part38_eq_skeleton, k0_part38_skel, Prog.bind_assoc, Prog.pure_eq_ret, Prog.bind_ret]
  refine wp_merge rfl rfl (fun h => h) (fun h => h) revIx_inb revIx_inb rfl (fun _ _ => rfl) (fun _ _ => rfl) rfl (fun _ _ _ _ => rfl) (fun n => rot_inb n) (fun _ h => h.1) (fun _ => ⟨rank_inb _, rank_inb _⟩) ?_
  intro _ _ k5 i5 e5
  rw [e2, e3] at e5
  refine wp_merge rfl rfl (fun h => h) (fun h => h) revIx_inb revIx_inb rfl (fun _ _ => rfl) (fun _ _ => rfl) rfl (fun _ _ _ _ => rfl) (fun n => rot_inb n) (fun _ h => h.1) (fun _ => ⟨rank_inb _, rank_inb _⟩) ?_
  intro _ _ k6 i6 e6
  rw [e4, e5] at e6
  have eg := row_groups (r := 0) e6 rfl rfl rfl rfl rfl rfl rfl rfl rfl rfl rfl rfl rfl rfl rfl rfl
  clear e0 e1 e2 e3 e4 e5 e6
  have hgi : i6 = I.gi L 0 := row_vals (p := (k6, i6)) eg
  have hgx : k0_pay319 (baseW L) i6 = I.gidx L 0 := by
    rw [hgi]; rfl
  simp only [k0_part39_eq_skeleton, k0_part39_skel, k0_part40_eq_skeleton, k0_part40_skel, k0_part41_eq_skeleton, k0_part41_skel, Prog.bind_assoc, Prog.pure_eq_ret, Prog.bind_ret]
  iintro ⟨S, G, HG, Z0, HO, SF0, SF1, HL, HB, C0, HI, Z1⟩
  iapply (wp_begin (b := 0) (r := 0) (by decide) hgi hgx) $$ SF0
  iintro HF
  iapply (wp_pairs (I := I) (O := O) (W := W) (X := iprop(hold d L (gmPart L) I.qg (I.T L) ∗ zero d L cc0_scoped0.sem ∗ holdAny (F := F) d L (idxPart L) ∗ zero d L cc0_scoped1.sem)) ?_) $$ [S G HG Z0 HO HF SF1 HL HB C0 HI Z1]
  swap
  · isplitr [HG Z0 HI Z1]
    · unfold AtPair
      isplitl [S]; · iexact S
      isplitl [G]; · iexact G
      isplitl [SF1]; · iexact SF1
      isplitl [HF]; · iapply (next_fly (i := 0) (by decide) rfl) $$ HF
      isplitl [HL]; · iexact HL
      isplitl [HB]; · iexact HB
      isplitl [C0] <;> iassumption
    · isplitl [HG]; · iexact HG
      isplitl [Z0]; · iexact Z0
      isplitl [HI] <;> iassumption
  unfold AtPair
  iintro ⟨⟨S, G, SF1, HN, HL, HB, C0, HO⟩, HG, Z0, HI, Z1⟩
  ihave SF0 := (free_next (i := 128) (by decide)) $$ HN
  ihave HB := (before_succ (n := 127) rfl) $$ HB
  icases HB with ⟨GF, WF, WZ1, HR, HD⟩
  ihave HR := (rest_take (by decide)) $$ HR
  icases HR with ⟨OA, -⟩
  iapply (wp_flush (c := 1) (r := 255) (out3_eq a8 L 255 (by decide) _ _ (off26_eq L))
    (out3_eq a9 L 255 (by decide) _ _ (off26_eq L)) (out2_eq a10 L 255 (by decide) _ _ (off27_eq L))) $$ [GF WZ1 OA HO]
  · isplitl [GF]; · iexact GF
    isplitl [WZ1]; · iexact WZ1
    isplitl [OA] <;> iassumption
  iintro ⟨GI, WG, C1, HO⟩
  iapply (wp_drain (c := 0) (r := 254) ?_ ?_ ?_) $$ [WF HO]
  · rfl
  · rfl
  · rfl
  · isplitl [WF] <;> iassumption
  iintro ⟨OI, DF0, WZ0, HO⟩
  ihave HD := done_put $$ [OI HD]
  · isplitl [OI] <;> iassumption
  iapply (wp_drain (c := 1) (r := 255) ?_ ?_ ?_) $$ [WG HO]
  · rfl
  · rfl
  · rfl
  · isplitl [WG] <;> iassumption
  iintro ⟨OI, DF1, WZ1, HO⟩
  ihave HD := done_put $$ [OI HD]
  · isplitl [OI] <;> iassumption
  unfold ListIs
  icases HL with ⟨%f, %hf, HL⟩
  ihave HL := list_hold $$ HL
  iapply (wp_copy (by decide)) $$ [HL HI Z1]
  · isplitl [HL]; · iexact HL
    isplitl [HI] <;> iassumption
  iintro Fl
  iapply (wp_await rfl) $$ [Fl HO]
  · isplitl [Fl] <;> iassumption
  iintro ⟨⟨HI, HL⟩, Z1, HO⟩
  iapply (wp_end .rfl)
  isplitr [HL HI HD HO]
  · isplitl [S]; · iexact S
    isplitl [G]; · iapply table_any $$ G
    isplitl [HG]; · iexact HG
    isplitl [SF0]; · iexact SF0
    isplitl [SF1]; · iexact SF1
    isplitl [GI]; · iexact GI
    isplitl [DF0]; · iexact DF0
    isplitl [WZ0]; · iexact WZ0
    isplitl [DF1]; · iexact DF1
    isplitl [WZ1]; · iexact WZ1
    isplitl [C0]; · iexact C0
    isplitl [C1]; · iexact C1
    isplitl [Z0] <;> iassumption
  isplitl [HL]; · iapply hold_any $$ HL
  isplitr [HO]
  swap; · iexact HO
  unfold Written
  isplitl [HI]
  · iexists f
    isplitr; · ipureintro; exact hf
    iexact HI
  · iexact HD

end Tile

end Cert.Proof.Knn
-- ==== Proof.Own.lean ====
/- A subcore's scratch: its buffers as the two slots of each, and its semaphores. -/
module

public import proofs.«01_k».proof.Proof.Tile
public import Idealize.ShloMosaic.Lib.Ring

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Ring (lead_disjoint lead_cover slots2_split slots2_join)

variable {F : FTy → Type} [FloatOps F]

section Scratch

variable (d : Dev nD) (L : grid0.Coords)

/-! ## The two slots of a buffer -/

/-- A buffer held whole at some contents. -/
def whole {s : Shape} {e : EltTy} (m : Memref sig .scVector .vmem s e) : sProp (MM F) :=
  iprop(∃ f : Buf (Elt F) (m.view.loc (tV d L)), m.view.loc (tV d L) ↦{fullShare} f)

theorem rowB_set (m : Memref sig .scVector .vmem S2x16 .i32) (b : Fin 2) :
    (rowB m b).view.set = (Rect.unit (s := S2x16) ![b.val, 0] S1x16.size (inb2 b)).set.map m.view.emb := by
  show ((m.view.slice (Rect.unit (s := S2x16) ![b.val, 0] S1x16.size (inb2 b))).reshape S16 _).set = _
  rw [View.set_reshape, View.set_slice]
theorem planeB_set (m : Memref sig .scVector .vmem S2x16x128 .f32) (b : Fin 2) :
    (planeB m b).view.set = (Rect.unit (s := S2x16x128) ![b.val, 0, 0] S1x16x128.size (inb3 b)).set.map m.view.emb := by
  show ((m.view.slice (Rect.unit (s := S2x16x128) ![b.val, 0, 0] S1x16x128.size (inb3 b))).reshape S16x128 _).set = _
  rw [View.set_reshape, View.set_slice]
theorem cubeB_set (m : Memref sig .scVector .vmem S2x16x2x128 .f32) (b : Fin 2) :
    (cubeB m b).view.set = (Rect.unit (s := S2x16x2x128) ![b.val, 0, 0, 0] S1x16x2x128.size (inb4 b)).set.map m.view.emb := by
  show ((m.view.slice (Rect.unit (s := S2x16x2x128) ![b.val, 0, 0, 0] S1x16x2x128.size (inb4 b))).reshape S16x2x128 _).set = _
  rw [View.set_reshape, View.set_slice]

/-- Slots whose rectangles cut a buffer in two. -/
def Halves {s : Shape} {e : EltTy} (m : Memref sig .scVector .vmem s e) (J : Fin 2 → Finset m.view.ty.Idx) : Prop :=
  (∀ b b', b ≠ b' → Disjoint (J b) (J b')) ∧ Finset.univ.biUnion J = Finset.univ

theorem halves_of {s : Shape} {e : EltTy} {m : Memref sig .scVector .vmem s e} (hm : m.view.set = Finset.univ) {J : Fin 2 → Finset m.view.ty.Idx}
    {off : Fin 2 → Fin s.rank → ℕ} {size : Fin s.rank → ℕ} {inb : ∀ b a, off b a + size a ≤ s.size a} (a₀ : Fin s.rank)
    (h0 : ∀ b, off b a₀ = 1 * b.val) (h1 : ∀ b a, a ≠ a₀ → off b a = 0) (h2 : size a₀ = 1) (h3 : ∀ a, a ≠ a₀ → size a = s.size a) (h4 : 2 * 1 = s.size a₀)
    (hJ : ∀ b, J b = (Rect.unit (off b) size (inb b)).set.map m.view.emb) : Halves m J := by
  constructor
  · intro b b' hb
    rw [hJ, hJ, Finset.disjoint_map]
    exact lead_disjoint a₀ 1 off size inb h0 h2 b b' hb
  · rw [← hm]
    show _ = Finset.univ.map m.view.emb
    rw [← lead_cover a₀ 1 off size inb h0 h1 h2 h3 h4]
    ext i
    simp only [Finset.mem_biUnion, Finset.mem_map, Finset.mem_univ, true_and, hJ]
    constructor
    · rintro ⟨b, x, hx, rfl⟩; exact ⟨x, ⟨b, hx⟩, rfl⟩
    · rintro ⟨x, ⟨b, hx⟩, rfl⟩; exact ⟨b, x, hx, rfl⟩

theorem row_halves {m : Memref sig .scVector .vmem S2x16 .i32} (hm : m.view.set = Finset.univ) : Halves m fun b => (rowB m b).view.set :=
  halves_of hm 0 (by decide) (by decide) rfl (by decide) rfl (rowB_set m)
theorem plane_halves {m : Memref sig .scVector .vmem S2x16x128 .f32} (hm : m.view.set = Finset.univ) : Halves m fun b => (planeB m b).view.set :=
  halves_of hm 0 (by decide) (by decide) rfl (by decide) rfl (planeB_set m)
theorem cube_halves {m : Memref sig .scVector .vmem S2x16x2x128 .f32} (hm : m.view.set = Finset.univ) : Halves m fun b => (cubeB m b).view.set :=
  halves_of hm 0 (by decide) (by decide) rfl (by decide) rfl (cubeB_set m)

variable {d L}

/-- A buffer held whole is its two halves, and they are it. -/
theorem whole_split {s : Shape} {e : EltTy} {m : Memref sig .scVector .vmem s e} {J : Fin 2 → Finset m.view.ty.Idx} (h : Halves m J) :
    whole (F := F) d L m ⊢ iprop((∃ f : Buf (Elt F) (m.view.loc (tV d L)), m.view.loc (tV d L) ↦[J 0]{fullShare} f)
      ∗ ∃ f : Buf (Elt F) (m.view.loc (tV d L)), m.view.loc (tV d L) ↦[J 1]{fullShare} f) :=
  slots2_split (ℓ := m.view.loc (tV d L)) J h.1 h.2 (fun f => (m.view.loc (tV d L) ↦[J 0]{fullShare} f)) (fun f => (m.view.loc (tV d L) ↦[J 1]{fullShare} f))
    (fun _ => rfl) (fun _ => rfl)
theorem whole_join {s : Shape} {e : EltTy} {m : Memref sig .scVector .vmem s e} {J : Fin 2 → Finset m.view.ty.Idx} (h : Halves m J) :
    iprop((∃ f : Buf (Elt F) (m.view.loc (tV d L)), m.view.loc (tV d L) ↦[J 0]{fullShare} f)
      ∗ ∃ f : Buf (Elt F) (m.view.loc (tV d L)), m.view.loc (tV d L) ↦[J 1]{fullShare} f) ⊢ whole (F := F) d L m :=
  slots2_join (ℓ := m.view.loc (tV d L)) J h.1 h.2 (fun f => (m.view.loc (tV d L) ↦[J 0]{fullShare} f)) (fun f => (m.view.loc (tV d L) ↦[J 1]{fullShare} f))
    (fun _ => rfl) (fun _ => rfl)

theorem rowB_any (m : Memref sig .scVector .vmem S2x16 .i32) (b : Fin 2) : holdAny (F := F) d L (rowB m b)
    = iprop(∃ f : Buf (Elt F) (m.view.loc (tV d L)), m.view.loc (tV d L) ↦[(rowB m b).view.set]{fullShare} f) := rfl
theorem planeB_any (m : Memref sig .scVector .vmem S2x16x128 .f32) (b : Fin 2) : holdAny (F := F) d L (planeB m b)
    = iprop(∃ f : Buf (Elt F) (m.view.loc (tV d L)), m.view.loc (tV d L) ↦[(planeB m b).view.set]{fullShare} f) := rfl
theorem cubeB_any (m : Memref sig .scVector .vmem S2x16x2x128 .f32) (b : Fin 2) : holdAny (F := F) d L (cubeB m b)
    = iprop(∃ f : Buf (Elt F) (m.view.loc (tV d L)), m.view.loc (tV d L) ↦[(cubeB m b).view.set]{fullShare} f) := rfl

theorem whole_row {m : Memref sig .scVector .vmem S2x16 .i32} (hm : m.view.set = Finset.univ) :
    whole (F := F) d L m ⊢ iprop(holdAny (F := F) d L (rowB m 0) ∗ holdAny (F := F) d L (rowB m 1)) := by
  rw [rowB_any, rowB_any]; exact whole_split (J := fun b => (rowB m b).view.set) (row_halves hm)
theorem row_whole {m : Memref sig .scVector .vmem S2x16 .i32} (hm : m.view.set = Finset.univ) :
    iprop(holdAny (F := F) d L (rowB m 0) ∗ holdAny (F := F) d L (rowB m 1)) ⊢ whole (F := F) d L m := by
  rw [rowB_any, rowB_any]; exact whole_join (J := fun b => (rowB m b).view.set) (row_halves hm)
theorem whole_plane {m : Memref sig .scVector .vmem S2x16x128 .f32} (hm : m.view.set = Finset.univ) :
    whole (F := F) d L m ⊢ iprop(holdAny (F := F) d L (planeB m 0) ∗ holdAny (F := F) d L (planeB m 1)) := by
  rw [planeB_any, planeB_any]; exact whole_split (J := fun b => (planeB m b).view.set) (plane_halves hm)
theorem plane_whole {m : Memref sig .scVector .vmem S2x16x128 .f32} (hm : m.view.set = Finset.univ) :
    iprop(holdAny (F := F) d L (planeB m 0) ∗ holdAny (F := F) d L (planeB m 1)) ⊢ whole (F := F) d L m := by
  rw [planeB_any, planeB_any]; exact whole_join (J := fun b => (planeB m b).view.set) (plane_halves hm)
theorem whole_cube {m : Memref sig .scVector .vmem S2x16x2x128 .f32} (hm : m.view.set = Finset.univ) :
    whole (F := F) d L m ⊢ iprop(holdAny (F := F) d L (cubeB m 0) ∗ holdAny (F := F) d L (cubeB m 1)) := by
  rw [cubeB_any, cubeB_any]; exact whole_split (J := fun b => (cubeB m b).view.set) (cube_halves hm)
theorem cube_whole {m : Memref sig .scVector .vmem S2x16x2x128 .f32} (hm : m.view.set = Finset.univ) :
    iprop(holdAny (F := F) d L (cubeB m 0) ∗ holdAny (F := F) d L (cubeB m 1)) ⊢ whole (F := F) d L m := by
  rw [cubeB_any, cubeB_any]; exact whole_join (J := fun b => (cubeB m b).view.set) (cube_halves hm)

/-! ## The buffers and semaphores that are a subcore's own -/

/-- The refs of the eleven scratch buffers. -/
abbrev bufs11 : Finset (Ref sig .scVector) :=
  {cc0_scratch0, cc0_scratch1, cc0_scratch2, cc0_scratch3, cc0_scratch4, cc0_scratch5, cc0_scratch6, cc0_scratch7, cc0_scratch8, cc0_scratch9, cc0_scratch10}
/-- The thirteen semaphores. -/
abbrev sems13 : Finset (DmaSem sig) :=
  {cc0_scratch11.sem, cc0_scratch12.sem, cc0_scratch13.sem, cc0_scratch14.sem, cc0_scratch15.sem, cc0_scratch16.sem, cc0_scratch17.sem, cc0_scratch18.sem,
    cc0_scratch19.sem, cc0_scratch20.sem, cc0_scratch21.sem, cc0_scoped0.sem, cc0_scoped1.sem}

def refEmb (L : grid0.Coords) : Ref sig .scVector ↪ DevRef τ sig := ⟨(Proc.scVector (cV L) (jV L)).devRef, Proc.devRef_injective _⟩
def semEmb (d : Dev nD) (L : grid0.Coords) : DmaSem sig ↪ GSem nD τ sig := ⟨fun s => (tV d L, .dma s), fun a b h => by cases h; rfl⟩

theorem bufs_own : (bufs11.map (refEmb L)) ⊆ ownRefs (tV d L).2 := by
  intro x hx
  obtain ⟨r, hr, rfl⟩ := Finset.mem_map.mp hx
  simp only [Finset.mem_insert, Finset.mem_singleton] at hr
  refine SparseCore.Cfg.mem_ownRefs_of_owner (p := Proc.scVector (cV L) (jV L)) ?_
  rcases hr with rfl | rfl | rfl | rfl | rfl | rfl | rfl | rfl | rfl | rfl | rfl <;> rfl
theorem sems_own : (sems13.map (semEmb d L)) ⊆ ownCells (tV d L) := by
  intro x hx
  obtain ⟨r, hr, rfl⟩ := Finset.mem_map.mp hx
  refine mem_ownCells.mpr ⟨rfl, ?_⟩
  have : ∀ s ∈ sems13, (SemLoc.dma s : SemLoc sig).isScoped .scVector = true := by decide
  exact this r hr

/-- The eleven scratch buffers, whole. -/
def bufsWhole (d : Dev nD) (L : grid0.Coords) : sProp (MM F) :=
  iprop(whole (F := F) d L a11 ∗ whole (F := F) d L a12 ∗ whole (F := F) d L a13 ∗ whole (F := F) d L a14 ∗ whole (F := F) d L a15 ∗ whole (F := F) d L a16
    ∗ whole (F := F) d L a17 ∗ whole (F := F) d L a18 ∗ whole (F := F) d L a19 ∗ whole (F := F) d L a20 ∗ whole (F := F) d L a21)
/-- The thirteen semaphores at zero. -/
def semsZero (d : Dev nD) (L : grid0.Coords) : sProp (MM F) :=
  iprop(zero d L cc0_scratch11.sem ∗ zero d L cc0_scratch12.sem ∗ zero d L cc0_scratch13.sem ∗ zero d L cc0_scratch14.sem ∗ zero d L cc0_scratch15.sem
    ∗ zero d L cc0_scratch16.sem ∗ zero d L cc0_scratch17.sem ∗ zero d L cc0_scratch18.sem ∗ zero d L cc0_scratch19.sem ∗ zero d L cc0_scratch20.sem
    ∗ zero d L cc0_scratch21.sem ∗ zero d L cc0_scoped0.sem ∗ zero d L cc0_scoped1.sem)

theorem ownBufs_eq : (ownBufs (tV d L) : sProp (MM F))
    = iprop(bufsWhole (F := F) d L ∗ bigSep (ownRefs (tV d L).2 \ bufs11.map (refEmb L)) fun b => iprop(∃ f, ((d, b) : Loc nD τ sig) ↦{fullShare} f)) := by
  unfold SparseCore.Cfg.ownBufs
  rw [SparseCore.bigSep_sdiff_split' (bufs_own (d := d) (L := L)), Idealize.SL.BI.bigSep_map]
  congr 1
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl
theorem ownSems_eq : (ownSems0 (tV d L) : sProp (MM F))
    = iprop(semsZero (F := F) d L ∗ bigSep (ownCells (tV d L) \ sems13.map (semEmb d L)) fun g => semVal g 0) := by
  unfold SparseCore.Cfg.ownSems0
  rw [SparseCore.bigSep_sdiff_split' (sems_own (d := d) (L := L)), Idealize.SL.BI.bigSep_map]
  congr 1
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

/-! ## A subcore's scratch at rest -/

variable {I : Ins F}

/-- A subcore's shares of the tables. -/
def Tables (d : Dev nD) (L : grid0.Coords) (I : Ins F) : sProp (MM F) :=
  iprop(hold d L (gmPart L) I.qg (I.T L) ∗ hold d L tabD (I.qd 0) I.d2 ∗ hold d L tabD (I.qd 1) I.d2
    ∗ hold d L (tab3 a4) I.qk I.xk ∗ hold d L (tab3 a5) I.qv I.xv ∗ hold d L tabP I.qp I.xp)

theorem any_whole {s : Shape} {e : EltTy} {m : Memref sig .scVector .vmem s e} (hm : m.view.set = Finset.univ) :
    whole (F := F) d L m ⊢ holdAny (F := F) d L m := by unfold whole holdAny; rw [hm]
theorem whole_any {s : Shape} {e : EltTy} {m : Memref sig .scVector .vmem s e} (hm : m.view.set = Finset.univ) :
    holdAny (F := F) d L m ⊢ whole (F := F) d L m := by unfold whole holdAny; rw [hm]

theorem list_start : whole (F := F) d L a15 ⊢ ListIs d L I 0 := by
  unfold whole ListIs
  iintro ⟨%f, H⟩
  iexists f
  isplitr
  · ipureintro; intro r' h; exact absurd h (Nat.not_lt_zero _)
  iexact H

theorem to_rest : iprop(bufsWhole (F := F) d L ∗ semsZero (F := F) d L ∗ Tables d L I) ⊢ iprop(AtRest d L I ∗ ListIs d L I 0) := by
  unfold bufsWhole semsZero Tables AtRest scr SlabFree GIdle DestFree WZero
  iintro ⟨⟨B11, B12, B13, B14, B15, B16, B17, B18, B19, B20, B21⟩, ⟨Z11, Z12, Z13, Z14, Z15, Z16, Z17, Z18, Z19, Z20, Z21, Y0, Y1⟩, ⟨HG, HD, HD', HK, HV, HP⟩⟩
  ihave B12 := (whole_plane (View.set_whole _)) $$ B12
  icases B12 with ⟨B12, C12⟩
  ihave B13 := (whole_row (View.set_whole _)) $$ B13
  icases B13 with ⟨B13, C13⟩
  ihave B14 := (whole_row (View.set_whole _)) $$ B14
  icases B14 with ⟨B14, C14⟩
  ihave B16 := (whole_row (View.set_whole _)) $$ B16
  icases B16 with ⟨B16, C16⟩
  ihave B17 := (whole_cube (View.set_whole _)) $$ B17
  icases B17 with ⟨B17, C17⟩
  ihave B18 := (whole_cube (View.set_whole _)) $$ B18
  icases B18 with ⟨B18, C18⟩
  ihave B19 := (whole_plane (View.set_whole _)) $$ B19
  icases B19 with ⟨B19, C19⟩
  ihave B11 := (any_whole (View.set_whole _)) $$ B11
  ihave B15 := (list_start (I := I)) $$ B15
  isplitr [B15]
  swap; · iexact B15
  isplitl [B20 B21]
  · unfold whole
    icases B20 with ⟨%fk, B20⟩
    icases B21 with ⟨%fv, B21⟩
    iexists fk, fv
    isplitl [B20] <;> iassumption
  isplitl [B11]; · iexact B11
  isplitl [HG]; · iexact HG
  isplitl [B12 HD B14 Z11 B13]
  · isplitl [B12]; · iexact B12
    isplitl [HD]; · iexact HD
    isplitl [B14]; · iexact B14
    isplitl [Z11]; · iexact Z11
    iexact B13
  isplitl [C12 HD' C14 Z12 C13]
  · isplitl [C12]; · iexact C12
    isplitl [HD']; · iexact HD'
    isplitl [C14]; · iexact C14
    isplitl [Z12]; · iexact Z12
    iexact C13
  isplitl [Z13 Z14 Z15 HK HV HP]
  · isplitl [Z13 HK]; · isplitl [Z13] <;> iassumption
    isplitl [Z14 HV]; · isplitl [Z14] <;> iassumption
    isplitl [Z15] <;> iassumption
  isplitl [B17 B18 B19]
  · isplitl [B17]; · iexact B17
    isplitl [B18] <;> iassumption
  isplitl [Z16 Z18 Z20]
  · isplitl [Z16]; · iexact Z16
    isplitl [Z18]; · iexact Z18
    iexact Z20
  isplitl [C17 C18 C19]
  · isplitl [C17]; · iexact C17
    isplitl [C18] <;> iassumption
  isplitl [Z17 Z19 Z21]
  · isplitl [Z17]; · iexact Z17
    isplitl [Z19]; · iexact Z19
    iexact Z21
  isplitl [B16]; · iexact B16
  isplitl [C16]; · iexact C16
  isplitl [Y0] <;> iassumption

theorem from_rest : iprop(AtRest d L I ∗ holdAny (F := F) d L a15) ⊢ iprop(bufsWhole (F := F) d L ∗ semsZero (F := F) d L) := by
  unfold bufsWhole semsZero AtRest scr SlabFree GIdle DestFree WZero
  iintro ⟨⟨⟨%fk, %fv, B20, B21⟩, B11, -, ⟨B12, -, B14, Z11, B13⟩, ⟨C12, -, C14, Z12, C13⟩, ⟨⟨Z13, -⟩, ⟨Z14, -⟩, ⟨Z15, -⟩⟩, ⟨B17, B18, B19⟩, ⟨Z16, Z18, Z20⟩,
    ⟨C17, C18, C19⟩, ⟨Z17, Z19, Z21⟩, B16, C16, Y0, Y1⟩, B15⟩
  isplitr [Z11 Z12 Z13 Z14 Z15 Z16 Z17 Z18 Z19 Z20 Z21 Y0 Y1]
  · isplitl [B11]; · iapply (whole_any (View.set_whole _)); iexact B11
    isplitl [B12 C12]; · iapply (plane_whole (View.set_whole _)); isplitl [B12] <;> iassumption
    isplitl [B13 C13]; · iapply (row_whole (View.set_whole _)); isplitl [B13] <;> iassumption
    isplitl [B14 C14]; · iapply (row_whole (View.set_whole _)); isplitl [B14] <;> iassumption
    isplitl [B15]; · iapply (whole_any (View.set_whole _)); iexact B15
    isplitl [B16 C16]; · iapply (row_whole (View.set_whole _)); isplitl [B16] <;> iassumption
    isplitl [B17 C17]; · iapply (cube_whole (View.set_whole _)); isplitl [B17] <;> iassumption
    isplitl [B18 C18]; · iapply (cube_whole (View.set_whole _)); isplitl [B18] <;> iassumption
    isplitl [B19 C19]; · iapply (plane_whole (View.set_whole _)); isplitl [B19] <;> iassumption
    isplitl [B20]; · unfold whole; iexists fk; iexact B20
    unfold whole; iexists fv; iexact B21
  isplitl [Z11]; · iexact Z11
  isplitl [Z12]; · iexact Z12
  isplitl [Z13]; · iexact Z13
  isplitl [Z14]; · iexact Z14
  isplitl [Z15]; · iexact Z15
  isplitl [Z16]; · iexact Z16
  isplitl [Z17]; · iexact Z17
  isplitl [Z18]; · iexact Z18
  isplitl [Z19]; · iexact Z19
  isplitl [Z20]; · iexact Z20
  isplitl [Z21]; · iexact Z21
  isplitl [Y0] <;> iassumption

end Scratch

end Cert.Proof.Knn
-- ==== Proof.Outs.lean ====
/- The call's arrays, part by part: each subcore's shares of the tables and its places in the results. -/
module

public import proofs.«01_k».proof.Proof.Own
public import Idealize.ShloMosaic.Lib.ShareLeaves

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Ring (lead_disjoint lead_cover pointsTo_blocks bigSep_fin_eq_range)
open Idealize.ShloMosaic.ShareLeaves (leaf pointsTo_leaves)

variable {F : FTy → Type} [FloatOps F]

/-! ## The subcores by number -/

/-- The grid point of core `c`, subcore `i`. -/
def at2 (c : Fin 2) (i : Fin 16) : grid0.Coords :=
  fun | 0 => c | 1 => i | ⟨_ + 2, h⟩ => absurd h (Nat.not_lt.2 (Nat.le_add_left _ _))
abbrev atP (p : Fin 2 × Fin 16) : grid0.Coords := at2 p.1 p.2

theorem baseN_atP (p : Fin 2 × Fin 16) : baseN (atP p) = (p.2.val * 2 + p.1.val) * 256 := rfl

/-- The subcores, in the order of their rows. -/
def coreEquiv : Fin 2 × Fin 16 ≃ Fin 32 where
  toFun p := ⟨p.2.val * 2 + p.1.val, by omega⟩
  invFun n := (⟨n.val % 2, by omega⟩, ⟨n.val / 2, by omega⟩)
  left_inv p := Prod.ext (Fin.ext (by show (p.2.val * 2 + p.1.val) % 2 = _; omega)) (Fin.ext (by show (p.2.val * 2 + p.1.val) / 2 = _; omega))
  right_inv n := Fin.ext (by show n.val / 2 * 2 + n.val % 2 = _; omega)
/-- All rows, in order. -/
def rowEquiv : (Fin 2 × Fin 16) × Fin 256 ≃ Fin 8192 where
  toFun p := ⟨(p.1.2.val * 2 + p.1.1.val) * 256 + p.2.val, by omega⟩
  invFun n := ((⟨n.val / 256 % 2, by omega⟩, ⟨n.val / 512, by omega⟩), ⟨n.val % 256, by omega⟩)
  left_inv p := by
    obtain ⟨⟨c, i⟩, r⟩ := p
    refine Prod.ext (Prod.ext (Fin.ext ?_) (Fin.ext ?_)) (Fin.ext ?_)
    · show ((i.val * 2 + c.val) * 256 + r.val) / 256 % 2 = c.val; omega
    · show ((i.val * 2 + c.val) * 256 + r.val) / 512 = i.val; omega
    · show ((i.val * 2 + c.val) * 256 + r.val) % 256 = r.val; omega
  right_inv n := Fin.ext (by show (n.val / 512 * 2 + n.val / 256 % 2) * 256 + n.val % 256 = n.val; omega)

/-! ## What the tables hold -/

/-- What the call's five tables hold. -/
structure Tabs (F : FTy → Type) where
  gm : S1048576.Idx → Elt F .f32
  d2 : S1048576x128.Idx → Elt F .f32
  xk : S8192x2x128.Idx → Elt F .f32
  xv : S8192x2x128.Idx → Elt F .f32
  xp : S8192x128.Idx → Elt F .f32

/-- The share of each table that a subcore reads through. -/
def shareOf (p : Fin 2 × Fin 16) : PosShare TreeShare := leaf 4 (leaf 1 fullShare p.1) p.2

/-- What a subcore reads, and through which shares. -/
def insOf (X : Tabs F) (p : Fin 2 × Fin 16) : Ins F where
  gm := X.gm
  d2 := X.d2
  xk := X.xk
  xv := X.xv
  xp := X.xp
  qg := shareOf p
  qd := ![(shareOf p).left, (shareOf p).right]
  qk := shareOf p
  qv := shareOf p
  qp := shareOf p

theorem leaves_all {ℓ : Loc nD τ sig} (f : Buf (Elt F) ℓ) :
    (ℓ ↦{fullShare} f : sProp (MM F)) = bigSep Finset.univ fun p : Fin 2 × Fin 16 => ℓ ↦{shareOf p} f := by
  rw [bigSep_univ_prod, pointsTo_leaves Finset.univ f 1 fullShare]
  exact bigSep_congr fun c _ => pointsTo_leaves Finset.univ f 4 (leaf 1 fullShare c)

/-- A buffer held at a share holds what is under a memref of it. -/
theorem pts_hold {d : Dev nD} {L : grid0.Coords} {sp : Space} {s : Shape} {e : EltTy} (m : Memref sig .scVector sp s e) {q : PosShare TreeShare}
    {f : Buf (Elt F) (m.view.loc (tV d L))} {X : s.Idx → Elt F e} (h : m.view.read (Elt F) f = X) :
    (m.view.loc (tV d L) ↦{q} f) ⊢ hold d L m q X := by
  iintro H
  ihave H := (pointsTo_split_subset (Finset.subset_univ m.view.set)).1 $$ H
  icases H with ⟨H, -⟩
  unfold hold
  iexists f
  isplitl [H]; · iexact H
  ipureintro; exact h

/-- What is held under a memref is held at any contents that read the same. -/
theorem hold_pts {d : Dev nD} {L : grid0.Coords} {sp : Space} {s : Shape} {e : EltTy} (m : Memref sig .scVector sp s e) {q : PosShare TreeShare}
    (g : Buf (Elt F) (m.view.loc (tV d L))) {X : s.Idx → Elt F e} (h : m.view.read (Elt F) g = X) :
    hold d L m q X ⊢ (m.view.loc (tV d L) ↦[m.view.set]{q} g) := by
  iintro H
  ihave H := hold_open $$ H
  icases H with ⟨%f, H, %hX⟩
  have hfg : ∀ i ∈ m.view.set, f i = g i := by
    intro i hi
    obtain ⟨x, -, rfl⟩ := Finset.mem_map.mp hi
    have e := congrFun (hX.trans h.symm) x
    rw [View.read_apply, View.read_apply] at e
    exact cast_inj _ |>.mp e
  ihave H := (Entails.of_eq (pointsTo_congr hfg)) $$ H
  iexact H

/-! ## The tables, subcore by subcore -/

abbrev lG (d : Dev nD) : Loc nD τ sig := (SparseCore.T d).loc main_v4
abbrev lD (d : Dev nD) : Loc nD τ sig := (SparseCore.T d).loc main_v3
abbrev lK (d : Dev nD) : Loc nD τ sig := (SparseCore.T d).loc main_v5
abbrev lV (d : Dev nD) : Loc nD τ sig := (SparseCore.T d).loc main_v6
abbrev lP (d : Dev nD) : Loc nD τ sig := (SparseCore.T d).loc main_v7
abbrev o0 (d : Dev nD) : Loc nD τ sig := (SparseCore.T d).loc main_v8_0
abbrev o1 (d : Dev nD) : Loc nD τ sig := (SparseCore.T d).loc main_v8_1
abbrev o2 (d : Dev nD) : Loc nD τ sig := (SparseCore.T d).loc main_v8_2
abbrev o3 (d : Dev nD) : Loc nD τ sig := (SparseCore.T d).loc main_v8_3

section Parts

variable (d : Dev nD)

theorem read_gm (L : grid0.Coords) (I : Ins F) : (gmPart L).view.read (Elt F) I.gm = I.T L := by
  funext x
  show I.gm ((Rect.unit (s := S1048576) (k0_off1 L) S32768.size (k0_off1_inb L)).emb x) = I.gm _
  congr 1
  funext a
  obtain rfl : a = 0 := Fin.eq_zero a
  refine Fin.ext ?_
  have hb := baseN_le L
  have hx : (x 0).val < 32768 := (x 0).isLt
  have e : k0_off1 L 0 = baseN L * 128 := by rw [off1_eq]; rfl
  show k0_off1 L 0 + 1 * (x 0).val = (baseN L * 128 + (x 0).val) % 1048576
  rw [e]; omega
theorem read_tabD (f : S1048576x128.Idx → Elt F .f32) : tabD.view.read (Elt F) f = f := by
  funext x
  show f ((Rect.unit (s := S1048576x128) ![0, 0] S1048576x128.size inb_S1048576x128_S1048576x128_0_0).emb x) = f x
  congr 1
  funext a
  refine Fin.ext ?_
  show (![0, 0] : Fin 2 → ℕ) a + 1 * (x a).val = (x a).val
  match a with
  | 0 => show 0 + 1 * (x 0).val = (x 0).val; omega
  | 1 => show 0 + 1 * (x 1).val = (x 1).val; omega
theorem read_tab4 (f : S8192x2x128.Idx → Elt F .f32) : (tab3 a4).view.read (Elt F) f = f := by
  funext x
  show f ((Rect.unit (s := S8192x2x128) ![0, 0, 0] S8192x2x128.size inb_S8192x2x128_S8192x2x128_0_0_0).emb x) = f x
  congr 1
  funext a
  refine Fin.ext ?_
  show (![0, 0, 0] : Fin 3 → ℕ) a + 1 * (x a).val = (x a).val
  match a with
  | 0 => show 0 + 1 * (x 0).val = (x 0).val; omega
  | 1 => show 0 + 1 * (x 1).val = (x 1).val; omega
  | 2 => show 0 + 1 * (x 2).val = (x 2).val; omega
theorem read_tab5 (f : S8192x2x128.Idx → Elt F .f32) : (tab3 a5).view.read (Elt F) f = f := read_tab4 f
theorem read_tabP (f : S8192x128.Idx → Elt F .f32) : tabP.view.read (Elt F) f = f := by
  funext x
  show f ((Rect.unit (s := S8192x128) ![0, 0] S8192x128.size inb_S8192x128_S8192x128_0_0).emb x) = f x
  congr 1
  funext a
  refine Fin.ext ?_
  show (![0, 0] : Fin 2 → ℕ) a + 1 * (x a).val = (x a).val
  match a with
  | 0 => show 0 + 1 * (x 0).val = (x 0).val; omega
  | 1 => show 0 + 1 * (x 1).val = (x 1).val; omega

/-- The five tables, whole. -/
def TabsAt (X : Tabs F) : sProp (MM F) :=
  iprop((lG d ↦{fullShare} X.gm) ∗ (lD d ↦{fullShare} X.d2) ∗ (lK d ↦{fullShare} X.xk) ∗ (lV d ↦{fullShare} X.xv) ∗ (lP d ↦{fullShare} X.xp))

theorem tables_one (X : Tabs F) (p : Fin 2 × Fin 16) :
    iprop((lG d ↦{shareOf p} X.gm) ∗ (lD d ↦{shareOf p} X.d2) ∗ (lK d ↦{shareOf p} X.xk) ∗ (lV d ↦{shareOf p} X.xv) ∗ (lP d ↦{shareOf p} X.xp))
      ⊢ Tables d (atP p) (insOf X p) := by
  iintro ⟨HG, HD, HK, HV, HP⟩
  ihave HD := (pointsTo_share (PosShare.mem_left_op_right (shareOf p))).1 $$ HD
  icases HD with ⟨HD, HD'⟩
  unfold Tables
  isplitl [HG]; · iapply (pts_hold (d := d) (L := atP p) (gmPart (atP p)) (read_gm (atP p) (insOf X p))); iexact HG
  isplitl [HD]; · iapply (pts_hold (d := d) (L := atP p) tabD (read_tabD X.d2)); iexact HD
  isplitl [HD']; · iapply (pts_hold (d := d) (L := atP p) tabD (read_tabD X.d2)); iexact HD'
  isplitl [HK]; · iapply (pts_hold (d := d) (L := atP p) (tab3 a4) (read_tab4 X.xk)); iexact HK
  isplitl [HV]; · iapply (pts_hold (d := d) (L := atP p) (tab3 a5) (read_tab5 X.xv)); iexact HV
  iapply (pts_hold (d := d) (L := atP p) tabP (read_tabP X.xp)); iexact HP

theorem tables_all (X : Tabs F) : TabsAt d X ⊢ bigSep Finset.univ fun p : Fin 2 × Fin 16 => Tables d (atP p) (insOf X p) := by
  unfold TabsAt
  rw [leaves_all (ℓ := lG d), leaves_all (ℓ := lD d), leaves_all (ℓ := lK d), leaves_all (ℓ := lV d), leaves_all (ℓ := lP d),
    ← bigSep_sep', ← bigSep_sep', ← bigSep_sep', ← bigSep_sep']
  exact bigSep_mono fun p _ => tables_one d X p

/-! ## The results, row by row -/

theorem unit_set {s : Shape} {off off' size : Fin s.rank → ℕ} {h : ∀ a, off a + size a ≤ s.size a} {h' : ∀ a, off' a + size a ≤ s.size a} (e : off = off') :
    (Rect.unit (s := s) off size h).set = (Rect.unit (s := s) off' size h').set := by subst e; rfl

theorem blk0_inb (n : Fin 32) : ∀ a, (![n.val * 4096] : Fin 1 → ℕ) a + S4096.size a ≤ S131072.size a := by
  have := n.isLt
  intro a
  obtain rfl : a = 0 := Fin.eq_zero a
  show n.val * 4096 + 4096 ≤ 131072; omega
theorem blk3_inb (n : Fin 8192) : ∀ a, (![n.val * 16, 0, 0] : Fin 3 → ℕ) a + S16x2x128.size a ≤ S131072x2x128.size a := by
  have := n.isLt
  intro a
  match a with
  | 0 => show n.val * 16 + 16 ≤ 131072; omega
  | 1 => exact Nat.le_refl 2
  | 2 => exact Nat.le_refl 128
theorem blk2_inb (n : Fin 8192) : ∀ a, (![n.val * 16, 0] : Fin 2 → ℕ) a + S16x128.size a ≤ S131072x128.size a := by
  have := n.isLt
  intro a
  match a with
  | 0 => show n.val * 16 + 16 ≤ 131072; omega
  | 1 => exact Nat.le_refl 128

theorem set_idx (p : Fin 2 × Fin 16) :
    (idxPart (atP p)).view.set = (Rect.unit (s := S131072) ![(coreEquiv p).val * 4096] S4096.size (blk0_inb _)).set := by
  refine (View.set_slice_whole _ _).trans (unit_set ?_)
  rw [off28_eq, baseN_atP]
  show ![(p.2.val * 2 + p.1.val) * 256 * 16] = ![(p.2.val * 2 + p.1.val) * 4096]
  rw [Nat.mul_assoc]
theorem set_out8 (p : Fin 2 × Fin 16) (r : Fin 256) :
    (out3 a8 (atP p) r.val).view.set = (Rect.unit (s := S131072x2x128) ![(rowEquiv (p, r)).val * 16, 0, 0] S16x2x128.size (blk3_inb _)).set := by
  refine (View.set_slice_whole _ _).trans (unit_set ?_)
  rw [baseN_atP, Nat.mod_eq_of_lt r.isLt]
  rfl
theorem set_out9 (p : Fin 2 × Fin 16) (r : Fin 256) :
    (out3 a9 (atP p) r.val).view.set = (Rect.unit (s := S131072x2x128) ![(rowEquiv (p, r)).val * 16, 0, 0] S16x2x128.size (blk3_inb _)).set := by
  refine (View.set_slice_whole _ _).trans (unit_set ?_)
  rw [baseN_atP, Nat.mod_eq_of_lt r.isLt]
  rfl
theorem set_out10 (p : Fin 2 × Fin 16) (r : Fin 256) :
    (out2 a10 (atP p) r.val).view.set = (Rect.unit (s := S131072x128) ![(rowEquiv (p, r)).val * 16, 0] S16x128.size (blk2_inb _)).set := by
  refine (View.set_slice_whole _ _).trans (unit_set ?_)
  rw [baseN_atP, Nat.mod_eq_of_lt r.isLt]
  rfl

theorem idx_parts (f : Buf (Elt F) (o0 d)) :
    (o0 d ↦{fullShare} f : sProp (MM F)) = bigSep Finset.univ fun p : Fin 2 × Fin 16 => o0 d ↦[(idxPart (atP p)).view.set]{fullShare} f := by
  rw [pointsTo_blocks (ℓ := o0 d) (fun n : Fin 32 => (Rect.unit (s := S131072) ![n.val * 4096] S4096.size (blk0_inb n)).set)
    (lead_disjoint (s := S131072) 0 4096 (fun n : Fin 32 => ![n.val * 4096]) S4096.size blk0_inb (fun n => Nat.mul_comm _ _) rfl)
    (lead_cover (s := S131072) 0 4096 (fun n : Fin 32 => ![n.val * 4096]) S4096.size blk0_inb (fun n => Nat.mul_comm _ _)
      (fun n a ha => absurd (Fin.eq_zero a) ha) rfl (fun a ha => absurd (Fin.eq_zero a) ha) rfl) f,
    bigSep_univ_equiv coreEquiv]
  exact bigSep_congr fun p _ => by rw [set_idx p]

theorem out8_parts (f : Buf (Elt F) (o1 d)) : (o1 d ↦{fullShare} f : sProp (MM F)) = bigSep Finset.univ fun p : Fin 2 × Fin 16 =>
    bigSep Finset.univ fun r : Fin 256 => o1 d ↦[(out3 a8 (atP p) r.val).view.set]{fullShare} f := by
  rw [pointsTo_blocks (ℓ := o1 d) (fun n : Fin 8192 => (Rect.unit (s := S131072x2x128) ![n.val * 16, 0, 0] S16x2x128.size (blk3_inb n)).set)
    (lead_disjoint (s := S131072x2x128) 0 16 (fun n : Fin 8192 => ![n.val * 16, 0, 0]) S16x2x128.size blk3_inb (fun n => Nat.mul_comm _ _) rfl)
    (lead_cover (s := S131072x2x128) 0 16 (fun n : Fin 8192 => ![n.val * 16, 0, 0]) S16x2x128.size blk3_inb (fun n => Nat.mul_comm _ _)
      (fun n a ha => by match a with | 0 => exact absurd rfl ha | 1 => rfl | 2 => rfl) rfl
      (fun a ha => by match a with | 0 => exact absurd rfl ha | 1 => rfl | 2 => rfl) rfl) f,
    bigSep_univ_equiv rowEquiv, bigSep_univ_prod]
  exact bigSep_congr fun p _ => bigSep_congr fun r _ => by rw [set_out8 p r]
theorem out9_parts (f : Buf (Elt F) (o2 d)) : (o2 d ↦{fullShare} f : sProp (MM F)) = bigSep Finset.univ fun p : Fin 2 × Fin 16 =>
    bigSep Finset.univ fun r : Fin 256 => o2 d ↦[(out3 a9 (atP p) r.val).view.set]{fullShare} f := by
  rw [pointsTo_blocks (ℓ := o2 d) (fun n : Fin 8192 => (Rect.unit (s := S131072x2x128) ![n.val * 16, 0, 0] S16x2x128.size (blk3_inb n)).set)
    (lead_disjoint (s := S131072x2x128) 0 16 (fun n : Fin 8192 => ![n.val * 16, 0, 0]) S16x2x128.size blk3_inb (fun n => Nat.mul_comm _ _) rfl)
    (lead_cover (s := S131072x2x128) 0 16 (fun n : Fin 8192 => ![n.val * 16, 0, 0]) S16x2x128.size blk3_inb (fun n => Nat.mul_comm _ _)
      (fun n a ha => by match a with | 0 => exact absurd rfl ha | 1 => rfl | 2 => rfl) rfl
      (fun a ha => by match a with | 0 => exact absurd rfl ha | 1 => rfl | 2 => rfl) rfl) f,
    bigSep_univ_equiv rowEquiv, bigSep_univ_prod]
  exact bigSep_congr fun p _ => bigSep_congr fun r _ => by rw [set_out9 p r]
theorem out10_parts (f : Buf (Elt F) (o3 d)) : (o3 d ↦{fullShare} f : sProp (MM F)) = bigSep Finset.univ fun p : Fin 2 × Fin 16 =>
    bigSep Finset.univ fun r : Fin 256 => o3 d ↦[(out2 a10 (atP p) r.val).view.set]{fullShare} f := by
  rw [pointsTo_blocks (ℓ := o3 d) (fun n : Fin 8192 => (Rect.unit (s := S131072x128) ![n.val * 16, 0] S16x128.size (blk2_inb n)).set)
    (lead_disjoint (s := S131072x128) 0 16 (fun n : Fin 8192 => ![n.val * 16, 0]) S16x128.size blk2_inb (fun n => Nat.mul_comm _ _) rfl)
    (lead_cover (s := S131072x128) 0 16 (fun n : Fin 8192 => ![n.val * 16, 0]) S16x128.size blk2_inb (fun n => Nat.mul_comm _ _)
      (fun n a ha => by match a with | 0 => exact absurd rfl ha | 1 => rfl) rfl
      (fun a ha => by match a with | 0 => exact absurd rfl ha | 1 => rfl) rfl) f,
    bigSep_univ_equiv rowEquiv, bigSep_univ_prod]
  exact bigSep_congr fun p _ => bigSep_congr fun r _ => by rw [set_out10 p r]

/-! ## The results to be -/

/-- The candidates of the `n`-th of all rows. -/
def candG (X : Tabs F) (n : ℕ) : Vec F S16 .i32 :=
  (insOf X (⟨n / 256 % 2, by omega⟩, ⟨n / 512 % 16, by omega⟩)).cand (at2 ⟨n / 256 % 2, by omega⟩ ⟨n / 512 % 16, by omega⟩) (n % 256)

theorem candG_row (X : Tabs F) (p : Fin 2 × Fin 16) (r : ℕ) (hr : r < 256) : candG X (baseN (atP p) + r) = (insOf X p).cand (atP p) r := by
  obtain ⟨c, i⟩ := p
  have hn : baseN (atP (c, i)) + r = (i.val * 2 + c.val) * 256 + r := rfl
  have h1 : (⟨(baseN (atP (c, i)) + r) / 256 % 2, by omega⟩ : Fin 2) = c := Fin.ext (by show (baseN (atP (c, i)) + r) / 256 % 2 = c.val; rw [hn]; omega)
  have h2 : (⟨(baseN (atP (c, i)) + r) / 512 % 16, by omega⟩ : Fin 16) = i := Fin.ext (by show (baseN (atP (c, i)) + r) / 512 % 16 = i.val; rw [hn]; omega)
  have h3 : (baseN (atP (c, i)) + r) % 256 = r := by rw [hn]; omega
  unfold candG
  rw [h1, h2, h3]

def ix3 (a : Fin 16) (b : Fin 2) (c : Fin 128) : S16x2x128.Idx := fun | 0 => a | 1 => b | 2 => c
def ix2 (a : Fin 16) (c : Fin 128) : S16x128.Idx := fun | 0 => a | 1 => c

/-- The list of all rows' candidates. -/
def res0 (X : Tabs F) : S131072.Idx → Elt F .i32 := fun x => candG X ((x 0).val / 16) (lane1 ⟨(x 0).val % 16, by omega⟩)
/-- The rows of a table that they name. -/
def resRows3 (X : Tabs F) (t : S8192x2x128.Idx → Elt F .f32) : S131072x2x128.Idx → Elt F .f32 := fun x =>
  rows3 t (candG X ((x 0).val / 16)) (ix3 ⟨(x 0).val % 16, by omega⟩ (x 1) (x 2))
def resRows2 (X : Tabs F) (t : S8192x128.Idx → Elt F .f32) : S131072x128.Idx → Elt F .f32 := fun x =>
  rows2 t (candG X ((x 0).val / 16)) (ix2 ⟨(x 0).val % 16, by omega⟩ (x 1))

theorem read_res8 (X : Tabs F) (t : S8192x2x128.Idx → Elt F .f32) (p : Fin 2 × Fin 16) (r : ℕ) (hr : r < 256) :
    (out3 a8 (atP p) r).view.read (Elt F) (resRows3 X t) = rows3 t ((insOf X p).cand (atP p) r) := by
  rw [← candG_row X p r hr]
  funext x
  have hx : (x 0).val < 16 := (x 0).isLt
  have e0 : ((Rect.unit (s := S131072x2x128) ![(baseN (atP p) + r % 256) * 16, 0, 0] S16x2x128.size (out_inb3 (atP p) r)).emb x 0).val
      = (baseN (atP p) + r) * 16 + (x 0).val := by
    show (baseN (atP p) + r % 256) * 16 + 1 * (x 0).val = _
    rw [Nat.mod_eq_of_lt hr]; omega
  show rows3 t (candG X (((Rect.unit (s := S131072x2x128) ![(baseN (atP p) + r % 256) * 16, 0, 0] S16x2x128.size (out_inb3 (atP p) r)).emb x 0).val / 16)) _ = _
  rw [show ((Rect.unit (s := S131072x2x128) ![(baseN (atP p) + r % 256) * 16, 0, 0] S16x2x128.size (out_inb3 (atP p) r)).emb x 0).val / 16 = baseN (atP p) + r by
    rw [e0]; omega]
  congr 1
  funext a
  refine Fin.ext ?_
  match a with
  | 0 =>
    show ((Rect.unit (s := S131072x2x128) ![(baseN (atP p) + r % 256) * 16, 0, 0] S16x2x128.size (out_inb3 (atP p) r)).emb x 0).val % 16 = (x 0).val
    rw [e0]; omega
  | 1 => show 0 + 1 * (x 1).val = (x 1).val; omega
  | 2 => show 0 + 1 * (x 2).val = (x 2).val; omega
theorem read_res10 (X : Tabs F) (t : S8192x128.Idx → Elt F .f32) (p : Fin 2 × Fin 16) (r : ℕ) (hr : r < 256) :
    (out2 a10 (atP p) r).view.read (Elt F) (resRows2 X t) = rows2 t ((insOf X p).cand (atP p) r) := by
  rw [← candG_row X p r hr]
  funext x
  have hx : (x 0).val < 16 := (x 0).isLt
  have e0 : ((Rect.unit (s := S131072x128) ![(baseN (atP p) + r % 256) * 16, 0] S16x128.size (out_inb2 (atP p) r)).emb x 0).val
      = (baseN (atP p) + r) * 16 + (x 0).val := by
    show (baseN (atP p) + r % 256) * 16 + 1 * (x 0).val = _
    rw [Nat.mod_eq_of_lt hr]; omega
  show rows2 t (candG X (((Rect.unit (s := S131072x128) ![(baseN (atP p) + r % 256) * 16, 0] S16x128.size (out_inb2 (atP p) r)).emb x 0).val / 16)) _ = _
  rw [show ((Rect.unit (s := S131072x128) ![(baseN (atP p) + r % 256) * 16, 0] S16x128.size (out_inb2 (atP p) r)).emb x 0).val / 16 = baseN (atP p) + r by
    rw [e0]; omega]
  congr 1
  funext a
  refine Fin.ext ?_
  match a with
  | 0 =>
    show ((Rect.unit (s := S131072x128) ![(baseN (atP p) + r % 256) * 16, 0] S16x128.size (out_inb2 (atP p) r)).emb x 0).val % 16 = (x 0).val
    rw [e0]; omega
  | 1 => show 0 + 1 * (x 1).val = (x 1).val; omega

end Parts

end Cert.Proof.Knn
-- ==== Proof.Launch.lean ====
/- The launch: what the call hands its subcores and gets back, and the subcores' obligation. -/
module

public import proofs.«01_k».proof.Proof.Outs
public import Idealize.ShloMosaic.Lib.Pipeline.Frame

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Ring (bigSep_fin_eq_range)

variable {F : FTy → Type} [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What a subcore is handed, and what it hands back -/

/-- A subcore's shares of the tables and its places in the results. -/
def Handed (X : Tabs F) (d : Dev nD) (p : Fin 2 × Fin 16) : sProp (MM F) :=
  iprop(Tables d (atP p) (insOf X p) ∗ holdAny (F := F) d (atP p) (idxPart (atP p)) ∗ Rest (F := F) d (atP p) 0)
/-- Its places in the results, written. -/
def Back (X : Tabs F) (d : Dev nD) (p : Fin 2 × Fin 16) : sProp (MM F) := Written d (atP p) (insOf X p)

section Parts

variable (d : Dev nD) (X : Tabs F)

/-- The results' arrays, at anything and at what they are to be. -/
def OutsAny : sProp (MM F) := iprop((∃ f, o0 d ↦{fullShare} f) ∗ (∃ f, o1 d ↦{fullShare} f) ∗ (∃ f, o2 d ↦{fullShare} f) ∗ (∃ f, o3 d ↦{fullShare} f))
def OutsAt : sProp (MM F) :=
  iprop((o0 d ↦{fullShare} res0 X) ∗ (o1 d ↦{fullShare} resRows3 X X.xk) ∗ (o2 d ↦{fullShare} resRows3 X X.xv) ∗ (o3 d ↦{fullShare} resRows2 X X.xp))

theorem rest_start (L : grid0.Coords) : (Rest (F := F) d L 0) = bigSep Finset.univ fun r : Fin 256 => OutAny (F := F) d L r.val := by
  unfold Rest
  rw [bigSep_fin_eq_range 256 (fun r : Fin 256 => OutAny (F := F) d L r.val) (fun t => OutAny (F := F) d L t) (fun _ _ => rfl), Finset.range_eq_Ico]
theorem done_end (L : grid0.Coords) (I : Ins F) : Done d L I 256 = bigSep Finset.univ fun r : Fin 256 => OutIs d L I r.val := by
  unfold Done
  rw [bigSep_fin_eq_range 256 (fun r : Fin 256 => OutIs d L I r.val) (fun t => OutIs d L I t) (fun _ _ => rfl), Finset.range_eq_Ico]

theorem row_any (L : grid0.Coords) (f1 : Buf (Elt F) (o1 d)) (f2 : Buf (Elt F) (o2 d)) (f3 : Buf (Elt F) (o3 d)) (r : ℕ) :
    iprop((o1 d ↦[(out3 a8 L r).view.set]{fullShare} f1) ∗ (o2 d ↦[(out3 a9 L r).view.set]{fullShare} f2) ∗ (o3 d ↦[(out2 a10 L r).view.set]{fullShare} f3))
      ⊢ OutAny (F := F) d L r := by
  unfold OutAny holdAny
  iintro ⟨H1, H2, H3⟩
  isplitl [H1]; · iexists f1; iexact H1
  isplitl [H2]; · iexists f2; iexact H2
  iexists f3; iexact H3
theorem rows_any (L : grid0.Coords) (f1 : Buf (Elt F) (o1 d)) (f2 : Buf (Elt F) (o2 d)) (f3 : Buf (Elt F) (o3 d)) :
    (bigSep Finset.univ fun r : Fin 256 => iprop((o1 d ↦[(out3 a8 L r.val).view.set]{fullShare} f1)
      ∗ (o2 d ↦[(out3 a9 L r.val).view.set]{fullShare} f2) ∗ (o3 d ↦[(out2 a10 L r.val).view.set]{fullShare} f3)))
    ⊢ bigSep Finset.univ fun r : Fin 256 => OutAny (F := F) d L r.val := bigSep_mono fun r _ => row_any d L f1 f2 f3 r.val
theorem sub_any (p : Fin 2 × Fin 16) (f0 : Buf (Elt F) (o0 d)) (f1 : Buf (Elt F) (o1 d)) (f2 : Buf (Elt F) (o2 d)) (f3 : Buf (Elt F) (o3 d)) :
    iprop((o0 d ↦[(idxPart (atP p)).view.set]{fullShare} f0)
        ∗ (bigSep Finset.univ fun r : Fin 256 => o1 d ↦[(out3 a8 (atP p) r.val).view.set]{fullShare} f1)
        ∗ (bigSep Finset.univ fun r : Fin 256 => o2 d ↦[(out3 a9 (atP p) r.val).view.set]{fullShare} f2)
        ∗ (bigSep Finset.univ fun r : Fin 256 => o3 d ↦[(out2 a10 (atP p) r.val).view.set]{fullShare} f3))
      ⊢ iprop(holdAny (F := F) d (atP p) (idxPart (atP p)) ∗ Rest (F := F) d (atP p) 0) := by
  rw [rest_start, ← bigSep_sep', ← bigSep_sep']
  iintro ⟨H0, H⟩
  isplitl [H0]; · unfold holdAny; iexists f0; iexact H0
  iapply (rows_any d (atP p) f1 f2 f3); iexact H
theorem outs_split1 (f0 : Buf (Elt F) (o0 d)) (f1 : Buf (Elt F) (o1 d)) (f2 : Buf (Elt F) (o2 d)) (f3 : Buf (Elt F) (o3 d)) :
    iprop((o0 d ↦{fullShare} f0) ∗ (o1 d ↦{fullShare} f1) ∗ (o2 d ↦{fullShare} f2) ∗ (o3 d ↦{fullShare} f3))
    ⊢ bigSep Finset.univ fun p : Fin 2 × Fin 16 => iprop(holdAny (F := F) d (atP p) (idxPart (atP p)) ∗ Rest (F := F) d (atP p) 0) := by
  rw [idx_parts d f0, out8_parts d f1, out9_parts d f2, out10_parts d f3, ← bigSep_sep', ← bigSep_sep', ← bigSep_sep']
  exact bigSep_mono fun p _ => sub_any d p f0 f1 f2 f3
theorem outs_split : OutsAny (F := F) d
    ⊢ bigSep Finset.univ fun p : Fin 2 × Fin 16 => iprop(holdAny (F := F) d (atP p) (idxPart (atP p)) ∗ Rest (F := F) d (atP p) 0) := by
  unfold OutsAny
  iintro ⟨⟨%f0, H0⟩, ⟨%f1, H1⟩, ⟨%f2, H2⟩, ⟨%f3, H3⟩⟩
  iapply (outs_split1 d f0 f1 f2 f3)
  isplitl [H0]; · iexact H0
  isplitl [H1]; · iexact H1
  isplitl [H2] <;> iassumption

theorem read_res0 (p : Fin 2 × Fin 16) (f : S4096.Idx → Elt F .i32) (h : Listed (atP p) (insOf X p) 256 f) :
    (idxPart (atP p)).view.read (Elt F) (res0 X) = f := by
  funext y
  have hy : (y 0).val < 4096 := (y 0).isLt
  have hb := h ((y 0).val / 16) (by omega) (lane1 ⟨(y 0).val % 16, by omega⟩)
  have e : ent ((y 0).val / 16 * 16 + (lane1 ⟨(y 0).val % 16, by omega⟩ 0).val) = y := by
    funext a
    obtain rfl : a = 0 := Fin.eq_zero a
    refine Fin.ext ?_
    show ((y 0).val / 16 * 16 + (y 0).val % 16) % 4096 = (y 0).val
    omega
  rw [e] at hb
  rw [hb, ← candG_row X p _ (by omega)]
  have e0 : ((Rect.unit (s := S131072) (k0_off28 (atP p)) S4096.size (k0_off28_inb (atP p))).emb y 0).val = baseN (atP p) * 16 + (y 0).val := by
    show k0_off28 (atP p) 0 + 1 * (y 0).val = _
    rw [show k0_off28 (atP p) 0 = baseN (atP p) * 16 by rw [off28_eq]; rfl, Nat.one_mul]
  show candG X (((Rect.unit (s := S131072) (k0_off28 (atP p)) S4096.size (k0_off28_inb (atP p))).emb y 0).val / 16) (lane1 ⟨_ % 16, _⟩) = _
  rw [show ((Rect.unit (s := S131072) (k0_off28 (atP p)) S4096.size (k0_off28_inb (atP p))).emb y 0).val / 16 = baseN (atP p) + (y 0).val / 16 by rw [e0]; omega]
  congr 2
  refine Fin.ext ?_
  show ((Rect.unit (s := S131072) (k0_off28 (atP p)) S4096.size (k0_off28_inb (atP p))).emb y 0).val % 16 = (y 0).val % 16
  rw [e0]; omega

theorem row_is (p : Fin 2 × Fin 16) (r : Fin 256) : OutIs d (atP p) (insOf X p) r.val
      ⊢ iprop((o1 d ↦[(out3 a8 (atP p) r.val).view.set]{fullShare} resRows3 X X.xk) ∗ (o2 d ↦[(out3 a9 (atP p) r.val).view.set]{fullShare} resRows3 X X.xv)
        ∗ (o3 d ↦[(out2 a10 (atP p) r.val).view.set]{fullShare} resRows2 X X.xp)) := by
  unfold OutIs
  iintro ⟨H1, H2, H3⟩
  isplitl [H1]; · iapply (hold_pts (d := d) (L := atP p) (out3 a8 (atP p) r.val) (resRows3 X X.xk) (read_res8 X X.xk p r.val r.isLt)); iexact H1
  isplitl [H2]; · iapply (hold_pts (d := d) (L := atP p) (out3 a9 (atP p) r.val) (resRows3 X X.xv) (read_res8 X X.xv p r.val r.isLt)); iexact H2
  iapply (hold_pts (d := d) (L := atP p) (out2 a10 (atP p) r.val) (resRows2 X X.xp) (read_res10 X X.xp p r.val r.isLt)); iexact H3
theorem rows_is (p : Fin 2 × Fin 16) : (bigSep Finset.univ fun r : Fin 256 => OutIs d (atP p) (insOf X p) r.val)
      ⊢ bigSep Finset.univ fun r : Fin 256 => iprop((o1 d ↦[(out3 a8 (atP p) r.val).view.set]{fullShare} resRows3 X X.xk)
        ∗ (o2 d ↦[(out3 a9 (atP p) r.val).view.set]{fullShare} resRows3 X X.xv)
        ∗ (o3 d ↦[(out2 a10 (atP p) r.val).view.set]{fullShare} resRows2 X X.xp)) := bigSep_mono fun r _ => row_is d X p r
theorem sub_is (p : Fin 2 × Fin 16) : Back X d p
      ⊢ iprop((o0 d ↦[(idxPart (atP p)).view.set]{fullShare} res0 X)
        ∗ (bigSep Finset.univ fun r : Fin 256 => o1 d ↦[(out3 a8 (atP p) r.val).view.set]{fullShare} resRows3 X X.xk)
        ∗ (bigSep Finset.univ fun r : Fin 256 => o2 d ↦[(out3 a9 (atP p) r.val).view.set]{fullShare} resRows3 X X.xv)
        ∗ (bigSep Finset.univ fun r : Fin 256 => o3 d ↦[(out2 a10 (atP p) r.val).view.set]{fullShare} resRows2 X X.xp)) := by
  rw [← bigSep_sep', ← bigSep_sep']
  unfold Back Written
  rw [done_end]
  iintro ⟨⟨%f, %hf, H0⟩, H⟩
  isplitl [H0]; · iapply (hold_pts (d := d) (L := atP p) (idxPart (atP p)) (res0 X) (read_res0 X p f hf)); iexact H0
  iapply (rows_is d X p); iexact H
theorem outs_join : (bigSep Finset.univ fun p : Fin 2 × Fin 16 => Back X d p) ⊢ OutsAt d X := by
  unfold OutsAt
  rw [idx_parts d (res0 X), out8_parts d (resRows3 X X.xk), out9_parts d (resRows3 X X.xv), out10_parts d (resRows2 X X.xp),
    ← bigSep_sep', ← bigSep_sep', ← bigSep_sep']
  exact bigSep_mono fun p _ => sub_is d X p

theorem handed_eq : (bigSep Finset.univ fun p : Fin 2 × Fin 16 => Handed X d p) = iprop((bigSep Finset.univ fun p : Fin 2 × Fin 16 => Tables d (atP p) (insOf X p))
    ∗ bigSep Finset.univ fun p : Fin 2 × Fin 16 => iprop(holdAny (F := F) d (atP p) (idxPart (atP p)) ∗ Rest (F := F) d (atP p) 0)) := bigSep_sep' ..
theorem handed_all : iprop(TabsAt d X ∗ OutsAny (F := F) d) ⊢ bigSep Finset.univ fun p : Fin 2 × Fin 16 => Handed X d p := by
  rw [handed_eq]
  iintro ⟨HT, HO⟩
  ihave HT := (tables_all d X) $$ HT
  ihave HO := (outs_split d) $$ HO
  isplitl [HT] <;> iassumption

end Parts

/-! ## A subcore's program, from its own scratch -/

theorem tile_body {d : Dev nD} {X : Tabs F} (p : Fin 2 × Fin 16) (O : CellTallies nD τ sig (HIx 1)) (W : Waits sig (HIx 1)) (hO : ∀ g, O g none = 0) :
    iprop(levAts (K (F := F)).L (K (F := F)).lev ∗ emp ∗ Handed X d p ∗ scopedBufs (tV d (atP p)) ∗ scopedSems0 (tV d (atP p)) ∗ owes (tV d (atP p)) O W)
      ⊢ wpV d (atP p) (cc0__sc_select_kernel (F := F) (atP p) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1)
        fun _ => iprop(Back X d p ∗ scopedBufs (tV d (atP p)) ∗ scopedSems0 (tV d (atP p))
          ∗ ∃ W', ⌜∀ p ∈ W', p ∈ W ∨ p.2 = none⌝ ∗ owes (tV d (atP p)) O W') := by
  rw [(K (F := F)).scopedBufs_V facts d (cV (atP p)) (jV (atP p)), SparseCore.Cfg.scopedSems0_V (Val := Elt F) d (cV (atP p)) (jV (atP p)),
    ownBufs_eq (d := d) (L := atP p), ownSems_eq (d := d) (L := atP p)]
  unfold Handed
  iintro ⟨#Hlv, -, ⟨HT, HI, HR⟩, ⟨HB, HB'⟩, ⟨HZ, HZ'⟩, HO⟩
  ihave Hmw := (show levAts (K (F := F)).L (K (F := F)).lev ⊢ Transfers.MayWaits (tV d (atP p)) (default : HIx 1) O from
    (K (F := F)).mayWaits_none (thr := tV d (atP p)) hO) $$ Hlv
  ihave HA := (to_rest (d := d) (L := atP p) (I := insOf X p)) $$ [HB HZ HT]
  · isplitl [HB]; · iexact HB
    isplitl [HZ] <;> iassumption
  icases HA with ⟨HA, HL⟩
  iapply (wp_wand frame) $$ [HA HL HR HI HO Hmw]
  · iapply (tile_run (d := d) (L := atP p) (I := insOf X p) (O := O) (W := W))
    isplitl [HA]; · iexact HA
    isplitl [HL]; · iexact HL
    isplitl [HR]; · iexact HR
    isplitl [HI]; · iexact HI
    unfold OW
    isplitl [Hmw]; · iexact Hmw
    iexists W
    isplitr
    · ipureintro; exact fun p hp => Or.inl hp
    iexact HO
  iintro %_ ⟨HA, HL, HW, HO⟩
  ihave HA := (from_rest (d := d) (L := atP p) (I := insOf X p)) $$ [HA HL]
  · isplitl [HA] <;> iassumption
  icases HA with ⟨HB, HZ⟩
  isplitl [HW]; · unfold Back; iexact HW
  isplitl [HB HB']; · isplitl [HB] <;> iassumption
  isplitl [HZ HZ']; · isplitl [HZ] <;> iassumption
  unfold OW
  icases HO with ⟨-, HO⟩
  iexact HO

/-! ## The payloads of the launch -/

variable (X : Dev nD → Tabs F)

instance hold_storable {d : Dev nD} {L : grid0.Coords} {sp : Space} {s : Shape} {e : EltTy} (m : Memref sig .scVector sp s e) (q : PosShare TreeShare)
    (Y : s.Idx → Elt F e) : BI.Storable (upEmb : UEmb _ (MM F)) (hold d L m q Y) := by unfold hold; infer_instance
instance holdAny_storable {d : Dev nD} {L : grid0.Coords} {sp : Space} {s : Shape} {e : EltTy} (m : Memref sig .scVector sp s e) :
    BI.Storable (upEmb : UEmb _ (MM F)) (holdAny (F := F) d L m) := by unfold holdAny; infer_instance
instance tables_storable (d : Dev nD) (L : grid0.Coords) (I : Ins F) : BI.Storable (upEmb : UEmb _ (MM F)) (Tables d L I) := by unfold Tables; infer_instance
instance outAny_storable (d : Dev nD) (L : grid0.Coords) (r : ℕ) : BI.Storable (upEmb : UEmb _ (MM F)) (OutAny (F := F) d L r) := by unfold OutAny; infer_instance
instance outIs_storable (d : Dev nD) (L : grid0.Coords) (I : Ins F) (r : ℕ) : BI.Storable (upEmb : UEmb _ (MM F)) (OutIs d L I r) := by unfold OutIs; infer_instance
instance rest_storable (d : Dev nD) (L : grid0.Coords) (r : ℕ) : BI.Storable (upEmb : UEmb _ (MM F)) (Rest (F := F) d L r) := by unfold Rest; infer_instance
instance done_storable (d : Dev nD) (L : grid0.Coords) (I : Ins F) (r : ℕ) : BI.Storable (upEmb : UEmb _ (MM F)) (Done d L I r) := by unfold Done; infer_instance
instance handed_storable (Y : Tabs F) (d : Dev nD) (p : Fin 2 × Fin 16) : BI.Storable (upEmb : UEmb _ (MM F)) (Handed Y d p) := by
  unfold Handed; infer_instance
instance back_storable (Y : Tabs F) (d : Dev nD) (p : Fin 2 × Fin 16) : BI.Storable (upEmb : UEmb _ (MM F)) (Back Y d p) := by
  unfold Back Written; infer_instance

theorem nCore_zero : (K (F := F)).nCore 0 = 2 := rfl
theorem nSub_zero : (K (F := F)).nSub 0 = 16 := rfl

/-- The subcore that the launch numbers by a SparseCore and a task. -/
def pairOf (c : Fin ((K (F := F)).nCore 0)) (i : Fin ((K (F := F)).nSub 0)) : Fin 2 × Fin 16 := (Fin.cast nCore_zero c, Fin.cast nSub_zero i)
def coreHanded (d : Dev nD) (c : Fin ((K (F := F)).nCore 0)) : sProp (MM F) :=
  bigSep Finset.univ fun i : Fin ((K (F := F)).nSub 0) => Handed (X d) d (pairOf (F := F) c i)
def coreBack (d : Dev nD) (c : Fin ((K (F := F)).nCore 0)) : sProp (MM F) :=
  bigSep Finset.univ fun i : Fin ((K (F := F)).nSub 0) => Back (X d) d (pairOf (F := F) c i)
instance coreHanded_storable (d : Dev nD) (c : Fin ((K (F := F)).nCore 0)) : BI.Storable (upEmb : UEmb _ (MM F)) (coreHanded X d c) := by
  unfold coreHanded; infer_instance
instance coreBack_storable (d : Dev nD) (c : Fin ((K (F := F)).nCore 0)) : BI.Storable (upEmb : UEmb _ (MM F)) (coreBack X d c) := by
  unfold coreBack; infer_instance

/-- The call hands each subcore its part, and gets back what it wrote. -/
def P : (K (F := F)).Pay (nD := nD) (Val := Elt F) (Name := ℕ) (U := UU) where
  st := fun q d c => match q with | 0 => coreHanded X d c
  dn := fun q d c => match q with | 0 => coreBack X d c
  go := fun q d c i => match q with | 0 => Handed (X d) d (pairOf (F := F) c i)
  td := fun q d c i => match q with | 0 => Back (X d) d (pairOf (F := F) c i)
  x := fun _ _ => iprop(emp)

instance P_storable : (P (F := F) X).IsStorable where
  st q d c := match q with | 0 => coreHanded_storable X d c
  dn q d c := match q with | 0 => coreBack_storable X d c
  go q d c i := match q with | 0 => handed_storable (X d) d (pairOf (F := F) c i)
  td q d c i := match q with | 0 => back_storable (X d) d (pairOf (F := F) c i)

theorem give_take {A B : sProp (MM F)} : A ⊢ |={Set.univ}=> iprop(A ∗ (B -∗ B)) := by
  iintro H; imodintro
  isplitl [H]; · iexact H
  iintro H; iexact H
theorem vecSplit : (K (F := F)).VecSplit' (P X) 0 := fun d c => give_take (A := coreHanded X d c) (B := coreBack X d c)

/-! ## The obligation -/

theorem defs₀_vector (c : Fin τ.nSC) (s : Fin τ.nSub) :
    defs₀ (F := F) (.scVector c s) 0 ()
      = SparseCore.onTile hcore0 hsub0 (fun c s => cc0__sc_select_kernel (F := F) (at2 c s) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (d := d) (X := X d) (pairOf (F := F) c i) O W hO).trans (wp_mono frame _ _ fun _ => obl_post)

end Cert.Proof.Knn
-- ==== Proof.Run.lean ====
/- The whole program's run: the host operations, the call, what every array holds at the end. -/
module

public import proofs.«01_k».proof.Proof.Launch

@[expose] public section

noncomputable section

namespace Cert.Proof.Knn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type} [FloatOps F]

/-! ## The host operations before the call -/

/-- What the host does before the call, in order. -/
def hostLine : List (HloOp τ sig (Elt F)) :=
  [StableHlo.reshape main_arg0 main_v0 (rfl : (.f32 : EltTy) = .f32) shapeCasts_S8192x8192_S8192x128x64,
   StableHlo.nullary main_cst (constant S_ .f32 0x7F800000#32),
   StableHlo.binary main_v0 main_cst main_v1 ((fun x v => Host.reduce FloatOps.minimumf x v reducesTo_S8192x128x64_S8192x128_d2 h_S_) : (⟨S8192x128x64, .f32⟩ : BufTy).Contents (Elt F) → (⟨S_, .f32⟩ : BufTy).Contents (Elt F) → (⟨S8192x128, .f32⟩ : BufTy).Contents (Elt F)),
   StableHlo.reshape main_arg0 main_v2 (rfl : (.f32 : EltTy) = .f32) shapeCasts_S8192x8192_S1048576x64,
   StableHlo.nullary main_c (constantI S_ 32 0#32),
   StableHlo.TRef.unary (.of main_c) main_call0.v0 (sitofp .f32),
   StableHlo.TRef.binary (.of main_v2 : StableHlo.TRef sig ⟨S1048576x64, .f32⟩) main_call0.v0 main_call0.v1 (fun x v => pad S1048576x128 ![0, 0] ![0, 64] ![0, 0] x v pads_S1048576x64_S1048576x128_000_0640 h_S_),
   StableHlo.reshape main_v1 main_v4 (rfl : (.f32 : EltTy) = .f32) shapeCasts_S8192x128_S1048576,
   StableHlo.reshape main_arg1 main_v5 (rfl : (.f32 : EltTy) = .f32) shapeCasts_S8192x256_S8192x2x128,
   StableHlo.reshape main_arg2 main_v6 (rfl : (.f32 : EltTy) = .f32) shapeCasts_S8192x256_S8192x2x128,
   StableHlo.nullary main_c_0 (constantI S_ 32 0#32),
   StableHlo.TRef.unary (.of main_c_0) main_call1.v0 (sitofp .f32),
   StableHlo.TRef.binary (.of main_arg3 : StableHlo.TRef sig ⟨S8192x3, .f32⟩) main_call1.v0 main_call1.v1 (fun x v => pad S8192x128 ![0, 0] ![0, 125] ![0, 0] x v pads_S8192x3_S8192x128_000_01250 h_S_)]

theorem main_eq (d : Dev nD) : main (F := F) d = StableHlo.seq hostLine >>= fun _ => ((K (F := F)).run d 0 >>= fun _ => pure ⟨⟩) := rfl

theorem hostLine_sub : (hostLine : List (HloOp τ sig (Elt F))).Forall fun op => op.bufs ⊆ StableHlo.tcRefs τ sig :=
  ⟨StableHlo.reshape_bufs_sub .., StableHlo.nullary_bufs_sub .., StableHlo.binary_bufs_sub .., StableHlo.reshape_bufs_sub .., StableHlo.nullary_bufs_sub ..,
    StableHlo.unary_bufs_sub .., StableHlo.binary_bufs_sub .., StableHlo.reshape_bufs_sub .., StableHlo.reshape_bufs_sub .., StableHlo.reshape_bufs_sub ..,
    StableHlo.nullary_bufs_sub .., StableHlo.unary_bufs_sub .., StableHlo.binary_bufs_sub ..⟩
theorem hostLine_fresh : (hostLine : List (HloOp τ sig (Elt F))).Forall fun op => op.fresh = ∅ :=
  ⟨rfl, rfl, rfl, rfl, rfl, rfl, rfl, rfl, rfl, rfl, rfl, rfl, rfl⟩

/-- The references the host writes. -/
def hostWrites : List (Ref sig .tc) :=
  [main_v0, main_cst, main_v1, main_v2, main_c, main_call0_v0, main_v3, main_v4, main_v5, main_v6, main_c_0, main_call1_v0, main_v7]
theorem hostLine_writes : (hostLine : List (HloOp τ sig (Elt F))).Forall fun op => op.writes ⊆ (hostWrites.map (Proc.devRef (τ := τ) .tc)).toFinset :=
  StableHlo.forall_writes_sub_of_map rfl

variable (m : (ℓ : Loc nD τ sig) → Buf (Elt F) ℓ) (ρ : Dev nD → PrngReg)

/-- What the arrays hold at the call. -/
def VH (d : Dev nD) : Valuation τ sig (Elt F) := after hostLine (StableHlo.launchContents m d)
/-- The call's tables. -/
def XH (d : Dev nD) : Tabs F where
  gm := VH m d (Proc.devRef .tc main_v4)
  d2 := VH m d (Proc.devRef .tc main_v3)
  xk := VH m d (Proc.devRef .tc main_v5)
  xv := VH m d (Proc.devRef .tc main_v6)
  xp := VH m d (Proc.devRef .tc main_v7)

theorem VH_arg (d : Dev nD) (r : Ref sig .tc) (hr : r ∉ hostWrites) : VH m d (Proc.devRef .tc r) = m ((SparseCore.T d).loc r) :=
  StableHlo.after_of_writes_sub hostLine _ hostLine_writes hr

/-- The four arguments, at their launch contents. -/
def Args (d : Dev nD) : sProp (MM F) :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3)))

/-- The arrays the run's end speaks of, and the call's. -/
abbrev refs13 : List (Ref sig .tc) :=
  [main_arg0, main_arg1, main_arg2, main_arg3, main_v4, main_v3, main_v5, main_v6, main_v7, main_v8_0, main_v8_1, main_v8_2, main_v8_3]
abbrev S13 : Finset (DevRef τ sig) := (refs13.map (Proc.devRef (τ := τ) .tc)).toFinset

theorem S13_sub : S13 ⊆ Pipeline.ucRefs τ sig := fun b hb => by
  obtain ⟨r, hr, rfl⟩ := List.mem_map.mp (List.mem_toFinset.mp hb)
  refine Finset.mem_filter.mpr ⟨StableHlo.devRef_mem_tcRefs r, ?_⟩
  have h : ∀ r ∈ refs13, ¬ (Proc.devRef (τ := τ) .tc r).isScoped := by decide
  exact h r hr

theorem held_S13 (d : Dev nD) (W : Valuation τ sig (Elt F)) :
    (held (SparseCore.T d) S13 W : sProp (MM F)) = iprop(((SparseCore.T d).loc main_arg0 ↦{fullShare} W (Proc.devRef .tc main_arg0))
      ∗ ((SparseCore.T d).loc main_arg1 ↦{fullShare} W (Proc.devRef .tc main_arg1)) ∗ ((SparseCore.T d).loc main_arg2 ↦{fullShare} W (Proc.devRef .tc main_arg2))
      ∗ ((SparseCore.T d).loc main_arg3 ↦{fullShare} W (Proc.devRef .tc main_arg3))
      ∗ (lG d ↦{fullShare} W (Proc.devRef .tc main_v4)) ∗ (lD d ↦{fullShare} W (Proc.devRef .tc main_v3)) ∗ (lK d ↦{fullShare} W (Proc.devRef .tc main_v5))
      ∗ (lV d ↦{fullShare} W (Proc.devRef .tc main_v6)) ∗ (lP d ↦{fullShare} W (Proc.devRef .tc main_v7))
      ∗ (o0 d ↦{fullShare} W (Proc.devRef .tc main_v8_0)) ∗ (o1 d ↦{fullShare} W (Proc.devRef .tc main_v8_1))
      ∗ (o2 d ↦{fullShare} W (Proc.devRef .tc main_v8_2)) ∗ (o3 d ↦{fullShare} W (Proc.devRef .tc main_v8_3))) := by
  unfold held
  rw [show S13 = {Proc.devRef .tc main_arg0, Proc.devRef .tc main_arg1, Proc.devRef .tc main_arg2, Proc.devRef .tc main_arg3, Proc.devRef .tc main_v4,
      Proc.devRef .tc main_v3, Proc.devRef .tc main_v5, Proc.devRef .tc main_v6, Proc.devRef .tc main_v7, Proc.devRef .tc main_v8_0, Proc.devRef .tc main_v8_1,
      Proc.devRef .tc main_v8_2, Proc.devRef .tc main_v8_3} from by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- At the call, the arrays are the arguments unchanged, the tables, and the results' places. -/
theorem at_call (d : Dev nD) : (held (SparseCore.T d) S13 (VH m d) : sProp (MM F)) ⊢ iprop(Args m d ∗ TabsAt d (XH m d) ∗ OutsAny (F := F) d) := by
  rw [held_S13, VH_arg m d main_arg0 (by decide), VH_arg m d main_arg1 (by decide), VH_arg m d main_arg2 (by decide), VH_arg m d main_arg3 (by decide)]
  unfold Args TabsAt OutsAny XH
  iintro ⟨H0, H1, H2, H3, HG, HD, HK, HV, HP, HA, HB, HC, HE⟩
  isplitl [H0 H1 H2 H3]
  · isplitl [H0]; · iexact H0
    isplitl [H1]; · iexact H1
    isplitl [H2] <;> iassumption
  isplitl [HG HD HK HV HP]
  · isplitl [HG]; · iexact HG
    isplitl [HD]; · iexact HD
    isplitl [HK]; · iexact HK
    isplitl [HV] <;> iassumption
  isplitl [HA]; · iexists _; iexact HA
  isplitl [HB]; · iexists _; iexact HB
  isplitl [HC]; · iexists _; iexact HC
  iexists _; iexact HE

theorem from_host (d : Dev nD) : (held (d.tc : Thread nD τ) (Pipeline.ucRefs τ sig) (after hostLine (StableHlo.launchContents m d)) : sProp (MM F))
    ⊢ iprop(Args m d ∗ TabsAt d (XH m d) ∗ OutsAny (F := F) d) := by
  show (held (SparseCore.T d) (Pipeline.ucRefs τ sig) (VH m d) : sProp (MM F)) ⊢ _
  rw [StableHlo.held_sub_split (SparseCore.T d) S13_sub (VH m d)]
  iintro ⟨H, -⟩
  iapply (at_call m d); iexact H

/-! ## What the call takes and gives back, over all its subcores -/

theorem cores_eq (Φ : Fin 2 × Fin 16 → sProp (MM F)) :
    (bigSep Finset.univ fun c : Fin ((K (F := F)).nCore 0) => bigSep Finset.univ fun i : Fin ((K (F := F)).nSub 0) => Φ (pairOf (F := F) c i))
      = bigSep Finset.univ Φ := by
  rw [bigSep_univ_prod]
  exact bigSep_congr fun c _ => bigSep_congr fun i _ => rfl
theorem coresHanded (X : Dev nD → Tabs F) (d : Dev nD) : (bigSep Finset.univ fun c : Fin ((K (F := F)).nCore 0) => coreHanded X d c)
    = bigSep Finset.univ fun p : Fin 2 × Fin 16 => Handed (X d) d p := by
  unfold coreHanded
  exact cores_eq (Handed (X d) d)
theorem coresBack (X : Dev nD → Tabs F) (d : Dev nD) : (bigSep Finset.univ fun c : Fin ((K (F := F)).nCore 0) => coreBack X d c)
    = bigSep Finset.univ fun p : Fin 2 × Fin 16 => Back (X d) d p := by
  unfold coreBack
  exact cores_eq (Back (X d) d)
theorem P_st (X : Dev nD → Tabs F) (d : Dev nD) (c : Fin ((K (F := F)).nCore 0)) : (P X).st 0 d c = coreHanded X d c := rfl
theorem P_dn (X : Dev nD → Tabs F) (d : Dev nD) (c : Fin ((K (F := F)).nCore 0)) : (P X).dn 0 d c = coreBack X d c := rfl
theorem st0_eq (X : Dev nD → Tabs F) (d : Dev nD) : (bigSep Finset.univ fun c : Fin ((K (F := F)).nCore 0) => (P X).st 0 d c)
    = bigSep Finset.univ fun p : Fin 2 × Fin 16 => Handed (X d) d p :=
  (bigSep_congr fun c _ => P_st X d c).trans (coresHanded X d)
theorem dn0_eq (X : Dev nD → Tabs F) (d : Dev nD) : (bigSep Finset.univ fun c : Fin ((K (F := F)).nCore 0) => (P X).dn 0 d c)
    = bigSep Finset.univ fun p : Fin 2 × Fin 16 => Back (X d) d p :=
  (bigSep_congr fun c _ => P_dn X d c).trans (coresBack X d)

/-! ## The launch's resources -/

def u₀ : UU := (initOf (K (F := F)).hsCells (K (F := F)).hsToks, 1)

theorem bigSep_emps {I : Type} (s : Finset I) : (bigSep s fun _ => iprop(emp)) = (iprop(emp) : sProp (MM F)) := bigSep_emp_const s

theorem hu₀ (X : Dev nD → Tabs F) : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun thr : Thread nD τ => bigSep Finset.univ fun q : Fin 1 => (P (F := F) X).x q thr) = bigSep Finset.univ fun _ => iprop(emp) from
    bigSep_congr fun _ _ => bigSep_univ_of_subsingleton (0 : Fin 1), bigSep_emps]
  iempintro

/-! ## @main -/

abbrev FIN (d : Dev nD) : sProp (MM F) := iprop(Args m d ∗ OutsAt d (XH m d))

theorem hmain (κ : GSem nD τ sig → ℕ) (d : Dev nD) :
    iprop((K (F := F)).ctx EH (P (XH m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp (MM F)) = held (SparseCore.T d) (Pipeline.ucRefs τ sig) (StableHlo.launchContents m d) from
    Pipeline.unscopedBufs_held d (StableHlo.launchContents m d)]
  iintro ⟨#Hctx, Hst, ⟨Hb, Hheld, Hts, -⟩, -⟩
  iapply (StableHlo.wp_seq 𝒱 none Set.univ d (Pipeline.ucRefs τ sig) _ hostLine
    (fun op h => Pipeline.sub_ucRefs op (List.forall_iff_forall_mem.mp hostLine_sub op h))
    (fun op h => List.forall_iff_forall_mem.mp hostLine_fresh op h) _) $$ [Hb Hheld]
  · isplitl [Hb] <;> iassumption
  iintro ⟨Hb, Hheld⟩
  ihave Hh := (from_host m d) $$ Hheld
  icases Hh with ⟨HA, HT, HO⟩
  ihave HH := (handed_all d (XH m d)) $$ [HT HO]
  · isplitl [HT] <;> iassumption
  simp only [wp_bind, wp_pure]
  iapply ((K (F := F)).wp_run (D (F := F)) 𝒱 (EH := EH) (P := P (XH m)) κ d 0) $$ [Hst HH HA Hb Hts]
  isplitr; · iexact Hctx
  isplitl [Hst]; · iexact Hst
  isplitl [HH]
  · rw [st0_eq]; iexact HH
  iintro ⟨Hst, Hdn⟩
  ihave Hdn := (Entails.of_eq (dn0_eq (XH m) d)) $$ Hdn
  ihave HO := (outs_join d (XH m d)) $$ Hdn
  imodintro
  isplitl [Hst]; · iexact Hst
  isplitr [Hb Hts]
  · isplitl [HA] <;> iassumption
  isplitl [Hb] <;> iassumption

/-! ## The final memory -/

/-- What the run's end says of a device. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3))
  ∧ s'.mem.mem (o0 d) = res0 (XH m d) ∧ s'.mem.mem (o1 d) = resRows3 (XH m d) (XH m d).xk ∧ s'.mem.mem (o2 d) = resRows3 (XH m d) (XH m d).xv
    ∧ s'.mem.mem (o3 d) = resRows2 (XH m d) (XH m d).xp

theorem read_off (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp (MM F)) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp (MM F)) := by
  unfold FIN Args OutsAt
  iintro ⟨⟨⟨A0, A1, A2, A3⟩, R0, R1, R2, R3⟩, HSI⟩
  ihave H := (read_off s' ((SparseCore.T d).loc main_arg0) _) $$ [A0 HSI]
  · isplitl [A0] <;> iassumption
  icases H with ⟨%h0, HSI⟩
  ihave H := (read_off s' ((SparseCore.T d).loc main_arg1) _) $$ [A1 HSI]
  · isplitl [A1] <;> iassumption
  icases H with ⟨%h1, HSI⟩
  ihave H := (read_off s' ((SparseCore.T d).loc main_arg2) _) $$ [A2 HSI]
  · isplitl [A2] <;> iassumption
  icases H with ⟨%h2, HSI⟩
  ihave H := (read_off s' ((SparseCore.T d).loc main_arg3) _) $$ [A3 HSI]
  · isplitl [A3] <;> iassumption
  icases H with ⟨%h3, HSI⟩
  ihave H := (read_off s' (o0 d) _) $$ [R0 HSI]
  · isplitl [R0] <;> iassumption
  icases H with ⟨%r0, HSI⟩
  ihave H := (read_off s' (o1 d) _) $$ [R1 HSI]
  · isplitl [R1] <;> iassumption
  icases H with ⟨%r1, HSI⟩
  ihave H := (read_off s' (o2 d) _) $$ [R2 HSI]
  · isplitl [R2] <;> iassumption
  icases H with ⟨%r2, HSI⟩
  ihave H := (read_off s' (o3 d) _) $$ [R3 HSI]
  · isplitl [R3] <;> iassumption
  icases H with ⟨%r3, -⟩
  ipureintro; exact ⟨⟨h0, h1, h2, h3⟩, r0, r1, r2, r3⟩

/-! ## The run -/

/-- How every run ends: the arguments as they were, the results those of the tables, every semaphore at zero. -/
def QC : PUnit × MemSt nD τ sig (Elt F) → Prop := fun r =>
  (∀ d : Dev nD,
    (r.2.mem ((SparseCore.T d).loc main_arg0) = m ((SparseCore.T d).loc main_arg0) ∧ r.2.mem ((SparseCore.T d).loc main_arg1) = m ((SparseCore.T d).loc main_arg1)
      ∧ r.2.mem ((SparseCore.T d).loc main_arg2) = m ((SparseCore.T d).loc main_arg2) ∧ r.2.mem ((SparseCore.T d).loc main_arg3) = m ((SparseCore.T d).loc main_arg3))
    ∧ r.2.mem (o0 d) = res0 (XH m d) ∧ r.2.mem (o1 d) = resRows3 (XH m d) (XH m d).xk ∧ r.2.mem (o2 d) = resRows3 (XH m d) (XH m d).xv
      ∧ r.2.mem (o3 d) = resRows2 (XH m d) (XH m d).xp)
  ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XH m)) (A := ∅) facts v₀
    (fun q hq => match q with | 0 => nomatch hq)
    (fun q _ => match q with | 0 => tileObl (XH m))
    (fun q _ => match q with | 0 => SparseCore.Cfg.VecSplit.of_plain (vecSplit (XH m)))
    m ρ main (fun _ => iprop(emp)) (FIN m) (u₀ (F := F)) (sep_elim_left.trans (hu₀ (XH m))) (hmain m ρ) (fq m) (hfin m) (QC m) (fun _ h hz => ⟨h, hz⟩)

end Cert.Proof.Knn

end
-- ==== Proof.Order.lean ====
/- The least sixteen values of a set of positions: when a list of positions holds them, and how lists are merged. -/
module

public import Idealize.ShloMosaic.PureOps.Ideal
public import Mathlib.Order.Fin.Basic
public import Mathlib.Data.Finset.Basic
public import Mathlib.Data.Fintype.Card

@[expose] public section

namespace Cert.Proof.Knn

/-- The list names distinct positions of `S`, and no other position of `S` has a value below one of theirs. -/
structure Best (S : Finset ℕ) (v : ℕ → EReal) (c : Fin 16 → ℕ) : Prop where
  mem : ∀ t, c t ∈ S
  inj : Function.Injective c
  rest : ∀ j ∈ S, (∃ t, c t = j) ∨ ∀ t, v (c t) ≤ v j

/-- … and its values do not decrease. -/
structure TopOf (S : Finset ℕ) (v : ℕ → EReal) (c : Fin 16 → ℕ) : Prop extends Best S v c where
  mono : ∀ s t, s ≤ t → v (c s) ≤ v (c t)

theorem Best.perm {S : Finset ℕ} {v : ℕ → EReal} {c : Fin 16 → ℕ} (h : Best S v c) (π : Fin 16 ≃ Fin 16) : Best S v (fun t => c (π t)) where
  mem t := h.mem _
  inj := h.inj.comp π.injective
  rest j hj := by
    rcases h.rest j hj with ⟨t, ht⟩ | hr
    · exact .inl ⟨π.symm t, by simpa using ht⟩
    · exact .inr fun t => hr _

/-- Of two lists the second is read backwards, and of every pair the lesser is kept. -/
theorem TopOf.merge {S S' : Finset ℕ} {v : ℕ → EReal} {a b : Fin 16 → ℕ} (ha : TopOf S v a) (hb : TopOf S' v b) (hd : Disjoint S S')
    (M : Fin 16 → Prop) [DecidablePred M] (h1 : ∀ t, M t → v (a t) ≤ v (b t.rev)) (h2 : ∀ t, ¬ M t → v (b t.rev) ≤ v (a t)) :
    Best (S ∪ S') v (fun t => if M t then a t else b t.rev) := by
  have la : ∀ t, v (if M t then a t else b t.rev) ≤ v (a t) := fun t => by split <;> rename_i h; exacts [le_refl _, h2 t h]
  have lb : ∀ t, v (if M t then a t else b t.rev) ≤ v (b t.rev) := fun t => by split <;> rename_i h; exacts [h1 t h, le_refl _]
  have ne : ∀ s t, a s ≠ b t := fun s t e => Finset.disjoint_left.mp hd (ha.mem s) (e ▸ hb.mem t)
  refine ⟨fun t => ?_, fun s t e => ?_, fun j hj => ?_⟩
  · split
    exacts [Finset.mem_union_left _ (ha.mem _), Finset.mem_union_right _ (hb.mem _)]
  · split at e <;> split at e
    · exact ha.inj e
    · exact absurd e (ne _ _)
    · exact absurd e.symm (ne _ _)
    · exact Fin.rev_injective (hb.inj e)
  · rcases Finset.mem_union.mp hj with hj | hj
    · rcases ha.rest j hj with ⟨s, rfl⟩ | hr
      · by_cases hs : M s
        · exact .inl ⟨s, if_pos hs⟩
        · refine .inr fun t => ?_
          rcases le_total t s with h | h
          · exact (la t).trans (ha.mono _ _ h)
          · exact ((lb t).trans (hb.mono _ _ (Fin.rev_le_rev.mpr h))).trans (h2 s hs)
      · exact .inr fun t => (la t).trans (hr t)
    · rcases hb.rest j hj with ⟨s, rfl⟩ | hr
      · obtain ⟨s, rfl⟩ : ∃ u, s = Fin.rev u := ⟨s.rev, (Fin.rev_rev s).symm⟩
        by_cases hs : M s
        · refine .inr fun t => ?_
          rcases le_total t s with h | h
          · exact ((la t).trans (ha.mono _ _ h)).trans (h1 s hs)
          · exact (lb t).trans (hb.mono _ _ (Fin.rev_le_rev.mpr h))
        · exact .inl ⟨s, if_neg hs⟩
      · exact .inr fun t => (lb t).trans (hr _)

/-- Positions with no value below the list's last leave it the best. -/
theorem TopOf.skip {S S' : Finset ℕ} {v : ℕ → EReal} {a : Fin 16 → ℕ} (ha : TopOf S v a) (h : ∀ j ∈ S', v (a 15) ≤ v j) : TopOf (S ∪ S') v a where
  mem t := Finset.mem_union_left _ (ha.mem t)
  inj := ha.inj
  mono := ha.mono
  rest j hj := by
    rcases Finset.mem_union.mp hj with hj | hj
    · exact ha.rest j hj
    · exact .inr fun t => (ha.mono t 15 (by omega)).trans (h j hj)

/-- An injection of the sixteen into themselves meets every one. -/
theorem onto16 {u : Fin 16 → Fin 16} (h : Function.Injective u) (t : Fin 16) : ∃ s, u s = t := Finite.surjective_of_injective h t

/-- Where the sixteen least are apart from each other and from the rest, only one list holds them in order. -/
theorem TopOf.unique {S : Finset ℕ} {v : ℕ → EReal} {a b : Fin 16 → ℕ} (ha : TopOf S v a) (hb : TopOf S v b)
    (hs : ∀ s t, s < t → v (b s) < v (b t)) (hr : ∀ j ∈ S, (∃ t, b t = j) ∨ v (b 15) < v j) : a = b := by
  have hin : ∀ t, ∃ w, b w = a t := by
    intro t
    rcases hr _ (ha.mem t) with h | h
    · exact h
    · have : ∀ s, ∃ u, a u = b s := fun s => by
        rcases ha.rest _ (hb.mem s) with h' | h'
        · exact h'
        · exact absurd ((h' t).trans (hb.mono s 15 (by omega))) (not_le.mpr h)
      choose u hu using this
      obtain ⟨s, hs'⟩ := onto16 (u := u) (fun x y e => hb.inj (by rw [← hu, ← hu, e])) t
      exact ⟨s, by rw [← hs', hu]⟩
  choose w hw using hin
  have wi : Function.Injective w := fun x y e => ha.inj (by rw [← hw, ← hw, e])
  have wm : StrictMono w := by
    intro s t h
    rcases lt_trichotomy (w s) (w t) with h' | h' | h'
    · exact h'
    · exact absurd (wi h') h.ne
    · have := hs _ _ h'
      rw [hw, hw] at this
      exact absurd (ha.mono _ _ h.le) (not_le.mpr this)
  have wr : StrictMono fun t : Fin 16 => (w t.rev).rev := fun s t h => Fin.rev_lt_rev.mpr (wm (Fin.rev_lt_rev.mpr h))
  have : ∀ t, w t = t := fun t => le_antisymm (by
    have h : t.rev ≤ (w t.rev.rev).rev := wr.le_apply (x := t.rev)
    rw [Fin.rev_rev] at h
    exact Fin.rev_le_rev.mp h) wm.le_apply
  funext t
  rw [← hw t, this]

/-- The first sixteen of a sort of the first `n` positions. -/
theorem topOf_sorted {n : ℕ} (hn : 16 ≤ n) {v : ℕ → EReal} {σ : Fin n → Fin n} (hi : Function.Injective σ) (hsu : Function.Surjective σ)
    (hm : ∀ i j : Fin n, i < j → v (σ i) ≤ v (σ j)) : TopOf (Finset.range n) v (fun t => (σ ⟨t, by omega⟩).val) where
  mem t := Finset.mem_range.mpr (Fin.isLt _)
  inj s t e := by
    have := hi (Fin.ext e)
    exact Fin.ext (by simpa using this)
  mono s t h := by
    rcases h.eq_or_lt with rfl | h
    · exact le_refl _
    · exact hm _ _ h
  rest j hj := by
    obtain ⟨i, hi'⟩ := hsu ⟨j, Finset.mem_range.mp hj⟩
    have hi' : (σ i).val = j := congrArg Fin.val hi'
    subst hi'
    by_cases h : i.val < 16
    · exact .inl ⟨⟨i.val, h⟩, rfl⟩
    · exact .inr fun t => hm _ _ (by rw [Fin.lt_def]; show t.val < _; omega)

/-- The sixteen best groups hold the sixteen best positions: from the groups' minima, and the best of the groups' own positions. -/
theorem TopOf.groups {v gm : ℕ → EReal} {g : Fin 16 → ℕ} {c : Fin 16 → ℕ} {k : Fin 16 → Fin 16}
    (hle : ∀ n l, n < 128 → l < 64 → gm n ≤ v (n * 64 + l)) (hex : ∀ n, n < 128 → ∃ l, l < 64 ∧ v (n * 64 + l) = gm n)
    (hg : TopOf (Finset.range 128) gm g)
    (hc : TopOf (Finset.range 1024) (fun p => v (g (Fin.ofNat 16 (p / 64)) * 64 + p % 64)) c)
    (hk : ∀ t, (k t).val = c t / 64) :
    TopOf (Finset.range 8192) v (fun t => g (k t) * 64 + c t % 64) := by
  have hk' : ∀ t, Fin.ofNat 16 (c t / 64) = k t := fun t => Fin.ext (by
    show c t / 64 % 16 = _
    have := Finset.mem_range.mp (hc.mem t)
    rw [hk]; omega)
  have hgl : ∀ t, g t < 128 := fun t => Finset.mem_range.mp (hg.mem t)
  have hval : ∀ t, v (g (Fin.ofNat 16 (c t / 64)) * 64 + c t % 64) = v (g (k t) * 64 + c t % 64) := fun t => by rw [hk']
  refine ⟨⟨fun t => ?_, fun s t e => ?_, fun j hj => ?_⟩, fun s t h => ?_⟩
  · have := hgl (k t)
    exact Finset.mem_range.mpr (by omega)
  · have e1 : g (k s) = g (k t) := by omega
    have e2 := congrArg Fin.val (hg.inj e1)
    rw [hk, hk] at e2
    exact hc.inj (by omega)
  · have hj := Finset.mem_range.mp hj
    have pos_of : ∀ (s : Fin 16) (l : ℕ), l < 64 → Fin.ofNat 16 ((s.val * 64 + l) / 64) = s ∧ (s.val * 64 + l) % 64 = l := fun s l hl =>
      ⟨Fin.ext (by show (s.val * 64 + l) / 64 % 16 = s.val; omega), by omega⟩
    have at_slab : ∀ (s : Fin 16) (l : ℕ), l < 64 → (∃ t, c t = s.val * 64 + l) ∨ ∀ t, v (g (k t) * 64 + c t % 64) ≤ v (g s * 64 + l) := by
      intro s l hl
      rcases hc.rest (s.val * 64 + l) (Finset.mem_range.mpr (by omega)) with h | h
      · exact .inl h
      · refine .inr fun t => ?_
        have := h t
        rw [hk', (pos_of s l hl).1, (pos_of s l hl).2] at this
        exact this
    rcases hg.rest (j / 64) (Finset.mem_range.mpr (by omega)) with ⟨s, hs⟩ | hr
    · rcases at_slab s (j % 64) (by omega) with ⟨t, ht⟩ | h
      · refine .inl ⟨t, ?_⟩
        have e : k t = s := Fin.ext (by rw [hk]; omega)
        rw [e, hs]; omega
      · refine .inr fun t => (h t).trans (le_of_eq ?_)
        rw [hs]; congr 1; omega
    · refine .inr ?_
      have hjv : ∀ s, gm (g s) ≤ v j := fun s => (hr s).trans ((hle (j / 64) (j % 64) (by omega) (by omega)).trans (le_of_eq (by congr 1; omega)))
      choose l hl hlv using fun s => hex (g s) (hgl s)
      by_cases hall : ∀ s, ∃ t, c t = s.val * 64 + l s
      · choose u hu using hall
        have ui : Function.Injective u := fun x y e => Fin.ext (by
          have := (hu x).symm.trans ((congrArg c e).trans (hu y))
          have := hl x; have := hl y; omega)
        intro t
        obtain ⟨s, rfl⟩ := onto16 ui t
        have e : k (u s) = s := Fin.ext (by rw [hk, hu]; have := hl s; omega)
        rw [e, hu, (pos_of s (l s) (hl s)).2, hlv]
        exact hjv s
      · obtain ⟨s, hs⟩ := not_forall.mp hall
        rcases at_slab s (l s) (hl s) with h | h
        · exact absurd h hs
        · intro t
          exact (h t).trans ((hlv s).le.trans (hjv s))
  · have := hc.mono s t h
    rwa [hk', hk'] at this

end Cert.Proof.Knn
-- ==== Proof.Nearest.lean ====
/- What the reference's top_k picks, and what the precondition says of it: in a row of distances, the sixteen least in strictly
   increasing order and everything else above them, so that no other list of sixteen positions holds the least in order. -/
module

public import proofs.«01_k».proof.Proof.Order
public import proofs.«01_k».proof.Proof.Gen.Pre_seventeen_smallest_increase
public import proofs.«01_k».proof.Proof.Gen.ReferenceIdeal
public import Idealize.ShloMosaic.PureOps.Ideal
public import Idealize.ShloMosaic.PureOps.Ideal.Laws
public import Idealize.ShloMosaic.PureOps.Reduce
public import Idealize.ShloMosaic.Lib.SortFacts
public import Idealize.ShloMosaic.Lib.Pipeline.Value
public import Idealize.ShloMosaic.Lib.Pointwise.Index

@[expose] public section

noncomputable section

namespace Cert.Proof.Nearest

open Cert.ReferenceIdeal Cert.ReferenceIdeal.Gen
open Idealize.ShloMosaic
open Cert.Proof.Knn (TopOf topOf_sorted)

/-- Distance `j` of row `R`. -/
def dist (A : S8192x8192.Idx → EReal) (R : Fin 8192) (j : ℕ) : EReal := A (ix2 R ⟨j % 8192, Nat.mod_lt _ (by decide)⟩)

theorem dist_val (A : S8192x8192.Idx → EReal) (R k : Fin 8192) : dist A R k.val = A (ix2 R k) := by
  unfold dist; congr 2; exact Fin.ext (Nat.mod_eq_of_lt k.isLt)

/-- An element of the same row. -/
def inRow (i : S8192x8192.Idx) (k : Fin 8192) : S8192x8192.Idx := i.along 1 k

theorem inRow_eq (R t k : Fin 8192) : inRow (ix2 R t) k = ix2 R k := by
  funext a
  match a with
  | ⟨0, _⟩ => rfl
  | ⟨1, _⟩ => rfl

/-- The order a sort along a row uses, by the elements' order. -/
def rowBefore (lt : EReal → EReal → BitVec 1) (x : S8192x8192.Idx → EReal) (i : S8192x8192.Idx) (k k' : Fin 8192) : Bool :=
  lt (x (inRow i k)) (x (inRow i k')) == 1#1

theorem rowBefore_eq (lt : EReal → EReal → BitVec 1) (x : S8192x8192.Idx → EReal) (R t : Fin 8192) :
    rowBefore lt x (ix2 R t) = fun k k' => lt (x (ix2 R k)) (x (ix2 R k')) == 1#1 := by
  funext k k'
  unfold rowBefore
  rw [inRow_eq, inRow_eq]

theorem ofBool_one (p : Prop) [Decidable p] : BitVec.ofBool (decide p) = 1#1 ↔ p := by
  by_cases h : p <;> simp [h]

/-! ## A row in order -/

section Row

variable (A : S8192x8192.Idx → EReal) (R : Fin 8192) (before : Fin 8192 → Fin 8192 → Bool)

/-- A sort of a row by its distances leaves no later distance below an earlier. -/
theorem sorted_mono (hb : ∀ k k', before k k' = true ↔ A (ix2 R k) < A (ix2 R k')) (i j : Fin 8192) (hij : i < j) :
    A (ix2 R (sortedFrom before i)) ≤ A (ix2 R (sortedFrom before j)) := by
  have hf : ∀ k k', before k k' = false ↔ A (ix2 R k') ≤ A (ix2 R k) := fun k k' => by
    rw [← not_lt, ← hb, Bool.not_eq_true]
  have h := sortedFrom_noInversion before before (fun a b h => (hf b a).mpr ((hb a b).mp h).le) (fun _ _ h => h)
    (fun a b c h1 h2 => (hf a c).mpr (((hf b c).mp h2).trans ((hf a b).mp h1))) i j hij
  exact (hf _ _).mp h

/-- The first sixteen positions of a sorted row hold its least, in order. -/
theorem sorted_top (hb : ∀ k k', before k k' = true ↔ A (ix2 R k) < A (ix2 R k')) :
    TopOf (Finset.range 8192) (dist A R) (fun t => (sortedFrom before ⟨t.val, by omega⟩).val) :=
  topOf_sorted (by decide) (sortedFrom_injective before) (sortedFrom_surjective before) fun i j hij => by
    rw [dist_val, dist_val]; exact sorted_mono A R before hb i j hij

end Row

/-! ## The reference's picks -/

/-- The order top_k sorts a row by. -/
def topBefore (A : S8192x8192.Idx → EReal) (R k k' : Fin 8192) : Bool :=
  FloatOps.cmpfTotal (F := Ideal) (φ := .f32) .gt (Host.negf (F := Ideal) (φ := .f32) A (ix2 R k)) (Host.negf (F := Ideal) (φ := .f32) A (ix2 R k')) == 1#1

theorem topBefore_iff (A : S8192x8192.Idx → EReal) (R k k' : Fin 8192) : topBefore A R k k' = true ↔ A (ix2 R k) < A (ix2 R k') := by
  unfold topBefore
  rw [beq_iff_eq]
  show BitVec.ofBool (decide (-(A (ix2 R k')) < -(A (ix2 R k)))) = 1#1 ↔ _
  rw [ofBool_one, EReal.neg_lt_neg_iff]

/-- The reference's indices. -/
abbrev picks (A : S8192x8192.Idx → EReal) : S8192x16.Idx → BitVec 32 :=
  (Host.topK S8192x16 1 (FloatOps.cmpfTotal (F := Ideal) (φ := .f32) .gt) (Host.negf (F := Ideal) (φ := .f32) A) sliceFits_S8192x8192_S8192x16).2

theorem picks_eq (A : S8192x8192.Idx → EReal) (R : Fin 8192) (t : Fin 16) :
    picks A (ix2 R t) = BitVec.ofNat 32 (sortedFrom (topBefore A R) ⟨t.val, by omega⟩).val := by
  have hj : ∀ i : S8192x8192.Idx, i = ix2 R ⟨t.val, by omega⟩ →
      (Host.sort2 S8192x8192 1 (fun l r : EReal × BitVec 32 => FloatOps.cmpfTotal (F := Ideal) (φ := .f32) .gt l.1 r.1) (Host.negf (F := Ideal) (φ := .f32) A)
        (fun i => iotaInDim S8192x8192 32 1 i)).2 i = BitVec.ofNat 32 (sortedFrom (topBefore A R) ⟨t.val, by omega⟩).val := by
    rintro i rfl
    show BitVec.ofNat 32 ((inRow (ix2 R ⟨t.val, by omega⟩) (sortedFrom (n := 8192) (rowBefore (FloatOps.cmpfTotal (F := Ideal) (φ := .f32) .gt)
      (Host.negf (F := Ideal) (φ := .f32) A) (ix2 R ⟨t.val, by omega⟩)) ⟨t.val, by omega⟩)) 1).val = _
    rw [inRow_eq, rowBefore_eq]
    rfl
  refine hj _ ?_
  funext a
  match a with
  | ⟨0, _⟩ => exact Fin.ext (Nat.zero_add _)
  | ⟨1, _⟩ => exact Fin.ext (Nat.zero_add _)

theorem picks_toNat (A : S8192x8192.Idx → EReal) (R : Fin 8192) (t : Fin 16) :
    (picks A (ix2 R t)).toNat = (sortedFrom (topBefore A R) ⟨t.val, by omega⟩).val := by
  rw [picks_eq, BitVec.toNat_ofNat]
  exact Nat.mod_eq_of_lt (by have := (sortedFrom (topBefore A R) ⟨t.val, by omega⟩).isLt; omega)

theorem picks_lt (A : S8192x8192.Idx → EReal) (R : Fin 8192) (t : Fin 16) : (picks A (ix2 R t)).toNat < 8192 := by
  rw [picks_toNat]; exact Fin.isLt _

theorem picks_top (A : S8192x8192.Idx → EReal) (R : Fin 8192) : TopOf (Finset.range 8192) (dist A R) (fun t => (picks A (ix2 R t)).toNat) := by
  have h := sorted_top A R _ (topBefore_iff A R)
  have e : (fun t => (picks A (ix2 R t)).toNat) = fun t : Fin 16 => (sortedFrom (topBefore A R) ⟨t.val, by omega⟩).val := funext fun t => picks_toNat A R t
  rw [e]; exact h

/-! ## The precondition -/

/-- A bitwise `and` over a list that ends at one started at one and met only ones. -/
theorem foldl_andi {ι : Type} (f : ι → BitVec 1) (l : List ι) (r : BitVec 1) (h : l.foldl (fun r i => IntOp.andi r (f i)) r = 1#1) :
    r = 1#1 ∧ ∀ i ∈ l, f i = 1#1 := by
  have two : ∀ a b : BitVec 1, IntOp.andi a b = 1#1 → a = 1#1 ∧ b = 1#1 := by decide
  induction l generalizing r with
  | nil => exact ⟨h, by simp⟩
  | cons i l ih =>
    obtain ⟨h1, h2⟩ := ih _ h
    obtain ⟨h1, h3⟩ := two _ _ h1
    exact ⟨h1, fun j hj => (List.mem_cons.mp hj).elim (fun e => e ▸ h3) (h2 j)⟩

theorem select_same (l c : EReal) : Scalar.select (FloatOps.cmpf (F := Ideal) (φ := .f32) .oeq l c) c l = l := by
  show (if BitVec.ofBool (decide (l = c)) = 1 then c else l) = l
  split
  · rename_i h; exact ((ofBool_one _).mp h).symm
  · rfl

theorem select_number (l c : EReal) : Scalar.select (FloatOps.cmpf (F := Ideal) (φ := .f32) .une l l) c l = l := by
  show (if BitVec.ofBool (decide (l ≠ l)) = 1 then c else l) = l
  rw [if_neg]
  intro h; exact (ofBool_one _).mp h rfl

theorem comparator_iff (l r : EReal) : Pre_seventeen_smallest_increase.comparator_f32_d1 (F := Ideal) l r = 1#1 ↔ l < r := by
  have e : Pre_seventeen_smallest_increase.comparator_f32_d1 (F := Ideal) l r = FloatOps.cmpfTotal (F := Ideal) (φ := .f32) .lt l r := by
    unfold Pre_seventeen_smallest_increase.comparator_f32_d1
    dsimp only
    rw [select_same, select_same, select_number, select_number]
  rw [e]
  exact ofBool_one _

/-- The order the precondition sorts a row by. -/
def preBefore (A : S8192x8192.Idx → EReal) (R k k' : Fin 8192) : Bool :=
  Pre_seventeen_smallest_increase.comparator_f32_d1 (F := Ideal) (A (ix2 R k)) (A (ix2 R k')) == 1#1

theorem preBefore_iff (A : S8192x8192.Idx → EReal) (R k k' : Fin 8192) : preBefore A R k k' = true ↔ A (ix2 R k) < A (ix2 R k') := by
  unfold preBefore
  rw [beq_iff_eq, comparator_iff]

theorem sort_row (A : S8192x8192.Idx → EReal) (R k : Fin 8192) :
    Host.sort S8192x8192 1 (Pre_seventeen_smallest_increase.comparator_f32_d1 (F := Ideal)) A (ix2 R k) = A (ix2 R (sortedFrom (preBefore A R) k)) := by
  show A (inRow (ix2 R k) (sortedFrom (n := 8192) (rowBefore (Pre_seventeen_smallest_increase.comparator_f32_d1 (F := Ideal)) A (ix2 R k)) k)) = _
  rw [inRow_eq, rowBefore_eq]
  rfl

/-- The precondition, read: each of a sorted row's first sixteen distances is below the next. -/
theorem pre_step (A : S8192x8192.Idx → EReal) (B C : S8192x256.Idx → EReal) (D : S8192x3.Idx → EReal)
    (h : Pre_seventeen_smallest_increase.fn (F := Ideal) A B C D = fun _ => 1#1) (R : Fin 8192) (t : ℕ) (ht : t < 16) :
    A (ix2 R (sortedFrom (preBefore A R) ⟨t, by omega⟩)) < A (ix2 R (sortedFrom (preBefore A R) ⟨t + 1, by omega⟩)) := by
  have h := congrFun h (fun a => a.elim0)
  unfold Pre_seventeen_smallest_increase.fn at h
  dsimp only at h
  rw [Host.reduce_eq_foldl] at h
  have h := (foldl_andi _ _ _ h).2 (ix2 R ⟨t, ht⟩ : S8192x16.Idx) (List.mem_filter.mpr
    ⟨List.mem_map.mpr ⟨S8192x16.rowMajor (ix2 R ⟨t, ht⟩), List.mem_finRange _, Equiv.symm_apply_apply _ _⟩, decide_eq_true (funext fun a => a.elim0)⟩)
  have hs := (ofBool_one _).mp (show BitVec.ofBool (decide (_ < _)) = 1#1 from h)
  rw [← sort_row A R, ← sort_row A R]
  have e0 : ∀ i j : S8192x8192.Idx, i = ix2 R ⟨t, by omega⟩ → j = ix2 R ⟨t + 1, by omega⟩ → Host.sort S8192x8192 1 (Pre_seventeen_smallest_increase.comparator_f32_d1 (F := Ideal)) A i
      < Host.sort S8192x8192 1 (Pre_seventeen_smallest_increase.comparator_f32_d1 (F := Ideal)) A j →
      Host.sort S8192x8192 1 (Pre_seventeen_smallest_increase.comparator_f32_d1 (F := Ideal)) A (ix2 R ⟨t, by omega⟩)
      < Host.sort S8192x8192 1 (Pre_seventeen_smallest_increase.comparator_f32_d1 (F := Ideal)) A (ix2 R ⟨t + 1, by omega⟩) := by
    rintro i j rfl rfl h; exact h
  refine e0 _ _ ?_ ?_ hs
  · funext a
    match a with
    | ⟨0, _⟩ => exact Fin.ext (Nat.zero_add _)
    | ⟨1, _⟩ => exact Fin.ext (Nat.zero_add _)
  · funext a
    match a with
    | ⟨0, _⟩ => exact Fin.ext (Nat.zero_add _)
    | ⟨1, _⟩ => exact Fin.ext (Nat.add_comm _ _)

/-- Under the precondition any list that holds a row's least sixteen in order is the reference's. -/
theorem picks_unique (A : S8192x8192.Idx → EReal) (B C : S8192x256.Idx → EReal) (D : S8192x3.Idx → EReal)
    (h : Pre_seventeen_smallest_increase.fn (F := Ideal) A B C D = fun _ => 1#1) (R : Fin 8192) (c : Fin 16 → ℕ)
    (hc : TopOf (Finset.range 8192) (dist A R) c) : c = fun t => (picks A (ix2 R t)).toNat := by
  have hb := sorted_top A R _ (preBefore_iff A R)
  have hst := pre_step A B C D h R
  have hmono : ∀ i j : Fin 8192, i ≤ j → A (ix2 R (sortedFrom (preBefore A R) i)) ≤ A (ix2 R (sortedFrom (preBefore A R) j)) := fun i j hij => by
    rcases eq_or_lt_of_le hij with rfl | hij
    · exact le_rfl
    · exact sorted_mono A R _ (preBefore_iff A R) i j hij
  have hs : ∀ s t : Fin 16, s < t → dist A R (sortedFrom (preBefore A R) ⟨s.val, by omega⟩).val < dist A R (sortedFrom (preBefore A R) ⟨t.val, by omega⟩).val := by
    intro s t hst'
    rw [dist_val, dist_val]
    exact (hst s.val s.isLt).trans_le (hmono _ _ (Fin.le_def.mpr (Nat.succ_le_of_lt hst')))
  have hr : ∀ j ∈ Finset.range 8192, (∃ t : Fin 16, (sortedFrom (preBefore A R) ⟨t.val, by omega⟩).val = j) ∨ dist A R (sortedFrom (preBefore A R) ⟨(15 : Fin 16).val, by decide⟩).val < dist A R j := by
    intro j hj
    obtain ⟨k, hk⟩ := sortedFrom_surjective (preBefore A R) ⟨j, Finset.mem_range.mp hj⟩
    by_cases h16 : k.val < 16
    · exact .inl ⟨⟨k.val, h16⟩, by show (sortedFrom (preBefore A R) k).val = j; rw [hk]⟩
    · refine .inr ?_
      have e : j = (sortedFrom (preBefore A R) k).val := by rw [hk]
      rw [e, dist_val, dist_val]
      exact (hst 15 (by decide)).trans_le (hmono _ _ (Fin.le_def.mpr (Nat.not_lt.mp h16)))
  exact (hc.unique hb hs hr).trans ((picks_top A R).unique hb hs hr).symm

end Cert.Proof.Nearest
-- ==== Proof.Rank.lean ====
/- The rank sort puts sixteen lanes in the order of their keys. -/
module

public import proofs.«01_k».proof.Proof.Spec
public import proofs.«01_k».proof.Proof.Order
public import Idealize.ShloMosaic.PureOps.Ideal.Laws

@[expose] public section

noncomputable section

namespace Cert.Proof.Knn

open Cert.KernelIdeal Cert.KernelIdeal.Gen
open Idealize.ShloMosaic

theorem lane1_eq (x : S16.Idx) : lane1 (x 0) = x := by
  funext a; obtain rfl := Fin.eq_zero a; rfl

/-- A one-bit word made of a comparison is one exactly where it holds. -/
theorem ofBool_one (p : Prop) [Decidable p] : BitVec.ofBool (decide p) = 1#1 ↔ p := by
  by_cases h : p <;> simp [h]

theorem or_one (a b : BitVec 1) : a ||| b = 1#1 ↔ a = 1#1 ∨ b = 1#1 := by
  revert a b; decide
theorem and_one (a b : BitVec 1) : a &&& b = 1#1 ↔ a = 1#1 ∧ b = 1#1 := by
  revert a b; decide

theorem slt_small (a b : BitVec 32) (ha : a.toNat < 65536) (hb : b.toNat < 65536) : (IntOp.cmpi .slt a b = 1#1) ↔ a.toNat < b.toNat := by
  show BitVec.ofBool (a.slt b) = 1#1 ↔ _
  have : a.slt b = decide (a.toNat < b.toNat) := by
    rw [BitVec.slt_eq_decide, BitVec.toInt_eq_toNat_of_lt (by omega), BitVec.toInt_eq_toNat_of_lt (by omega)]
    simp
  rw [this, ofBool_one]

/-! ## The ranks -/

/-- Position `j` goes before position `x`: by key, then by position. -/
def Bef (k : ℕ → EReal) (j x : ℕ) : Prop := k j < k x ∨ (k j = k x ∧ j < x)
instance (k : ℕ → EReal) (j x : ℕ) : Decidable (Bef k j x) := Classical.propDecidable _

/-- A vector's keys by number. -/
def byNat (k : Vec Ideal S16 .f32) (n : ℕ) : EReal := k (lane1 (Fin.ofNat 16 n))
theorem byNat_fin (k : Vec Ideal S16 .f32) (t : Fin 16) : byNat k t.val = k (lane1 t) := by
  unfold byNat; congr 2; exact Fin.ext (Nat.mod_eq_of_lt t.isLt)

theorem rot_toNat (n : ℕ) (hn : n < 15) (x : Fin 16) : (rot n (lane1 x)).toNat = (x.val + n + 1) % 16 := by
  have hx := x.isLt
  show ((lanes (lane1 x) + (BitVec.ofNat 32 0 + BitVec.ofNat 32 n * BitVec.ofNat 32 1 + 1#32)) &&& 15#32).toNat = _
  rw [BitVec.toNat_and, BitVec.toNat_add, lanes_toNat]
  have h3 : ∀ a : ℕ, a &&& (15#32).toNat = a % 16 := fun a => Nat.and_two_pow_sub_one_eq_mod a 4
  rw [h3, BitVec.toNat_add, BitVec.toNat_add, BitVec.toNat_mul]
  simp only [BitVec.toNat_ofNat]
  show (x.val + _) % _ % _ = _
  omega

/-- Where a compared lane goes before the lane it is compared with. -/
def befM (k kj : FVec Ideal S16 .f32) (j : IVec S16 32) : IVec S16 1 := ori (cmpf .olt kj k) (andi (cmpf .oeq kj k) (cmpi .slt j lanes))

theorem rankStep_toNat (k : Vec Ideal S16 .f32) (acc : IVec S16 32) (n : ℕ) (hn : n < 15) (x : Fin 16) (ha : (acc (lane1 x)).toNat < 1000) :
    (rankStep k acc (rot n) (loadIdx k ![rot n] (rot_inb n)) (lane1 x)).toNat
      = (acc (lane1 x)).toNat + if Bef (byNat k) ((x.val + n + 1) % 16) x.val then 1 else 0 := by
  have hr := rot_toNat n hn x
  have hload : loadIdx k ![rot n] (rot_inb n) (lane1 x) = byNat k ((x.val + n + 1) % 16) := by
    show k _ = k _
    congr 1
    funext a; obtain rfl := Fin.eq_zero a
    refine Fin.ext ?_
    show (rot n (lane1 x)).toNat = (x.val + n + 1) % 16 % 16
    omega
  have hc : (befM k (loadIdx k ![rot n] (rot_inb n)) (rot n) (lane1 x) = 1#1)
      ↔ Bef (byNat k) ((x.val + n + 1) % 16) x.val := by
    have hl : (lanes (lane1 x)).toNat = x.val := lanes_toNat _
    show (BitVec.ofBool (decide (loadIdx k ![rot n] (rot_inb n) (lane1 x) < k (lane1 x)))
      ||| (BitVec.ofBool (decide (loadIdx k ![rot n] (rot_inb n) (lane1 x) = k (lane1 x))) &&& IntOp.cmpi .slt (rot n (lane1 x)) (lanes (lane1 x)))) = 1#1 ↔ _
    rw [or_one, and_one, ofBool_one, ofBool_one, slt_small _ _ (by omega) (by omega), hload, hr, hl, ← byNat_fin k x]
    rfl
  show (acc (lane1 x) + (if befM k (loadIdx k ![rot n] (rot_inb n)) (rot n) (lane1 x) = 1#1
    then 1#32 else 0#32)).toNat = _
  simp only [hc]
  rw [BitVec.toNat_add]
  split
  · simp; omega
  · simp; omega

theorem rankAt_sum (k : Vec Ideal S16 .f32) (n : ℕ) (hn : n ≤ 15) (x : Fin 16) :
    (rankAt k n (lane1 x)).toNat = ∑ s ∈ Finset.range n, if Bef (byNat k) ((x.val + s + 1) % 16) x.val then 1 else 0 := by
  induction n with
  | zero => rfl
  | succ n ih =>
    have hle := rankAt_le k n (by omega) (lane1 x)
    rw [Finset.sum_range_succ, ← ih (by omega)]
    exact rankStep_toNat k _ n (by omega) x (by omega)

/-- Going fifteen steps round from a position meets every other one. -/
theorem sum_round (f : ℕ → ℕ) (x : Fin 16) : (∑ s ∈ Finset.range 15, f ((x.val + s + 1) % 16)) + f x.val = ∑ j ∈ Finset.range 16, f j := by
  have h : ∀ x : Fin 16, Finset.image (fun s => (x.val + s) % 16) (Finset.range 16) = Finset.range 16 := by decide
  have hi : ∀ x : Fin 16, Set.InjOn (fun s => (x.val + s) % 16) (Finset.range 16 : Finset ℕ) := by
    intro x a ha b hb e
    have ha := Finset.mem_range.mp (Finset.mem_coe.mp ha)
    have hb := Finset.mem_range.mp (Finset.mem_coe.mp hb)
    have e : (x.val + a) % 16 = (x.val + b) % 16 := e
    omega
  conv_rhs => rw [← h x, Finset.sum_image (hi x), Finset.sum_range_succ']
  congr 1
  rw [Nat.add_zero, Nat.mod_eq_of_lt x.isLt]

/-- A lane's rank: how many positions go before it. -/
theorem rank_card (k : Vec Ideal S16 .f32) (x : Fin 16) :
    (rankAt k 15 (lane1 x)).toNat = ((Finset.range 16).filter fun j => Bef (byNat k) j x.val).card := by
  have hx : ¬ Bef (byNat k) x.val x.val := by rintro (h | ⟨-, h⟩); exacts [lt_irrefl _ h, lt_irrefl _ h]
  have h := sum_round (fun j => if Bef (byNat k) j x.val then 1 else 0) x
  simp only [if_neg hx, Nat.add_zero] at h
  rw [rankAt_sum k 15 (le_refl _) x, Finset.card_filter, h]

theorem rank_lt (k : Vec Ideal S16 .f32) (x y : Fin 16) (h : Bef (byNat k) x.val y.val) :
    (rankAt k 15 (lane1 x)).toNat < (rankAt k 15 (lane1 y)).toNat := by
  rw [rank_card, rank_card]
  refine Finset.card_lt_card (Finset.ssubset_iff_of_subset (fun j hj => ?_) |>.mpr ⟨x.val, ?_, ?_⟩)
  · obtain ⟨h1, h2⟩ := Finset.mem_filter.mp hj
    refine Finset.mem_filter.mpr ⟨h1, ?_⟩
    rcases h2 with h2 | ⟨h2, h2'⟩ <;> rcases h with h | ⟨h, h'⟩
    · exact .inl (h2.trans h)
    · exact .inl (h ▸ h2)
    · exact .inl (h2 ▸ h)
    · exact .inr ⟨h2.trans h, h2'.trans h'⟩
  · exact Finset.mem_filter.mpr ⟨Finset.mem_range.mpr x.isLt, h⟩
  · intro hx
    rcases (Finset.mem_filter.mp hx).2 with h | ⟨-, h⟩
    exacts [lt_irrefl _ h, lt_irrefl _ h]

/-- The rank, as a place among the sixteen. -/
def rankF (k : Vec Ideal S16 .f32) (x : Fin 16) : Fin 16 := ⟨(rankAt k 15 (lane1 x)).toNat, rank_inb k 0 (lane1 x)⟩

theorem rankF_inj (k : Vec Ideal S16 .f32) : Function.Injective (rankF k) := by
  intro x y e
  have e' := congrArg (fun t : Fin 16 => t.val) e
  have e : (rankAt k 15 (lane1 x)).toNat = (rankAt k 15 (lane1 y)).toNat := e'
  by_contra hne
  have hv : x.val ≠ y.val := fun h => hne (Fin.ext h)
  rcases lt_trichotomy (byNat k x.val) (byNat k y.val) with h | h | h
  · exact absurd e (rank_lt k x y (.inl h)).ne
  · rcases Nat.lt_or_gt_of_ne hv with h' | h'
    · exact absurd e (rank_lt k x y (.inr ⟨h, h'⟩)).ne
    · exact absurd e (rank_lt k y x (.inr ⟨h.symm, h'⟩)).ne'
  · exact absurd e (rank_lt k y x (.inl h)).ne'

/-! ## The scatter -/

/-- A scatter to distinct places leaves each value at its place. -/
theorem storeIdx_at {e : EltTy} (f : Vec Ideal S16 e) (ix : IVec S16 32) (v : Vec Ideal S16 e)
    (h : ∀ a x, ((![ix] : Fin 1 → IVec S16 32) a x).toNat < S16.size a)
    (hi : ∀ s t : Fin 16, (ix (lane1 s)).toNat = (ix (lane1 t)).toNat → s = t) (x : Fin 16) :
    storeIdx f ![ix] v (fun _ => 1#1) false h (idxAt ![ix] h (lane1 x)) = v (lane1 x) := by
  unfold storeIdx
  have key : ∀ (l : List (Fin 16)) (g : Vec Ideal S16 e), (x ∈ l ∨ g (idxAt ![ix] h (lane1 x)) = v (lane1 x)) →
      l.foldl (fun g k => fun j => if (∀ a, (j a).val = (idxAt (s := S16) ![ix] h (lane1 k) a).val) then v (lane1 k) else g j) g (idxAt ![ix] h (lane1 x))
        = v (lane1 x) := by
    intro l
    induction l with
    | nil => intro g hg; exact hg.resolve_left (by simp)
    | cons y l ih =>
      intro g hg
      rw [List.foldl_cons]
      refine ih _ ?_
      by_cases hxy : x = y
      · subst hxy
        exact .inr (if_pos fun _ => rfl)
      · rcases hg with hg | hg
        · exact .inl ((List.mem_cons.mp hg).resolve_left hxy)
        · refine .inr ?_
          show (if _ then _ else _) = _
          rw [if_neg]
          · exact hg
          · intro hall
            exact hxy (hi x y (hall 0))
  simp only [if_pos (show (1#1 : BitVec 1) = 1 from rfl), if_neg (show ¬ (false = true) from Bool.false_ne_true)]
  exact key _ f (.inl (List.mem_finRange _))

/-- The sort is one permutation of keys and payloads, and leaves the keys in order. -/
theorem sort_perm (k : Vec Ideal S16 .f32) : ∃ π : Fin 16 ≃ Fin 16, (∀ t, sortK k (lane1 t) = k (lane1 (π t)))
    ∧ (∀ (v : Vec Ideal S16 .i32) t, sortV k v (lane1 t) = v (lane1 (π t))) ∧ ∀ s t, s ≤ t → k (lane1 (π s)) ≤ k (lane1 (π t)) := by
  let ρ : Fin 16 ≃ Fin 16 := Equiv.ofBijective (rankF k) ⟨rankF_inj k, fun t => onto16 (rankF_inj k) t⟩
  have hρ : ∀ x, idxAt (s := S16) ![rankAt k 15] (rank_inb k) (lane1 x) = lane1 (ρ x) := fun x => by
    funext a; obtain rfl := Fin.eq_zero a; rfl
  have hi : ∀ s t : Fin 16, (rankAt k 15 (lane1 s)).toNat = (rankAt k 15 (lane1 t)).toNat → s = t := fun s t e => rankF_inj k (Fin.ext e)
  refine ⟨ρ.symm, fun t => ?_, fun v t => ?_, fun s t h => ?_⟩
  · obtain ⟨x, rfl⟩ := ρ.surjective t
    rw [ρ.symm_apply_apply, ← hρ]
    exact storeIdx_at k _ k _ hi x
  · obtain ⟨x, rfl⟩ := ρ.surjective t
    rw [ρ.symm_apply_apply, ← hρ]
    exact storeIdx_at v _ v _ hi x
  · by_contra hlt
    have hlt := not_le.mp hlt
    have := rank_lt k (ρ.symm t) (ρ.symm s) (.inl (by rw [byNat_fin, byNat_fin]; exact hlt))
    have e : ∀ u, (rankAt k 15 (lane1 (ρ.symm u))).toNat = u.val := fun u => congrArg Fin.val (ρ.apply_symm_apply u)
    rw [e, e] at this
    exact absurd h (not_le.mpr this)

/-! ## Lists that hold the least sixteen -/

/-- A list of keys and payloads holds the least sixteen values of `S`: its payloads are their positions. -/
structure Holds (S : Finset ℕ) (v : ℕ → EReal) (p : KV Ideal) : Prop where
  key : ∀ t, p.1 (lane1 t) = v (p.2 (lane1 t) : BitVec 32).toNat
  top : TopOf S v (fun t => (p.2 (lane1 t) : BitVec 32).toNat)

/-- Sorting a list with the best positions puts them in order. -/
theorem Holds.sort {S : Finset ℕ} {v : ℕ → EReal} {p : KV Ideal} (hk : ∀ t, p.1 (lane1 t) = v (p.2 (lane1 t) : BitVec 32).toNat)
    (hb : Best S v (fun t => (p.2 (lane1 t) : BitVec 32).toNat)) : Holds S v (sortP p) := by
  obtain ⟨π, h1, h2, h3⟩ := sort_perm p.1
  have e2 : ∀ t, (sortP p).2 (lane1 t) = p.2 (lane1 (π t)) := fun t => h2 p.2 t
  have e1 : ∀ t, (sortP p).1 (lane1 t) = p.1 (lane1 (π t)) := fun t => h1 t
  have hf : (fun t => ((sortP p).2 (lane1 t) : BitVec 32).toNat) = fun t => (p.2 (lane1 (π t)) : BitVec 32).toNat := by
    funext t; rw [e2]
  refine ⟨fun t => by rw [e1, e2, hk], ?_⟩
  rw [hf]
  exact ⟨hb.perm π, fun s t h => by rw [← hk, ← hk]; exact h3 s t h⟩

theorem rev_at {e : EltTy} (k : Vec Ideal S16 e) (t : Fin 16) : rev k (lane1 t) = k (lane1 t.rev) := by
  have h : ∀ t : Fin 16, (revIx (lane1 t)).toNat = t.rev.val := by decide
  show k _ = k _
  congr 1
  funext a; obtain rfl := Fin.eq_zero a
  exact Fin.ext (h t)

/-- Merging keeps the least sixteen of both. -/
theorem Holds.merge {S S' : Finset ℕ} {v : ℕ → EReal} {p q : KV Ideal} (hp : Holds S v p) (hq : Holds S' v q) (hd : Disjoint S S') :
    Holds (S ∪ S') v (mergeP p q) := by
  let M : Fin 16 → Prop := fun t => loM p.1 p.2 (rev q.1) (rev q.2) (lane1 t) = 1#1
  have hM : ∀ t, M t ↔ (p.1 (lane1 t) < q.1 (lane1 t.rev) ∨ (p.1 (lane1 t) = q.1 (lane1 t.rev) ∧ IntOp.cmpi .sle (p.2 (lane1 t) : BitVec 32) (rev q.2 (lane1 t)) = 1#1)) := by
    intro t
    show (BitVec.ofBool (decide (p.1 (lane1 t) < rev q.1 (lane1 t))) ||| (BitVec.ofBool (decide (p.1 (lane1 t) = rev q.1 (lane1 t))) &&& _)) = 1#1 ↔ _
    rw [or_one, and_one, ofBool_one, ofBool_one, rev_at]
    rfl
  have hb := TopOf.merge hp.top hq.top hd M
    (fun t h => by
      rw [← hp.key, ← hq.key]
      rcases (hM t).mp h with h | h
      exacts [h.le, h.1.le])
    (fun t h => by
      rw [← hp.key, ← hq.key]
      exact not_lt.mp fun hlt => h ((hM t).mpr (.inl hlt)))
  have hI : ∀ t, (loI p.1 p.2 (rev q.1) (rev q.2) (lane1 t) : BitVec 32).toNat = if M t then (p.2 (lane1 t) : BitVec 32).toNat else (q.2 (lane1 t.rev) : BitVec 32).toNat := by
    intro t
    show (if M t then p.2 (lane1 t) else rev q.2 (lane1 t) : BitVec 32).toNat = _
    rw [rev_at]; split <;> rfl
  have hK : ∀ t, loK p.1 p.2 (rev q.1) (rev q.2) (lane1 t) = if M t then p.1 (lane1 t) else q.1 (lane1 t.rev) := by
    intro t
    show (if M t then p.1 (lane1 t) else rev q.1 (lane1 t)) = _
    rw [rev_at]
  refine Holds.sort (fun t => ?_) ?_
  · show loK p.1 p.2 (rev q.1) (rev q.2) (lane1 t) = v (loI p.1 p.2 (rev q.1) (rev q.2) (lane1 t) : BitVec 32).toNat
    rw [hI, hK]; split
    exacts [hp.key t, hq.key _]
  · show Best (S ∪ S') v (fun t => (loI p.1 p.2 (rev q.1) (rev q.2) (lane1 t) : BitVec 32).toNat)
    simp only [hI]
    exact hb

/-- Sixteen consecutive positions, sorted. -/
theorem Holds.chunk {v : ℕ → EReal} {k : Vec Ideal S16 .f32} {ix : Vec Ideal S16 .i32} (n : ℕ) (hix : ∀ t : Fin 16, (ix (lane1 t) : BitVec 32).toNat = n + t.val)
    (hk : ∀ t : Fin 16, k (lane1 t) = v (n + t.val)) : Holds (Finset.Ico n (n + 16)) v (sortP (k, ix)) := by
  refine Holds.sort (fun t => by show k (lane1 t) = _; rw [hix, hk]) ⟨fun t => ?_, fun s t e => ?_, fun j hj => ?_⟩
  · rw [hix]; exact Finset.mem_Ico.mpr ⟨by omega, by omega⟩
  · dsimp only at e
    rw [hix, hix] at e
    exact Fin.ext (by omega)
  · have := Finset.mem_Ico.mp hj
    exact .inl ⟨⟨j - n, by omega⟩, by show (ix (lane1 _) : BitVec 32).toNat = j; rw [hix]; show n + (j - n) = j; omega⟩

end Cert.Proof.Knn
-- ==== Proof.Least.lean ====
/- What a row's two stages select: the least sixteen group minima, and the least sixteen distances of those groups. -/
module

public import proofs.«01_k».proof.Proof.Rank
public import Idealize.ShloMosaic.Lib.Pipeline.Value

@[expose] public section

noncomputable section

namespace Cert.Proof.Knn

open Cert.KernelIdeal Cert.KernelIdeal.Gen
open Idealize.ShloMosaic

/-- Two adjoining stretches merged. -/
theorem Holds.join {v : ℕ → EReal} {p q : KV Ideal} {a b c : ℕ} (hab : a ≤ b) (hbc : b ≤ c) (hp : Holds (Finset.Ico a b) v p) (hq : Holds (Finset.Ico b c) v q) :
    Holds (Finset.Ico a c) v (mergeP p q) := by
  have h := hp.merge hq (Finset.disjoint_left.mpr fun x h1 h2 => by
    have := Finset.mem_Ico.mp h1; have := Finset.mem_Ico.mp h2; omega)
  rwa [Finset.Ico_union_Ico_eq_Ico hab hbc] at h

/-! ## The groups -/

theorem grpChunk_holds (T : S32768.Idx → Elt Ideal .f32) (r c : ℕ) (hc : c < 8) :
    Holds (Finset.Ico (16 * c) (16 * c + 16)) (fun n => T (gm1 (r * 128 + n))) (grpChunk T r c) := by
  refine Holds.chunk (16 * c) (fun t => ?_) (fun t => ?_)
  · exact pos_toNat _ (by omega) _
  · show T (gm1 (r * 128 + 16 * c + t.val)) = T (gm1 (r * 128 + (16 * c + t.val)))
    rw [Nat.add_assoc]

/-- The first stage holds the least sixteen of a row's 128 group minima. -/
theorem groups_holds (T : S32768.Idx → Elt Ideal .f32) (r : ℕ) : Holds (Finset.Ico 0 128) (fun n => T (gm1 (r * 128 + n))) (groups T r) := by
  have h := fun c hc => grpChunk_holds T r c hc
  have h4 : ∀ c, (hc : c + 3 < 8) → Holds (Finset.Ico (16 * c) (16 * c + 64)) (fun n => T (gm1 (r * 128 + n)))
      (mergeP (mergeP (grpChunk T r c) (grpChunk T r (c + 1))) (mergeP (grpChunk T r (c + 2)) (grpChunk T r (c + 3)))) := fun c hc =>
    ((h c (by omega)).join (by omega) (by omega) (h (c + 1) (by omega))).join (by omega) (by omega)
      ((h (c + 2) (by omega)).join (by omega) (by omega) (h (c + 3) (by omega)))
  exact (h4 0 (by decide)).join (by decide) (by decide) (h4 4 (by decide))

/-! ## The slab -/

/-- A slab's distance at a position: sixty-four of each group. -/
def slabAt (Z : S16x128.Idx → Elt Ideal .f32) (p : ℕ) : EReal :=
  Z fun | 0 => ⟨p / 64 % 16, Nat.mod_lt _ (by decide)⟩ | 1 => ⟨p % 64, by show p % 64 < 128; omega⟩

theorem slabChunk_at (Z : S16x128.Idx → Elt Ideal .f32) (n : ℕ) (hn : n < 64) (o : Fin 2 → ℕ) (ho : o = ![n / 4, n % 4 * 16])
    (h : ∀ a, o a + S1x16.size a ≤ S16x128.size a) (t : Fin 16) :
    shapeCast S16 (slabChunk Z o h) shapeCasts_S1x16_S16 (lane1 t) = slabAt Z (16 * n + t.val) := by
  subst ho
  have ht := t.isLt
  rw [shapeCast_dropUnit_apply]
  show Z _ = Z _
  congr 1
  funext a
  match a with
  | 0 => exact Fin.ext (by show n / 4 + 1 * 0 = (16 * n + t.val) / 64 % 16; omega)
  | 1 => exact Fin.ext (by show n % 4 * 16 + 1 * t.val = (16 * n + t.val) % 64; omega)

theorem lastK_eq (k : Vec Ideal S16 .f32) : lastK k = k (lane1 15) := by
  show k _ = k _
  congr 1
  funext a; obtain rfl := Fin.eq_zero a; rfl

/-- A running maximum over two words meets the greater where any of them is it. -/
theorem scan_two (A B : BitVec 32) (hAA : IntOp.maxui A A = A) (hAB : IntOp.maxui A B = B) (hBA : IntOp.maxui B A = B) (hBB : IntOp.maxui B B = B)
    {ι : Type} (f : ι → BitVec 32) (hf : ∀ i, f i = A ∨ f i = B) (l : List ι) (r : BitVec 32) (hr : r = A ∨ r = B) (h : r = B ∨ ∃ i ∈ l, f i = B) :
    l.foldl (fun r i => ScanKind.step .max r (f i)) r = B := by
  induction l generalizing r with
  | nil => exact h.resolve_right (by simp)
  | cons i l ih =>
    rw [List.foldl_cons]
    have e : ScanKind.step .max r (f i) = IntOp.maxui r (f i) := rfl
    rw [e]
    rcases hf i with hi | hi
    · rw [hi]
      rcases hr with rfl | rfl
      · rw [hAA]
        refine ih _ (.inl rfl) ?_
        rcases h with h | ⟨j, hj, hjB⟩
        · exact .inl h
        · rcases List.mem_cons.mp hj with rfl | hj
          · exact .inl (hi.symm.trans hjB)
          · exact .inr ⟨j, hj, hjB⟩
      · rw [hBA]; exact ih _ (.inr rfl) (.inl rfl)
    · have : IntOp.maxui r (f i) = B := by
        rw [hi]; rcases hr with rfl | rfl
        exacts [hAB, hBB]
      rw [this]; exact ih _ (.inr rfl) (.inl rfl)

/-- A chunk with a value below `c` is not passed over. -/
theorem cond_of_lt (c : Ideal .f32) (w : Vec Ideal S1x16 .f32) (t : Fin 16) (h : shapeCast S16 w shapeCasts_S1x16_S16 (lane1 t) < c) :
    k0_cond2 (extractAt ![15] (k0_pay211 (F := Ideal) c w) inpos_S16_p15) = 1#1 := by
  let f : Fin 16 → BitVec 32 := fun i => (if BitVec.ofBool (decide (shapeCast S16 w shapeCasts_S1x16_S16 (lane1 i) < c)) = 1#1 then 1#32 else 0#32) ^^^ 2147483648#32
  have hf : ∀ i, f i = 2147483648#32 ∨ f i = 2147483649#32 := by
    intro i
    show ((if _ then 1#32 else 0#32) ^^^ 2147483648#32 : BitVec 32) = _ ∨ ((if _ then 1#32 else 0#32) ^^^ 2147483648#32 : BitVec 32) = _
    split
    · exact .inr rfl
    · exact .inl rfl
  have ht : f t = 2147483649#32 := by
    show ((if _ then 1#32 else 0#32) ^^^ 2147483648#32 : BitVec 32) = _
    rw [if_pos ((ofBool_one _).mpr h)]
    rfl
  have hs := scan_two 2147483648#32 2147483649#32 (by decide) (by decide) (by decide) (by decide) f hf
    ((List.finRange 16).filter fun k => decide (0 < k.val ∧ k.val ≤ 15)) (f 0) (hf 0) (by
      by_cases h0 : t = 0
      · subst h0; exact .inl ht
      · exact .inr ⟨t, List.mem_filter.mpr ⟨List.mem_finRange t, decide_eq_true ⟨Nat.pos_of_ne_zero fun e => h0 (Fin.ext e), by omega⟩⟩, ht⟩)
  have he : extractAt ![15] (k0_pay211 (F := Ideal) c w) inpos_S16_p15 = 1#32 := by
    show ((List.finRange 16).filter fun k => decide (0 < k.val ∧ k.val ≤ 15)).foldl (fun r i => ScanKind.step .max r (f i)) (f 0) ^^^ 2147483648#32 = 1#32
    rw [hs]; rfl
  rw [he]; rfl

theorem selAt_holds (Z : S16x128.Idx → Elt Ideal .f32) (n : ℕ) (hn : n < 64) : Holds (Finset.Ico 0 (16 * n + 16)) (slabAt Z) (selAt Z n) := by
  induction n with
  | zero =>
    refine Holds.chunk 0 (fun t => ?_) (fun t => ?_)
    · rw [lanes_toNat, Nat.zero_add]; rfl
    · exact slabChunk_at Z 0 (by decide) _ rfl _ t
  | succ n ih =>
    have ih := ih (by omega)
    have hc : Holds (Finset.Ico (16 * n + 16) (16 * (n + 1) + 16)) (slabAt Z) (sortP (shapeCast S16 (slabChunk Z ![(n + 1) / 4, (n + 1) % 4 * 16] (chunk_inb (n + 1) hn)) shapeCasts_S1x16_S16,
        pos (BitVec.ofNat 32 ((n + 1) * 16)))) :=
      Holds.chunk (16 * (n + 1)) (fun t => by rw [pos_toNat _ (by omega), Nat.mul_comm]; rfl) (fun t => slabChunk_at Z (n + 1) hn _ rfl _ t)
    unfold selAt
    rw [dif_pos hn]
    unfold selStep
    split
    · exact ih.join (by omega) (by omega) hc
    · rename_i hcond
      refine ⟨ih.key, ?_⟩
      rw [← Finset.Ico_union_Ico_eq_Ico (show 0 ≤ 16 * n + 16 by omega) (show 16 * n + 16 ≤ 16 * (n + 1) + 16 by omega)]
      refine ih.top.skip fun j hj => ?_
      have hj := Finset.mem_Ico.mp hj
      have hnl := fun t => mt (cond_of_lt (lastK (selAt Z n).1) (slabChunk Z ![(n + 1) / 4, (n + 1) % 4 * 16] (chunk_inb (n + 1) hn)) t) hcond
      have h := not_lt.mp (hnl ⟨j - 16 * (n + 1), by omega⟩)
      rw [slabChunk_at Z (n + 1) hn _ rfl, lastK_eq, ih.key] at h
      have e : 16 * (n + 1) + (j - 16 * (n + 1)) = j := by omega
      rwa [show 16 * (n + 1) + (⟨j - 16 * (n + 1), by omega⟩ : Fin 16).val = j from e] at h

/-! ## The candidates -/

theorem gm_top (T : S32768.Idx → Elt Ideal .f32) (r : ℕ) :
    TopOf (Finset.range 128) (fun n => T (gm1 (r * 128 + n))) (fun t => (giV T r (lane1 t) : BitVec 32).toNat) := by
  rw [Finset.range_eq_Ico]; exact (groups_holds T r).top

theorem slab_top (Z : S16x128.Idx → Elt Ideal .f32) : TopOf (Finset.range 1024) (slabAt Z) (fun t => (ciV Z (lane1 t) : BitVec 32).toNat) := by
  rw [Finset.range_eq_Ico]; exact (selAt_holds Z 63 (by decide)).top

/-- A slab's distance is its group's, at the row's number in the distance table. -/
theorem slabAt_eq (L : grid0.Coords) (T : S32768.Idx → Elt Ideal .f32) (D2 : S1048576x128.Idx → Elt Ideal .f32) (r : ℕ) (hr : r < 256) (p : ℕ) :
    slabAt (slabR L T D2 r) p = D2 fun
      | 0 => ⟨((baseN L + r) * 128 + (giV T r (lane1 (Fin.ofNat 16 (p / 64))) : BitVec 32).toNat) % 1048576, Nat.mod_lt _ (by decide)⟩
      | 1 => ⟨p % 64, by show p % 64 < 128; omega⟩ := by
  show D2 _ = D2 _
  congr 1
  funext a
  match a with
  | 0 =>
    refine Fin.ext ?_
    show (gidxV L T r (lane1 ⟨p / 64 % 16, _⟩) : BitVec 32).toNat % 1048576 = _
    rw [gidxV_toNat L T r hr]
    rfl
  | 1 => exact Fin.ext rfl

/-- A row's candidates are its least sixteen distances, in order, when its distances and group minima are what the tables hold. -/
theorem cand_top (L : grid0.Coords) (T : S32768.Idx → Elt Ideal .f32) (D2 : S1048576x128.Idx → Elt Ideal .f32) (r : ℕ) (hr : r < 256) (v : ℕ → EReal)
    (hd : ∀ n l, (hn : n < 128) → (hl : l < 64) → D2 (fun
      | 0 => ⟨((baseN L + r) * 128 + n) % 1048576, Nat.mod_lt _ (by decide)⟩
      | 1 => ⟨l, by show l < 128; omega⟩) = v (n * 64 + l))
    (hle : ∀ n l, n < 128 → l < 64 → T (gm1 (r * 128 + n)) ≤ v (n * 64 + l)) (hex : ∀ n, n < 128 → ∃ l, l < 64 ∧ v (n * 64 + l) = T (gm1 (r * 128 + n))) :
    TopOf (Finset.range 8192) v (fun t => (candR L T D2 r (lane1 t) : BitVec 32).toNat) := by
  have hg := gm_top T r
  have hs := slab_top (slabR L T D2 r)
  have hv : slabAt (slabR L T D2 r) = fun p => v ((giV T r (lane1 (Fin.ofNat 16 (p / 64))) : BitVec 32).toNat * 64 + p % 64) := by
    funext p
    rw [slabAt_eq L T D2 r hr p]
    exact hd _ _ (giV_below T r _) (by omega)
  rw [hv] at hs
  have hc := selAt_below (slabR L T D2 r) 63
  have h := TopOf.groups (k := fun t => ⟨(ciV (slabR L T D2 r) (lane1 t) : BitVec 32).toNat / 64, by have : (ciV (slabR L T D2 r) (lane1 t) : BitVec 32).toNat < 1024 := hc (lane1 t); omega⟩)
    hle hex hg hs (fun t => rfl)
  have e : (fun t => (candR L T D2 r (lane1 t) : BitVec 32).toNat) = fun t => (giV T r (lane1 ⟨(ciV (slabR L T D2 r) (lane1 t) : BitVec 32).toNat / 64, by
      have : (ciV (slabR L T D2 r) (lane1 t) : BitVec 32).toNat < 1024 := hc (lane1 t); omega⟩) : BitVec 32).toNat * 64 + (ciV (slabR L T D2 r) (lane1 t) : BitVec 32).toNat % 64 := by
    funext t
    refine (candV_toNat _ _ (giV_below T r) hc (lane1 t)).trans ?_
    congr 2
    show (giV T r _ : BitVec 32).toNat = _
    congr 2
    funext a; obtain rfl := Fin.eq_zero a
    exact Fin.ext (shr6_toNat _ (hc (lane1 t)))
  rw [e]
  exact h

end Cert.Proof.Knn
-- ==== Proof.Values.lean ====
/- The tables the call reads, at an index, and so the indices it finds: for each row of distances, its least sixteen. -/
module

public import proofs.«01_k».proof.Proof.Nearest
public import proofs.«01_k».proof.Proof.Least
public import proofs.«01_k».proof.Proof.Run
public import Idealize.ShloMosaic.Lib.Pointwise.Reduce
public import Idealize.ShloMosaic.Lib.KernelVsHost

@[expose] public section

noncomputable section

namespace Cert.Proof.Nearest

open Cert.KernelIdeal Cert.KernelIdeal.Gen
open Idealize.ShloMosaic
open Cert.Proof.Knn (XH VH hostLine candG res0 resRows3 resRows2 lane1 TopOf gm1 baseN Tabs insOf atP)

/-! ## The tables, by the arguments -/

/-- The group minima. -/
abbrev minima (A : S8192x8192.Idx → EReal) : S1048576.Idx → EReal :=
  shapeCast S1048576 (Host.reduce (FloatOps.minimumf (F := Ideal) (φ := .f32)) (shapeCast S8192x128x64 A shapeCasts_S8192x8192_S8192x128x64)
    (constant (F := Ideal) S_ .f32 0x7F800000#32) reducesTo_S8192x128x64_S8192x128_d2 h_S_) shapeCasts_S8192x128_S1048576
/-- The distances, a group to a row, widened. -/
abbrev wide (A : S8192x8192.Idx → EReal) : S1048576x128.Idx → EReal :=
  pad S1048576x128 ![0, 0] ![0, 64] ![0, 0] (shapeCast S1048576x64 A shapeCasts_S8192x8192_S1048576x64) (sitofp (F := Ideal) .f32 (constantI S_ 32 0#32))
    pads_S1048576x64_S1048576x128_000_0640 h_S_

section Tables

variable (m : (ℓ : Loc nD τ sig) → Buf (Elt Ideal) ℓ) (d : Dev nD)

theorem gm_eq : (XH m d).gm = minima (m ((SparseCore.T d).loc main_arg0)) := by
  unfold XH VH hostLine
  simp only [StableHlo.TRef.binary, StableHlo.TRef.unary, StableHlo.TRef.toBuf, StableHlo.TRef.ofBuf, cast_eq]
  after_results_simp <;> rfl
theorem d2_eq : (XH m d).d2 = wide (m ((SparseCore.T d).loc main_arg0)) := by
  unfold XH VH hostLine
  simp only [StableHlo.TRef.binary, StableHlo.TRef.unary, StableHlo.TRef.toBuf, StableHlo.TRef.ofBuf, cast_eq]
  after_results_simp <;> rfl
theorem xk_eq : (XH m d).xk = shapeCast S8192x2x128 (m ((SparseCore.T d).loc main_arg1)) shapeCasts_S8192x256_S8192x2x128 := by
  unfold XH VH hostLine
  simp only [StableHlo.TRef.binary, StableHlo.TRef.unary, StableHlo.TRef.toBuf, StableHlo.TRef.ofBuf, cast_eq]
  after_results_simp <;> rfl
theorem xv_eq : (XH m d).xv = shapeCast S8192x2x128 (m ((SparseCore.T d).loc main_arg2)) shapeCasts_S8192x256_S8192x2x128 := by
  unfold XH VH hostLine
  simp only [StableHlo.TRef.binary, StableHlo.TRef.unary, StableHlo.TRef.toBuf, StableHlo.TRef.ofBuf, cast_eq]
  after_results_simp <;> rfl
theorem xp_eq : (XH m d).xp = pad S8192x128 ![0, 0] ![0, 125] ![0, 0] (m ((SparseCore.T d).loc main_arg3)) (sitofp (F := Ideal) .f32 (constantI S_ 32 0#32))
    pads_S8192x3_S8192x128_000_01250 h_S_ := by
  unfold XH VH hostLine
  simp only [StableHlo.TRef.binary, StableHlo.TRef.unary, StableHlo.TRef.toBuf, StableHlo.TRef.ofBuf, cast_eq]
  after_results_simp <;> rfl

end Tables

/-! ## The tables, at an index -/

section At

variable (A : S8192x8192.Idx → EReal) (R : Fin 8192)

theorem cube_at (n : Fin 128) (l : Fin 64) : shapeCast S8192x128x64 A shapeCasts_S8192x8192_S8192x128x64 (ix3 R n l) = dist A R (n.val * 64 + l.val) := by
  have hn := n.isLt; have hl := l.isLt
  refine shapeCast_apply _ _ _ (ix2 R ⟨(n.val * 64 + l.val) % 8192, by omega⟩) ?_
  rw [Shape.rowMajor_val_two, Shape.rowMajor_val_three]
  show R.val * 8192 + (n.val * 64 + l.val) % 8192 = (R.val * 128 + n.val) * 64 + l.val
  omega

/-- A group's minimum, as a minimum. -/
theorem minima_at (n : Fin 128) (i : S1048576.Idx) (hi : (i 0).val = R.val * 128 + n.val) :
    minima A i = (Finset.univ : Finset (Fin 64)).fold min (⊤ : EReal) fun l => dist A R (n.val * 64 + l.val) := by
  refine (shapeCast_apply _ _ _ (ix2 R n) ?_).trans ?_
  · rw [Shape.rowMajor_val_one, Shape.rowMajor_val_two, hi]; rfl
  · rw [Host.reduce_eq_fold, Shape.ReducesTo.fold_fiber_r3_a2]
    refine (Finset.fold_congr (g := fun l : Fin 64 => dist A R (n.val * 64 + l.val)) fun l _ => cube_at A R n l).trans ?_
    have e : constant (F := Ideal) S_ .f32 0x7F800000#32 (Shape.Idx.first h_S_) = (⊤ : EReal) := by
      show Ideal.ofBits .f32 0x7F800000#32 = ⊤
      rfl
    rw [e]
    rfl

theorem minima_le (n : Fin 128) (i : S1048576.Idx) (hi : (i 0).val = R.val * 128 + n.val) (l : Fin 64) : minima A i ≤ dist A R (n.val * 64 + l.val) := by
  rw [minima_at A R n i hi]
  exact Finset.fold_min_le _ |>.mpr (.inr ⟨l, Finset.mem_univ _, le_rfl⟩)

theorem minima_mem (n : Fin 128) (i : S1048576.Idx) (hi : (i 0).val = R.val * 128 + n.val) : ∃ l : Fin 64, dist A R (n.val * 64 + l.val) = minima A i := by
  have h := (Finset.fold_min_le _).mp (le_of_eq (minima_at A R n i hi).symm)
  rcases h with h | ⟨l, -, h⟩
  · exact ⟨0, le_antisymm (le_top.trans h) (minima_le A R n i hi 0)⟩
  · exact ⟨l, le_antisymm h (minima_le A R n i hi l)⟩

theorem wide_at (n l : ℕ) (hn : n < 128) (hl : l < 64) (i : S1048576x128.Idx) (h0 : (i 0).val = R.val * 128 + n) (h1 : (i 1).val = l) :
    wide A i = dist A R (n * 64 + l) := by
  have hR := R.isLt
  refine (pad_apply_of_inside _ _ _ _ _ _ _ _ (ix2 ⟨R.val * 128 + n, by omega⟩ ⟨l, hl⟩ : S1048576x64.Idx) ?_).trans ?_
  · intro a
    match a with
    | ⟨0, _⟩ => show (i 0).val = 0 + (R.val * 128 + n) * (0 + 1); omega
    | ⟨1, _⟩ => show (i 1).val = 0 + l * (0 + 1); omega
  · refine shapeCast_apply _ _ _ (ix2 R ⟨(n * 64 + l) % 8192, by omega⟩) ?_
    rw [Shape.rowMajor_val_two, Shape.rowMajor_val_two]
    show R.val * 8192 + (n * 64 + l) % 8192 = (R.val * 128 + n) * 64 + l
    omega

end At

/-! ## The call's indices -/

/-- Where a subcore's group minimum stands in the table of them. -/
theorem minima_of (I : Cert.Proof.Knn.Ins Ideal) (L : grid0.Coords) (x : S32768.Idx) :
    ∃ i : S1048576.Idx, (i 0).val = (baseN L * 128 + (x 0).val) % 1048576 ∧ I.T L x = I.gm i := ⟨_, rfl, rfl⟩

theorem insOf_gm (X : Tabs Ideal) (p : Fin 2 × Fin 16) : (insOf X p).gm = X.gm := rfl
theorem candG_eq (X : Tabs Ideal) (n : ℕ) (p : Fin 2 × Fin 16) (hp : (⟨n / 256 % 2, by omega⟩, ⟨n / 512 % 16, by omega⟩) = p) :
    candG X n = Cert.Proof.Knn.candR (atP p) ((insOf X p).T (atP p)) X.d2 (n % 256) := by subst hp; rfl

/-- The call's candidates for a row are its least sixteen distances, in order. -/
theorem candG_top (m : (ℓ : Loc nD τ sig) → Buf (Elt Ideal) ℓ) (d : Dev nD) (R : Fin 8192) :
    TopOf (Finset.range 8192) (dist (m ((SparseCore.T d).loc main_arg0)) R) (fun t => (candG (XH m d) R.val (lane1 t) : BitVec 32).toNat) := by
  have hR := R.isLt
  set A : S8192x8192.Idx → EReal := m ((SparseCore.T d).loc main_arg0) with hA
  have hb : baseN (atP (⟨R.val / 256 % 2, by omega⟩, ⟨R.val / 512 % 16, by omega⟩)) + R.val % 256 = R.val := by
    show (R.val / 512 % 16 * 2 + R.val / 256 % 2) * 256 + R.val % 256 = R.val
    omega
  generalize hp : ((⟨R.val / 256 % 2, by omega⟩, ⟨R.val / 512 % 16, by omega⟩) : Fin 2 × Fin 16) = p at hb
  have e : candG (XH m d) R.val = Cert.Proof.Knn.candR (atP p) ((insOf (XH m d) p).T (atP p)) (XH m d).d2 (R.val % 256) := candG_eq _ _ _ hp
  rw [e]
  have hgm : (XH m d).gm = minima A := gm_eq m d
  have hg : ∀ n : ℕ, n < 128 → ∃ i : S1048576.Idx, (i 0).val = R.val * 128 + n ∧ (insOf (XH m d) p).T (atP p) (gm1 (R.val % 256 * 128 + n)) = minima A i := by
    intro n hn
    have hx : (gm1 (R.val % 256 * 128 + n) 0).val = (R.val % 256 * 128 + n) % 32768 := rfl
    obtain ⟨i, hi, hv⟩ := minima_of (insOf (XH m d) p) (atP p) (gm1 (R.val % 256 * 128 + n))
    refine ⟨i, by omega, ?_⟩
    rw [hv, insOf_gm, hgm]
  refine Cert.Proof.Knn.cand_top (atP p) _ _ (R.val % 256) (by omega) _ ?_ ?_ ?_
  · intro n l hn hl
    rw [d2_eq]
    refine wide_at A R n l hn hl _ ?_ rfl
    show ((baseN (atP p) + R.val % 256) * 128 + n) % 1048576 = _
    rw [hb]; omega
  · intro n l hn hl
    obtain ⟨i, hi, hv⟩ := hg n hn
    rw [hv]
    exact minima_le A R ⟨n, hn⟩ i hi ⟨l, hl⟩
  · intro n hn
    obtain ⟨i, hi, hv⟩ := hg n hn
    obtain ⟨l, hl⟩ := minima_mem A R ⟨n, hn⟩ i hi
    exact ⟨l.val, l.isLt, hl.trans hv.symm⟩

/-- Under the precondition the call's candidates are the reference's picks. -/
theorem candG_picks (m : (ℓ : Loc nD τ sig) → Buf (Elt Ideal) ℓ) (d : Dev nD)
    (h : Pre_seventeen_smallest_increase.fn (F := Ideal) (m ((SparseCore.T d).loc main_arg0)) (m ((SparseCore.T d).loc main_arg1))
      (m ((SparseCore.T d).loc main_arg2)) (m ((SparseCore.T d).loc main_arg3)) = fun _ => 1#1) (R : Fin 8192) (t : Fin 16) :
    (candG (XH m d) R.val (lane1 t) : BitVec 32) = picks (m ((SparseCore.T d).loc main_arg0)) (ix2 R t) :=
  BitVec.eq_of_toNat_eq (congrFun (picks_unique _ _ _ _ h R _ (candG_top m d R)) t)

end Cert.Proof.Nearest
-- ==== Proof.Results.lean ====
/- The call's four results are the reference's. -/
module

public import proofs.«01_k».proof.Proof.Values
public import Idealize.ShloMosaic.Lib.StableHlo.Predicate

@[expose] public section

noncomputable section

namespace Cert.Proof.Nearest

open Cert.KernelIdeal Cert.KernelIdeal.Gen
open Idealize.ShloMosaic
open Cert.Proof.Knn (XH VH hostLine candG res0 resRows3 resRows2 lane1 Tabs)

/-! ## A gather of rows -/

/-- The dimension numbers of a gather of `n` whole rows out of `N` rows of `C`. -/
abbrev rowsOf (N C n : ℕ) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Row `p` of it is the row that the `p`-th index names, when that index is one of the operand's rows. -/
theorem rowsOf_at {N C n : ℕ} (wf : GatherDims.WF ⟨2, ![N, C]⟩ ⟨2, ![n, 1]⟩ ⟨2, ![n, C]⟩ [1] [0] [] [0] [] 1 ![1, C])
    (x : (⟨2, ![N, C]⟩ : Shape).Idx → EReal) (idx : IVec ⟨2, ![n, 1]⟩ 32) (p : Fin n) (j : Fin C) (k : ℕ) (hk : k < N) (hN : N ≤ 2 ^ 31)
    (hi : (idx (ix2 p 0)).toNat = k) : Host.gather (rowsOf N C n wf) x idx (ix2 p j) = x (ix2 ⟨k, hk⟩ j) := by
  unfold Host.gather
  congr 1
  have hmem : (0 : Fin 2) ∈ (rowsOf N C n wf).startIndexMap := List.mem_singleton.mpr rfl
  have hsi : (rowsOf N C n wf).siIdx (ix2 p j) ⟨List.idxOf (0 : Fin 2) (rowsOf N C n wf).startIndexMap, List.idxOf_lt_length_iff.2 hmem⟩ = ix2 p 0 := by
    funext b
    match b with
    | ⟨0, _⟩ => exact Fin.ext rfl
    | ⟨1, _⟩ => exact Fin.ext rfl
  funext a
  refine Fin.ext ?_
  match a with
  | ⟨0, _⟩ =>
    show (rowsOf N C n wf).start (ix2 p j) idx 0 + (rowsOf N C n wf).batchCoord (ix2 p j) 0 + (rowsOf N C n wf).offCoord (ix2 p j) 0 = k
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos hmem, hsi, StableHlo.Predicate.toInt_eq_toNat_of_lt (by omega), hi]
    show min k (N - 1) + 0 + 0 = k
    omega
  | ⟨1, _⟩ =>
    show (rowsOf N C n wf).start (ix2 p j) idx 1 + (rowsOf N C n wf).batchCoord (ix2 p j) 1 + (rowsOf N C n wf).offCoord (ix2 p j) 1 = j.val
    rw [GatherDims.batchCoord_eq_zero _ _ _ List.not_mem_nil]
    have hs : (rowsOf N C n wf).start (ix2 p j) idx 1 = 0 := by
      unfold GatherDims.start
      exact dif_neg (by simp)
    rw [hs, Nat.zero_add]
    rfl

/-! ## The reference's indices -/

/-- The reference's indices, in one list. -/
abbrev flatPicks (A : S8192x8192.Idx → EReal) : S131072.Idx → BitVec 32 :=
  shapeCast Cert.ReferenceIdeal.S131072 (picks A) Cert.ReferenceIdeal.Gen.shapeCasts_S8192x16_S131072
/-- … as its gathers take them. -/
abbrev gatherPicks (A : S8192x8192.Idx → EReal) : IVec Cert.ReferenceIdeal.S131072x1 32 :=
  broadcastInDim Cert.ReferenceIdeal.S131072x1 ![0] Cert.ReferenceIdeal.Gen.bcast_S131072_S131072x1_0
    (select (cmpi .slt (flatPicks A) (broadcastInDim Cert.ReferenceIdeal.S131072 ![] Cert.ReferenceIdeal.Gen.bcast_S_S131072 (constantI S_ 32 0#32)))
      (addi (flatPicks A) (broadcastInDim Cert.ReferenceIdeal.S131072 ![] Cert.ReferenceIdeal.Gen.bcast_S_S131072 (constantI S_ 32 8192#32))) (flatPicks A))

theorem flatPicks_at (A : S8192x8192.Idx → EReal) (p : Fin 131072) (i : S131072.Idx) (hi : (i 0).val = p.val) :
    flatPicks A i = picks A (ix2 ⟨p.val / 16, by omega⟩ ⟨p.val % 16, by omega⟩) := by
  refine shapeCast_apply _ _ _ _ ?_
  rw [Shape.rowMajor_val_two, Shape.rowMajor_val_one, hi]
  show p.val / 16 * 16 + p.val % 16 = p.val
  omega

theorem gatherPicks_at (A : S8192x8192.Idx → EReal) (p : Fin 131072) :
    gatherPicks A (ix2 p 0) = picks A (ix2 ⟨p.val / 16, by omega⟩ ⟨p.val % 16, by omega⟩) := by
  have hl := picks_lt A ⟨p.val / 16, by omega⟩ ⟨p.val % 16, by omega⟩
  have hf := flatPicks_at A p (fun a => ⟨p.val, by obtain rfl := Fin.eq_zero a; exact p.isLt⟩) rfl
  refine Eq.trans (b := Scalar.select (IntOp.cmpi .slt (flatPicks A fun a => ⟨p.val, by obtain rfl := Fin.eq_zero a; exact p.isLt⟩) 0#32)
    (IntOp.addi (flatPicks A fun a => ⟨p.val, by obtain rfl := Fin.eq_zero a; exact p.isLt⟩) 8192#32)
    (flatPicks A fun a => ⟨p.val, by obtain rfl := Fin.eq_zero a; exact p.isLt⟩)) ?_ ?_
  · refine (broadcastInDim_apply _ _ _ _ (fun a => ⟨p.val, by obtain rfl := Fin.eq_zero a; exact p.isLt⟩) ?_).trans rfl
    intro a; obtain rfl := Fin.eq_zero a; rfl
  · rw [hf]
    have hns : IntOp.cmpi .slt (picks A (ix2 ⟨p.val / 16, by omega⟩ ⟨p.val % 16, by omega⟩)) 0#32 ≠ 1#1 := by
      rw [Ne, StableHlo.Predicate.slt_iff_toNat (by omega) (by decide)]
      exact Nat.not_lt_zero _
    exact if_neg hns

/-! ## The results -/

theorem resRows2_at (X : Tabs Ideal) (t : S8192x128.Idx → EReal) (p : Fin 131072) (c : Fin 128) :
    resRows2 X t (ix2 p c) = t (ix2 ⟨(candG X (p.val / 16) (lane1 ⟨p.val % 16, by omega⟩) : BitVec 32).toNat % 8192, Nat.mod_lt _ (by decide)⟩ c) := by
  show t _ = t _
  congr 1
  funext a
  match a with
  | ⟨0, _⟩ => exact Fin.ext rfl
  | ⟨1, _⟩ => exact Fin.ext rfl

/-- A table of 3, widened. -/
abbrev wide3 (B : S8192x3.Idx → EReal) : S8192x128.Idx → EReal :=
  pad S8192x128 ![0, 0] ![0, 125] ![0, 0] B (sitofp (F := Ideal) .f32 (constantI S_ 32 0#32)) pads_S8192x3_S8192x128_000_01250 h_S_

/-- A row of it is the gathered row, widened. -/
theorem wide3_row (B : S8192x3.Idx → EReal) (idx : IVec Cert.ReferenceIdeal.S131072x1 32) (p : Fin 131072) (c : Fin 128) (w : BitVec 32) (hl : w.toNat < 8192)
    (hi : idx (ix2 p 0) = w) : wide3 B (ix2 ⟨w.toNat % 8192, Nat.mod_lt _ (by decide)⟩ c)
      = pad Cert.ReferenceIdeal.S131072x128 ![0, 0] ![0, 125] ![0, 0] (Host.gather Cert.ReferenceIdeal.gather_S8192x3_S131072x1_S131072x3_1_0_n_n_0_1_13 B idx)
          (sitofp (F := Ideal) .f32 (constantI S_ 32 0#32)) Cert.ReferenceIdeal.Gen.pads_S131072x3_S131072x128_000_01250 Cert.ReferenceIdeal.Gen.h_S_ (ix2 p c) := by
  by_cases hc : c.val < 3
  · refine Eq.trans (b := B (ix2 ⟨_, hl⟩ ⟨c.val, hc⟩)) ?_ ?_
    · refine pad_apply_of_inside ![0, 0] ![0, 125] ![0, 0] B _ pads_S8192x3_S8192x128_000_01250 h_S_ _ (ix2 ⟨_, hl⟩ ⟨c.val, hc⟩) ?_
      intro a
      match a with
      | ⟨0, _⟩ => show w.toNat % 8192 = 0 + w.toNat * (0 + 1); omega
      | ⟨1, _⟩ => show c.val = 0 + c.val * (0 + 1); omega
    · refine ((pad_apply_of_inside _ _ _ _ _ _ _ _ (ix2 p ⟨c.val, hc⟩) ?_).trans (rowsOf_at _ B _ p ⟨c.val, hc⟩ _ hl (by decide) (by rw [hi]))).symm
      intro a
      match a with
      | ⟨0, _⟩ => show p.val = 0 + p.val * (0 + 1); omega
      | ⟨1, _⟩ => show c.val = 0 + c.val * (0 + 1); omega
  · refine Eq.trans (pad_apply_of_not_inside _ _ _ _ _ _ _ _ 1 ?_) (pad_apply_of_not_inside _ _ _ _ _ _ _ _ 1 ?_).symm
    · rintro ⟨-, -, h3⟩
      have h3 : (c.val - 0) / (0 + 1) < 3 := h3
      omega
    · rintro ⟨-, -, h3⟩
      have h3 : (c.val - 0) / (0 + 1) < 3 := h3
      omega

section Results

variable (m : (ℓ : Loc nD τ sig) → Buf (Elt Ideal) ℓ) (d : Dev nD)
  (h : Pre_seventeen_smallest_increase.fn (F := Ideal) (m ((SparseCore.T d).loc main_arg0)) (m ((SparseCore.T d).loc main_arg1))
    (m ((SparseCore.T d).loc main_arg2)) (m ((SparseCore.T d).loc main_arg3)) = fun _ => 1#1)

include h

theorem cand_at (p : Fin 131072) : (candG (XH m d) (p.val / 16) (lane1 ⟨p.val % 16, by omega⟩) : BitVec 32)
    = picks (m ((SparseCore.T d).loc main_arg0)) (ix2 ⟨p.val / 16, by omega⟩ ⟨p.val % 16, by omega⟩) :=
  candG_picks m d h ⟨p.val / 16, by omega⟩ ⟨p.val % 16, by omega⟩

theorem res0_eq : res0 (XH m d) = flatPicks (m ((SparseCore.T d).loc main_arg0)) := by
  funext i
  exact (cand_at m d h (i 0)).trans (flatPicks_at _ (i 0) i rfl).symm

/-- A gathered row of a table of 2 by 128. -/
theorem rows3_eq (B : S8192x256.Idx → EReal) :
    resRows3 (XH m d) (shapeCast S8192x2x128 B shapeCasts_S8192x256_S8192x2x128)
      = shapeCast Cert.ReferenceIdeal.S131072x2x128 (Host.gather Cert.ReferenceIdeal.gather_S8192x256_S131072x1_S131072x256_1_0_n_n_0_1_1256 B
          (gatherPicks (m ((SparseCore.T d).loc main_arg0)))) Cert.ReferenceIdeal.Gen.shapeCasts_S131072x256_S131072x2x128 := by
  refine funext fun i => (congrArg _ (eq_ix3 i)).trans (Eq.trans ?_ (congrArg _ (eq_ix3 i)).symm)
  obtain ⟨p, hp⟩ : ∃ p : Fin 131072, p = i 0 := ⟨_, rfl⟩
  obtain ⟨b, hb'⟩ : ∃ b : Fin 2, b = i 1 := ⟨_, rfl⟩
  obtain ⟨c, hc'⟩ : ∃ c : Fin 128, c = i 2 := ⟨_, rfl⟩
  rw [← hp, ← hb', ← hc']
  have hl := picks_lt (m ((SparseCore.T d).loc main_arg0)) ⟨p.val / 16, by omega⟩ ⟨p.val % 16, by omega⟩
  have hb := b.isLt; have hc := c.isLt
  refine Eq.trans (b := B (ix2 ⟨_, hl⟩ ⟨b.val * 128 + c.val, by omega⟩)) ?_ ?_
  · refine shapeCast_apply _ _ _ _ ?_
    rw [Shape.rowMajor_val_two, Shape.rowMajor_val_three]
    show (picks _ _).toNat * 256 + (b.val * 128 + c.val) = ((candG (XH m d) (p.val / 16) (lane1 ⟨p.val % 16, _⟩) : BitVec 32).toNat % 8192 * 2 + b.val) * 128 + c.val
    rw [cand_at m d h p]
    omega
  · refine ((shapeCast_apply _ _ _ (ix2 p ⟨b.val * 128 + c.val, by omega⟩) ?_).trans (rowsOf_at _ B _ p ⟨b.val * 128 + c.val, by omega⟩ _ hl (by decide) ?_)).symm
    · rw [Shape.rowMajor_val_two, Shape.rowMajor_val_three]
      show p.val * 256 + (b.val * 128 + c.val) = (p.val * 2 + b.val) * 128 + c.val
      omega
    · rw [gatherPicks_at]

theorem rows2_eq (B : S8192x3.Idx → EReal) :
    resRows2 (XH m d) (wide3 B) = pad Cert.ReferenceIdeal.S131072x128 ![0, 0] ![0, 125] ![0, 0]
      (Host.gather Cert.ReferenceIdeal.gather_S8192x3_S131072x1_S131072x3_1_0_n_n_0_1_13 B (gatherPicks (m ((SparseCore.T d).loc main_arg0))))
      (sitofp (F := Ideal) .f32 (constantI S_ 32 0#32)) Cert.ReferenceIdeal.Gen.pads_S131072x3_S131072x128_000_01250 Cert.ReferenceIdeal.Gen.h_S_ := by
  refine funext fun i => (congrArg _ (eq_ix2 i)).trans (Eq.trans ?_ (congrArg _ (eq_ix2 i)).symm)
  refine (resRows2_at _ _ (i 0) (i 1)).trans ?_
  exact (congrArg (fun w : BitVec 32 => wide3 B (ix2 ⟨w.toNat % 8192, Nat.mod_lt _ (by decide)⟩ (i 1))) (cand_at m d h (i 0))).trans
    (wide3_row B _ (i 0) (i 1) _ (picks_lt _ _ _) (gatherPicks_at _ (i 0)))

end Results

end Cert.Proof.Nearest
-- ==== Proof.Combine.lean ====
/- The weighted sum over the neighbours: the value of the result at a row and a column, as a plain formula. -/
module

public import Idealize.ShloMosaic.Lib.Pointwise

@[expose] public section

noncomputable section

namespace Cert.Proof.Combine

open Idealize.ShloMosaic Idealize.SL.Sem

/-! ## The values, index by index -/

/-- The last layer's value `k` for one neighbour, from that neighbour's scores `a`. -/
def logit (a : Fin 32 → EReal) (ab : Vec Ideal ⟨2, ![2, 32]⟩ .f32) (w : Vec Ideal ⟨2, ![32, 32]⟩ .f32) (b : Vec Ideal ⟨1, ![32]⟩ .f32)
    (k : Fin 32) : EReal :=
  (∑ j : Fin 32, max (a j * ab (ix2 0 j) + ab (ix2 1 j)) 0 * w (ix2 k j)) + b (ix1 k)

/-- The greatest of the sixteen values, taken from the least extended real on. -/
def top (l : Fin 16 → EReal) : EReal := Finset.univ.fold max (Ideal.ofBits .f32 0xFF800000#32) l

/-- Neighbour `s`'s share among sixteen: its exponential over the sum of the exponentials, the greatest value taken off first. -/
def share (l : Fin 16 → EReal) (s : Fin 16) : EReal :=
  Ideal.div (Ideal.exp (l s - top l)) (∑ x : Fin 16, Ideal.exp (l x - top l))

/-- The position term of one neighbour in column `k`, from its three raw coordinates. -/
def position (p q r : EReal) (ab : Vec Ideal ⟨2, ![2, 3]⟩ .f32) (w : Vec Ideal ⟨2, ![3, 256]⟩ .f32) (b : Vec Ideal ⟨1, ![256]⟩ .f32)
    (k : Fin 256) : EReal :=
  b (ix1 k) + max (p * ab (ix2 0 0) + ab (ix2 1 0)) 0 * w (ix2 0 k) + max (q * ab (ix2 0 1) + ab (ix2 1 1)) 0 * w (ix2 1 k)
    + max (r * ab (ix2 0 2) + ab (ix2 1 2)) 0 * w (ix2 2 k)

/-- Row `n`, column `k` of the result over `N` rows: the sixteen neighbours' values with their position terms, weighted by their
    shares, which the columns that are equal modulo 32 have in common. -/
def combined {N : Nat} (w1 : Vec Ideal ⟨3, ![N, 16, 32]⟩ .f32) (gv : Vec Ideal ⟨3, ![N, 16, 256]⟩ .f32)
    (p q r : Vec Ideal ⟨2, ![N, 16]⟩ .f32) (wp : Vec Ideal ⟨2, ![3, 256]⟩ .f32) (bp : Vec Ideal ⟨1, ![256]⟩ .f32)
    (ab1 : Vec Ideal ⟨2, ![2, 3]⟩ .f32) (ab3 : Vec Ideal ⟨2, ![2, 32]⟩ .f32) (ww : Vec Ideal ⟨2, ![32, 32]⟩ .f32)
    (bw : Vec Ideal ⟨1, ![32]⟩ .f32) (n : Fin N) (k : Fin 256) : EReal :=
  ∑ s : Fin 16, (gv (ix3 n s k) + position (p (ix2 n s)) (q (ix2 n s)) (r (ix2 n s)) ab1 wp bp k)
    * share (fun x => logit (fun j => w1 (ix3 n x j)) ab3 ww bw ⟨k.val % 32, Nat.mod_lt _ (by decide)⟩) s

/-- A row of the result depends on that row of the row-wise arrays alone. -/
theorem combined_congr {N M : Nat} {w1 : Vec Ideal ⟨3, ![N, 16, 32]⟩ .f32} {w1' : Vec Ideal ⟨3, ![M, 16, 32]⟩ .f32}
    {gv : Vec Ideal ⟨3, ![N, 16, 256]⟩ .f32} {gv' : Vec Ideal ⟨3, ![M, 16, 256]⟩ .f32}
    {p q r : Vec Ideal ⟨2, ![N, 16]⟩ .f32} {p' q' r' : Vec Ideal ⟨2, ![M, 16]⟩ .f32}
    {wp : Vec Ideal ⟨2, ![3, 256]⟩ .f32} {bp : Vec Ideal ⟨1, ![256]⟩ .f32} {ab1 : Vec Ideal ⟨2, ![2, 3]⟩ .f32}
    {ab3 : Vec Ideal ⟨2, ![2, 32]⟩ .f32} {ww : Vec Ideal ⟨2, ![32, 32]⟩ .f32} {bw : Vec Ideal ⟨1, ![32]⟩ .f32}
    {n : Fin N} {n' : Fin M} (hw : ∀ s j, w1 (ix3 n s j) = w1' (ix3 n' s j)) (hg : ∀ s k, gv (ix3 n s k) = gv' (ix3 n' s k))
    (hp : ∀ s, p (ix2 n s) = p' (ix2 n' s)) (hq : ∀ s, q (ix2 n s) = q' (ix2 n' s)) (hr : ∀ s, r (ix2 n s) = r' (ix2 n' s))
    (k : Fin 256) :
    combined w1 gv p q r wp bp ab1 ab3 ww bw n k = combined w1' gv' p' q' r' wp bp ab1 ab3 ww bw n' k := by
  simp only [combined, hw, hg, hp, hq, hr]

end Cert.Proof.Combine

end
-- ==== Proof.CombineKernel.lean ====
/- The call that makes the weighted sums: after its run every element of the result is the formula. -/
module

public import proofs.«01_k».proof.Proof.Gen.CombineIdeal.Value
public import proofs.«01_k».proof.Proof.Combine
public import Idealize.ShloMosaic.Lib.Pipeline.ValueKit

@[expose] public section

noncomputable section

namespace Cert.Proof.Combine

open Idealize.ShloMosaic Idealize.ShloMosaic.TcCoe Idealize.SL.Sem

/-! ## The kernel -/

section Kernel
open Cert.CombineIdeal Cert.CombineIdeal.Gen

/-- The shares that the body computes of a block of scores. -/
theorem share_apply (x0 : Vec Ideal S256x16x32 .f32) (x8 : Vec Ideal S2x32 .f32) (x9 : Vec Ideal S32x32 .f32) (x10 : Vec Ideal S32 .f32)
    (r : Fin 256) (s : Fin 16) (k : Fin 32) :
    k0_pay2 (F := Ideal) x0 (View.ld x8 r0_1) (View.ld x8 r0_2) x9 x10 (ix3 r s k)
      = share (fun x => logit (fun j => x0 (ix3 r x j)) x8 x9 x10 k) s := by
  pointwise [k0_pay2, share, top, logit]

/-- The first two of the three position products, on the bias. -/
theorem position_apply (x2 x3 : Vec Ideal S256x16 .f32) (x5 : Vec Ideal S3x256 .f32) (x6 : Vec Ideal S256 .f32) (x7 : Vec Ideal S2x3 .f32)
    (r : Fin 256) (s : Fin 16) (k : Fin 256) :
    k0_pay5 (F := Ideal) (k0_pay3 x6) (k0_pay4 x2 (View.ld x7 r0_7) (View.ld x7 r0_8)) (View.ld x5 r0_9) x3 (View.ld x7 r0_10)
        (View.ld x7 r0_11) (View.ld x5 r0_12) (ix3 r s k)
      = (x6 (ix1 k) + max (x2 (ix2 r s) * x7 (ix2 0 0) + x7 (ix2 1 0)) 0 * x5 (ix2 0 k)
        + max (x3 (ix2 r s) * x7 (ix2 0 1) + x7 (ix2 1 1)) 0 * x5 (ix2 1 k) : EReal) := by
  pointwise [k0_pay5, k0_pay3, k0_pay4]

/-- The first of the third product's factors. -/
theorem third_apply (x4 : Vec Ideal S256x16 .f32) (x7 : Vec Ideal S2x3 .f32) (r : Fin 256) (s : Fin 16) (k : Fin 256) :
    k0_pay6 (F := Ideal) x4 (View.ld x7 r0_13) (View.ld x7 r0_14) (ix3 r s k)
      = (max (x4 (ix2 r s) * x7 (ix2 0 2) + x7 (ix2 1 2)) 0 : EReal) := by
  pointwise [k0_pay6]

/-- The second of the third product's factors. -/
theorem row_apply (x5 : Vec Ideal S3x256 .f32) (r : Fin 256) (s : Fin 16) (k : Fin 256) :
    k0_pay7 (F := Ideal) (View.ld x5 r0_15) (ix3 r s k) = x5 (ix2 2 k) := by
  pointwise [k0_pay7]

/-- The sum over the neighbours, of any shares and products. -/
theorem sum_apply (a : FVec Ideal S256x16x32 .f32) (b u v : FVec Ideal S256x16x256 .f32) (g : Vec Ideal S256x16x256 .f32)
    (r : Fin 256) (k : Fin 256) :
    k0_pay1 (F := Ideal) a b u v g (ix2 r k)
      = (∑ s : Fin 16, (g (ix3 r s k) + (b (ix3 r s k) + u (ix3 r s k) * v (ix3 r s k)))
          * a (ix3 r s ⟨k.val % 32, Nat.mod_lt _ (by decide)⟩) : EReal) := by
  pointwise [k0_pay1]

/-- What the body leaves in its output block, at an index. -/
theorem block_apply (x0 : Vec Ideal S256x16x32 .f32) (x1 : Vec Ideal S256x16x256 .f32) (x2 x3 x4 : Vec Ideal S256x16 .f32)
    (x5 : Vec Ideal S3x256 .f32) (x6 : Vec Ideal S256 .f32) (x7 : Vec Ideal S2x3 .f32) (x8 : Vec Ideal S2x32 .f32)
    (x9 : Vec Ideal S32x32 .f32) (x10 : Vec Ideal S32 .f32) (r : Fin 256) (k : Fin 256) :
    out0_11 x0 x1 x2 x3 x4 x5 x6 x7 x8 x9 x10 (ix2 r k) = combined x0 x1 x2 x3 x4 x5 x6 x7 x8 x9 x10 r k := by
  frame_out
  rw [sum_apply, combined]
  refine Finset.sum_congr rfl fun s _ => ?_
  rw [share_apply, position_apply, third_apply, row_apply, position]

/-- Which block each window stages at each point of the grid. -/
theorem index_eq : ∀ t : Fin cfg0.N, win0_0.index t = ![t.val, 0, 0] ∧ win0_1.index t = ![t.val, 0, 0] ∧ win0_2.index t = ![t.val, 0]
    ∧ win0_3.index t = ![t.val, 0] ∧ win0_4.index t = ![t.val, 0] ∧ win0_5.index t = ![0, 0] ∧ win0_6.index t = ![0]
    ∧ win0_7.index t = ![0, 0] ∧ win0_8.index t = ![0, 0] ∧ win0_9.index t = ![0, 0] ∧ win0_10.index t = ![0]
    ∧ win0_11.index t = ![t.val, 0] := by
  decide +kernel

variable (m : (ℓ : Loc nD τ sig) → Buf (Elt Ideal) ℓ) (c : Dev nD)

/-- The row of the arrays that row `r` of point `t`'s block is. -/
def rowOf (t : Fin cfg0.N) (r : Fin 256) : Fin 8192 := ⟨t.val * 256 + r.val, by have h := t.isLt; have e : cfg0.N = 32 := N_0; omega⟩

/-- A point's block of scores, at an index. -/
theorem scores_apply (t : Fin cfg0.N) (r : Fin 256) (s : Fin 16) (j : Fin 32) :
    iblk m c 0 t (ix3 r s j) = m ((c : Thread nD τ).loc main_arg0) (ix3 (rowOf t r) s j) := by
  blk_ext [iblk, V, index_eq t, rowOf]

/-- A point's block of gathered values, at an index. -/
theorem values_apply (t : Fin cfg0.N) (r : Fin 256) (s : Fin 16) (k : Fin 256) :
    iblk m c 1 t (ix3 r s k) = m ((c : Thread nD τ).loc main_arg1) (ix3 (rowOf t r) s k) := by
  blk_ext [iblk, V, index_eq t, rowOf]

/-- A point's blocks of the three coordinates, at an index. -/
theorem first_apply (t : Fin cfg0.N) (r : Fin 256) (s : Fin 16) :
    iblk m c 2 t (ix2 r s) = m ((c : Thread nD τ).loc main_arg2) (ix2 (rowOf t r) s) := by
  blk_ext [iblk, V, index_eq t, rowOf]
theorem second_apply (t : Fin cfg0.N) (r : Fin 256) (s : Fin 16) :
    iblk m c 3 t (ix2 r s) = m ((c : Thread nD τ).loc main_arg3) (ix2 (rowOf t r) s) := by
  blk_ext [iblk, V, index_eq t, rowOf]
theorem last_apply (t : Fin cfg0.N) (r : Fin 256) (s : Fin 16) :
    iblk m c 4 t (ix2 r s) = m ((c : Thread nD τ).loc main_arg4) (ix2 (rowOf t r) s) := by
  blk_ext [iblk, V, index_eq t, rowOf]

/-- The windows on the coefficients stage the whole of their arrays. -/
theorem whole_eq (t : Fin cfg0.N) : iblk m c 5 t = m ((c : Thread nD τ).loc main_arg5) ∧ iblk m c 6 t = m ((c : Thread nD τ).loc main_arg6)
    ∧ iblk m c 7 t = m ((c : Thread nD τ).loc main_arg7) ∧ iblk m c 8 t = m ((c : Thread nD τ).loc main_arg8)
    ∧ iblk m c 9 t = m ((c : Thread nD τ).loc main_arg9) ∧ iblk m c 10 t = m ((c : Thread nD τ).loc main_arg10) := by
  refine ⟨?_, ?_, ?_, ?_, ?_, ?_⟩ <;> funext y <;> blk_ext [iblk, V, index_eq t]

/-- What the result array is shown to hold. -/
def out : Buf (Elt Ideal) ((c : Thread nD τ).loc main_v0) := fun i : S8192x256.Idx =>
  combined (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (i 0) (i 1)

/-- The index of the result array under an index of point `t`'s block. -/
theorem place_eq (t : Fin cfg0.N) (r k : Fin 256) : ((cfg0.win 11).blk t).view.emb (ix2 r k) = (ix2 (rowOf t r) k : S8192x256.Idx) := by
  blk_ext [index_eq t, rowOf]

/-- After the run the result array holds the weighted sums. -/
theorem result_eq : (dats m 0 c).arrAt 11 cfg0.N = out m c := by
  refine (dats m 0 c).arrAt_eq_of_covers 11 _ (by decide +kernel) fun t _ y => ?_
  idx_vars y
  blk_simp
  rw [after0_11, place_eq]
  refine (block_apply ..).trans ?_
  obtain ⟨h5, h6, h7, h8, h9, h10⟩ := whole_eq m c t
  rw [h5, h6, h7, h8, h9, h10]
  exact combined_congr (scores_apply m c t _) (values_apply m c t _) (first_apply m c t _) (second_apply m c t _) (last_apply m c t _) _

end Kernel

end Cert.Proof.Combine

end
-- ==== Proof.CombineReference.lean ====
/- The reference of the weighted sums: every element of its result is the formula. -/
module

public import proofs.«01_k».proof.Proof.Gen.CombineReferenceIdeal.Run
public import proofs.«01_k».proof.Proof.Combine

@[expose] public section

noncomputable section

namespace Cert.Proof.Combine

open Idealize.ShloMosaic Idealize.ShloMosaic.TcCoe Idealize.SL.Sem

/-! ## The reference, stage by stage -/

section Reference
open Cert.CombineReferenceIdeal Cert.CombineReferenceIdeal.Gen

/-- A row of coefficients, repeated for every neighbour of every row. -/
abbrev everywhere (v : FVec Ideal S32 .f32) : FVec Ideal S8192x16x32 .f32 :=
  broadcastInDim S8192x16x32 ![0, 1, 2] bcast_S1x1x32_S8192x16x32_0_1_2 (broadcastInDim S1x1x32 ![2] bcast_S32_S1x1x32_2 v)

/-- The same for the three position coefficients. -/
abbrev everywhere3 (v : FVec Ideal S3 .f32) : FVec Ideal S8192x16x3 .f32 :=
  broadcastInDim S8192x16x3 ![0, 1, 2] bcast_S1x1x3_S8192x16x3_0_1_2 (broadcastInDim S1x1x3 ![2] bcast_S3_S1x1x3_2 v)

/-- A number per row and lane, repeated for the sixteen neighbours. -/
abbrev forAll (v : FVec Ideal S8192x32 .f32) : FVec Ideal S8192x16x32 .f32 :=
  broadcastInDim S8192x16x32 ![0, 1, 2] bcast_S8192x1x32_S8192x16x32_0_1_2 (broadcastInDim S8192x1x32 ![0, 2] bcast_S8192x32_S8192x1x32_0_2 v)

/-- The reference's last layer. -/
def logits (w1 : FVec Ideal S8192x16x32 .f32) (ab : FVec Ideal S2x32 .f32) (w : FVec Ideal S32x32 .f32) (b : FVec Ideal S32 .f32) :
    FVec Ideal S8192x16x32 .f32 :=
  addf (Host.dotGeneral dot_S8192x16x32_S32x32_S8192x16x32_2_0_01_1_n_n none
      (maximumf (addf (mulf w1 (everywhere (shapeCast S32 (extractStridedSlice S1x32 ![0, 0] ab slices_S2x32_S1x32_0_0) shapeCasts_S1x32_S32)))
          (everywhere (shapeCast S32 (extractStridedSlice S1x32 ![1, 0] ab slices_S2x32_S1x32_1_0) shapeCasts_S1x32_S32)))
        (broadcastInDim S8192x16x32 ![] bcast_S_S8192x16x32 (constant S_ .f32 0x00000000#32)))
      (transpose S32x32 [1, 0] w transposes_S32x32_S32x32_1_0))
    (everywhere b)

/-- The exponentials, the greatest of the sixteen taken off first. -/
def exps (l : FVec Ideal S8192x16x32 .f32) : FVec Ideal S8192x16x32 .f32 :=
  Host.exp (subf l (forAll (maximumf (broadcastInDim S8192x32 ![] bcast_S_S8192x32 (constant S_ .f32 0xFF800000#32))
    (Host.reduce FloatOps.maximumf l (constant S_ .f32 0xFF800000#32) reducesTo_S8192x16x32_S8192x32_d1 h_S_))))

/-- The reference's shares, from the exponentials. -/
def shares (e : FVec Ideal S8192x16x32 .f32) : FVec Ideal S8192x16x32 .f32 :=
  Host.divf e (forAll (Host.reduceAdd e (constant S_ .f32 0x00000000#32) reducesTo_S8192x16x32_S8192x32_d1 h_S_))

/-- The three raw coordinates side by side. -/
def coordinates (p q r : FVec Ideal S8192x16 .f32) : FVec Ideal S8192x16x3 .f32 :=
  concatenate S8192x16x3 2 [⟨S8192x16x1, broadcastInDim S8192x16x1 ![0, 1] bcast_S8192x16_S8192x16x1_0_1 p⟩,
    ⟨S8192x16x1, broadcastInDim S8192x16x1 ![0, 1] bcast_S8192x16_S8192x16x1_0_1 q⟩,
    ⟨S8192x16x1, broadcastInDim S8192x16x1 ![0, 1] bcast_S8192x16_S8192x16x1_0_1 r⟩] concatenates_S8192x16x1_S8192x16x1_S8192x16x1_S8192x16x3_d2

/-- The reference's position terms. -/
def positions (x : FVec Ideal S8192x16x3 .f32) (ab : FVec Ideal S2x3 .f32) (w : FVec Ideal S3x256 .f32) (b : FVec Ideal S256 .f32) :
    FVec Ideal S8192x16x256 .f32 :=
  addf (Host.dotGeneral dot_S8192x16x3_S3x256_S8192x16x256_2_0_01_1_n_n none
      (maximumf (addf (mulf x (everywhere3 (shapeCast S3 (extractStridedSlice S1x3 ![0, 0] ab slices_S2x3_S1x3_0_0) shapeCasts_S1x3_S3)))
          (everywhere3 (shapeCast S3 (extractStridedSlice S1x3 ![1, 0] ab slices_S2x3_S1x3_1_0) shapeCasts_S1x3_S3)))
        (broadcastInDim S8192x16x3 ![] bcast_S_S8192x16x3 (constant S_ .f32 0x00000000#32)))
      w)
    (broadcastInDim S8192x16x256 ![0, 1, 2] bcast_S1x1x256_S8192x16x256_0_1_2 (broadcastInDim S1x1x256 ![2] bcast_S256_S1x1x256_2 b))

/-- The weighted sum over the neighbours. -/
def weighted (g x : FVec Ideal S8192x16x256 .f32) (a : FVec Ideal S8192x16x32 .f32) : FVec Ideal S8192x256 .f32 :=
  shapeCast S8192x256 (Host.reduceAdd (mulf (shapeCast S8192x16x8x32 (addf g x) shapeCasts_S8192x16x256_S8192x16x8x32)
      (broadcastInDim S8192x16x8x32 ![0, 1, 2, 3] bcast_S8192x16x1x32_S8192x16x8x32_0_1_2_3
        (broadcastInDim S8192x16x1x32 ![0, 1, 3] bcast_S8192x16x32_S8192x16x1x32_0_1_3 a)))
    (constant S_ .f32 0x00000000#32) reducesTo_S8192x16x8x32_S8192x8x32_d1 h_S_) shapeCasts_S8192x8x32_S8192x256

/-- The last layer at an index. -/
theorem logits_apply (w1 : FVec Ideal S8192x16x32 .f32) (ab : FVec Ideal S2x32 .f32) (w : FVec Ideal S32x32 .f32) (b : FVec Ideal S32 .f32)
    (n : Fin 8192) (s : Fin 16) (k : Fin 32) : logits w1 ab w b (ix3 n s k) = logit (fun j => w1 (ix3 n s j)) ab w b k := by
  pointwise [logits, everywhere, logit]

/-- A maximum taken from a start is at least the start. -/
theorem max_top (l : Fin 16 → EReal) : max (Ideal.ofBits .f32 0xFF800000#32) (top l) = top l :=
  max_eq_right (by rw [top, Finset.le_fold_max]; exact Or.inl le_rfl)

/-- The greatest over the neighbours at an index. -/
theorem greatest_apply (l : FVec Ideal S8192x16x32 .f32) (n : Fin 8192) (k : Fin 32) :
    Host.reduce FloatOps.maximumf l (constant S_ .f32 0xFF800000#32) reducesTo_S8192x16x32_S8192x32_d1 h_S_ (ix2 n k)
      = top fun x => l (ix3 n x k) := by
  pointwise [top]

/-- An exponential with any lane-wise value taken off first, at an index. -/
theorem lowered_apply (l : FVec Ideal S8192x16x32 .f32) (v : FVec Ideal S8192x32 .f32) (n : Fin 8192) (s : Fin 16) (k : Fin 32) :
    Host.exp (subf l (forAll (maximumf (broadcastInDim S8192x32 ![] bcast_S_S8192x32 (constant S_ .f32 0xFF800000#32)) v))) (ix3 n s k)
      = Ideal.exp (l (ix3 n s k) - max (Ideal.ofBits .f32 0xFF800000#32) (v (ix2 n k))) := by
  pointwise [forAll]

/-- The exponentials at an index. -/
theorem exps_apply (l : FVec Ideal S8192x16x32 .f32) (n : Fin 8192) (s : Fin 16) (k : Fin 32) :
    exps l (ix3 n s k) = Ideal.exp (l (ix3 n s k) - top fun x => l (ix3 n x k)) := by
  rw [exps, lowered_apply, greatest_apply, max_top]

/-- The shares at an index. -/
theorem shares_apply (e : FVec Ideal S8192x16x32 .f32) (n : Fin 8192) (s : Fin 16) (k : Fin 32) :
    shares e (ix3 n s k) = Ideal.div (e (ix3 n s k)) (∑ x : Fin 16, e (ix3 n x k)) := by
  pointwise [shares, forAll]

/-- The three coordinates of a neighbour. -/
theorem coordinates_apply (p q r : FVec Ideal S8192x16 .f32) (n : Fin 8192) (s : Fin 16) :
    coordinates p q r (ix3 n s 0) = p (ix2 n s) ∧ coordinates p q r (ix3 n s 1) = q (ix2 n s) ∧ coordinates p q r (ix3 n s 2) = r (ix2 n s) := by
  refine ⟨?_, ?_, ?_⟩ <;> pointwise [coordinates] <;> simp

/-- The position terms at an index. -/
theorem positions_apply (x : FVec Ideal S8192x16x3 .f32) (ab : FVec Ideal S2x3 .f32) (w : FVec Ideal S3x256 .f32) (b : FVec Ideal S256 .f32)
    (n : Fin 8192) (s : Fin 16) (k : Fin 256) :
    positions x ab w b (ix3 n s k) = position (x (ix3 n s 0)) (x (ix3 n s 1)) (x (ix3 n s 2)) ab w b k := by
  pointwise [positions, everywhere3, position]
  rw [Fin.sum_univ_three]
  ac_rfl

/-- The weighted sum at an index. -/
theorem weighted_apply (g x : FVec Ideal S8192x16x256 .f32) (a : FVec Ideal S8192x16x32 .f32) (n : Fin 8192) (k : Fin 256) :
    weighted g x a (ix2 n k) = (∑ s : Fin 16, (g (ix3 n s k) + x (ix3 n s k)) * a (ix3 n s ⟨k.val % 32, Nat.mod_lt _ (by decide)⟩) : EReal) := by
  pointwise [weighted]

variable (m : (ℓ : Loc nD τ sig) → Buf (Elt Ideal) ℓ) (c : Dev nD)

/-- The reference's result is the stages in order. -/
theorem stages_eq : Value.res_out0 m c = weighted (m ((c.tc : Thread nD τ).loc main_arg1))
      (positions (coordinates (m ((c.tc : Thread nD τ).loc main_arg2)) (m ((c.tc : Thread nD τ).loc main_arg3)) (m ((c.tc : Thread nD τ).loc main_arg4)))
        (m ((c.tc : Thread nD τ).loc main_arg7)) (m ((c.tc : Thread nD τ).loc main_arg5)) (m ((c.tc : Thread nD τ).loc main_arg6)))
    (shares (exps (logits (m ((c.tc : Thread nD τ).loc main_arg0)) (m ((c.tc : Thread nD τ).loc main_arg8))
      (m ((c.tc : Thread nD τ).loc main_arg9)) (m ((c.tc : Thread nD τ).loc main_arg10))))) := by
  unfold Value.res_out0 Value.res_main_v52
  rfl

/-- The reference's result, index by index. -/
theorem reference_apply (n : Fin 8192) (k : Fin 256) : Value.res_out0 m c (ix2 n k)
    = combined (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) n k := by
  refine (congrFun (stages_eq m c) _).trans ((weighted_apply ..).trans ?_)
  rw [combined]
  refine Finset.sum_congr rfl fun s _ => ?_
  rw [shares_apply, positions_apply, (coordinates_apply _ _ _ n s).1, (coordinates_apply _ _ _ n s).2.1,
    (coordinates_apply _ _ _ n s).2.2, share]
  simp only [exps_apply, logits_apply]

end Reference

end Cert.Proof.Combine

end
-- ==== Proof.Project.lean ====
/- The projection of the rows: the query, key and value rows that the call writes are the reference's, at every index. -/
module

public import proofs.«01_k».proof.Defs
public import proofs.«01_k».proof.Proof.Gen.ProjectIdeal.Value
public import proofs.«01_k».proof.Proof.Gen.ProjectReferenceIdeal.Run
public import Idealize.ShloMosaic.Lib.Pointwise
public import Idealize.ShloMosaic.Lib.Pipeline.ValueKit

@[expose] public section

noncomputable section

namespace Cert.Proof.Project

open Idealize.ShloMosaic Idealize.ShloMosaic.TcCoe Idealize.SL.Sem

/-- Rows of `x` times the transpose of `w`, plus the bias: what each of the three results holds. -/
def linear (x : Vec Ideal ⟨2, ![8192, 256]⟩ .f32) (w : Vec Ideal ⟨2, ![256, 256]⟩ .f32) (b : Vec Ideal ⟨1, ![256]⟩ .f32) :
    Vec Ideal ⟨2, ![8192, 256]⟩ .f32 :=
  fun i => (∑ k : Fin 256, (x (ix2 (i 0) k) : EReal) * w (ix2 (i 1) k)) + b (ix1 (i 1))

section Kernel
open Cert.ProjectIdeal Cert.ProjectIdeal.Gen

/-- What the body computes of one block of rows, at an index of the block. -/
theorem block_apply (x : Vec Ideal S1024x256 .f32) (w : Vec Ideal S256x256 .f32) (b : Vec Ideal S256 .f32) (y : S1024x256.Idx) :
    k0_pay1 (F := Ideal) x w b y = (∑ k : Fin 256, (x (ix2 (y 0) k) : EReal) * w (ix2 (y 1) k)) + b (ix1 (y 1)) := by
  pointwise [k0_pay1]

variable (m : (ℓ : Loc nD τ sig) → Buf (Elt Ideal) ℓ)

/-- Which block each window stages at each point of the grid. -/
theorem index_eq : ∀ t : Fin cfg0.N, win0_0.index t = ![t.val, 0] ∧ win0_1.index t = ![0, 0] ∧ win0_2.index t = ![0]
    ∧ win0_3.index t = ![0, 0] ∧ win0_4.index t = ![0] ∧ win0_5.index t = ![0, 0] ∧ win0_6.index t = ![0]
    ∧ win0_7.index t = ![t.val, 0] ∧ win0_8.index t = ![t.val, 0] ∧ win0_9.index t = ![t.val, 0] := by
  decide +kernel

/-- The two other stores' computations are the first's, of other weights. -/
theorem block_key : @k0_pay2 Ideal _ = @k0_pay1 Ideal _ := rfl
theorem block_value : @k0_pay3 Ideal _ = @k0_pay1 Ideal _ := rfl

/-- After the run the first result holds the rows times the first weights. -/
theorem query_eq (c : Dev nD) : (dats m 0 c).arrAt 7 cfg0.N
    = linear (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp; rw [after0_7]; frame_out
  rw [block_apply, linear]
  blk_point [iblk, V, index_eq t]

/-- The second, times the second weights. -/
theorem key_eq (c : Dev nD) : (dats m 0 c).arrAt 8 cfg0.N
    = linear (m ((c : Thread nD τ).loc main_arg0)) (m ((c : Thread nD τ).loc main_arg3)) (m ((c : Thread nD τ).loc main_arg4)) := by
  refine (dats m 0 c).arrAt_eq_of_covers 8 _ (by decide +kernel) fun t _ y => ?_
  blk_simp; rw [after0_8]; frame_out
  rw [block_key, block_apply, linear]
  blk_point [iblk, V, index_eq t]

/-- The third, times the third weights. -/
theorem value_eq (c : Dev nD) : (dats m 0 c).arrAt 9 cfg0.N
    = linear (m ((c : Thread nD τ).loc main_arg0)) (m ((c : Thread nD τ).loc main_arg5)) (m ((c : Thread nD τ).loc main_arg6)) := by
  refine (dats m 0 c).arrAt_eq_of_covers 9 _ (by decide +kernel) fun t _ y => ?_
  blk_simp; rw [after0_9]; frame_out
  rw [block_value, block_apply, linear]
  blk_point [iblk, V, index_eq t]

end Kernel

section Reference
open Cert.ProjectReferenceIdeal Cert.ProjectReferenceIdeal.Gen

/-- The reference's product and bias, of any rows, weights and bias. -/
theorem reference_eq (x : FVec Ideal S8192x256 .f32) (w : FVec Ideal S256x256 .f32) (b : FVec Ideal S256 .f32) :
    addf (Host.dotGeneral dot_S8192x256_S256x256_S8192x256_1_0_0_1_n_n none x (transpose S256x256 [1, 0] w transposes_S256x256_S256x256_1_0))
      (broadcastInDim S8192x256 ![0, 1] bcast_S1x256_S8192x256_0_1 (broadcastInDim S1x256 ![1] bcast_S256_S1x256_1 b)) = linear x w b := by
  funext i
  pointwise [linear]

end Reference

end Cert.Proof.Project

end
-- ==== Proof.Distances.lean ====
/- The distances: what the call writes is the reference's, at every index. -/
module

public import proofs.«01_k».proof.Defs
public import proofs.«01_k».proof.Proof.Gen.DistancesIdeal.Value
public import proofs.«01_k».proof.Proof.Gen.DistancesReferenceIdeal.Run
public import Idealize.ShloMosaic.Lib.Pointwise
public import Idealize.ShloMosaic.Lib.Pipeline.ValueKit

@[expose] public section

noncomputable section

namespace Cert.Proof.Distances

open Idealize.ShloMosaic Idealize.ShloMosaic.TcCoe Idealize.SL.Sem

/-- The squared length of point `i`. -/
def square (p : Vec Ideal ⟨2, ![8192, 3]⟩ .f32) (i : Fin 8192) : EReal := ∑ k : Fin 3, (p (ix2 i k) : EReal) * p (ix2 i k)

/-- The squared distance of points `i` and `j`, expanded. -/
def distance (p : Vec Ideal ⟨2, ![8192, 3]⟩ .f32) (i j : Fin 8192) : EReal :=
  (square p i + square p j) - Ideal.ofBits .f32 0x40000000#32 * ∑ k : Fin 3, (p (ix2 i k) : EReal) * p (ix2 j k)

/-- The element `s` of group `g` of a row. -/
def member (g : Fin 128) (s : Fin 64) : Fin 8192 := ⟨g.val * 64 + s.val, by omega⟩

/-- The least of the 64 values of a group, taken from the greatest extended real on. -/
def least (d : Fin 64 → EReal) : EReal := Finset.univ.fold min (Ideal.ofBits .f32 0x7F800000#32) d

section Kernel
open Cert.DistancesIdeal Cert.DistancesIdeal.Gen

/-- What the body computes of one block of rows, at an index of the block. -/
theorem block_apply (x : Vec Ideal S256x8 .f32) (y : Vec Ideal S8x8192 .f32) (u : Vec Ideal S256 .f32) (v : Vec Ideal S1x8192 .f32)
    (r : Fin 256) (j : Fin 8192) :
    k0_pay1 (F := Ideal) x y u v (ix2 r j)
      = (u (ix1 r) + v (ix2 0 j)) - Ideal.ofBits .f32 0x40000000#32 * ∑ k : Fin 8, (x (ix2 r k) : EReal) * y (ix2 k j) := by
  pointwise [k0_pay1]

/-- The least of each group of any block, at an index. -/
theorem groups_apply (d : FVec Ideal S256x8192 .f32) (r : Fin 256) (g : Fin 128) :
    multiReduction .minimumf [2] S256x128 (shapeCast S256x128x64 d shapeCasts_S256x8192_S256x128x64) 0x7F800000#32
        reduces_S256x128x64_S256x128 (.inl rfl) rfl (ix2 r g)
      = least fun s => d (ix2 r (member g s)) := by
  pointwise [least, member]

variable (m : (ℓ : Loc nD τ sig) → Buf (Elt Ideal) ℓ) (c : Dev nD)

/-- Which block each window stages at each point of the grid. -/
theorem index_eq : ∀ t : Fin cfg0.N, win0_0.index t = ![t.val, 0] ∧ win0_1.index t = ![0, 0] ∧ win0_2.index t = ![t.val]
    ∧ win0_3.index t = ![0, 0] ∧ win0_4.index t = ![t.val, 0] ∧ win0_5.index t = ![t.val, 0] := by
  decide +kernel

/-- The points as launched. -/
abbrev pts : Vec Ideal S8192x3 .f32 := m ((c : Thread nD τ).loc main_arg0)

/-- The points, padded with zeros. -/
def padded (p : Vec Ideal S8192x3 .f32) : FVec Ideal S8192x8 .f32 :=
  pad S8192x8 ![0, 0] ![0, 5] ![0, 0] p (sitofp .f32 (constantI S_ 32 0#32) : FVec Ideal S_ .f32) pads_S8192x3_S8192x8_000_050 h_S_

/-- The squared lengths as the host computes them. -/
def squares (p : Vec Ideal S8192x3 .f32) : FVec Ideal S8192 .f32 :=
  Host.reduceAdd (mulf p p) (constant S_ .f32 0x00000000#32) reducesTo_S8192x3_S8192_d1 h_S_

/-- They are the squared lengths, index by index. -/
theorem squares_apply (p : Vec Ideal S8192x3 .f32) (i : Fin 8192) : squares p (ix1 i) = square p i := by
  pointwise [squares, square]

/-- Padded, a point's first three coordinates are its own, and the others zero. -/
theorem padded_apply (p : Vec Ideal S8192x3 .f32) (i : Fin 8192) (k : Fin 8) :
    padded p (ix2 i k) = if h : k.val < 3 then p (ix2 i ⟨k.val, h⟩) else (0 : EReal) := by
  have z : (FloatOps.sitofp (F := Ideal) FTy.f32 (0#32) : Ideal .f32) = (0 : EReal) := by
    show (((0#32 : BitVec 32).toInt : ℝ) : EReal) = 0
    simp
  pointwise [padded]
  rw [z]

/-- What the call finds in its four operands. -/
theorem V_padded : V m c main_v0 = padded (pts m c) := by
  unfold V hostOps0 hostOps0_1 hostOps0_2
  simp only [List.flatten_cons, List.flatten_nil, List.append_nil, List.cons_append, List.nil_append]
  after_results
  all_goals rfl
theorem V_turned : V m c main_v3 = transpose S8x8192 [1, 0] (padded (pts m c)) transposes_S8192x8_S8x8192_1_0 := by
  unfold V hostOps0 hostOps0_1 hostOps0_2
  simp only [List.flatten_cons, List.flatten_nil, List.append_nil, List.cons_append, List.nil_append]
  after_results
  all_goals rfl
theorem V_squares : V m c main_v2 = squares (pts m c) := by
  unfold V hostOps0 hostOps0_1 hostOps0_2
  simp only [List.flatten_cons, List.flatten_nil, List.append_nil, List.cons_append, List.nil_append]
  after_results
  all_goals rfl
theorem V_row : V m c main_v4 = broadcastInDim S1x8192 ![1] bcast_S8192_S1x8192_1 (squares (pts m c)) := by
  unfold V hostOps0 hostOps0_1 hostOps0_2
  simp only [List.flatten_cons, List.flatten_nil, List.append_nil, List.cons_append, List.nil_append]
  after_results
  all_goals rfl

/-- The products of two padded points add up to those of the points. -/
theorem product_eq (p : Vec Ideal S8192x3 .f32) (i j : Fin 8192) :
    (∑ k : Fin 8, (padded p (ix2 i k) : EReal) * padded p (ix2 j k)) = ∑ k : Fin 3, (p (ix2 i k) : EReal) * p (ix2 j k) := by
  simp only [padded_apply, Fin.sum_univ_eight, Fin.sum_univ_three]
  simp

/-- The row of the arrays that row `r` of point `t`'s block is. -/
def rowOf (t : Fin cfg0.N) (r : Fin 256) : Fin 8192 := ⟨t.val * 256 + r.val, by have h := t.isLt; have e : cfg0.N = 32 := N_0; omega⟩

/-- A block of an array of padded points, at an index. -/
theorem read_points (v : Vec Ideal S8192x8 .f32) (t : Fin cfg0.N) (r : Fin 256) (k : Fin 8) :
    ((cfg0.win 0).blk t).view.read (Elt Ideal) v (ix2 r k) = v (ix2 (rowOf t r) k) := by
  blk_ext [index_eq t, rowOf]

/-- A block of the turned array is the whole. -/
theorem read_turned (v : Vec Ideal S8x8192 .f32) (t : Fin cfg0.N) (k : Fin 8) (j : Fin 8192) :
    ((cfg0.win 1).blk t).view.read (Elt Ideal) v (ix2 k j) = v (ix2 k j) := by
  blk_ext [index_eq t]

/-- A block of an array of lengths, at an index. -/
theorem read_own (v : Vec Ideal S8192 .f32) (t : Fin cfg0.N) (r : Fin 256) :
    ((cfg0.win 2).blk t).view.read (Elt Ideal) v (ix1 r) = v (ix1 (rowOf t r)) := by
  blk_ext [index_eq t, rowOf]

/-- A block of the lengths in a row is the whole. -/
theorem read_other (v : Vec Ideal S1x8192 .f32) (t : Fin cfg0.N) (j : Fin 8192) :
    ((cfg0.win 3).blk t).view.read (Elt Ideal) v (ix2 0 j) = v (ix2 0 j) := by
  blk_ext [index_eq t]

/-- A block of padded points, at an index. -/
theorem points_apply (t : Fin cfg0.N) (r : Fin 256) (k : Fin 8) : iblk m c 0 t (ix2 r k) = padded (pts m c) (ix2 (rowOf t r) k) :=
  (read_points _ t r k).trans (congrFun (V_padded m c) _)

/-- The padded points, turned, at an index. -/
theorem turn_apply (v : FVec Ideal S8192x8 .f32) (k : Fin 8) (j : Fin 8192) :
    transpose S8x8192 [1, 0] v transposes_S8192x8_S8x8192_1_0 (ix2 k j) = v (ix2 j k) := by
  pointwise

/-- The lengths in a row, at an index. -/
theorem line_apply (v : FVec Ideal S8192 .f32) (j : Fin 8192) :
    broadcastInDim S1x8192 ![1] bcast_S8192_S1x8192_1 v (ix2 0 j) = v (ix1 j) := by
  pointwise

/-- The turned points are staged whole. -/
theorem turned_apply (t : Fin cfg0.N) (k : Fin 8) (j : Fin 8192) : iblk m c 1 t (ix2 k j) = padded (pts m c) (ix2 j k) :=
  (read_turned _ t k j).trans ((congrFun (V_turned m c) _).trans (turn_apply _ k j))

/-- A block of squared lengths, at an index. -/
theorem own_apply (t : Fin cfg0.N) (r : Fin 256) : iblk m c 2 t (ix1 r) = square (pts m c) (rowOf t r) :=
  (read_own _ t r).trans ((congrFun (V_squares m c) _).trans (squares_apply _ _))

/-- The squared lengths in a row are staged whole. -/
theorem other_apply (t : Fin cfg0.N) (j : Fin 8192) : iblk m c 3 t (ix2 0 j) = square (pts m c) j :=
  (read_other _ t j).trans ((congrFun (V_row m c) _).trans ((line_apply _ j).trans (squares_apply _ _)))

/-- What the body computes at point `t`, at an index of the block: the distances of the block's points. -/
theorem point_apply (t : Fin cfg0.N) (r : Fin 256) (j : Fin 8192) :
    k0_pay1 (F := Ideal) (iblk m c 0 t) (iblk m c 1 t) (iblk m c 2 t) (iblk m c 3 t) (ix2 r j) = distance (pts m c) (rowOf t r) j := by
  rw [block_apply, own_apply, other_apply, distance, ← product_eq]
  simp only [points_apply, turned_apply]

/-- What the first result is shown to hold: the distances. -/
def all (p : Vec Ideal S8192x3 .f32) : Vec Ideal S8192x8192 .f32 := fun i => distance p (i 0) (i 1)

/-- What the second is shown to hold: the least distance of each group. -/
def groups (p : Vec Ideal S8192x3 .f32) : Vec Ideal S8192x128 .f32 := fun i => least fun s => distance p (i 0) (member (i 1) s)

/-- What the body leaves in its two output blocks, at an index. -/
theorem first_block (x0 : Vec Ideal S256x8 .f32) (x1 : Vec Ideal S8x8192 .f32) (x2 : Vec Ideal S256 .f32) (x3 : Vec Ideal S1x8192 .f32)
    (r : Fin 256) (j : Fin 8192) : out0_4 x0 x1 x2 x3 (ix2 r j) = k0_pay1 (F := Ideal) x0 x1 x2 x3 (ix2 r j) := by
  frame_out
theorem second_block (x0 : Vec Ideal S256x8 .f32) (x1 : Vec Ideal S8x8192 .f32) (x2 : Vec Ideal S256 .f32) (x3 : Vec Ideal S1x8192 .f32)
    (r : Fin 256) (g : Fin 128) :
    out0_5 x0 x1 x2 x3 (ix2 r g) = least fun s => k0_pay1 (F := Ideal) x0 x1 x2 x3 (ix2 r (member g s)) := by
  frame_out
  rw [k0_pay2, groups_apply]

/-- The indices of the result arrays under an index of point `t`'s blocks. -/
theorem first_place (t : Fin cfg0.N) (r : Fin 256) (j : Fin 8192) :
    ((cfg0.win 4).blk t).view.emb (ix2 r j) = (ix2 (rowOf t r) j : S8192x8192.Idx) := by
  blk_ext [index_eq t, rowOf]
theorem second_place (t : Fin cfg0.N) (r : Fin 256) (g : Fin 128) :
    ((cfg0.win 5).blk t).view.emb (ix2 r g) = (ix2 (rowOf t r) g : S8192x128.Idx) := by
  blk_ext [index_eq t, rowOf]

/-- After the run the first result holds the distances. -/
theorem all_eq : (dats m 0 c).arrAt 4 cfg0.N = all (pts m c) := by
  refine (dats m 0 c).arrAt_eq_of_covers 4 _ (by decide +kernel) fun t _ y => ?_
  idx_vars y
  blk_simp
  rw [after0_4, first_place]
  exact (first_block ..).trans (point_apply m c t _ _)

/-- The second holds the least distance of each group. -/
theorem groups_eq : (dats m 0 c).arrAt 5 cfg0.N = groups (pts m c) := by
  refine (dats m 0 c).arrAt_eq_of_covers 5 _ (by decide +kernel) fun t _ y => ?_
  idx_vars y
  blk_simp
  rw [after0_5, second_place]
  exact (second_block ..).trans (congrArg least (funext fun s => point_apply m c t _ _))

end Kernel

section Reference
open Cert.DistancesReferenceIdeal Cert.DistancesReferenceIdeal.Gen

/-- The squared lengths as the reference computes them. -/
def lengths (p : FVec Ideal S8192x3 .f32) : FVec Ideal S8192 .f32 :=
  Host.reduceAdd (mulf p p) (constant S_ .f32 0x00000000#32) reducesTo_S8192x3_S8192_d1 h_S_

/-- They are the squared lengths, index by index. -/
theorem lengths_apply (p : FVec Ideal S8192x3 .f32) (i : Fin 8192) : lengths p (ix1 i) = square p i := by
  pointwise [lengths, square]

/-- The reference's distances, from squared lengths. -/
def table (p : FVec Ideal S8192x3 .f32) (l : FVec Ideal S8192 .f32) : FVec Ideal S8192x8192 .f32 :=
  subf (addf (broadcastInDim S8192x8192 ![0, 1] bcast_S8192x1_S8192x8192_0_1 (broadcastInDim S8192x1 ![0] bcast_S8192_S8192x1_0 l))
      (broadcastInDim S8192x8192 ![0, 1] bcast_S1x8192_S8192x8192_0_1 (broadcastInDim S1x8192 ![1] bcast_S8192_S1x8192_1 l)))
    (mulf (broadcastInDim S8192x8192 ![] bcast_S_S8192x8192 (constant S_ .f32 0x40000000#32))
      (Host.dotGeneral dot_S8192x3_S3x8192_S8192x8192_1_0_0_1_n_n none p (transpose S3x8192 [1, 0] p transposes_S8192x3_S3x8192_1_0)))

/-- They at an index. -/
theorem table_apply (p : FVec Ideal S8192x3 .f32) (l : FVec Ideal S8192 .f32) (i j : Fin 8192) :
    table p l (ix2 i j) = ((l (ix1 i) + l (ix1 j)) - Ideal.ofBits .f32 0x40000000#32 * ∑ k : Fin 3, (p (ix2 i k) : EReal) * p (ix2 j k) : EReal) := by
  pointwise [table]

/-- The reference's distances at an index. -/
theorem reference_distance (p : FVec Ideal S8192x3 .f32) (i j : Fin 8192) : table p (lengths p) (ix2 i j) = distance p i j := by
  rw [table_apply, lengths_apply, lengths_apply, distance]

/-- The least of each group of any distances, at an index. -/
theorem reference_groups (d : FVec Ideal S8192x8192 .f32) (i : Fin 8192) (g : Fin 128) :
    Host.reduce FloatOps.minimumf (shapeCast S8192x128x64 d shapeCasts_S8192x8192_S8192x128x64) (constant S_ .f32 0x7F800000#32)
        reducesTo_S8192x128x64_S8192x128_d2 h_S_ (ix2 i g)
      = least fun s => d (ix2 i (member g s)) := by
  pointwise [least, member]

/-- The reference's distances, and the least of each group of them. -/
theorem reference_all (p : FVec Ideal S8192x3 .f32) : table p (lengths p) = all p := by
  funext i
  rw [eq_ix2 i]
  exact reference_distance p _ _
theorem reference_least (p : FVec Ideal S8192x3 .f32) :
    Host.reduce FloatOps.minimumf (shapeCast S8192x128x64 (table p (lengths p)) shapeCasts_S8192x8192_S8192x128x64)
      (constant S_ .f32 0x7F800000#32) reducesTo_S8192x128x64_S8192x128_d2 h_S_ = groups p := by
  funext i
  rw [eq_ix2 i]
  exact (reference_groups _ _ _).trans (congrArg least (funext fun s => reference_distance p _ _))

end Reference

end Cert.Proof.Distances

end
-- ==== Proof.Moments.lean ====
/- The first two moments of the scores: the value of the result at each statistic and column, as a plain formula. -/
module

public import proofs.«01_k».proof.Proof.Gen.MomentsIdeal.Value
public import proofs.«01_k».proof.Proof.Gen.MomentsReferenceIdeal.Run
public import proofs.«01_k».proof.Proof.Combine
public import proofs.«01_k».proof.Proof.CombineReference
public import Idealize.ShloMosaic.Lib.Pointwise
public import Idealize.ShloMosaic.Lib.Pipeline.ValueKit

@[expose] public section

noncomputable section

namespace Cert.Proof.Moments

open Idealize.ShloMosaic Idealize.ShloMosaic.TcCoe Idealize.SL.Sem

/-! ## The values, index by index -/

/-- The raw score of neighbour `s` of row `n` in column `k`: the neighbour's key less the row's query, and the position term. -/
def raw {N : Nat} (p q r : Vec Ideal ⟨2, ![N, 16]⟩ .f32) (gk : Vec Ideal ⟨3, ![N, 16, 256]⟩ .f32) (xq : Vec Ideal ⟨2, ![N, 256]⟩ .f32)
    (wp : Vec Ideal ⟨2, ![3, 256]⟩ .f32) (bp : Vec Ideal ⟨1, ![256]⟩ .f32) (ab : Vec Ideal ⟨2, ![2, 3]⟩ .f32)
    (n : Fin N) (s : Fin 16) (k : Fin 256) : EReal :=
  (gk (ix3 n s k) - xq (ix2 n k)) + Combine.position (p (ix2 n s)) (q (ix2 n s)) (r (ix2 n s)) ab wp bp k

/-- Statistic `a` of a score: the score itself for the first, its square for the second. -/
def power (a : Fin 2) (x : EReal) : EReal := if a.val = 0 then x else x * x

/-- What the result is shown to hold: both statistics of the scores, added up over every row and neighbour. -/
def moment (p q r : Vec Ideal ⟨2, ![8192, 16]⟩ .f32) (gk : Vec Ideal ⟨3, ![8192, 16, 256]⟩ .f32) (xq : Vec Ideal ⟨2, ![8192, 256]⟩ .f32)
    (wp : Vec Ideal ⟨2, ![3, 256]⟩ .f32) (bp : Vec Ideal ⟨1, ![256]⟩ .f32) (ab : Vec Ideal ⟨2, ![2, 3]⟩ .f32) (a : Fin 2) (k : Fin 256) : EReal :=
  ∑ n : Fin 8192, ∑ s : Fin 16, power a (raw p q r gk xq wp bp ab n s k)

/-- A row's scores depend on that row of the row-wise arrays alone. -/
theorem raw_congr {N M : Nat} {p q r : Vec Ideal ⟨2, ![N, 16]⟩ .f32} {p' q' r' : Vec Ideal ⟨2, ![M, 16]⟩ .f32}
    {gk : Vec Ideal ⟨3, ![N, 16, 256]⟩ .f32} {gk' : Vec Ideal ⟨3, ![M, 16, 256]⟩ .f32}
    {xq : Vec Ideal ⟨2, ![N, 256]⟩ .f32} {xq' : Vec Ideal ⟨2, ![M, 256]⟩ .f32}
    {wp : Vec Ideal ⟨2, ![3, 256]⟩ .f32} {bp : Vec Ideal ⟨1, ![256]⟩ .f32} {ab : Vec Ideal ⟨2, ![2, 3]⟩ .f32} {n : Fin N} {n' : Fin M}
    (hp : ∀ s, p (ix2 n s) = p' (ix2 n' s)) (hq : ∀ s, q (ix2 n s) = q' (ix2 n' s)) (hr : ∀ s, r (ix2 n s) = r' (ix2 n' s))
    (hg : ∀ s k, gk (ix3 n s k) = gk' (ix3 n' s k)) (hx : ∀ k, xq (ix2 n k) = xq' (ix2 n' k)) (s : Fin 16) (k : Fin 256) :
    raw p q r gk xq wp bp ab n s k = raw p' q' r' gk' xq' wp bp ab n' s k := by
  simp only [raw, hp, hq, hr, hg, hx]

section Kernel
open Cert.MomentsIdeal Cert.MomentsIdeal.Gen

/-- The score that the body computes from its stretches of the coefficients, the first two position products given. -/
def entry (u : FVec Ideal S256x16x256 .f32) (x : Vec Ideal S256x16 .f32) (a b : Vec Ideal S1x1 .f32) (w : Vec Ideal S1x256 .f32)
    (g : Vec Ideal S256x16x256 .f32) (q : Vec Ideal S256x256 .f32) (r : Fin 256) (s : Fin 16) (k : Fin 256) : EReal :=
  (g (ix3 r s k) - q (ix2 r k)) + (u (ix3 r s k) + max (x (ix2 r s) * a (ix2 0 0) + b (ix2 0 0)) 0 * w (ix2 0 k))

/-- A block's sum of scores, on what was there before. -/
theorem first_apply (u : FVec Ideal S256x16x256 .f32) (x : Vec Ideal S256x16 .f32) (a b : Vec Ideal S1x1 .f32) (w : Vec Ideal S1x256 .f32)
    (g : Vec Ideal S256x16x256 .f32) (q : Vec Ideal S256x256 .f32) (z : Vec Ideal S2x256 .f32) (k : Fin 256) :
    k0_pay3 (F := Ideal) u x a b w g q z (ix2 0 k)
      = (z (ix2 0 k) + ∑ r : Fin 256, ∑ s : Fin 16, power 0 (entry u x a b w g q r s k) : EReal) := by
  rw [← Fin.sum_divmod_fin (N := 4096) 16 fun r s => power 0 (entry u x a b w g q r s k)]
  pointwise [k0_pay3]
  rfl

/-- A block's sum of squares, on what was there before. -/
theorem second_apply (u : FVec Ideal S256x16x256 .f32) (x : Vec Ideal S256x16 .f32) (a b : Vec Ideal S1x1 .f32) (w : Vec Ideal S1x256 .f32)
    (g : Vec Ideal S256x16x256 .f32) (q : Vec Ideal S256x256 .f32) (z : Vec Ideal S2x256 .f32) (k : Fin 256) :
    k0_pay3 (F := Ideal) u x a b w g q z (ix2 1 k)
      = (z (ix2 1 k) + ∑ r : Fin 256, ∑ s : Fin 16, power 1 (entry u x a b w g q r s k) : EReal) := by
  rw [← Fin.sum_divmod_fin (N := 4096) 16 fun r s => power 1 (entry u x a b w g q r s k)]
  pointwise [k0_pay3]
  rfl

/-- Both, by the statistic. -/
theorem sums_apply (u : FVec Ideal S256x16x256 .f32) (x : Vec Ideal S256x16 .f32) (a b : Vec Ideal S1x1 .f32) (w : Vec Ideal S1x256 .f32)
    (g : Vec Ideal S256x16x256 .f32) (q : Vec Ideal S256x256 .f32) (z : Vec Ideal S2x256 .f32) (i : Fin 2) (k : Fin 256) :
    k0_pay3 (F := Ideal) u x a b w g q z (ix2 i k)
      = (z (ix2 i k) + ∑ r : Fin 256, ∑ s : Fin 16, power i (entry u x a b w g q r s k) : EReal) :=
  Fin.forall_fin_two (p := fun i => k0_pay3 (F := Ideal) u x a b w g q z (ix2 i k)
    = (z (ix2 i k) + ∑ r : Fin 256, ∑ s : Fin 16, power i (entry u x a b w g q r s k) : EReal)) |>.mpr
    ⟨first_apply u x a b w g q z k, second_apply u x a b w g q z k⟩ i

/-- The bias and the first two position products. -/
theorem two_apply (v : Vec Ideal S256 .f32) (x y : Vec Ideal S256x16 .f32) (a b c d : Vec Ideal S1x1 .f32) (v' w : Vec Ideal S1x256 .f32)
    (r : Fin 256) (s : Fin 16) (k : Fin 256) :
    k0_pay1 (F := Ideal) v x a b v' y c d w (ix3 r s k)
      = (v (ix1 k) + max (x (ix2 r s) * a (ix2 0 0) + b (ix2 0 0)) 0 * v' (ix2 0 k)
        + max (y (ix2 r s) * c (ix2 0 0) + d (ix2 0 0)) 0 * w (ix2 0 k) : EReal) := by
  pointwise [k0_pay1]

/-- The start of the sums. -/
theorem start_apply (i : Fin 2) (k : Fin 256) : k0_pay2 (F := Ideal) (ix2 i k) = (0 : EReal) := by
  pointwise [k0_pay2]

variable (m : (ℓ : Loc nD τ sig) → Buf (Elt Ideal) ℓ) (c : Dev nD)

/-- What the first point leaves: its block's sums. -/
theorem reset_apply (t : Fin cfg0.N) (h : t.val % 32 = 0) (i : Fin 2) (k : Fin 256) :
    outsAt0 m c t.val t.isLt (ix2 i k) = (0 + ∑ r : Fin 256, ∑ s : Fin 16, power i
      (raw (iblk m c 0 t) (iblk m c 1 t) (iblk m c 2 t) (iblk m c 3 t) (iblk m c 4 t) (iblk m c 5 t) (iblk m c 6 t) (iblk m c 7 t) r s k) : EReal) := by
  rw [outsAt0_A m c t h]
  generalize iblk m c 0 t = x0, iblk m c 1 t = x1, iblk m c 2 t = x2, iblk m c 3 t = x3, iblk m c 4 t = x4, iblk m c 5 t = x5,
    iblk m c 6 t = x6, iblk m c 7 t = x7
  frame_out
  rw [sums_apply, start_apply]
  refine congrArg (fun v : EReal => 0 + v) (Finset.sum_congr rfl fun r _ => Finset.sum_congr rfl fun s _ => congrArg _ ?_)
  rw [entry, two_apply]
  pointwise [raw, Combine.position]

/-- What every other point leaves: its block's sums on those of the point before. -/
theorem step_apply (t : Fin cfg0.N) (h : ¬t.val % 32 = 0) (i : Fin 2) (k : Fin 256) :
    outsAt0 m c t.val t.isLt (ix2 i k) = (outsAt0 m c (t.val - 1) (Nat.lt_of_le_of_lt (Nat.sub_le _ _) t.isLt) (ix2 i k)
      + ∑ r : Fin 256, ∑ s : Fin 16, power i
      (raw (iblk m c 0 t) (iblk m c 1 t) (iblk m c 2 t) (iblk m c 3 t) (iblk m c 4 t) (iblk m c 5 t) (iblk m c 6 t) (iblk m c 7 t) r s k) : EReal) := by
  rw [outsAt0_B m c t h]
  generalize iblk m c 0 t = x0, iblk m c 1 t = x1, iblk m c 2 t = x2, iblk m c 3 t = x3, iblk m c 4 t = x4, iblk m c 5 t = x5,
    iblk m c 6 t = x6, iblk m c 7 t = x7
  generalize outsAt0 m c (t.val - 1) _ = z
  frame_out
  rw [sums_apply]
  refine congrArg (fun v : EReal => z (ix2 i k) + v) (Finset.sum_congr rfl fun r _ => Finset.sum_congr rfl fun s _ => congrArg _ ?_)
  rw [entry, two_apply]
  pointwise [raw, Combine.position]

/-- Which block each window stages at each point of the grid. -/
theorem index_eq : ∀ t : Fin cfg0.N, win0_0.index t = ![t.val, 0] ∧ win0_1.index t = ![t.val, 0] ∧ win0_2.index t = ![t.val, 0]
    ∧ win0_3.index t = ![t.val, 0, 0] ∧ win0_4.index t = ![t.val, 0] ∧ win0_5.index t = ![0, 0] ∧ win0_6.index t = ![0]
    ∧ win0_7.index t = ![0, 0] ∧ win0_8.index t = ![0, 0] := by
  decide +kernel

/-- The row of the arrays that row `r` of point `t`'s block is. -/
def rowOf (t : Fin cfg0.N) (r : Fin 256) : Fin 8192 := ⟨t.val * 256 + r.val, by have h := t.isLt; have e : cfg0.N = 32 := N_0; omega⟩

/-- A point's blocks of the three coordinates, at an index. -/
theorem x_apply (t : Fin cfg0.N) (r : Fin 256) (s : Fin 16) : iblk m c 0 t (ix2 r s) = m ((c : Thread nD τ).loc main_arg0) (ix2 (rowOf t r) s) := by
  blk_ext [iblk, V, index_eq t, rowOf]
theorem y_apply (t : Fin cfg0.N) (r : Fin 256) (s : Fin 16) : iblk m c 1 t (ix2 r s) = m ((c : Thread nD τ).loc main_arg1) (ix2 (rowOf t r) s) := by
  blk_ext [iblk, V, index_eq t, rowOf]
theorem z_apply (t : Fin cfg0.N) (r : Fin 256) (s : Fin 16) : iblk m c 2 t (ix2 r s) = m ((c : Thread nD τ).loc main_arg2) (ix2 (rowOf t r) s) := by
  blk_ext [iblk, V, index_eq t, rowOf]

/-- A point's blocks of the keys and of the queries, at an index. -/
theorem key_apply (t : Fin cfg0.N) (r : Fin 256) (s : Fin 16) (k : Fin 256) :
    iblk m c 3 t (ix3 r s k) = m ((c : Thread nD τ).loc main_arg3) (ix3 (rowOf t r) s k) := by
  blk_ext [iblk, V, index_eq t, rowOf]
theorem query_apply (t : Fin cfg0.N) (r k : Fin 256) : iblk m c 4 t (ix2 r k) = m ((c : Thread nD τ).loc main_arg4) (ix2 (rowOf t r) k) := by
  blk_ext [iblk, V, index_eq t, rowOf]

/-- The windows on the coefficients stage the whole of their arrays. -/
theorem whole_eq (t : Fin cfg0.N) : iblk m c 5 t = m ((c : Thread nD τ).loc main_arg5) ∧ iblk m c 6 t = m ((c : Thread nD τ).loc main_arg6)
    ∧ iblk m c 7 t = m ((c : Thread nD τ).loc main_arg7) := by
  refine ⟨?_, ?_, ?_⟩ <;> funext y <;> blk_ext [iblk, V, index_eq t]

/-- A point's scores are the arrays'. -/
theorem raw_apply (t : Fin cfg0.N) (r : Fin 256) (s : Fin 16) (k : Fin 256) :
    raw (iblk m c 0 t) (iblk m c 1 t) (iblk m c 2 t) (iblk m c 3 t) (iblk m c 4 t) (iblk m c 5 t) (iblk m c 6 t) (iblk m c 7 t) r s k
      = raw (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (rowOf t r) s k := by
  obtain ⟨h5, h6, h7⟩ := whole_eq m c t
  rw [h5, h6, h7]
  exact raw_congr (x_apply m c t r) (y_apply m c t r) (z_apply m c t r) (key_apply m c t r) (query_apply m c t r) s k

/-- After the last point the buffer holds the sums over every row. -/
theorem last_apply (t : Fin cfg0.N) (ht : t.val + 1 = cfg0.N) (i : Fin 2) (k : Fin 256) :
    outsAt0 m c t.val t.isLt (ix2 i k) = moment (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) i k := by
  refine (Pipeline.eq_sum_fin_of_reset_step_apply_last (M := EReal) (fun n h (_ : Unit) => outsAt0 m c n h (ix2 i k)) 32 (fun _ => 0)
    (fun p _ => ∑ r : Fin 256, ∑ s : Fin 16, power i (raw (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (rowOf p r) s k))
    (fun p h _ => ?_) (fun p h _ => ?_) N_0.le t ht ()).trans ?_
  · refine (reset_apply m c p h i k).trans ?_
    simp only [raw_apply]
  · refine (step_apply m c p h i k).trans ?_
    simp only [raw_apply]
  · rw [zero_add, moment]
    exact Fin.sum_mul_add_fin cfg0.N 256 (fun n : Fin 8192 => ∑ s : Fin 16, power i (raw (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) n s k)) (by have e : cfg0.N = 32 := N_0; rw [e])

/-- What the result array is shown to hold. -/
def out : Buf (Elt Ideal) ((c : Thread nD τ).loc main_v0) := fun i : S2x256.Idx =>
  moment (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (i 0) (i 1)

/-- The one block of the result array is the whole. -/
theorem place_eq (t : Fin cfg0.N) (i : Fin 2) (k : Fin 256) : ((cfg0.win 8).blk t).view.emb (ix2 i k) = (ix2 i k : S2x256.Idx) := by
  blk_ext [index_eq t]

/-- After the run the result array holds both statistics. -/
theorem result_eq : (dats m 0 c).arrAt 8 cfg0.N = out m c := by
  refine (dats m 0 c).arrAt_eq_of_covers 8 _ (by decide +kernel) fun t hf y => ?_
  idx_vars y
  blk_simp
  rw [after0_8, place_eq]
  exact last_apply m c t (by have h := (flush0_8 t).mp hf; have l := t.isLt; have e : cfg0.N = 32 := N_0; omega) _ _

end Kernel

section Reference
open Cert.MomentsReferenceIdeal Cert.MomentsReferenceIdeal.Gen

/-- The reference's raw scores. -/
def scores (g x : FVec Ideal S8192x16x256 .f32) (q : FVec Ideal S8192x256 .f32) : FVec Ideal S8192x16x256 .f32 :=
  addf (subf g (broadcastInDim S8192x16x256 ![0, 1, 2] bcast_S8192x1x256_S8192x16x256_0_1_2
    (broadcastInDim S8192x1x256 ![0, 2] bcast_S8192x256_S8192x1x256_0_2 q))) x

/-- The reference's two rows of sums. -/
def rows (u v : FVec Ideal S256 .f32) : FVec Ideal S2x256 .f32 :=
  concatenate S2x256 0 [⟨S1x256, broadcastInDim S1x256 ![1] bcast_S256_S1x256_1 u⟩, ⟨S1x256, broadcastInDim S1x256 ![1] bcast_S256_S1x256_1 v⟩]
    concatenates_S1x256_S1x256_S2x256_d0

/-- A sum over every neighbour of every row. -/
def total (w : FVec Ideal S8192x16x256 .f32) : FVec Ideal S256 .f32 :=
  Host.reduceAdd (Host.reduceAdd w (constant S_ .f32 0x00000000#32) reducesTo_S8192x16x256_S8192x256_d1 h_S_) (constant S_ .f32 0x00000000#32)
    reducesTo_S8192x256_S256_d0 h_S_

/-- The reference's scores at an index. -/
theorem scores_apply (g x : FVec Ideal S8192x16x256 .f32) (q : FVec Ideal S8192x256 .f32) (n : Fin 8192) (s : Fin 16) (k : Fin 256) :
    scores g x q (ix3 n s k) = (g (ix3 n s k) - q (ix2 n k)) + x (ix3 n s k) := by
  pointwise [scores]

/-- A sum at a column. -/
theorem total_apply (w : FVec Ideal S8192x16x256 .f32) (k : Fin 256) :
    total w (ix1 k) = (∑ n : Fin 8192, ∑ s : Fin 16, w (ix3 n s k) : EReal) := by
  pointwise [total]

/-- The products of scores at an index. -/
theorem squared_apply (w : FVec Ideal S8192x16x256 .f32) (n : Fin 8192) (s : Fin 16) (k : Fin 256) :
    mulf w w (ix3 n s k) = (w (ix3 n s k) * w (ix3 n s k) : EReal) := by
  pointwise

/-- The two rows at an index. -/
theorem rows_apply (u v : FVec Ideal S256 .f32) (a : Fin 2) (k : Fin 256) :
    rows u v (ix2 a k) = if a.val = 0 then u (ix1 k) else v (ix1 k) := by
  pointwise [rows]
  simp only [Nat.lt_one_iff, dite_eq_ite]

variable (m : (ℓ : Loc nD τ sig) → Buf (Elt Ideal) ℓ) (c : Dev nD)

/-- The reference's scores from its arguments. -/
def all : FVec Ideal S8192x16x256 .f32 :=
  scores (m ((c.tc : Thread nD τ).loc main_arg3))
    (Combine.positions (Combine.coordinates (m ((c.tc : Thread nD τ).loc main_arg0)) (m ((c.tc : Thread nD τ).loc main_arg1)) (m ((c.tc : Thread nD τ).loc main_arg2)))
      (m ((c.tc : Thread nD τ).loc main_arg7)) (m ((c.tc : Thread nD τ).loc main_arg5)) (m ((c.tc : Thread nD τ).loc main_arg6)))
    (m ((c.tc : Thread nD τ).loc main_arg4))

/-- The reference's result is the stages in order. -/
theorem stages_eq : Value.res_out0 m c = rows (total (all m c)) (total (mulf (all m c) (all m c))) := by
  unfold Value.res_out0 Value.res_main_v30
  rfl

/-- The reference's scores, index by index. -/
theorem all_apply (n : Fin 8192) (s : Fin 16) (k : Fin 256) : all m c (ix3 n s k) = raw (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) n s k := by
  rw [all, scores_apply, Combine.positions_apply, (Combine.coordinates_apply _ _ _ n s).1, (Combine.coordinates_apply _ _ _ n s).2.1,
    (Combine.coordinates_apply _ _ _ n s).2.2, raw]

/-- The reference's result, index by index. -/
theorem reference_apply (a : Fin 2) (k : Fin 256) : Value.res_out0 m c (ix2 a k) = moment (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) a k := by
  refine (congrFun (stages_eq m c) _).trans ((rows_apply ..).trans ?_)
  rw [total_apply, total_apply, moment]
  simp only [squared_apply, all_apply, power]
  split <;> rfl

end Reference

end Cert.Proof.Moments

end
-- ==== Proof.lean ====
/- The certificate: every claim of it, from the kernel's run, the reference's run and the equality of their results. -/
module

public import proofs.«01_k».proof.Defs
public import proofs.«01_k».proof.Proof.Gen.Kernel
public import proofs.«01_k».proof.Proof.Gen.KernelIdeal
public import proofs.«01_k».proof.Proof.Gen.Pre_seventeen_smallest_increase
public import proofs.«01_k».proof.Proof.Gen.ReferenceIdeal
public import proofs.«01_k».proof.Proof.Gen.ReferenceIdeal.Run
public import proofs.«01_k».proof.Proof.Gen.Combine
public import proofs.«01_k».proof.Proof.Gen.CombineIdeal
public import proofs.«01_k».proof.Proof.Gen.CombineIdeal.Value
public import proofs.«01_k».proof.Proof.Gen.CombineReferenceIdeal
public import proofs.«01_k».proof.Proof.Gen.CombineReferenceIdeal.Run
public import proofs.«01_k».proof.Proof.Gen.Project
public import proofs.«01_k».proof.Proof.Gen.ProjectIdeal
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.Combine.Frame
public import proofs.«01_k».proof.Proof.Gen.Project.Frame
public import proofs.«01_k».proof.Proof.Gen.CombineIdeal.Frame
public import proofs.«01_k».proof.Proof.Gen.ProjectIdeal.Frame
public import proofs.«01_k».proof.Proof.Gen.Distances
public import proofs.«01_k».proof.Proof.Gen.Distances.Frame
public import proofs.«01_k».proof.Proof.Gen.DistancesIdeal
public import proofs.«01_k».proof.Proof.Gen.DistancesIdeal.Frame
public import proofs.«01_k».proof.Proof.Gen.DistancesIdeal.Value
public import proofs.«01_k».proof.Proof.Gen.DistancesReferenceIdeal
public import proofs.«01_k».proof.Proof.Gen.DistancesReferenceIdeal.Run
public import proofs.«01_k».proof.Proof.Gen.Moments
public import proofs.«01_k».proof.Proof.Gen.Moments.Frame
public import proofs.«01_k».proof.Proof.Gen.MomentsIdeal
public import proofs.«01_k».proof.Proof.Gen.MomentsIdeal.Frame
public import proofs.«01_k».proof.Proof.Gen.MomentsIdeal.Value
public import proofs.«01_k».proof.Proof.Gen.MomentsReferenceIdeal
public import proofs.«01_k».proof.Proof.Gen.MomentsReferenceIdeal.Run
public import proofs.«01_k».proof.Proof.Run
public import proofs.«01_k».proof.Proof.Results
public import proofs.«01_k».proof.Proof.CombineKernel
public import proofs.«01_k».proof.Proof.CombineReference
public import proofs.«01_k».proof.Proof.Project
public import proofs.«01_k».proof.Proof.Distances
public import proofs.«01_k».proof.Proof.Moments
public import Idealize.ShloMosaic.Lib.Claim

@[expose] public section

noncomputable section

namespace Cert.Proof

open Idealize.ShloMosaic Idealize.SL.Sem

/-- The kernel at the extended reals ends with its arguments unchanged and its counters at zero. -/
theorem frame_ideal : Cert.quiescent_KernelIdeal := fun m ρ _ =>
  (θ_run Cert.KernelIdeal.defs _ _).mono (fun _ h => ⟨fun c => (h.1 c).1, h.2⟩) (Knn.run_main (F := Ideal) m ρ)

/-- The same, for the inputs the precondition admits. -/
theorem frame_ideal_pre : Cert.quiescent_KernelIdeal_pre_seventeen_smallest_increase := fun m ρ _ => frame_ideal m ρ trivial

/-- The kernel at the bit patterns ends with its arguments unchanged and its counters at zero. -/
theorem frame_bits : Cert.quiescent_Kernel := fun m ρ _ =>
  (θ_run Cert.KernelIdeal.defs _ _).mono (fun _ h => ⟨fun c => (h.1 c).1, h.2⟩) (Knn.run_main (F := Bits) m ρ)

/-- The reference writes none of its arguments, and it has no counter. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

/-- The same, for the inputs the precondition admits. -/
theorem frame_reference_pre : Cert.quiescent_ReferenceIdeal_pre_seventeen_smallest_increase := fun m ρ _ => frame_reference m ρ trivial

/-- From equal arguments whose seventeen smallest distances of every row differ, the kernel and the reference end with equal results:
    the indices of the sixteen nearest rows, and those rows of the three tables. -/
theorem algebraic : Cert.algebraic_KernelIdeal_ReferenceIdeal_pre_seventeen_smallest_increase := fun m ρ m' ρ' hpre hagree => by
  refine ⟨fun d => Knn.res0 (Knn.XH m d), fun d => Knn.resRows3 (Knn.XH m d) (Knn.XH m d).xk,
    fun d => Knn.resRows3 (Knn.XH m d) (Knn.XH m d).xv, fun d => Knn.resRows2 (Knn.XH m d) (Knn.XH m d).xp, ?_, ?_⟩
  · exact (θ_run Cert.KernelIdeal.defs _ _).mono
      (fun _ h c => ⟨(h.1 c).2.1, (h.1 c).2.2.1, (h.1 c).2.2.2.1, (h.1 c).2.2.2.2, (h.1 c).1⟩) (Knn.run_main (F := Ideal) m ρ)
  · refine (θ_run Cert.ReferenceIdeal.defs _ _).mono (fun _ h c => ?_) (Cert.ReferenceIdeal.Value.run m' ρ')
    obtain ⟨h0, h1, h2, h3, ha⟩ := h c
    obtain ⟨a0, a1, a2, a3⟩ := hagree c
    rw [a0] at h0
    rw [a0, a1] at h1
    rw [a0, a2] at h2
    rw [a0, a3] at h3
    refine ⟨h0.trans (Nearest.res0_eq m c (hpre c)).symm, h1.trans ?_, h2.trans ?_, h3.trans ?_, ha⟩
    · exact (Nearest.rows3_eq m c (hpre c) _).symm.trans (congrArg (Knn.resRows3 (Knn.XH m c)) (Nearest.xk_eq m c).symm)
    · exact (Nearest.rows3_eq m c (hpre c) _).symm.trans (congrArg (Knn.resRows3 (Knn.XH m c)) (Nearest.xv_eq m c).symm)
    · exact (Nearest.rows2_eq m c (hpre c) _).symm.trans (congrArg (Knn.resRows2 (Knn.XH m c)) (Nearest.xp_eq m c).symm)

/-! ## The projection of the rows -/

/-- The call ends with its arguments unchanged and its counters at zero, at the bit patterns and at the extended reals. -/
theorem frame_project : Cert.quiescent_Project := fun m ρ _ => Cert.Project.Gen.frame m ρ
theorem frame_project_ideal : Cert.quiescent_ProjectIdeal := fun m ρ _ => Cert.ProjectIdeal.Gen.frame m ρ

/-- Its reference writes none of its arguments, and it has no counter. -/
theorem frame_project_reference : Cert.quiescent_ProjectReferenceIdeal := fun m ρ _ =>
  (θ_run Cert.ProjectReferenceIdeal.defs _ _).mono
    (fun r h => ⟨fun c => (h c).2.2.2, sem_eq_zero_of_no_sems (by decide) r.2⟩) (Cert.ProjectReferenceIdeal.Value.run m ρ)

/-- From equal arguments the call and its reference end with equal query, key and value rows. -/
theorem algebraic_project : Cert.algebraic_ProjectIdeal_ProjectReferenceIdeal := fun m ρ m' ρ' _ hagree => by
  refine ⟨fun c => (Cert.ProjectIdeal.Gen.dats m 0 c).arrAt 7 Cert.ProjectIdeal.cfg0.N,
    fun c => (Cert.ProjectIdeal.Gen.dats m 0 c).arrAt 8 Cert.ProjectIdeal.cfg0.N,
    fun c => (Cert.ProjectIdeal.Gen.dats m 0 c).arrAt 9 Cert.ProjectIdeal.cfg0.N, Cert.ProjectIdeal.Value.run_blocks m ρ, ?_⟩
  refine (θ_run Cert.ProjectReferenceIdeal.defs _ _).mono (fun _ h c => ?_) (Cert.ProjectReferenceIdeal.Value.run m' ρ')
  obtain ⟨h0, h1, h2, ha⟩ := h c
  obtain ⟨a0, a1, a2, a3, a4, a5, a6⟩ := hagree c
  rw [a0, a1, a2] at h0
  rw [a0, a3, a4] at h1
  rw [a0, a5, a6] at h2
  exact ⟨h0.trans ((Project.reference_eq _ _ _).trans (Project.query_eq m c).symm),
    h1.trans ((Project.reference_eq _ _ _).trans (Project.key_eq m c).symm),
    h2.trans ((Project.reference_eq _ _ _).trans (Project.value_eq m c).symm), ha⟩

/-! ## The weighted sum over the neighbours -/

/-- The call ends with its arguments unchanged and its counters at zero, at the bit patterns and at the extended reals. -/
theorem frame_combine : Cert.quiescent_Combine := fun m ρ _ => Cert.Combine.Gen.frame m ρ
theorem frame_combine_ideal : Cert.quiescent_CombineIdeal := fun m ρ _ => Cert.CombineIdeal.Gen.frame m ρ

/-- Its reference writes none of its arguments, and it has no counter. -/
theorem frame_combine_reference : Cert.quiescent_CombineReferenceIdeal := fun m ρ _ =>
  (θ_run Cert.CombineReferenceIdeal.defs _ _).mono
    (fun r h => ⟨fun c => (h c).2, sem_eq_zero_of_no_sems (by decide) r.2⟩) (Cert.CombineReferenceIdeal.Value.run m ρ)

/-- From equal arguments the call and its reference end with equal results. -/
theorem algebraic_combine : Cert.algebraic_CombineIdeal_CombineReferenceIdeal := fun m ρ m' ρ' _ hagree => by
  refine ⟨fun c => Combine.out m c, ?_, ?_⟩
  · exact (θ_run Cert.CombineIdeal.defs _ _).mono (fun _ h c => ⟨(h c).1.trans (Combine.result_eq m c), (h c).2⟩)
      (Cert.CombineIdeal.Value.run_blocks m ρ)
  · refine (θ_run Cert.CombineReferenceIdeal.defs _ _).mono (fun _ h c => ⟨(h c).1.trans ?_, (h c).2⟩)
      (Cert.CombineReferenceIdeal.Value.run m' ρ')
    obtain ⟨a0, a1, a2, a3, a4, a5, a6, a7, a8, a9, a10⟩ := hagree c
    funext i
    rw [eq_ix2 i]
    refine (Combine.reference_apply m' c _ _).trans ?_
    rw [a0, a1, a2, a3, a4, a5, a6, a7, a8, a9, a10]
    rfl

/-! ## The distances -/

/-- The call ends with its argument unchanged and its counters at zero, at the bit patterns and at the extended reals. -/
theorem frame_distances : Cert.quiescent_Distances := fun m ρ _ => Cert.Distances.Gen.frame m ρ
theorem frame_distances_ideal : Cert.quiescent_DistancesIdeal := fun m ρ _ => Cert.DistancesIdeal.Gen.frame m ρ

/-- Its reference does not write its argument, and it has no counter. -/
theorem frame_distances_reference : Cert.quiescent_DistancesReferenceIdeal := fun m ρ _ =>
  (θ_run Cert.DistancesReferenceIdeal.defs _ _).mono
    (fun r h => ⟨fun c => (h c).2.2, sem_eq_zero_of_no_sems (by decide) r.2⟩) (Cert.DistancesReferenceIdeal.Value.run m ρ)

/-- From equal points the call and its reference end with equal distances and equal group minima. -/
theorem algebraic_distances : Cert.algebraic_DistancesIdeal_DistancesReferenceIdeal := fun m ρ m' ρ' _ hagree => by
  refine ⟨fun c => Distances.all (Distances.pts m c), fun c => Distances.groups (Distances.pts m c), ?_, ?_⟩
  · exact (θ_run Cert.DistancesIdeal.defs _ _).mono
      (fun _ h c => ⟨(h c).1.trans (Distances.all_eq m c), (h c).2.1.trans (Distances.groups_eq m c), (h c).2.2⟩)
      (Cert.DistancesIdeal.Value.run_blocks m ρ)
  · refine (θ_run Cert.DistancesReferenceIdeal.defs _ _).mono (fun _ h c => ?_) (Cert.DistancesReferenceIdeal.Value.run m' ρ')
    obtain ⟨h0, h1, ha⟩ := h c
    have a0 := hagree c
    rw [a0] at h0 h1
    exact ⟨h0.trans (Distances.reference_all _), h1.trans (Distances.reference_least _), ha⟩

/-! ## The moments of the scores -/

/-- The call ends with its arguments unchanged and its counters at zero, at the bit patterns and at the extended reals. -/
theorem frame_moments : Cert.quiescent_Moments := fun m ρ _ => Cert.Moments.Gen.frame m ρ
theorem frame_moments_ideal : Cert.quiescent_MomentsIdeal := fun m ρ _ => Cert.MomentsIdeal.Gen.frame m ρ

/-- Its reference writes none of its arguments, and it has no counter. -/
theorem frame_moments_reference : Cert.quiescent_MomentsReferenceIdeal := fun m ρ _ =>
  (θ_run Cert.MomentsReferenceIdeal.defs _ _).mono
    (fun r h => ⟨fun c => (h c).2, sem_eq_zero_of_no_sems (by decide) r.2⟩) (Cert.MomentsReferenceIdeal.Value.run m ρ)

/-- From equal arguments the call and its reference end with equal sums of the scores and of their squares. -/
theorem algebraic_moments : Cert.algebraic_MomentsIdeal_MomentsReferenceIdeal := fun m ρ m' ρ' _ hagree => by
  refine ⟨fun c => Moments.out m c, ?_, ?_⟩
  · exact (θ_run Cert.MomentsIdeal.defs _ _).mono
      (fun _ h c => ⟨(h c).1.trans (Moments.result_eq m c), (h c).2⟩) (Cert.MomentsIdeal.Value.run_blocks m ρ)
  · refine (θ_run Cert.MomentsReferenceIdeal.defs _ _).mono (fun _ h c => ?_) (Cert.MomentsReferenceIdeal.Value.run m' ρ')
    obtain ⟨h0, ha⟩ := h c
    obtain ⟨a0, a1, a2, a3, a4, a5, a6, a7⟩ := hagree c
    refine ⟨h0.trans ?_, ha⟩
    funext i
    rw [eq_ix2 i]
    refine (Moments.reference_apply m' c _ _).trans ?_
    rw [a0, a1, a2, a3, a4, a5, a6, a7]
    rfl

/-- Every claim of the certificate. -/
theorem claim : Cert.Claim := ⟨Cert.Kernel.Gen.facts, Cert.KernelIdeal.Gen.facts, Cert.ReferenceIdeal.Gen.facts,
  Cert.Combine.Gen.facts, Cert.CombineIdeal.Gen.facts, Cert.CombineReferenceIdeal.Gen.facts,
  Cert.Project.Gen.facts, Cert.ProjectIdeal.Gen.facts, Cert.ProjectReferenceIdeal.Gen.facts,
  Cert.Distances.Gen.facts, Cert.DistancesIdeal.Gen.facts, Cert.DistancesReferenceIdeal.Gen.facts,
  Cert.Moments.Gen.facts, Cert.MomentsIdeal.Gen.facts, Cert.MomentsReferenceIdeal.Gen.facts,
  Cert.Pre_seventeen_smallest_increase.Gen.facts, frame_bits, frame_ideal, frame_ideal_pre, frame_reference, frame_reference_pre,
  frame_combine, frame_combine_ideal, frame_combine_reference, frame_project, frame_project_ideal, frame_project_reference,
  frame_distances, frame_distances_ideal, frame_distances_reference,
  frame_moments, frame_moments_ideal, frame_moments_reference,
  trivial, algebraic, trivial, algebraic_combine, trivial, algebraic_project, trivial, algebraic_distances,
  trivial, algebraic_moments⟩

end Cert.Proof

end
